-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10)
      ∧ r.2.mem ((c.tc : Thread Cert.Kernel10.nD Cert.Kernel10.τ).loc Cert.Kernel10.main_arg11) = m ((c.tc : Thread Cert.Kernel10.nD Cert.Kernel10.τ).loc Cert.Kernel10.main_arg11))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel4_Kernel4Ideal : Prop :=
  True

def algebraic_Kernel4Ideal_Reference4Ideal_on_written4 [hKernel4Ideal : Cert.Kernel4Ideal.Facts] [hReference4Ideal : Cert.Reference4Ideal.Facts] [hOn_written4 : Cert.On_written4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)) (v3 : (c : Dev Cert.Kernel4Ideal.nD) → Buf (Elt Ideal) ((c.tc : Thread Cert.Kernel4Ideal.nD Cert.Kernel4Ideal.τ).loc Cert.Kernel4Ideal.main_v2_3)) (v4 : (c : Dev Cert.Kernel4Ideal.nD) → Buf (Elt Ideal) ((c.tc : Thread Cert.Kernel4Ideal.nD Cert.Kernel4Ideal.τ).loc Cert.Kernel4Ideal.main_v2_4)) (v5 : (c : Dev Cert.Kernel4Ideal.nD) → Buf (Elt Ideal) ((c.tc : Thread Cert.Kernel4Ideal.nD Cert.Kernel4Ideal.τ).loc Cert.Kernel4Ideal.main_v2_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          (∀ i : (⟨2, ![8192, 512]⟩ : Shape).Idx, (Cert.On_written4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).1 i = 1#1 → r.2.mem ((c.tc : Thread Cert.Kernel4Ideal.nD Cert.Kernel4Ideal.τ).loc Cert.Kernel4Ideal.main_v2_0) i = v0 c i)
          ∧ (∀ i : (⟨2, ![8192, 512]⟩ : Shape).Idx, (Cert.On_written4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.1 i = 1#1 → r.2.mem ((c.tc : Thread Cert.Kernel4Ideal.nD Cert.Kernel4Ideal.τ).loc Cert.Kernel4Ideal.main_v2_1) i = v1 c i)
          ∧ (∀ i : (⟨2, ![8192, 512]⟩ : Shape).Idx, (Cert.On_written4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.1 i = 1#1 → r.2.mem ((c.tc : Thread Cert.Kernel4Ideal.nD Cert.Kernel4Ideal.τ).loc Cert.Kernel4Ideal.main_v2_2) i = v2 c i)
          ∧ (∀ i : (⟨2, ![1, 512]⟩ : Shape).Idx, (Cert.On_written4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.1 i = 1#1 → r.2.mem ((c.tc : Thread Cert.Kernel4Ideal.nD Cert.Kernel4Ideal.τ).loc Cert.Kernel4Ideal.main_v2_3) i = v3 c i)
          ∧ (∀ i : (⟨2, ![1, 512]⟩ : Shape).Idx, (Cert.On_written4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.1 i = 1#1 → r.2.mem ((c.tc : Thread Cert.Kernel4Ideal.nD Cert.Kernel4Ideal.τ).loc Cert.Kernel4Ideal.main_v2_4) i = v4 c i)
          ∧ (∀ i : (⟨2, ![5632, 1024]⟩ : Shape).Idx, (Cert.On_written4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.2 i = 1#1 → r.2.mem ((c.tc : Thread Cert.Kernel4Ideal.nD Cert.Kernel4Ideal.τ).loc Cert.Kernel4Ideal.main_v2_5) i = v5 c i)
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          (∀ i : (⟨2, ![8192, 512]⟩ : Shape).Idx, (Cert.On_written4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).1 i = 1#1 → r.2.mem ((c.tc : Thread Cert.Reference4Ideal.nD Cert.Reference4Ideal.τ).loc Cert.Reference4Ideal.main_v81) i = v0 c i)
          ∧ (∀ i : (⟨2, ![8192, 512]⟩ : Shape).Idx, (Cert.On_written4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.1 i = 1#1 → r.2.mem ((c.tc : Thread Cert.Reference4Ideal.nD Cert.Reference4Ideal.τ).loc Cert.Reference4Ideal.main_v91) i = v1 c i)
          ∧ (∀ i : (⟨2, ![8192, 512]⟩ : Shape).Idx, (Cert.On_written4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.1 i = 1#1 → r.2.mem ((c.tc : Thread Cert.Reference4Ideal.nD Cert.Reference4Ideal.τ).loc Cert.Reference4Ideal.main_v60) i = v2 c i)
          ∧ (∀ i : (⟨2, ![1, 512]⟩ : Shape).Idx, (Cert.On_written4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.1 i = 1#1 → r.2.mem ((c.tc : Thread Cert.Reference4Ideal.nD Cert.Reference4Ideal.τ).loc Cert.Reference4Ideal.main_v82) i = v3 c i)
          ∧ (∀ i : (⟨2, ![1, 512]⟩ : Shape).Idx, (Cert.On_written4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.1 i = 1#1 → r.2.mem ((c.tc : Thread Cert.Reference4Ideal.nD Cert.Reference4Ideal.τ).loc Cert.Reference4Ideal.main_v61) i = v4 c i)
          ∧ (∀ i : (⟨2, ![5632, 1024]⟩ : Shape).Idx, (Cert.On_written4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.2 i = 1#1 → r.2.mem ((c.tc : Thread Cert.Reference4Ideal.nD Cert.Reference4Ideal.τ).loc Cert.Reference4Ideal.main_v100) i = v5 c i)
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v17_0)) (v1 : (c : Dev Cert.Kernel5Ideal.nD) → Buf (Elt Ideal) ((c.tc : Thread Cert.Kernel5Ideal.nD Cert.Kernel5Ideal.τ).loc Cert.Kernel5Ideal.main_v17_1)) (v2 : (c : Dev Cert.Kernel5Ideal.nD) → Buf (Elt Ideal) ((c.tc : Thread Cert.Kernel5Ideal.nD Cert.Kernel5Ideal.τ).loc Cert.Kernel5Ideal.main_v17_2)) (v3 : (c : Dev Cert.Kernel5Ideal.nD) → Buf (Elt Ideal) ((c.tc : Thread Cert.Kernel5Ideal.nD Cert.Kernel5Ideal.τ).loc Cert.Kernel5Ideal.main_v17_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17_0) = v0 c
          ∧ r.2.mem ((c.tc : Thread Cert.Kernel5Ideal.nD Cert.Kernel5Ideal.τ).loc Cert.Kernel5Ideal.main_v17_1) = v1 c
          ∧ r.2.mem ((c.tc : Thread Cert.Kernel5Ideal.nD Cert.Kernel5Ideal.τ).loc Cert.Kernel5Ideal.main_v17_2) = v2 c
          ∧ r.2.mem ((c.tc : Thread Cert.Kernel5Ideal.nD Cert.Kernel5Ideal.τ).loc Cert.Kernel5Ideal.main_v17_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v63) = v0 c
          ∧ r.2.mem ((c.tc : Thread Cert.Reference5Ideal.nD Cert.Reference5Ideal.τ).loc Cert.Reference5Ideal.main_v86) = v1 c
          ∧ r.2.mem ((c.tc : Thread Cert.Reference5Ideal.nD Cert.Reference5Ideal.τ).loc Cert.Reference5Ideal.main_v62) = v2 c
          ∧ r.2.mem ((c.tc : Thread Cert.Reference5Ideal.nD Cert.Reference5Ideal.τ).loc Cert.Reference5Ideal.main_v85) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v20_0)) (v1 : (c : Dev Cert.Kernel3Ideal.nD) → Buf (Elt Ideal) ((c.tc : Thread Cert.Kernel3Ideal.nD Cert.Kernel3Ideal.τ).loc Cert.Kernel3Ideal.main_v20_1)) (v2 : (c : Dev Cert.Kernel3Ideal.nD) → Buf (Elt Ideal) ((c.tc : Thread Cert.Kernel3Ideal.nD Cert.Kernel3Ideal.τ).loc Cert.Kernel3Ideal.main_v20_2)) (v3 : (c : Dev Cert.Kernel3Ideal.nD) → Buf (Elt Ideal) ((c.tc : Thread Cert.Kernel3Ideal.nD Cert.Kernel3Ideal.τ).loc Cert.Kernel3Ideal.main_v20_3)) (v4 : (c : Dev Cert.Kernel3Ideal.nD) → Buf (Elt Ideal) ((c.tc : Thread Cert.Kernel3Ideal.nD Cert.Kernel3Ideal.τ).loc Cert.Kernel3Ideal.main_v20_4)) (v5 : (c : Dev Cert.Kernel3Ideal.nD) → Buf (Elt Ideal) ((c.tc : Thread Cert.Kernel3Ideal.nD Cert.Kernel3Ideal.τ).loc Cert.Kernel3Ideal.main_v20_5)) (v6 : (c : Dev Cert.Kernel3Ideal.nD) → Buf (Elt Ideal) ((c.tc : Thread Cert.Kernel3Ideal.nD Cert.Kernel3Ideal.τ).loc Cert.Kernel3Ideal.main_v20_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_v20_1) = v1 c
          ∧ r.2.mem ((c.tc : Thread Cert.Kernel3Ideal.nD Cert.Kernel3Ideal.τ).loc Cert.Kernel3Ideal.main_v20_2) = v2 c
          ∧ r.2.mem ((c.tc : Thread Cert.Kernel3Ideal.nD Cert.Kernel3Ideal.τ).loc Cert.Kernel3Ideal.main_v20_3) = v3 c
          ∧ r.2.mem ((c.tc : Thread Cert.Kernel3Ideal.nD Cert.Kernel3Ideal.τ).loc Cert.Kernel3Ideal.main_v20_4) = v4 c
          ∧ r.2.mem ((c.tc : Thread Cert.Kernel3Ideal.nD Cert.Kernel3Ideal.τ).loc Cert.Kernel3Ideal.main_v20_5) = v5 c
          ∧ r.2.mem ((c.tc : Thread Cert.Kernel3Ideal.nD Cert.Kernel3Ideal.τ).loc Cert.Kernel3Ideal.main_v20_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_v90) = v1 c
          ∧ r.2.mem ((c.tc : Thread Cert.Reference3Ideal.nD Cert.Reference3Ideal.τ).loc Cert.Reference3Ideal.main_v91) = v2 c
          ∧ r.2.mem ((c.tc : Thread Cert.Reference3Ideal.nD Cert.Reference3Ideal.τ).loc Cert.Reference3Ideal.main_v93) = v3 c
          ∧ r.2.mem ((c.tc : Thread Cert.Reference3Ideal.nD Cert.Reference3Ideal.τ).loc Cert.Reference3Ideal.main_v95) = v4 c
          ∧ r.2.mem ((c.tc : Thread Cert.Reference3Ideal.nD Cert.Reference3Ideal.τ).loc Cert.Reference3Ideal.main_v63) = v5 c
          ∧ r.2.mem ((c.tc : Thread Cert.Reference3Ideal.nD Cert.Reference3Ideal.τ).loc Cert.Reference3Ideal.main_v89) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_v12) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel2_Kernel2Ideal : Prop :=
  IdealRules.named_const.Statement Cert.Kernel2Ideal.κ "gelu_c" .f32 0x3D372713#32 ((8943 / 200000 : ℝ) : EReal)
  ∧ IdealRules.named_const.Statement Cert.Kernel2Ideal.κ "gelu_3c" .f32 0x3E095D4F#32 ((26829 / 200000 : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)) (v3 : (c : Dev Cert.Kernel2Ideal.nD) → Buf (Elt Ideal) ((c.tc : Thread Cert.Kernel2Ideal.nD Cert.Kernel2Ideal.τ).loc Cert.Kernel2Ideal.main_v4_3)) (v4 : (c : Dev Cert.Kernel2Ideal.nD) → Buf (Elt Ideal) ((c.tc : Thread Cert.Kernel2Ideal.nD Cert.Kernel2Ideal.τ).loc Cert.Kernel2Ideal.main_v4_4)) (v5 : (c : Dev Cert.Kernel2Ideal.nD) → Buf (Elt Ideal) ((c.tc : Thread Cert.Kernel2Ideal.nD Cert.Kernel2Ideal.τ).loc Cert.Kernel2Ideal.main_v4_5)) (v6 : (c : Dev Cert.Kernel2Ideal.nD) → Buf (Elt Ideal) ((c.tc : Thread Cert.Kernel2Ideal.nD Cert.Kernel2Ideal.τ).loc Cert.Kernel2Ideal.main_v4_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_v4_3) = v3 c
          ∧ r.2.mem ((c.tc : Thread Cert.Kernel2Ideal.nD Cert.Kernel2Ideal.τ).loc Cert.Kernel2Ideal.main_v4_4) = v4 c
          ∧ r.2.mem ((c.tc : Thread Cert.Kernel2Ideal.nD Cert.Kernel2Ideal.τ).loc Cert.Kernel2Ideal.main_v4_5) = v5 c
          ∧ r.2.mem ((c.tc : Thread Cert.Kernel2Ideal.nD Cert.Kernel2Ideal.τ).loc Cert.Kernel2Ideal.main_v4_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v189) = v0 c
          ∧ r.2.mem ((c.tc : Thread Cert.Reference2Ideal.nD Cert.Reference2Ideal.τ).loc Cert.Reference2Ideal.main_v190) = v1 c
          ∧ r.2.mem ((c.tc : Thread Cert.Reference2Ideal.nD Cert.Reference2Ideal.τ).loc Cert.Reference2Ideal.main_v183) = v2 c
          ∧ r.2.mem ((c.tc : Thread Cert.Reference2Ideal.nD Cert.Reference2Ideal.τ).loc Cert.Reference2Ideal.main_v172) = v3 c
          ∧ r.2.mem ((c.tc : Thread Cert.Reference2Ideal.nD Cert.Reference2Ideal.τ).loc Cert.Reference2Ideal.main_v171) = v4 c
          ∧ r.2.mem ((c.tc : Thread Cert.Reference2Ideal.nD Cert.Reference2Ideal.τ).loc Cert.Reference2Ideal.main_v176) = v5 c
          ∧ r.2.mem ((c.tc : Thread Cert.Reference2Ideal.nD Cert.Reference2Ideal.τ).loc Cert.Reference2Ideal.main_v192) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_v17) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_v17) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)) (v2 : (c : Dev Cert.Kernel9Ideal.nD) → Buf (Elt Ideal) ((c.tc : Thread Cert.Kernel9Ideal.nD Cert.Kernel9Ideal.τ).loc Cert.Kernel9Ideal.main_v3_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_v3_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_v8) = v1 c
          ∧ r.2.mem ((c.tc : Thread Cert.Reference9Ideal.nD Cert.Reference9Ideal.τ).loc Cert.Reference9Ideal.main_v9) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)
      ∧ m' ((c.tc : Thread Cert.Reference10Ideal.nD Cert.Reference10Ideal.τ).loc Cert.Reference10Ideal.main_arg11) = m ((c.tc : Thread Cert.Kernel10Ideal.nD Cert.Kernel10Ideal.τ).loc Cert.Kernel10Ideal.main_arg11)) →
    ∃ (v0 : (c : Dev Cert.Kernel10Ideal.nD) → Buf (Elt Ideal) ((c.tc : Thread Cert.Kernel10Ideal.nD Cert.Kernel10Ideal.τ).loc Cert.Kernel10Ideal.main_v7_0)) (v1 : (c : Dev Cert.Kernel10Ideal.nD) → Buf (Elt Ideal) ((c.tc : Thread Cert.Kernel10Ideal.nD Cert.Kernel10Ideal.τ).loc Cert.Kernel10Ideal.main_v7_1)) (v2 : (c : Dev Cert.Kernel10Ideal.nD) → Buf (Elt Ideal) ((c.tc : Thread Cert.Kernel10Ideal.nD Cert.Kernel10Ideal.τ).loc Cert.Kernel10Ideal.main_v7_2)) (v3 : (c : Dev Cert.Kernel10Ideal.nD) → Buf (Elt Ideal) ((c.tc : Thread Cert.Kernel10Ideal.nD Cert.Kernel10Ideal.τ).loc Cert.Kernel10Ideal.main_v7_3)) (v4 : (c : Dev Cert.Kernel10Ideal.nD) → Buf (Elt Ideal) ((c.tc : Thread Cert.Kernel10Ideal.nD Cert.Kernel10Ideal.τ).loc Cert.Kernel10Ideal.main_v7_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7_0) = v0 c
          ∧ r.2.mem ((c.tc : Thread Cert.Kernel10Ideal.nD Cert.Kernel10Ideal.τ).loc Cert.Kernel10Ideal.main_v7_1) = v1 c
          ∧ r.2.mem ((c.tc : Thread Cert.Kernel10Ideal.nD Cert.Kernel10Ideal.τ).loc Cert.Kernel10Ideal.main_v7_2) = v2 c
          ∧ r.2.mem ((c.tc : Thread Cert.Kernel10Ideal.nD Cert.Kernel10Ideal.τ).loc Cert.Kernel10Ideal.main_v7_3) = v3 c
          ∧ r.2.mem ((c.tc : Thread Cert.Kernel10Ideal.nD Cert.Kernel10Ideal.τ).loc Cert.Kernel10Ideal.main_v7_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
          ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v73) = v0 c
          ∧ r.2.mem ((c.tc : Thread Cert.Reference10Ideal.nD Cert.Reference10Ideal.τ).loc Cert.Reference10Ideal.main_v135) = v1 c
          ∧ r.2.mem ((c.tc : Thread Cert.Reference10Ideal.nD Cert.Reference10Ideal.τ).loc Cert.Reference10Ideal.main_v104) = v2 c
          ∧ r.2.mem ((c.tc : Thread Cert.Reference10Ideal.nD Cert.Reference10Ideal.τ).loc Cert.Reference10Ideal.main_v120) = v3 c
          ∧ r.2.mem ((c.tc : Thread Cert.Reference10Ideal.nD Cert.Reference10Ideal.τ).loc Cert.Reference10Ideal.main_v136) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10)
          ∧ r.2.mem ((c.tc : Thread Cert.Reference10Ideal.nD Cert.Reference10Ideal.τ).loc Cert.Reference10Ideal.main_arg11) = m' ((c.tc : Thread Cert.Reference10Ideal.nD Cert.Reference10Ideal.τ).loc Cert.Reference10Ideal.main_arg11))

def preserves_Kernel11_Kernel11Ideal : Prop :=
  IdealRules.named_const.Statement Cert.Kernel11Ideal.κ "mask" .f32 0xF149F2CA#32 ⊥

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)) (v2 : (c : Dev Cert.Kernel12Ideal.nD) → Buf (Elt Ideal) ((c.tc : Thread Cert.Kernel12Ideal.nD Cert.Kernel12Ideal.τ).loc Cert.Kernel12Ideal.main_v3_2)) (v3 : (c : Dev Cert.Kernel12Ideal.nD) → Buf (Elt Ideal) ((c.tc : Thread Cert.Kernel12Ideal.nD Cert.Kernel12Ideal.τ).loc Cert.Kernel12Ideal.main_v3_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_v3_2) = v2 c
          ∧ r.2.mem ((c.tc : Thread Cert.Kernel12Ideal.nD Cert.Kernel12Ideal.τ).loc Cert.Kernel12Ideal.main_v3_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_v27) = v1 c
          ∧ r.2.mem ((c.tc : Thread Cert.Reference12Ideal.nD Cert.Reference12Ideal.τ).loc Cert.Reference12Ideal.main_v8) = v2 c
          ∧ r.2.mem ((c.tc : Thread Cert.Reference12Ideal.nD Cert.Reference12Ideal.τ).loc Cert.Reference12Ideal.main_v14) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v3_0)) (v1 : (c : Dev Cert.Kernel14Ideal.nD) → Buf (Elt Ideal) ((c.tc : Thread Cert.Kernel14Ideal.nD Cert.Kernel14Ideal.τ).loc Cert.Kernel14Ideal.main_v3_1)) (v2 : (c : Dev Cert.Kernel14Ideal.nD) → Buf (Elt Ideal) ((c.tc : Thread Cert.Kernel14Ideal.nD Cert.Kernel14Ideal.τ).loc Cert.Kernel14Ideal.main_v3_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3_0) = v0 c
          ∧ r.2.mem ((c.tc : Thread Cert.Kernel14Ideal.nD Cert.Kernel14Ideal.τ).loc Cert.Kernel14Ideal.main_v3_1) = v1 c
          ∧ r.2.mem ((c.tc : Thread Cert.Kernel14Ideal.nD Cert.Kernel14Ideal.τ).loc Cert.Kernel14Ideal.main_v3_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v26) = v0 c
          ∧ r.2.mem ((c.tc : Thread Cert.Reference14Ideal.nD Cert.Reference14Ideal.τ).loc Cert.Reference14Ideal.main_v7) = v1 c
          ∧ r.2.mem ((c.tc : Thread Cert.Reference14Ideal.nD Cert.Reference14Ideal.τ).loc Cert.Reference14Ideal.main_v13) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def Claim : Prop :=
  ∃ (hKernel : Cert.Kernel.Facts) (hKernelIdeal : Cert.KernelIdeal.Facts) (hReferenceIdeal : Cert.ReferenceIdeal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel3 : Cert.Kernel3.Facts) (hKernel3Ideal : Cert.Kernel3Ideal.Facts) (hReference3Ideal : Cert.Reference3Ideal.Facts) (hKernel6 : Cert.Kernel6.Facts) (hKernel6Ideal : Cert.Kernel6Ideal.Facts) (hReference6Ideal : Cert.Reference6Ideal.Facts) (hKernel2 : Cert.Kernel2.Facts) (hKernel2Ideal : Cert.Kernel2Ideal.Facts) (hReference2Ideal : Cert.Reference2Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite6 : Cert.Pre_finite6.Facts) (hPre_finite2 : Cert.Pre_finite2.Facts) (hOn_written4 : Cert.On_written4.Facts),
    quiescent_Kernel (hKernel := hKernel)
    ∧ quiescent_KernelIdeal (hKernelIdeal := hKernelIdeal)
    ∧ quiescent_ReferenceIdeal (hReferenceIdeal := hReferenceIdeal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal (hKernelIdeal := hKernelIdeal) (hReferenceIdeal := hReferenceIdeal)
    ∧ preserves_Kernel4_Kernel4Ideal
    ∧ algebraic_Kernel4Ideal_Reference4Ideal_on_written4 (hKernel4Ideal := hKernel4Ideal) (hReference4Ideal := hReference4Ideal) (hOn_written4 := hOn_written4)
    ∧ preserves_Kernel5_Kernel5Ideal
    ∧ algebraic_Kernel5Ideal_Reference5Ideal (hKernel5Ideal := hKernel5Ideal) (hReference5Ideal := hReference5Ideal)
    ∧ preserves_Kernel3_Kernel3Ideal
    ∧ algebraic_Kernel3Ideal_Reference3Ideal (hKernel3Ideal := hKernel3Ideal) (hReference3Ideal := hReference3Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== On_written4.lean ====
abbrev S8192x1024 : Shape := ⟨2, ![8192, 1024]⟩
abbrev S1x1024x1024 : Shape := ⟨3, ![1, 1024, 1024]⟩
abbrev S8192x512 : Shape := ⟨2, ![8192, 512]⟩
abbrev S1x512 : Shape := ⟨2, ![1, 512]⟩
abbrev S8192x2816 : Shape := ⟨2, ![8192, 2816]⟩
abbrev S_ : Shape := ⟨0, ![]⟩
abbrev S5632x1024 : Shape := ⟨2, ![5632, 1024]⟩

class Facts : Prop where
  bcast_S_S8192x512 : S_.BroadcastsInDim S8192x512 (![] : Fin 0 → Fin S8192x512.rank)
  bcast_S_S1x512 : S_.BroadcastsInDim S1x512 (![] : Fin 0 → Fin S1x512.rank)
  bcast_S_S5632x1024 : S_.BroadcastsInDim S5632x1024 (![] : Fin 0 → Fin S5632x1024.rank)

variable [Facts]

def fn {F : FTy → Type} [FloatOps F] (main_arg0 : FVec F S8192x1024 .bf16) (main_arg1 : FVec F S1x1024x1024 .f32) (main_arg2 : FVec F S8192x512 .f32) (main_arg3 : FVec F S8192x512 .f32) (main_arg4 : FVec F S8192x512 .f32) (main_arg5 : FVec F S1x512 .f32) (main_arg6 : FVec F S1x512 .f32) (main_arg7 : FVec F S8192x2816 .bf16) (main_arg8 : FVec F S8192x1024 .bf16) : IVec S8192x512 1 × IVec S8192x512 1 × IVec S8192x512 1 × IVec S1x512 1 × IVec S1x512 1 × IVec S5632x1024 1 :=
  let main_c : IVec S_ 1 := constantI S_ 1 1#1
  let main_v0 : IVec S8192x512 1 := broadcastInDim S8192x512 ![] bcast_S_S8192x512 main_c
  let main_c_0 : IVec S_ 1 := constantI S_ 1 1#1
  let main_v1 : IVec S1x512 1 := broadcastInDim S1x512 ![] bcast_S_S1x512 main_c_0
  let main_v2 : IVec S5632x1024 32 := iotaInDim S5632x1024 32 0
  let main_c_1 : IVec S_ 32 := constantI S_ 32 2816#32
  let main_v3 : IVec S5632x1024 32 := broadcastInDim S5632x1024 ![] bcast_S_S5632x1024 main_c_1
  let main_v4 : IVec S5632x1024 1 := cmpi .slt main_v2 main_v3
  (main_v0, main_v0, main_v0, main_v1, main_v1, main_v4)
-- ==== Pre_finite2.lean ====
abbrev S8192x2560 : Shape := ⟨2, ![8192, 2560]⟩
abbrev S8192x512 : Shape := ⟨2, ![8192, 512]⟩
abbrev S1x128 : Shape := ⟨2, ![1, 128]⟩
abbrev S1x4x128x128 : Shape := ⟨4, ![1, 4, 128, 128]⟩
abbrev S1x4x128 : Shape := ⟨3, ![1, 4, 128]⟩
abbrev S8192x1024 : Shape := ⟨2, ![8192, 1024]⟩
abbrev S8192x2816 : Shape := ⟨2, ![8192, 2816]⟩
abbrev S5632x1024 : Shape := ⟨2, ![5632, 1024]⟩
abbrev S_ : Shape := ⟨0, ![]⟩

class Facts : Prop where
  bcast_S_S8192x2560 : S_.BroadcastsInDim S8192x2560 (![] : Fin 0 → Fin S8192x2560.rank)
  reducesTo_S8192x2560_S_d0_1 : S8192x2560.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S1x128 : S_.BroadcastsInDim S1x128 (![] : Fin 0 → Fin S1x128.rank)
  reducesTo_S1x128_S_d0_1 : S1x128.ReducesTo [0, 1] S_
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x4x128 : S_.BroadcastsInDim S1x4x128 (![] : Fin 0 → Fin S1x4x128.rank)
  reducesTo_S1x4x128_S_d0_1_2 : S1x4x128.ReducesTo [0, 1, 2] S_

variable [Facts]

def fn_part1 {F : FTy → Type} [FloatOps F] (main_arg4 : FVec F S1x4x128x128 .f32) (main_arg5 : FVec F S1x4x128 .f32) (main_v3 : IVec S_ 1) (main_v7 : IVec S_ 1) (main_v11 : IVec S_ 1) (main_v15 : IVec S_ 1) : IVec S_ 1 :=
  let main_v16 : FVec F S1x4x128x128 .f32 := Host.absf main_arg4
  let main_cst_6 : FVec F S_ .f32 := constant S_ .f32 0x7F800000#32
  let main_v17 : FVec F S1x4x128x128 .f32 := broadcastInDim S1x4x128x128 ![] bcast_S_S1x4x128x128 main_cst_6
  let main_v18 : IVec S1x4x128x128 1 := cmpf .olt main_v16 main_v17
  let main_c_7 : IVec S_ 1 := constantI S_ 1 1#1
  let main_v19 : IVec S_ 1 := (fun x v => Host.reduce IntOp.andi x v reducesTo_S1x4x128x128_S_d0_1_2_3 h_S_) main_v18 main_c_7
  let main_v20 : FVec F S1x4x128 .f32 := Host.absf main_arg5
  let main_cst_8 : FVec F S_ .f32 := constant S_ .f32 0x7F800000#32
  let main_v21 : FVec F S1x4x128 .f32 := broadcastInDim S1x4x128 ![] bcast_S_S1x4x128 main_cst_8
  let main_v22 : IVec S1x4x128 1 := cmpf .olt main_v20 main_v21
  let main_c_9 : IVec S_ 1 := constantI S_ 1 1#1
  let main_v23 : IVec S_ 1 := (fun x v => Host.reduce IntOp.andi x v reducesTo_S1x4x128_S_d0_1_2 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S8192x2560 .f32) (main_arg1 : FVec F S8192x512 .f32) (main_arg2 : FVec F S1x128 .f32) (main_arg3 : FVec F S1x128 .f32) (main_arg4 : FVec F S1x4x128x128 .f32) (main_arg5 : FVec F S1x4x128 .f32) (main_arg6 : FVec F S8192x1024 .bf16) (main_arg7 : FVec F S8192x1024 .bf16) (main_arg8 : FVec F S8192x2816 .bf16) (main_arg9 : FVec F S8192x1024 .bf16) (main_arg10 : FVec F S5632x1024 .f32) : IVec S_ 1 :=
  let main_v0 : FVec F S8192x2560 .f32 := Host.absf main_arg0
  let main_cst : FVec F S_ .f32 := constant S_ .f32 0x7F800000#32
  let main_v1 : FVec F S8192x2560 .f32 := broadcastInDim S8192x2560 ![] bcast_S_S8192x2560 main_cst
  let main_v2 : IVec S8192x2560 1 := cmpf .olt main_v0 main_v1
  let main_c : IVec S_ 1 := constantI S_ 1 1#1
  let main_v3 : IVec S_ 1 := (fun x v => Host.reduce IntOp.andi x v reducesTo_S8192x2560_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : FVec F S1x128 .f32 := Host.absf main_arg2
  let main_cst_2 : FVec F S_ .f32 := constant S_ .f32 0x7F800000#32
  let main_v9 : FVec F S1x128 .f32 := broadcastInDim S1x128 ![] bcast_S_S1x128 main_cst_2
  let main_v10 : IVec S1x128 1 := cmpf .olt main_v8 main_v9
  let main_c_3 : IVec S_ 1 := constantI S_ 1 1#1
  let main_v11 : IVec S_ 1 := (fun x v => Host.reduce IntOp.andi x v reducesTo_S1x128_S_d0_1 h_S_) main_v10 main_c_3
  let main_v12 : FVec F S1x128 .f32 := Host.absf main_arg3
  let main_cst_4 : FVec F S_ .f32 := constant S_ .f32 0x7F800000#32
  let main_v13 : FVec F S1x128 .f32 := broadcastInDim S1x128 ![] bcast_S_S1x128 main_cst_4
  let main_v14 : IVec S1x128 1 := cmpf .olt main_v12 main_v13
  let main_c_5 : IVec S_ 1 := constantI S_ 1 1#1
  let main_v15 : IVec S_ 1 := (fun x v => Host.reduce IntOp.andi x v reducesTo_S1x128_S_d0_1 h_S_) main_v14 main_c_5
  fn_part1 (F := F) main_arg4 main_arg5 main_v3 main_v7 main_v11 main_v15
-- ==== Pre_finite6.lean ====
abbrev S8192x1024 : Shape := ⟨2, ![8192, 1024]⟩
abbrev S8192x2816 : Shape := ⟨2, ![8192, 2816]⟩
abbrev S1x2816x1024 : Shape := ⟨3, ![1, 2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2816 : S_.BroadcastsInDim S8192x2816 (![] : Fin 0 → Fin S8192x2816.rank)
  reducesTo_S8192x2816_S_d0_1 : S8192x2816.ReducesTo [0, 1] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn {F : FTy → Type} [FloatOps F] (main_arg0 : FVec F S8192x1024 .bf16) (main_arg1 : FVec F S8192x2816 .bf16) (main_arg2 : FVec F S8192x2816 .bf16) (main_arg3 : FVec F S1x2816x1024 .f32) : IVec S_ 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2816 .bf16 := Host.absf main_arg2
  let main_cst_0 : FVec F S_ .bf16 := constant S_ .bf16 0x7F80#16
  let main_v5 : FVec F S8192x2816 .bf16 := broadcastInDim S8192x2816 ![] bcast_S_S8192x2816 main_cst_0
  let main_v6 : IVec S8192x2816 1 := cmpf .olt main_v4 main_v5
  let main_c_1 : IVec S_ 1 := constantI S_ 1 1#1
  let main_v7 : IVec S_ 1 := (fun x v => Host.reduce IntOp.andi x v reducesTo_S8192x2816_S_d0_1 h_S_) main_v6 main_c_1
  let main_v8 : FVec F S1x2816x1024 .f32 := Host.absf main_arg3
  let main_cst_2 : FVec F S_ .f32 := constant S_ .f32 0x7F800000#32
  let main_v9 : FVec F S1x2816x1024 .f32 := broadcastInDim S1x2816x1024 ![] bcast_S_S1x2816x1024 main_cst_2
  let main_v10 : IVec S1x2816x1024 1 := cmpf .olt main_v8 main_v9
  let main_c_3 : IVec S_ 1 := constantI S_ 1 1#1
  let main_v11 : IVec S_ 1 := (fun x v => Host.reduce IntOp.andi x v reducesTo_S1x2816x1024_S_d0_1_2 h_S_) main_v10 main_c_3
  let main_v12 : IVec S_ 1 := andi main_v3 main_v7
  let main_v13 : IVec S_ 1 := andi main_v12 main_v11
  main_v13
-- ==== Kernel.lean ====
abbrev S3x8192x512 : Shape := ⟨3, ![3, 8192, 512]⟩
abbrev S2x8192x512 : Shape := ⟨3, ![2, 8192, 512]⟩
abbrev S1x8192x1024 : Shape := ⟨3, ![1, 8192, 1024]⟩
abbrev S8192x1024 : Shape := ⟨2, ![8192, 1024]⟩
abbrev S1x1024 : Shape := ⟨2, ![1, 1024]⟩
abbrev S1x1024x2560 : Shape := ⟨3, ![1, 1024, 2560]⟩
abbrev S1024x2560 : Shape := ⟨2, ![1024, 2560]⟩
abbrev S2560x1024 : Shape := ⟨2, ![2560, 1024]⟩
abbrev S3x512x512 : Shape := ⟨3, ![3, 512, 512]⟩
abbrev S2x512x512 : Shape := ⟨3, ![2, 512, 512]⟩
abbrev S512x1024 : Shape := ⟨2, ![512, 1024]⟩
abbrev S1x512x512 : Shape := ⟨3, ![1, 512, 512]⟩
abbrev S512x512 : Shape := ⟨2, ![512, 512]⟩
abbrev S512x2560 : Shape := ⟨2, ![512, 2560]⟩
abbrev S512 : Shape := ⟨1, ![512]⟩
abbrev S512x1 : Shape := ⟨2, ![512, 1]⟩
abbrev S1024 : Shape := ⟨1, ![1024]⟩

abbrev nBuf : Space → Nat
  | .hbm => 12
  | .vmem => 13
  | .smem => 0
  | _ => 0

abbrev bufTy : (tb : Table) → Fin (tcTables nBuf tb) → BufTy
  | .hbm, ⟨0, _⟩ => ⟨S3x8192x512, .f32⟩
  | .hbm, ⟨1, _⟩ => ⟨S2x8192x512, .bf16⟩
  | .hbm, ⟨2, _⟩ => ⟨S1x8192x1024, .f32⟩
  | .hbm, ⟨3, _⟩ => ⟨S8192x1024, .f32⟩
  | .hbm, ⟨4, _⟩ => ⟨S1x1024, .f32⟩
  | .hbm, ⟨5, _⟩ => ⟨S1x1024x2560, .f32⟩
  | .hbm, ⟨6, _⟩ => ⟨S1024x2560, .f32⟩
  | .hbm, ⟨7, _⟩ => ⟨S2560x1024, .f32⟩
  | .hbm, ⟨8, _⟩ => ⟨S2560x1024, .bf16⟩
  | .hbm, ⟨9, _⟩ => ⟨S8192x1024, .f32⟩
  | .hbm, ⟨10, _⟩ => ⟨S8192x1024, .f32⟩
  | .hbm, ⟨11, _⟩ => ⟨S1x1024, .f32⟩
  | .local _ .vmem, ⟨0, _⟩ => ⟨S3x512x512, .f32⟩
  | .local _ .vmem, ⟨1, _⟩ => ⟨S3x512x512, .f32⟩
  | .local _ .vmem, ⟨2, _⟩ => ⟨S2x512x512, .bf16⟩
  | .local _ .vmem, ⟨3, _⟩ => ⟨S2x512x512, .bf16⟩
  | .local _ .vmem, ⟨4, _⟩ => ⟨S2560x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S3x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S3x8192x512 : Shape := ⟨3, ![3, 8192, 512]⟩
abbrev S2x8192x512 : Shape := ⟨3, ![2, 8192, 512]⟩
abbrev S1x8192x1024 : Shape := ⟨3, ![1, 8192, 1024]⟩
abbrev S8192x1024 : Shape := ⟨2, ![8192, 1024]⟩
abbrev S1x1024 : Shape := ⟨2, ![1, 1024]⟩
abbrev S1x1024x2560 : Shape := ⟨3, ![1, 1024, 2560]⟩
abbrev S1x8192x512 : Shape := ⟨3, ![1, 8192, 512]⟩
abbrev S8192x512 : Shape := ⟨2, ![8192, 512]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2560 : Shape := ⟨2, ![1024, 2560]⟩
abbrev S8192x2560 : Shape := ⟨2, ![8192, 2560]⟩

abbrev nBuf : Space → Nat
  | .hbm => 75
  | .vmem => 0
  | .smem => 0
  | _ => 0

abbrev bufTy : (tb : Table) → Fin (tcTables nBuf tb) → BufTy
  | .hbm, ⟨0, _⟩ => ⟨S3x8192x512, .f32⟩
  | .hbm, ⟨1, _⟩ => ⟨S2x8192x512, .bf16⟩
  | .hbm, ⟨2, _⟩ => ⟨S1x8192x1024, .f32⟩
  | .hbm, ⟨3, _⟩ => ⟨S8192x1024, .f32⟩
  | .hbm, ⟨4, _⟩ => ⟨S1x1024, .f32⟩
  | .hbm, ⟨5, _⟩ => ⟨S1x1024x2560, .f32⟩
  | .hbm, ⟨6, _⟩ => ⟨S2x8192x512, .f32⟩
  | .hbm, ⟨7, _⟩ => ⟨S1x8192x512, .f32⟩
  | .hbm, ⟨8, _⟩ => ⟨S8192x512, .f32⟩
  | .hbm, ⟨9, _⟩ => ⟨S1x8192x512, .f32⟩
  | .hbm, ⟨10, _⟩ => ⟨S8192x512, .f32⟩
  | .hbm, ⟨11, _⟩ => ⟨S1x8192x512, .f32⟩
  | .hbm, ⟨12, _⟩ => ⟨S8192x512, .f32⟩
  | .hbm, ⟨13, _⟩ => ⟨S1x8192x512, .f32⟩
  | .hbm, ⟨14, _⟩ => ⟨S8192x512, .f32⟩
  | .hbm, ⟨15, _⟩ => ⟨S1x8192x512, .f32⟩
  | .hbm, ⟨16, _⟩ => ⟨S8192x512, .f32⟩
  | .hbm, ⟨17, _⟩ => ⟨S8192x1024, .f32⟩
  | .hbm, ⟨18, _⟩ => ⟨S1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1024x2560, .f32⟩
  | .hbm, ⟨40, _⟩ => ⟨S8192x2560, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x2560, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S1x1024, .f32⟩
  | _, _ => ⟨S3x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_6 : Ref sig .tc := ⟨.hbm, 64, rfl⟩
abbrev main_v51 : Ref sig .tc := ⟨.hbm, 65, rfl⟩
abbrev main_v52 : Ref sig .tc := ⟨.hbm, 66, rfl⟩
abbrev main_cst_7 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩

abbrev nD : Nat := 1
abbrev τ : Topo := Topo.v7x

variable {F : FTy → Type} [FloatOps F]
-- ==== Kernel4.lean ====
abbrev S8192x1024 : Shape := ⟨2, ![8192, 1024]⟩
abbrev S1x1024x1024 : Shape := ⟨3, ![1, 1024, 1024]⟩
abbrev S8192x512 : Shape := ⟨2, ![8192, 512]⟩
abbrev S1x512 : Shape := ⟨2, ![1, 512]⟩
abbrev S8192x2816 : Shape := ⟨2, ![8192, 2816]⟩
abbrev S1024x1024 : Shape := ⟨2, ![1024, 1024]⟩
abbrev S5632x1024 : Shape := ⟨2, ![5632, 1024]⟩
abbrev S512x1024 : Shape := ⟨2, ![512, 1024]⟩
abbrev S512x512 : Shape := ⟨2, ![512, 512]⟩
abbrev S512x2816 : Shape := ⟨2, ![512, 2816]⟩
abbrev S2816x1024 : Shape := ⟨2, ![2816, 1024]⟩
abbrev S512 : Shape := ⟨1, ![512]⟩
abbrev S512x1 : Shape := ⟨2, ![512, 1]⟩
abbrev S1x128 : Shape := ⟨2, ![1, 128]⟩
abbrev S512x128 : Shape := ⟨2, ![512, 128]⟩

abbrev nBuf : Space → Nat
  | .hbm => 17
  | .vmem => 24
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1x512, .f32⟩
  | .hbm, ⟨6, _⟩ => ⟨S1x512, .f32⟩
  | .hbm, ⟨7, _⟩ => ⟨S8192x2816, .bf16⟩
  | .hbm, ⟨8, _⟩ => ⟨S8192x1024, .bf16⟩
  | .hbm, ⟨9, _⟩ => ⟨S1024x1024, .f32⟩
  | .hbm, ⟨10, _⟩ => ⟨S1024x1024, .bf16⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S1x512, .f32⟩
  | .hbm, ⟨15, _⟩ => ⟨S1x512, .f32⟩
  | .hbm, ⟨16, _⟩ => ⟨S5632x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S1x512, .f32⟩
  | .local _ .vmem, ⟨10, _⟩ => ⟨S1x512, .f32⟩
  | .local _ .vmem, ⟨11, _⟩ => ⟨S512x2816, .bf16⟩
  | .local _ .vmem, ⟨12, _⟩ => ⟨S512x2816, .bf16⟩
  | .local _ .vmem, ⟨13, _⟩ => ⟨S512x1024, .bf16⟩
  | .local _ .vmem, ⟨14, _⟩ => ⟨S512x1024, .bf16⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S1x512, .f32⟩
  | .local _ .vmem, ⟨22, _⟩ => ⟨S1x512, .f32⟩
  | .local _ .vmem, ⟨23, _⟩ => ⟨S2816x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_v2_4 : Ref sig .tc := ⟨.hbm, 15, rfl⟩
abbrev main_v2_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference4Ideal.lean ====
abbrev S8192x1024 : Shape := ⟨2, ![8192, 1024]⟩
abbrev S1x1024x1024 : Shape := ⟨3, ![1, 1024, 1024]⟩
abbrev S8192x512 : Shape := ⟨2, ![8192, 512]⟩
abbrev S1x512 : Shape := ⟨2, ![1, 512]⟩
abbrev S8192x2816 : Shape := ⟨2, ![8192, 2816]⟩
abbrev S512 : Shape := ⟨1, ![512]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩
abbrev S8192x8x64 : Shape := ⟨3, ![8192, 8, 64]⟩
abbrev S8192x8 : Shape := ⟨2, ![8192, 8]⟩
abbrev S8192x8x32 : Shape := ⟨3, ![8192, 8, 32]⟩
abbrev S8192x8x1 : Shape := ⟨3, ![8192, 8, 1]⟩
abbrev S1024x2816 : Shape := ⟨2, ![1024, 2816]⟩
abbrev S2816x1024 : Shape := ⟨2, ![2816, 1024]⟩
abbrev S5632x1024 : Shape := ⟨2, ![5632, 1024]⟩

abbrev nBuf : Space → Nat
  | .hbm => 131
  | .vmem => 0
  | .smem => 0
  | _ => 0

abbrev hbmTy0_0 (i : Nat) : BufTy := match i % 128 with
  | 0 => ⟨S8192x1024, .bf16⟩
  | 1 => ⟨S1x1024x1024, .f32⟩
  | 2 => ⟨S8192x512, .f32⟩
  | 3 => ⟨S8192x512, .f32⟩
  | 4 => ⟨S8192x512, .f32⟩
  | 5 => ⟨S1x512, .f32⟩
  | 6 => ⟨S1x512, .f32⟩
  | 7 => ⟨S8192x2816, .bf16⟩
  | 8 => ⟨S8192x1024, .bf16⟩
  | 9 => ⟨S512, .f32⟩
  | 10 => ⟨S8192x512, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x512, .f32⟩
  | 26 => ⟨S8192x512, .f32⟩
  | 27 => ⟨S1x512, .f32⟩
  | 28 => ⟨S8192x512, .f32⟩
  | 29 => ⟨S8192x512, .f32⟩
  | 30 => ⟨S512, .f32⟩
  | 31 => ⟨S8192x512, .f32⟩
  | 32 => ⟨S_, .f32⟩
  | 33 => ⟨S8192, .f32⟩
  | 34 => ⟨S8192x1, .f32⟩
  | 35 => ⟨S_, .f32⟩
  | 36 => ⟨S8192x1, .f32⟩
  | 37 => ⟨S8192x1, .f32⟩
  | 38 => ⟨S_, .f32⟩
  | 39 => ⟨S8192x1, .f32⟩
  | 40 => ⟨S8192x1, .f32⟩
  | 41 => ⟨S8192x1, .f32⟩
  | 42 => ⟨S8192x1, .f32⟩
  | 43 => ⟨S_, .f32⟩
  | 44 => ⟨S8192x1, .f32⟩
  | 45 => ⟨S8192x1, .f32⟩
  | 46 => ⟨S8192x512, .f32⟩
  | 47 => ⟨S8192x512, .f32⟩
  | 48 => ⟨S1x512, .f32⟩
  | 49 => ⟨S8192x512, .f32⟩
  | 50 => ⟨S8192x512, .f32⟩
  | 51 => ⟨S8192x1024, .f32⟩
  | 52 => ⟨S1024x1024, .f32⟩
  | 53 => ⟨S8192x1024, .f32⟩
  | 54 => ⟨S8192x1024, .f32⟩
  | 55 => ⟨S8192x1024, .f32⟩
  | 56 => ⟨S8192x512, .f32⟩
  | 57 => ⟨S8192x512, .f32⟩
  | 58 => ⟨S8192x512, .f32⟩
  | 59 => ⟨S_, .f32⟩
  | 60 => ⟨S512, .f32⟩
  | 61 => ⟨S1x512, .f32⟩
  | 62 => ⟨S8192x512, .f32⟩
  | 63 => ⟨S8192x512, .f32⟩
  | 64 => ⟨S_, .f32⟩
  | 65 => ⟨S512, .f32⟩
  | 66 => ⟨S8192x512, .f32⟩
  | 67 => ⟨S_, .f32⟩
  | 68 => ⟨S8192, .f32⟩
  | 69 => ⟨S8192x1, .f32⟩
  | 70 => ⟨S8192x512, .f32⟩
  | 71 => ⟨S8192x512, .f32⟩
  | 72 => ⟨S8192x1, .f32⟩
  | 73 => ⟨S_, .f32⟩
  | 74 => ⟨S8192x1, .f32⟩
  | 75 => ⟨S8192x1, .f32⟩
  | 76 => ⟨S_, .f32⟩
  | 77 => ⟨S8192, .f32⟩
  | 78 => ⟨S8192x512, .f32⟩
  | 79 => ⟨S8192x512, .f32⟩
  | 80 => ⟨S8192x512, .f32⟩
  | 81 => ⟨S8192x512, .f32⟩
  | 82 => ⟨S8192x512, .f32⟩
  | 83 => ⟨S1x512, .f32⟩
  | 84 => ⟨S8192x512, .f32⟩
  | 85 => ⟨S_, .f32⟩
  | 86 => ⟨S512, .f32⟩
  | 87 => ⟨S1x512, .f32⟩
  | 88 => ⟨S8192x512, .f32⟩
  | 89 => ⟨S8192x512, .f32⟩
  | 90 => ⟨S_, .f32⟩
  | 91 => ⟨S512, .f32⟩
  | 92 => ⟨S8192x512, .f32⟩
  | 93 => ⟨S_, .f32⟩
  | 94 => ⟨S8192, .f32⟩
  | 95 => ⟨S8192x1, .f32⟩
  | 96 => ⟨S8192x512, .f32⟩
  | 97 => ⟨S8192x512, .f32⟩
  | 98 => ⟨S8192x1, .f32⟩
  | 99 => ⟨S_, .f32⟩
  | 100 => ⟨S8192x1, .f32⟩
  | 101 => ⟨S8192x1, .f32⟩
  | 102 => ⟨S_, .f32⟩
  | 103 => ⟨S8192, .f32⟩
  | 104 => ⟨S8192x512, .f32⟩
  | 105 => ⟨S8192x512, .f32⟩
  | 106 => ⟨S8192x512, .f32⟩
  | 107 => ⟨S8192x512, .f32⟩
  | 108 => ⟨S8192x512, .f32⟩
  | 109 => ⟨S1x512, .f32⟩
  | 110 => ⟨S8192x512, .f32⟩
  | 111 => ⟨S8192x8x64, .f32⟩
  | 112 => ⟨S_, .f32⟩
  | 113 => ⟨S8192x8, .f32⟩
  | 114 => ⟨S8192x8x64, .f32⟩
  | 115 => ⟨S8192x8x32, .f32⟩
  | 116 => ⟨S8192x8x1, .f32⟩
  | 117 => ⟨S8192x8x32, .f32⟩
  | 118 => ⟨S8192x8x64, .f32⟩
  | 119 => ⟨S8192x512, .f32⟩
  | 120 => ⟨S_, .f32⟩
  | 121 => ⟨S1024x2816, .f32⟩
  | 122 => ⟨S8192x1024, .f32⟩
  | 123 => ⟨S8192x2816, .f32⟩
  | 124 => ⟨S8192x2816, .f32⟩
  | 125 => ⟨S2816x1024, .f32⟩
  | 126 => ⟨S1024x2816, .f32⟩
  | 127 => ⟨S2816x1024, .f32⟩
  | _ => ⟨S8192x1024, .bf16⟩

abbrev hbmTy0_1 (i : Nat) : BufTy := match i % 128 with
  | 0 => ⟨S_, .f32⟩
  | 1 => ⟨S2816x1024, .f32⟩
  | 2 => ⟨S5632x1024, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_13 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_15 : Ref sig .tc := ⟨.hbm, 99, rfl⟩
abbrev main_v74 : Ref sig .tc := ⟨.hbm, 100, rfl⟩
abbrev main_v75 : Ref sig .tc := ⟨.hbm, 101, rfl⟩
abbrev main_cst_16 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_17 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_18 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_19 : Ref sig .tc := ⟨.hbm, 128, rfl⟩
abbrev main_v99 : Ref sig .tc := ⟨.hbm, 129, rfl⟩
abbrev main_v100 : Ref sig .tc := ⟨.hbm, 130, rfl⟩

abbrev nD : Nat := 1
abbrev τ : Topo := Topo.v7x

variable {F : FTy → Type} [FloatOps F]
-- ==== Kernel5.lean ====
abbrev S8192x2816 : Shape := ⟨2, ![8192, 2816]⟩
abbrev S1x8192x1024 : Shape := ⟨3, ![1, 8192, 1024]⟩
abbrev S8192x1024 : Shape := ⟨2, ![8192, 1024]⟩
abbrev S1x1024 : Shape := ⟨2, ![1, 1024]⟩
abbrev S1x1024x5632 : Shape := ⟨3, ![1, 1024, 5632]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S5632x1024 : Shape := ⟨2, ![5632, 1024]⟩
abbrev S512x2816 : Shape := ⟨2, ![512, 2816]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S1024 : Shape := ⟨1, ![1024]⟩

abbrev nBuf : Space → Nat
  | .hbm => 32
  | .vmem => 19
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1x8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S1x1024x5632, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S1024x5632, .f32⟩
  | .hbm, ⟨24, _⟩ => ⟨S5632x1024, .f32⟩
  | .hbm, ⟨25, _⟩ => ⟨S5632x1024, .bf16⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | .hbm, ⟨30, _⟩ => ⟨S1x1024, .f32⟩
  | .hbm, ⟨31, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S5632x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev main_v17_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference5Ideal.lean ====
abbrev S8192x2816 : Shape := ⟨2, ![8192, 2816]⟩
abbrev S1x8192x1024 : Shape := ⟨3, ![1, 8192, 1024]⟩
abbrev S8192x1024 : Shape := ⟨2, ![8192, 1024]⟩
abbrev S1x1024 : Shape := ⟨2, ![1, 1024]⟩
abbrev S1x1024x5632 : Shape := ⟨3, ![1, 1024, 5632]⟩
abbrev S8192x5632 : Shape := ⟨2, ![8192, 5632]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩

abbrev nBuf : Space → Nat
  | .hbm => 113
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1x8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S1x1024x5632, .f32⟩
  | .hbm, ⟨8, _⟩ => ⟨S8192x5632, .bf16⟩
  | .hbm, ⟨9, _⟩ => ⟨S8192x5632, .f32⟩
  | .hbm, ⟨10, _⟩ => ⟨S8192x1024, .f32⟩
  | .hbm, ⟨11, _⟩ => ⟨S1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S1024x5632, .f32⟩
  | .hbm, ⟨55, _⟩ => ⟨S8192x5632, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S_, .f32⟩
  | .hbm, ⟨77, _⟩ => ⟨S8192, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S1x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S1024, .f32⟩
  | .hbm, ⟨94, _⟩ => ⟨S8192x1024, .f32⟩
  | .hbm, ⟨95, _⟩ => ⟨S_, .f32⟩
  | .hbm, ⟨96, _⟩ => ⟨S8192, .f32⟩
  | .hbm, ⟨97, _⟩ => ⟨S8192x1, .f32⟩
  | .hbm, ⟨98, _⟩ => ⟨S8192x1024, .f32⟩
  | .hbm, ⟨99, _⟩ => ⟨S8192x1024, .f32⟩
  | .hbm, ⟨100, _⟩ => ⟨S8192x1, .f32⟩
  | .hbm, ⟨101, _⟩ => ⟨S_, .f32⟩
  | .hbm, ⟨102, _⟩ => ⟨S8192x1, .f32⟩
  | .hbm, ⟨103, _⟩ => ⟨S8192x1, .f32⟩
  | .hbm, ⟨104, _⟩ => ⟨S_, .f32⟩
  | .hbm, ⟨105, _⟩ => ⟨S8192, .f32⟩
  | .hbm, ⟨106, _⟩ => ⟨S8192x1024, .f32⟩
  | .hbm, ⟨107, _⟩ => ⟨S8192x1024, .f32⟩
  | .hbm, ⟨108, _⟩ => ⟨S8192x1024, .f32⟩
  | .hbm, ⟨109, _⟩ => ⟨S8192x1024, .f32⟩
  | .hbm, ⟨110, _⟩ => ⟨S8192x1024, .f32⟩
  | .hbm, ⟨111, _⟩ => ⟨S1x1024, .f32⟩
  | .hbm, ⟨112, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_12 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_13 : Ref sig .tc := ⟨.hbm, 92, rfl⟩
abbrev main_v70 : Ref sig .tc := ⟨.hbm, 93, rfl⟩
abbrev main_v71 : Ref sig .tc := ⟨.hbm, 94, rfl⟩
abbrev main_cst_14 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_15 : Ref sig .tc := ⟨.hbm, 101, rfl⟩
abbrev main_v77 : Ref sig .tc := ⟨.hbm, 102, rfl⟩
abbrev main_v78 : Ref sig .tc := ⟨.hbm, 103, rfl⟩
abbrev main_cst_16 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩

abbrev nD : Nat := 1
abbrev τ : Topo := Topo.v7x

variable {F : FTy → Type} [FloatOps F]
-- ==== Kernel3.lean ====
abbrev S8192x1024 : Shape := ⟨2, ![8192, 1024]⟩
abbrev S1x1x8192x256 : Shape := ⟨4, ![1, 1, 8192, 256]⟩
abbrev S1x8192x1024 : Shape := ⟨3, ![1, 8192, 1024]⟩
abbrev S1x1024x1024 : Shape := ⟨3, ![1, 1024, 1024]⟩
abbrev S1x1024 : Shape := ⟨2, ![1, 1024]⟩
abbrev S1x256x1024 : Shape := ⟨3, ![1, 256, 1024]⟩
abbrev S_ : Shape := ⟨0, ![]⟩
abbrev S8192 : Shape := ⟨1, ![8192]⟩
abbrev S8192x1 : Shape := ⟨2, ![8192, 1]⟩
abbrev S8192x256 : Shape := ⟨2, ![8192, 256]⟩
abbrev S1024x1024 : Shape := ⟨2, ![1024, 1024]⟩
abbrev S256x1024 : Shape := ⟨2, ![256, 1024]⟩
abbrev S1024x256 : Shape := ⟨2, ![1024, 256]⟩
abbrev S512x1024 : Shape := ⟨2, ![512, 1024]⟩
abbrev S512x256 : Shape := ⟨2, ![512, 256]⟩
abbrev S1024 : Shape := ⟨1, ![1024]⟩
abbrev S512 : Shape := ⟨1, ![512]⟩
abbrev S512x1 : Shape := ⟨2, ![512, 1]⟩

abbrev nBuf : Space → Nat
  | .hbm => 38
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1x8192x256, .f32⟩
  | .hbm, ⟨3, _⟩ => ⟨S1x8192x1024, .f32⟩
  | .hbm, ⟨4, _⟩ => ⟨S1x1024x1024, .f32⟩
  | .hbm, ⟨5, _⟩ => ⟨S1x1024, .f32⟩
  | .hbm, ⟨6, _⟩ => ⟨S1x256x1024, .f32⟩
  | .hbm, ⟨7, _⟩ => ⟨S1x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x256, .f32⟩
  | .hbm, ⟨25, _⟩ => ⟨S8192x1024, .f32⟩
  | .hbm, ⟨26, _⟩ => ⟨S1024x1024, .f32⟩
  | .hbm, ⟨27, _⟩ => ⟨S1024x1024, .bf16⟩
  | .hbm, ⟨28, _⟩ => ⟨S256x1024, .f32⟩
  | .hbm, ⟨29, _⟩ => ⟨S1024x256, .f32⟩
  | .hbm, ⟨30, _⟩ => ⟨S1024x256, .bf16⟩
  | .hbm, ⟨31, _⟩ => ⟨S8192x1024, .f32⟩
  | .hbm, ⟨32, _⟩ => ⟨S8192x1024, .bf16⟩
  | .hbm, ⟨33, _⟩ => ⟨S1024x1024, .f32⟩
  | .hbm, ⟨34, _⟩ => ⟨S1024x256, .f32⟩
  | .hbm, ⟨35, _⟩ => ⟨S1x1024, .f32⟩
  | .hbm, ⟨36, _⟩ => ⟨S1x1024, .f32⟩
  | .hbm, ⟨37, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S1024x256, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .f32⟩
  | .local _ .vmem, ⟨17, _⟩ => ⟨S1024x256, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v20_3 : Ref sig .tc := ⟨.hbm, 34, rfl⟩
abbrev main_v20_4 : Ref sig .tc := ⟨.hbm, 35, rfl⟩
abbrev main_v20_5 : Ref sig .tc := ⟨.hbm, 36, rfl⟩
abbrev main_v20_6 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference3Ideal.lean ====
abbrev S8192x1024 : Shape := ⟨2, ![8192, 1024]⟩
abbrev S1x1x8192x256 : Shape := ⟨4, ![1, 1, 8192, 256]⟩
abbrev S1x8192x1024 : Shape := ⟨3, ![1, 8192, 1024]⟩
abbrev S1x1024x1024 : Shape := ⟨3, ![1, 1024, 1024]⟩
abbrev S1x1024 : Shape := ⟨2, ![1, 1024]⟩
abbrev S1x256x1024 : Shape := ⟨3, ![1, 256, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩
abbrev S8192x256 : Shape := ⟨2, ![8192, 256]⟩
abbrev S256x1024 : Shape := ⟨2, ![256, 1024]⟩
abbrev S1024x256 : Shape := ⟨2, ![1024, 256]⟩

abbrev nBuf : Space → Nat
  | .hbm => 127
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1x8192x256, .f32⟩
  | .hbm, ⟨3, _⟩ => ⟨S1x8192x1024, .f32⟩
  | .hbm, ⟨4, _⟩ => ⟨S1x1024x1024, .f32⟩
  | .hbm, ⟨5, _⟩ => ⟨S1x1024, .f32⟩
  | .hbm, ⟨6, _⟩ => ⟨S1x256x1024, .f32⟩
  | .hbm, ⟨7, _⟩ => ⟨S1x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S1024x1024, .f32⟩
  | .hbm, ⟨31, _⟩ => ⟨S8192x1024, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x256, .f32⟩
  | .hbm, ⟨49, _⟩ => ⟨S256x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S1024x256, .f32⟩
  | .hbm, ⟨80, _⟩ => ⟨S256x1024, .f32⟩
  | .hbm, ⟨81, _⟩ => ⟨S1x256x1024, .f32⟩
  | .hbm, ⟨82, _⟩ => ⟨S8192x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S1024x1024, .f32⟩
  | .hbm, ⟨90, _⟩ => ⟨S1024x1024, .f32⟩
  | .hbm, ⟨91, _⟩ => ⟨S8192x1024, .f32⟩
  | .hbm, ⟨92, _⟩ => ⟨S8192x1024, .f32⟩
  | .hbm, ⟨93, _⟩ => ⟨S1x1024x1024, .f32⟩
  | .hbm, ⟨94, _⟩ => ⟨S8192x1024, .f32⟩
  | .hbm, ⟨95, _⟩ => ⟨S_, .f32⟩
  | .hbm, ⟨96, _⟩ => ⟨S1024, .f32⟩
  | .hbm, ⟨97, _⟩ => ⟨S1x1024, .f32⟩
  | .hbm, ⟨98, _⟩ => ⟨S8192x1024, .f32⟩
  | .hbm, ⟨99, _⟩ => ⟨S8192x1024, .f32⟩
  | .hbm, ⟨100, _⟩ => ⟨S_, .f32⟩
  | .hbm, ⟨101, _⟩ => ⟨S1024, .f32⟩
  | .hbm, ⟨102, _⟩ => ⟨S8192x1024, .f32⟩
  | .hbm, ⟨103, _⟩ => ⟨S_, .f32⟩
  | .hbm, ⟨104, _⟩ => ⟨S8192, .f32⟩
  | .hbm, ⟨105, _⟩ => ⟨S8192x1, .f32⟩
  | .hbm, ⟨106, _⟩ => ⟨S8192x1024, .f32⟩
  | .hbm, ⟨107, _⟩ => ⟨S8192x1024, .f32⟩
  | .hbm, ⟨108, _⟩ => ⟨S8192x1, .f32⟩
  | .hbm, ⟨109, _⟩ => ⟨S_, .f32⟩
  | .hbm, ⟨110, _⟩ => ⟨S8192x1, .f32⟩
  | .hbm, ⟨111, _⟩ => ⟨S8192x1, .f32⟩
  | .hbm, ⟨112, _⟩ => ⟨S_, .f32⟩
  | .hbm, ⟨113, _⟩ => ⟨S8192, .f32⟩
  | .hbm, ⟨114, _⟩ => ⟨S8192x1024, .f32⟩
  | .hbm, ⟨115, _⟩ => ⟨S8192x1024, .f32⟩
  | .hbm, ⟨116, _⟩ => ⟨S8192x1024, .f32⟩
  | .hbm, ⟨117, _⟩ => ⟨S8192x1024, .f32⟩
  | .hbm, ⟨118, _⟩ => ⟨S8192x1024, .f32⟩
  | .hbm, ⟨119, _⟩ => ⟨S1x1024, .f32⟩
  | .hbm, ⟨120, _⟩ => ⟨S8192x1024, .bf16⟩
  | .hbm, ⟨121, _⟩ => ⟨S1024x1024, .f32⟩
  | .hbm, ⟨122, _⟩ => ⟨S256x1024, .f32⟩
  | .hbm, ⟨123, _⟩ => ⟨S1024x256, .f32⟩
  | .hbm, ⟨124, _⟩ => ⟨S_, .f32⟩
  | .hbm, ⟨125, _⟩ => ⟨S1024, .f32⟩
  | .hbm, ⟨126, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_cst_11 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_cst_13 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_14 : Ref sig .tc := ⟨.hbm, 83, rfl⟩
abbrev main_v60 : Ref sig .tc := ⟨.hbm, 84, rfl⟩
abbrev main_v61 : Ref sig .tc := ⟨.hbm, 85, rfl⟩
abbrev main_cst_15 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_16 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_17 : Ref sig .tc := ⟨.hbm, 100, rfl⟩
abbrev main_v74 : Ref sig .tc := ⟨.hbm, 101, rfl⟩
abbrev main_v75 : Ref sig .tc := ⟨.hbm, 102, rfl⟩
abbrev main_cst_18 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_19 : Ref sig .tc := ⟨.hbm, 109, rfl⟩
abbrev main_v81 : Ref sig .tc := ⟨.hbm, 110, rfl⟩
abbrev main_v82 : Ref sig .tc := ⟨.hbm, 111, rfl⟩
abbrev main_cst_20 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_21 : Ref sig .tc := ⟨.hbm, 124, rfl⟩
abbrev main_v94 : Ref sig .tc := ⟨.hbm, 125, rfl⟩
abbrev main_v95 : Ref sig .tc := ⟨.hbm, 126, rfl⟩

abbrev nD : Nat := 1
abbrev τ : Topo := Topo.v7x

variable {F : FTy → Type} [FloatOps F]
-- ==== Kernel6.lean ====
abbrev S8192x1024 : Shape := ⟨2, ![8192, 1024]⟩
abbrev S8192x2816 : Shape := ⟨2, ![8192, 2816]⟩
abbrev S1x2816x1024 : Shape := ⟨3, ![1, 2816, 1024]⟩
abbrev S2816x1024 : Shape := ⟨2, ![2816, 1024]⟩
abbrev S512x1024 : Shape := ⟨2, ![512, 1024]⟩
abbrev S512x2816 : Shape := ⟨2, ![512, 2816]⟩
abbrev S3x512x2816 : Shape := ⟨3, ![3, 512, 2816]⟩
abbrev S2x3 : Shape := ⟨2, ![2, 3]⟩
abbrev S1x1 : Shape := ⟨2, ![1, 1]⟩
abbrev S_ : Shape := ⟨0, ![]⟩
abbrev S1x512x2816 : Shape := ⟨3, ![1, 512, 2816]⟩
abbrev S256x1024 : Shape := ⟨2, ![256, 1024]⟩
abbrev S512x256 : Shape := ⟨2, ![512, 256]⟩

abbrev nBuf : Space → Nat
  | .hbm => 8
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S1x2816x1024, .f32⟩
  | .hbm, ⟨4, _⟩ => ⟨S2816x1024, .f32⟩
  | .hbm, ⟨5, _⟩ => ⟨S2816x1024, .bf16⟩
  | .hbm, ⟨6, _⟩ => ⟨S8192x2816, .bf16⟩
  | .hbm, ⟨7, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S3x512x2816, .bf16⟩
  | .local _ .vmem, ⟨8, _⟩ => ⟨S3x512x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c16_i32 : BitVec 32 := 16#32
  let v5 : BitVec 1 := Scalar.cmpi .slt v4 c16_i32
  let v6 : BitVec 32 := Scalar.extui v5
  let c0_i32_1 : BitVec 32 := 0#32
  let v7 : BitVec 1 := Scalar.cmpi .ne v6 c0_i32_1
  v7

def k0_mult1 (i : grid0.Coords) : BitVec 32 :=
  let arg0 : BitVec 32 := BitVec.ofNat 32 (i 0).val
  let c3_i32_238 : BitVec 32 := 3#32
  let v403 : BitVec 32 := Scalar.addi arg0 c3_i32_238
  let c1_i32_239 : BitVec 32 := 1#32
  let v404 : BitVec 32 := Scalar.subi v403 c1_i32_239
  let c512_i32_246 : BitVec 32 := 512#32
  let v415 : BitVec 32 := Scalar.muli v404 c512_i32_246
  v415
def k0_off1 (i : grid0.Coords) : Fin 2 → Nat :=
  let c0_i32_247 : BitVec 32 := 0#32
  let arg0 : BitVec 32 := BitVec.ofNat 32 (i 0).val
  let c3_i32_238 : BitVec 32 := 3#32
  let v403 : BitVec 32 := Scalar.addi arg0 c3_i32_238
  let c1_i32_239 : BitVec 32 := 1#32
  let v404 : BitVec 32 := Scalar.subi v403 c1_i32_239
  let c3_i32_240 : BitVec 32 := 3#32
  let c0_i32_241 : BitVec 32 := 0#32
  let v405 : BitVec 1 := Scalar.cmpi .eq c3_i32_240 c0_i32_241
  let c1_i32_242 : BitVec 32 := 1#32
  let v406 : BitVec 32 := Scalar.select v405 c1_i32_242 c3_i32_240
  let v407 : BitVec 32 := Scalar.remsi v404 v406
  let c0_i32_244 : BitVec 32 := 0#32
  let v409 : BitVec 1 := Scalar.cmpi .slt v407 c0_i32_244
  let c0_i32_245 : BitVec 32 := 0#32
  let v410 : BitVec 1 := Scalar.cmpi .slt v406 c0_i32_245
  let v411 : BitVec 1 := Scalar.xori v409 v410
  let c0_i32_243 : BitVec 32 := 0#32
  let v408 : BitVec 1 := Scalar.cmpi .ne v407 c0_i32_243
  let v412 : BitVec 1 := Scalar.andi v411 v408
  let v413 : BitVec 32 := Scalar.addi v407 v406
  let v414 : BitVec 32 := Scalar.select v412 v413 v407
  ![0, v414.toNat]
def k0_off2 (i : grid0.Coords) : Fin 3 → Nat :=
  let arg0 : BitVec 32 := BitVec.ofNat 32 (i 0).val
  let c3_i32_238 : BitVec 32 := 3#32
  let v403 : BitVec 32 := Scalar.addi arg0 c3_i32_238
  let c1_i32_239 : BitVec 32 := 1#32
  let v404 : BitVec 32 := Scalar.subi v403 c1_i32_239
  let c3_i32_240 : BitVec 32 := 3#32
  let c0_i32_241 : BitVec 32 := 0#32
  let v405 : BitVec 1 := Scalar.cmpi .eq c3_i32_240 c0_i32_241
  let c1_i32_242 : BitVec 32 := 1#32
  let v406 : BitVec 32 := Scalar.select v405 c1_i32_242 c3_i32_240
  let v407 : BitVec 32 := Scalar.remsi v404 v406
  let c0_i32_244 : BitVec 32 := 0#32
  let v409 : BitVec 1 := Scalar.cmpi .slt v407 c0_i32_244
  let c0_i32_245 : BitVec 32 := 0#32
  let v410 : BitVec 1 := Scalar.cmpi .slt v406 c0_i32_245
  let v411 : BitVec 1 := Scalar.xori v409 v410
  let c0_i32_243 : BitVec 32 := 0#32
  let v408 : BitVec 1 := Scalar.cmpi .ne v407 c0_i32_243
  let v412 : BitVec 1 := Scalar.andi v411 v408
  let v413 : BitVec 32 := Scalar.addi v407 v406
  let v414 : BitVec 32 := Scalar.select v412 v413 v407
  let c0_i32_248 : BitVec 32 := 0#32
  let c0_i32_249 : BitVec 32 := 0#32
  ![v414.toNat, 0, 0]
def k0_off3 (i : grid0.Coords) : Fin 2 → Nat :=
  let arg0 : BitVec 32 := BitVec.ofNat 32 (i 0).val
  let c3_i32_238 : BitVec 32 := 3#32
  let v403 : BitVec 32 := Scalar.addi arg0 c3_i32_238
  let c1_i32_239 : BitVec 32 := 1#32
  let v404 : BitVec 32 := Scalar.subi v403 c1_i32_239
  let c512_i32_246 : BitVec 32 := 512#32
  let v415 : BitVec 32 := Scalar.muli v404 c512_i32_246
  let v416 : BitVec 32 := v415
  let c0_i32_250 : BitVec 32 := 0#32
  ![v416.toNat, 0]
def k0_off4 (i : grid0.Coords) : Fin 2 → Nat :=
  let c1_i32_251 : BitVec 32 := 1#32
  let arg0 : BitVec 32 := BitVec.ofNat 32 (i 0).val
  let c3_i32_238 : BitVec 32 := 3#32
  let v403 : BitVec 32 := Scalar.addi arg0 c3_i32_238
  let c1_i32_239 : BitVec 32 := 1#32
  let v404 : BitVec 32 := Scalar.subi v403 c1_i32_239
  let c3_i32_240 : BitVec 32 := 3#32
  let c0_i32_241 : BitVec 32 := 0#32
  let v405 : BitVec 1 := Scalar.cmpi .eq c3_i32_240 c0_i32_241
  let c1_i32_242 : BitVec 32 := 1#32
  let v406 : BitVec 32 := Scalar.select v405 c1_i32_242 c3_i32_240
  let v407 : BitVec 32 := Scalar.remsi v404 v406
  let c0_i32_244 : BitVec 32 := 0#32
  let v409 : BitVec 1 := Scalar.cmpi .slt v407 c0_i32_244
  let c0_i32_245 : BitVec 32 := 0#32
  let v410 : BitVec 1 := Scalar.cmpi .slt v406 c0_i32_245
  let v411 : BitVec 1 := Scalar.xori v409 v410
  let c0_i32_243 : BitVec 32 := 0#32
  let v408 : BitVec 1 := Scalar.cmpi .ne v407 c0_i32_243
  let v412 : BitVec 1 := Scalar.andi v411 v408
  let v413 : BitVec 32 := Scalar.addi v407 v406
  let v414 : BitVec 32 := Scalar.select v412 v413 v407
  ![1, v414.toNat]
def k0_mult2 (i : grid0.Coords) : BitVec 32 :=
  let arg0 : BitVec 32 := BitVec.ofNat 32 (i 0).val
  let c512_i32 : BitVec 32 := 512#32
  let v18 : BitVec 32 := Scalar.muli arg0 c512_i32
  v18
def k0_off5 (i : grid0.Coords) : Fin 2 → Nat :=
  let c0_i32_8 : BitVec 32 := 0#32
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  ![0, v17.toNat]
def k0_off6 (i : grid0.Coords) : Fin 3 → Nat :=
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c0_i32_9 : BitVec 32 := 0#32
  let c0_i32_10 : BitVec 32 := 0#32
  ![v17.toNat, 0, 0]
def k0_off7 (i : grid0.Coords) : Fin 2 → Nat :=
  let arg0 : BitVec 32 := BitVec.ofNat 32 (i 0).val
  let c512_i32 : BitVec 32 := 512#32
  let v18 : BitVec 32 := Scalar.muli arg0 c512_i32
  let v19 : BitVec 32 := v18
  let c0_i32_11 : BitVec 32 := 0#32
  ![v19.toNat, 0]
def k0_off8 (i : grid0.Coords) : Fin 2 → Nat :=
  let c1_i32_12 : BitVec 32 := 1#32
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  ![1, v17.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8192x1024 : Shape := ⟨2, ![8192, 1024]⟩
abbrev S8192x2816 : Shape := ⟨2, ![8192, 2816]⟩
abbrev S1x2816x1024 : Shape := ⟨3, ![1, 2816, 1024]⟩
abbrev S_ : Shape := ⟨0, ![]⟩
abbrev S2816x1024 : Shape := ⟨2, ![2816, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S1x2816x1024, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S2816x1024, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .bf16⟩
  | .hbm, ⟨31, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel2.lean ====
abbrev S8192x2560 : Shape := ⟨2, ![8192, 2560]⟩
abbrev S8192x512 : Shape := ⟨2, ![8192, 512]⟩
abbrev S1x128 : Shape := ⟨2, ![1, 128]⟩
abbrev S1x4x128x128 : Shape := ⟨4, ![1, 4, 128, 128]⟩
abbrev S1x4x128 : Shape := ⟨3, ![1, 4, 128]⟩
abbrev S8192x1024 : Shape := ⟨2, ![8192, 1024]⟩
abbrev S8192x2816 : Shape := ⟨2, ![8192, 2816]⟩
abbrev S5632x1024 : Shape := ⟨2, ![5632, 1024]⟩
abbrev S4x128 : Shape := ⟨2, ![4, 128]⟩
abbrev S128x4 : Shape := ⟨2, ![128, 4]⟩
abbrev S_ : Shape := ⟨0, ![]⟩
abbrev S128x128 : Shape := ⟨2, ![128, 128]⟩
abbrev S4x128x128 : Shape := ⟨3, ![4, 128, 128]⟩
abbrev S2x8192x512 : Shape := ⟨3, ![2, 8192, 512]⟩
abbrev S1024x1024 : Shape := ⟨2, ![1024, 1024]⟩
abbrev S512x512 : Shape := ⟨2, ![512, 512]⟩
abbrev S512x1024 : Shape := ⟨2, ![512, 1024]⟩
abbrev S512x2816 : Shape := ⟨2, ![512, 2816]⟩
abbrev S2x512x512 : Shape := ⟨3, ![2, 512, 512]⟩
abbrev S2816x1024 : Shape := ⟨2, ![2816, 1024]⟩
abbrev S1x128x128 : Shape := ⟨3, ![1, 128, 128]⟩
abbrev S128 : Shape := ⟨1, ![128]⟩
abbrev S128x1 : Shape := ⟨2, ![128, 1]⟩
abbrev S1x512x512 : Shape := ⟨3, ![1, 512, 512]⟩

abbrev nBuf : Space → Nat
  | .hbm => 24
  | .vmem => 27
  | .smem => 0
  | _ => 0

abbrev bufTy : (tb : Table) → Fin (tcTables nBuf tb) → BufTy
  | .hbm, ⟨0, _⟩ => ⟨S8192x2560, .f32⟩
  | .hbm, ⟨1, _⟩ => ⟨S8192x512, .f32⟩
  | .hbm, ⟨2, _⟩ => ⟨S1x128, .f32⟩
  | .hbm, ⟨3, _⟩ => ⟨S1x128, .f32⟩
  | .hbm, ⟨4, _⟩ => ⟨S1x4x128x128, .f32⟩
  | .hbm, ⟨5, _⟩ => ⟨S1x4x128, .f32⟩
  | .hbm, ⟨6, _⟩ => ⟨S8192x1024, .bf16⟩
  | .hbm, ⟨7, _⟩ => ⟨S8192x1024, .bf16⟩
  | .hbm, ⟨8, _⟩ => ⟨S8192x2816, .bf16⟩
  | .hbm, ⟨9, _⟩ => ⟨S8192x1024, .bf16⟩
  | .hbm, ⟨10, _⟩ => ⟨S5632x1024, .f32⟩
  | .hbm, ⟨11, _⟩ => ⟨S4x128, .f32⟩
  | .hbm, ⟨12, _⟩ => ⟨S128x4, .f32⟩
  | .hbm, ⟨13, _⟩ => ⟨S_, .i32⟩
  | .hbm, ⟨14, _⟩ => ⟨S_, .f32⟩
  | .hbm, ⟨15, _⟩ => ⟨S128x128, .f32⟩
  | .hbm, ⟨16, _⟩ => ⟨S4x128x128, .f32⟩
  | .hbm, ⟨17, _⟩ => ⟨S2x8192x512, .bf16⟩
  | .hbm, ⟨18, _⟩ => ⟨S4x128x128, .f32⟩
  | .hbm, ⟨19, _⟩ => ⟨S128x128, .f32⟩
  | .hbm, ⟨20, _⟩ => ⟨S1x128, .f32⟩
  | .hbm, ⟨21, _⟩ => ⟨S1x128, .f32⟩
  | .hbm, ⟨22, _⟩ => ⟨S1024x1024, .f32⟩
  | .hbm, ⟨23, _⟩ => ⟨S5632x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x128, .f32⟩
  | .local _ .vmem, ⟨7, _⟩ => ⟨S1x128, .f32⟩
  | .local _ .vmem, ⟨8, _⟩ => ⟨S4x128x128, .f32⟩
  | .local _ .vmem, ⟨9, _⟩ => ⟨S128x128, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x2816, .bf16⟩
  | .local _ .vmem, ⟨15, _⟩ => ⟨S512x2816, .bf16⟩
  | .local _ .vmem, ⟨16, _⟩ => ⟨S512x1024, .bf16⟩
  | .local _ .vmem, ⟨17, _⟩ => ⟨S512x1024, .bf16⟩
  | .local _ .vmem, ⟨18, _⟩ => ⟨S2x512x512, .bf16⟩
  | .local _ .vmem, ⟨19, _⟩ => ⟨S2x512x512, .bf16⟩
  | .local _ .vmem, ⟨20, _⟩ => ⟨S4x128x128, .f32⟩
  | .local _ .vmem, ⟨21, _⟩ => ⟨S128x128, .f32⟩
  | .local _ .vmem, ⟨22, _⟩ => ⟨S1x128, .f32⟩
  | .local _ .vmem, ⟨23, _⟩ => ⟨S1x128, .f32⟩
  | .local _ .vmem, ⟨24, _⟩ => ⟨S1024x1024, .f32⟩
  | .local _ .vmem, ⟨25, _⟩ => ⟨S2816x1024, .f32⟩
  | .local _ .vmem, ⟨26, _⟩ => ⟨S4x128x128, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev main_v4_4 : Ref sig .tc := ⟨.hbm, 21, rfl⟩
abbrev main_v4_5 : Ref sig .tc := ⟨.hbm, 22, rfl⟩
abbrev main_v4_6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c15_i32 : BitVec 32 := 15#32
  let v2645 : BitVec 1 := Scalar.cmpi .eq arg0 c15_i32
  let v2646 : BitVec 32 := Scalar.extui v2645
  let c0_i32_1230 : BitVec 32 := 0#32
  let v2647 : BitVec 1 := Scalar.cmpi .ne v2646 c0_i32_1230
  v2647

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2816x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Kernel2Ideal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== Reference2Ideal.lean ====
abbrev S8192x2560 : Shape := ⟨2, ![8192, 2560]⟩
abbrev S8192x512 : Shape := ⟨2, ![8192, 512]⟩
abbrev S1x128 : Shape := ⟨2, ![1, 128]⟩
abbrev S1x4x128x128 : Shape := ⟨4, ![1, 4, 128, 128]⟩
abbrev S1x4x128 : Shape := ⟨3, ![1, 4, 128]⟩
abbrev S8192x1024 : Shape := ⟨2, ![8192, 1024]⟩
abbrev S8192x2816 : Shape := ⟨2, ![8192, 2816]⟩
abbrev S5632x1024 : Shape := ⟨2, ![5632, 1024]⟩
abbrev S1x8192x512 : Shape := ⟨3, ![1, 8192, 512]⟩
abbrev S128 : Shape := ⟨1, ![128]⟩
abbrev S4x128x128 : Shape := ⟨3, ![4, 128, 128]⟩
abbrev S4x128 : Shape := ⟨2, ![4, 128]⟩
abbrev S_ : Shape := ⟨0, ![]⟩
abbrev S1x8192x4x128 : Shape := ⟨4, ![1, 8192, 4, 128]⟩
abbrev S1x8192x4 : Shape := ⟨3, ![1, 8192, 4]⟩
abbrev S1x8192x4x1 : Shape := ⟨4, ![1, 8192, 4, 1]⟩
abbrev S1x1x1x128 : Shape := ⟨4, ![1, 1, 1, 128]⟩
abbrev S1x64x128x4x128 : Shape := ⟨5, ![1, 64, 128, 4, 128]⟩
abbrev S128x128 : Shape := ⟨2, ![128, 128]⟩
abbrev S1x128x128 : Shape := ⟨3, ![1, 128, 128]⟩
abbrev S4x1x64x128x128 : Shape := ⟨5, ![4, 1, 64, 128, 128]⟩
abbrev S128x4 : Shape := ⟨2, ![128, 4]⟩
abbrev S1x1x128x4x1 : Shape := ⟨5, ![1, 1, 128, 4, 1]⟩
abbrev S1x128x4 : Shape := ⟨3, ![1, 128, 4]⟩
abbrev S8192x4 : Shape := ⟨2, ![8192, 4]⟩
abbrev S1024x8192 : Shape := ⟨2, ![1024, 8192]⟩
abbrev S1024x1024 : Shape := ⟨2, ![1024, 1024]⟩
abbrev S2816x8192 : Shape := ⟨2, ![2816, 8192]⟩
abbrev S2816x1024 : Shape := ⟨2, ![2816, 1024]⟩
abbrev S2x8192x512 : Shape := ⟨3, ![2, 8192, 512]⟩

abbrev nBuf : Space → Nat
  | .hbm => 253
  | .vmem => 0
  | .smem => 0
  | _ => 0

abbrev hbmTy0_0 (i : Nat) : BufTy := match i % 128 with
  | 0 => ⟨S8192x2560, .f32⟩
  | 1 => ⟨S8192x512, .f32⟩
  | 2 => ⟨S1x128, .f32⟩
  | 3 => ⟨S1x128, .f32⟩
  | 4 => ⟨S1x4x128x128, .f32⟩
  | 5 => ⟨S1x4x128, .f32⟩
  | 6 => ⟨S8192x1024, .bf16⟩
  | 7 => ⟨S8192x1024, .bf16⟩
  | 8 => ⟨S8192x2816, .bf16⟩
  | 9 => ⟨S8192x1024, .bf16⟩
  | 10 => ⟨S5632x1024, .f32⟩
  | 11 => ⟨S8192x512, .f32⟩
  | 12 => ⟨S1x8192x512, .f32⟩
  | 13 => ⟨S8192x512, .f32⟩
  | 14 => ⟨S1x8192x512, .f32⟩
  | 15 => ⟨S128, .f32⟩
  | 16 => ⟨S128, .f32⟩
  | 17 => ⟨S4x128x128, .f32⟩
  | 18 => ⟨S4x128, .f32⟩
  | 19 => ⟨S_, .f32⟩
  | 20 => ⟨S_, .f32⟩
  | 21 => ⟨S_, .f32⟩
  | 22 => ⟨S1x8192x512, .f32⟩
  | 23 => ⟨S1x8192x512, .f32⟩
  | 24 => ⟨S1x8192x512, .f32⟩
  | 25 => ⟨S_, .f32⟩
  | 26 => ⟨S1x8192x512, .f32⟩
  | 27 => ⟨S1x8192x512, .f32⟩
  | 28 => ⟨S1x8192x512, .f32⟩
  | 29 => ⟨S1x8192x512, .f32⟩
  | 30 => ⟨S1x8192x512, .f32⟩
  | 31 => ⟨S_, .f32⟩
  | 32 => ⟨S1x8192x512, .f32⟩
  | 33 => ⟨S1x8192x512, .f32⟩
  | 34 => ⟨S1x8192x512, .f32⟩
  | 35 => ⟨S_, .f32⟩
  | 36 => ⟨S1x8192x512, .f32⟩
  | 37 => ⟨S1x8192x512, .f32⟩
  | 38 => ⟨S_, .f32⟩
  | 39 => ⟨S1x8192x512, .f32⟩
  | 40 => ⟨S1x8192x512, .f32⟩
  | 41 => ⟨S1x8192x512, .f32⟩
  | 42 => ⟨S_, .f32⟩
  | 43 => ⟨S1x8192x512, .f32⟩
  | 44 => ⟨S1x8192x512, .f32⟩
  | 45 => ⟨S_, .f32⟩
  | 46 => ⟨S1x8192x512, .f32⟩
  | 47 => ⟨S1x8192x512, .f32⟩
  | 48 => ⟨S1x8192x512, .f32⟩
  | 49 => ⟨S1x8192x4x128, .f32⟩
  | 50 => ⟨S_, .f32⟩
  | 51 => ⟨S_, .f32⟩
  | 52 => ⟨S_, .f32⟩
  | 53 => ⟨S1x8192x512, .f32⟩
  | 54 => ⟨S1x8192x512, .f32⟩
  | 55 => ⟨S1x8192x512, .f32⟩
  | 56 => ⟨S_, .f32⟩
  | 57 => ⟨S1x8192x512, .f32⟩
  | 58 => ⟨S1x8192x512, .f32⟩
  | 59 => ⟨S1x8192x512, .f32⟩
  | 60 => ⟨S1x8192x512, .f32⟩
  | 61 => ⟨S1x8192x512, .f32⟩
  | 62 => ⟨S_, .f32⟩
  | 63 => ⟨S1x8192x512, .f32⟩
  | 64 => ⟨S1x8192x512, .f32⟩
  | 65 => ⟨S1x8192x512, .f32⟩
  | 66 => ⟨S_, .f32⟩
  | 67 => ⟨S1x8192x512, .f32⟩
  | 68 => ⟨S1x8192x512, .f32⟩
  | 69 => ⟨S_, .f32⟩
  | 70 => ⟨S1x8192x512, .f32⟩
  | 71 => ⟨S1x8192x512, .f32⟩
  | 72 => ⟨S1x8192x512, .f32⟩
  | 73 => ⟨S_, .f32⟩
  | 74 => ⟨S1x8192x512, .f32⟩
  | 75 => ⟨S1x8192x512, .f32⟩
  | 76 => ⟨S_, .f32⟩
  | 77 => ⟨S1x8192x512, .f32⟩
  | 78 => ⟨S1x8192x512, .f32⟩
  | 79 => ⟨S1x8192x512, .f32⟩
  | 80 => ⟨S1x8192x4x128, .f32⟩
  | 81 => ⟨S_, .f32⟩
  | 82 => ⟨S1x8192x4, .f32⟩
  | 83 => ⟨S1x8192x4x1, .f32⟩
  | 84 => ⟨S_, .f32⟩
  | 85 => ⟨S1x8192x4x1, .f32⟩
  | 86 => ⟨S1x8192x4x1, .f32⟩
  | 87 => ⟨S1x8192x4x128, .f32⟩
  | 88 => ⟨S1x8192x4x128, .f32⟩
  | 89 => ⟨S1x8192x4x128, .f32⟩
  | 90 => ⟨S_, .f32⟩
  | 91 => ⟨S1x8192x4, .f32⟩
  | 92 => ⟨S1x8192x4x1, .f32⟩
  | 93 => ⟨S_, .f32⟩
  | 94 => ⟨S1x8192x4x1, .f32⟩
  | 95 => ⟨S1x8192x4x1, .f32⟩
  | 96 => ⟨S_, .f32⟩
  | 97 => ⟨S1x8192x4x1, .f32⟩
  | 98 => ⟨S1x8192x4x1, .f32⟩
  | 99 => ⟨S1x8192x4x1, .f32⟩
  | 100 => ⟨S1x8192x4x1, .f32⟩
  | 101 => ⟨S_, .f32⟩
  | 102 => ⟨S1x8192x4x1, .f32⟩
  | 103 => ⟨S1x8192x4x1, .f32⟩
  | 104 => ⟨S1x8192x4x128, .f32⟩
  | 105 => ⟨S1x8192x4x128, .f32⟩
  | 106 => ⟨S1x1x1x128, .f32⟩
  | 107 => ⟨S1x8192x4x128, .f32⟩
  | 108 => ⟨S1x8192x4x128, .f32⟩
  | 109 => ⟨S1x1x1x128, .f32⟩
  | 110 => ⟨S1x8192x4x128, .f32⟩
  | 111 => ⟨S1x8192x4x128, .f32⟩
  | 112 => ⟨S1x64x128x4x128, .f32⟩
  | 113 => ⟨S_, .f32⟩
  | 114 => ⟨S128x128, .f32⟩
  | 115 => ⟨S128x128, .i32⟩
  | 116 => ⟨S_, .i32⟩
  | 117 => ⟨S128x128, .i32⟩
  | 118 => ⟨S128x128, .i32⟩
  | 119 => ⟨S128x128, .i32⟩
  | 120 => ⟨S128x128, .i1⟩
  | 121 => ⟨S_, .f32⟩
  | 122 => ⟨S128x128, .f32⟩
  | 123 => ⟨S128x128, .f32⟩
  | 124 => ⟨S1x128x128, .f32⟩
  | 125 => ⟨S4x128x128, .f32⟩
  | 126 => ⟨S4x128x128, .f32⟩
  | 127 => ⟨S4x1x64x128x128, .f32⟩
  | _ => ⟨S8192x2560, .f32⟩

abbrev hbmTy0_1 (i : Nat) : BufTy := match i % 128 with
  | 0 => ⟨S1x64x128x4x128, .f32⟩
  | 1 => ⟨S128x4, .f32⟩
  | 2 => ⟨S1x1x128x4x1, .f32⟩
  | 3 => ⟨S1x64x128x4x128, .f32⟩
  | 4 => ⟨S1x64x128x4x128, .f32⟩
  | 5 => ⟨S1x8192x4x128, .f32⟩
  | 6 => ⟨S1x8192x4x128, .f32⟩
  | 7 => ⟨S1x8192x512, .f32⟩
  | 8 => ⟨S1x8192x512, .f32⟩
  | 9 => ⟨S1x8192x4x128, .f32⟩
  | 10 => ⟨S1x8192x4x128, .f32⟩
  | 11 => ⟨S1x8192x4x128, .f32⟩
  | 12 => ⟨S1x64x128x4x128, .f32⟩
  | 13 => ⟨S_, .f32⟩
  | 14 => ⟨S1x128x4, .f32⟩
  | 15 => ⟨S1x1x128x4x1, .f32⟩
  | 16 => ⟨S_, .f32⟩
  | 17 => ⟨S128x4, .f32⟩
  | 18 => ⟨S4x128, .f32⟩
  | 19 => ⟨S4x1x64x128x128, .f32⟩
  | 20 => ⟨S4x128x128, .f32⟩
  | 21 => ⟨S4x1x64x128x128, .f32⟩
  | 22 => ⟨S1x64x128x4x128, .f32⟩
  | 23 => ⟨S4x128x128, .f32⟩
  | 24 => ⟨S4x128x128, .f32⟩
  | 25 => ⟨S1x8192x4x128, .f32⟩
  | 26 => ⟨S_, .f32⟩
  | 27 => ⟨S1x128, .f32⟩
  | 28 => ⟨S1x1x1x128, .f32⟩
  | 29 => ⟨S_, .f32⟩
  | 30 => ⟨S128, .f32⟩
  | 31 => ⟨S1x8192x4x128, .f32⟩
  | 32 => ⟨S_, .f32⟩
  | 33 => ⟨S1x128, .f32⟩
  | 34 => ⟨S1x1x1x128, .f32⟩
  | 35 => ⟨S1x8192x4x128, .f32⟩
  | 36 => ⟨S1x8192x4x128, .f32⟩
  | 37 => ⟨S_, .f32⟩
  | 38 => ⟨S128, .f32⟩
  | 39 => ⟨S1x8192x4x128, .f32⟩
  | 40 => ⟨S_, .f32⟩
  | 41 => ⟨S1x8192x4, .f32⟩
  | 42 => ⟨S1x8192x4x1, .f32⟩
  | 43 => ⟨S1x8192x4x128, .f32⟩
  | 44 => ⟨S1x8192x4x128, .f32⟩
  | 45 => ⟨S1x8192x4x1, .f32⟩
  | 46 => ⟨S_, .f32⟩
  | 47 => ⟨S1x8192x4x1, .f32⟩
  | 48 => ⟨S1x8192x4x1, .f32⟩
  | 49 => ⟨S_, .f32⟩
  | 50 => ⟨S8192x4, .f32⟩
  | 51 => ⟨S1x8192x4, .f32⟩
  | 52 => ⟨S1x8192x4x128, .f32⟩
  | 53 => ⟨S1x8192x4x128, .f32⟩
  | 54 => ⟨S1x8192x4x128, .f32⟩
  | 55 => ⟨S1x8192x4x128, .f32⟩
  | 56 => ⟨S1x8192x4x128, .f32⟩
  | 57 => ⟨S1x8192x4x128, .f32⟩
  | 58 => ⟨S_, .f32⟩
  | 59 => ⟨S1x8192x4, .f32⟩
  | 60 => ⟨S1x8192x4x1, .f32⟩
  | 61 => ⟨S_, .f32⟩
  | 62 => ⟨S1x8192x4x1, .f32⟩
  | 63 => ⟨S1x8192x4x1, .f32⟩
  | 64 => ⟨S_, .f32⟩
  | 65 => ⟨S8192x4, .f32⟩
  | 66 => ⟨S1x8192x4, .f32⟩
  | 67 => ⟨S1x8192x4x128, .f32⟩
  | 68 => ⟨S1x8192x4x128, .f32⟩
  | 69 => ⟨S1x8192x512, .f32⟩
  | 70 => ⟨S1x8192x512, .f32⟩
  | 71 => ⟨S1x8192x512, .f32⟩
  | 72 => ⟨S_, .f32⟩
  | 73 => ⟨S1x8192x512, .f32⟩
  | 74 => ⟨S1x8192x512, .f32⟩
  | 75 => ⟨S1x8192x512, .f32⟩
  | 76 => ⟨S_, .f32⟩
  | 77 => ⟨S1x8192x512, .f32⟩
  | 78 => ⟨S1x8192x512, .f32⟩
  | 79 => ⟨S1x8192x512, .f32⟩
  | 80 => ⟨S1x8192x512, .f32⟩
  | 81 => ⟨S1x8192x512, .f32⟩
  | 82 => ⟨S1x8192x512, .f32⟩
  | 83 => ⟨S1x8192x512, .f32⟩
  | 84 => ⟨S1x8192x512, .f32⟩
  | 85 => ⟨S1x8192x512, .f32⟩
  | 86 => ⟨S1x8192x512, .f32⟩
  | 87 => ⟨S_, .f32⟩
  | 88 => ⟨S1x8192x512, .f32⟩
  | 89 => ⟨S1x8192x512, .f32⟩
  | 90 => ⟨S1x8192x512, .f32⟩
  | 91 => ⟨S_, .f32⟩
  | 92 => ⟨S1x8192x512, .f32⟩
  | 93 => ⟨S1x8192x512, .f32⟩
  | 94 => ⟨S1x8192x512, .f32⟩
  | 95 => ⟨S1x8192x512, .f32⟩
  | 96 => ⟨S1x8192x512, .f32⟩
  | 97 => ⟨S1x8192x512, .f32⟩
  | 98 => ⟨S1x8192x512, .f32⟩
  | 99 => ⟨S1x4x128, .f32⟩
  | 100 => ⟨S1x4x128x128, .f32⟩
  | 101 => ⟨S1x128, .f32⟩
  | 102 => ⟨S1x128, .f32⟩
  | 103 => ⟨S8192x1024, .f32⟩
  | 104 => ⟨S1024x8192, .f32⟩
  | 105 => ⟨S8192x1024, .f32⟩
  | 106 => ⟨S1024x1024, .f32⟩
  | 107 => ⟨S8192x2816, .f32⟩
  | 108 => ⟨S2816x8192, .f32⟩
  | 109 => ⟨S8192x1024, .f32⟩
  | 110 => ⟨S2816x1024, .f32⟩
  | 111 => ⟨S4x128, .f32⟩
  | 112 => ⟨S128x4, .f32⟩
  | 113 => ⟨S_, .i32⟩
  | 114 => ⟨S_, .f32⟩
  | 115 => ⟨S128x128, .f32⟩
  | 116 => ⟨S8192x512, .f32⟩
  | 117 => ⟨S8192x512, .f32⟩
  | 118 => ⟨S1x8192x512, .f32⟩
  | 119 => ⟨S1x8192x512, .f32⟩
  | 120 => ⟨S2x8192x512, .f32⟩
  | 121 => ⟨S2x8192x512, .bf16⟩
  | 122 => ⟨S4x128x128, .f32⟩
  | 123 => ⟨S2816x1024, .f32⟩
  | 124 => ⟨S5632x1024, .f32⟩
  | _ => ⟨S8192x2560, .f32⟩

abbrev hbmTy (i : Nat) : BufTy := match i / 128 with
  | 0 => hbmTy0_0 i
  | 1 => hbmTy0_1 i
  | _ => ⟨S8192x2560, .f32⟩

abbrev bufTy : (tb : Table) → Fin (tcTables nBuf tb) → BufTy
  | .hbm, ⟨i, _⟩ => hbmTy i
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_cst_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_11 : Ref sig .tc := ⟨.hbm, 66, rfl⟩
abbrev main_v43 : Ref sig .tc := ⟨.hbm, 67, rfl⟩
abbrev main_v44 : Ref sig .tc := ⟨.hbm, 68, rfl⟩
abbrev main_cst_12 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_13 : Ref sig .tc := ⟨.hbm, 73, rfl⟩
abbrev main_v48 : Ref sig .tc := ⟨.hbm, 74, rfl⟩
abbrev main_v49 : Ref sig .tc := ⟨.hbm, 75, rfl⟩
abbrev main_cst_14 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_15 : Ref sig .tc := ⟨.hbm, 81, rfl⟩
abbrev main_v54 : Ref sig .tc := ⟨.hbm, 82, rfl⟩
abbrev main_v55 : Ref sig .tc := ⟨.hbm, 83, rfl⟩
abbrev main_cst_16 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_17 : Ref sig .tc := ⟨.hbm, 90, rfl⟩
abbrev main_v61 : Ref sig .tc := ⟨.hbm, 91, rfl⟩
abbrev main_v62 : Ref sig .tc := ⟨.hbm, 92, rfl⟩
abbrev main_cst_18 : Ref sig .tc := ⟨.hbm, 93, rfl⟩
abbrev main_v63 : Ref sig .tc := ⟨.hbm, 94, rfl⟩
abbrev main_v64 : Ref sig .tc := ⟨.hbm, 95, rfl⟩
abbrev main_cst_19 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_20 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_21 : Ref sig .tc := ⟨.hbm, 113, rfl⟩
abbrev main_v80 : Ref sig .tc := ⟨.hbm, 114, rfl⟩
abbrev main_call0_v0 : Ref sig .tc := ⟨.hbm, 115, rfl⟩
abbrev main_call0_c : Ref sig .tc := ⟨.hbm, 116, rfl⟩
abbrev main_call0_v1 : Ref sig .tc := ⟨.hbm, 117, rfl⟩
abbrev main_call0_v2 : Ref sig .tc := ⟨.hbm, 118, rfl⟩
abbrev main_call0_v3 : Ref sig .tc := ⟨.hbm, 119, rfl⟩
abbrev main_call0_v4 : Ref sig .tc := ⟨.hbm, 120, rfl⟩
abbrev main_call0_cst : Ref sig .tc := ⟨.hbm, 121, rfl⟩
abbrev main_call0_v5 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_22 : Ref sig .tc := ⟨.hbm, 141, rfl⟩
abbrev main_v99 : Ref sig .tc := ⟨.hbm, 142, rfl⟩
abbrev main_v100 : Ref sig .tc := ⟨.hbm, 143, rfl⟩
abbrev main_cst_23 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_24 : Ref sig .tc := ⟨.hbm, 154, rfl⟩
abbrev main_v110 : Ref sig .tc := ⟨.hbm, 155, rfl⟩
abbrev main_v111 : Ref sig .tc := ⟨.hbm, 156, rfl⟩
abbrev main_cst_25 : Ref sig .tc := ⟨.hbm, 157, rfl⟩
abbrev main_v112 : Ref sig .tc := ⟨.hbm, 158, rfl⟩
abbrev main_v113 : Ref sig .tc := ⟨.hbm, 159, rfl⟩
abbrev main_cst_26 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_cst_27 : Ref sig .tc := ⟨.hbm, 165, rfl⟩
abbrev main_v118 : Ref sig .tc := ⟨.hbm, 166, rfl⟩
abbrev main_v119 : Ref sig .tc := ⟨.hbm, 167, rfl⟩
abbrev main_cst_28 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_29 : Ref sig .tc := ⟨.hbm, 174, rfl⟩
abbrev main_v125 : Ref sig .tc := ⟨.hbm, 175, rfl⟩
abbrev main_v126 : Ref sig .tc := ⟨.hbm, 176, rfl⟩
abbrev main_cst_30 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_cst_31 : Ref sig .tc := ⟨.hbm, 186, rfl⟩
abbrev main_v135 : Ref sig .tc := ⟨.hbm, 187, rfl⟩
abbrev main_v136 : Ref sig .tc := ⟨.hbm, 188, rfl⟩
abbrev main_cst_32 : Ref sig .tc := ⟨.hbm, 189, rfl⟩
abbrev main_v137 : Ref sig .tc := ⟨.hbm, 190, rfl⟩
abbrev main_v138 : Ref sig .tc := ⟨.hbm, 191, rfl⟩
abbrev main_cst_33 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_cst_34 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_cst_35 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_cst_36 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_cst_37 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_c : Ref sig .tc := ⟨.hbm, 241, rfl⟩
abbrev main_call1_v0 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩

abbrev nD : Nat := 1
abbrev τ : Topo := Topo.v7x

variable {F : FTy → Type} [FloatOps F]
-- ==== Kernel7.lean ====
abbrev S1x8192x1024 : Shape := ⟨3, ![1, 8192, 1024]⟩
abbrev S1x1024 : Shape := ⟨2, ![1, 1024]⟩
abbrev S1x1024x2560 : Shape := ⟨3, ![1, 1024, 2560]⟩
abbrev S8192x1024 : Shape := ⟨2, ![8192, 1024]⟩
abbrev S1024x2560 : Shape := ⟨2, ![1024, 2560]⟩
abbrev S2560x1024 : Shape := ⟨2, ![2560, 1024]⟩
abbrev S8192x2560 : Shape := ⟨2, ![8192, 2560]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x2560, .f32⟩
  | .hbm, ⟨3, _⟩ => ⟨S8192x1024, .f32⟩
  | .hbm, ⟨4, _⟩ => ⟨S1024x2560, .f32⟩
  | .hbm, ⟨5, _⟩ => ⟨S2560x1024, .f32⟩
  | .hbm, ⟨6, _⟩ => ⟨S2560x1024, .bf16⟩
  | .hbm, ⟨7, _⟩ => ⟨S8192x2560, .f32⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2560x1024, .bf16⟩
  | .local _ .vmem, ⟨4, _⟩ => ⟨S512x2560, .f32⟩
  | .local _ .vmem, ⟨5, _⟩ => ⟨S512x2560, .f32⟩
  | .local _ .vmem, ⟨6, _⟩ => ⟨S512x1024, .bf16⟩
  | .local _ .vmem, ⟨7, _⟩ => ⟨S512x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S1x8192x1024 : Shape := ⟨3, ![1, 8192, 1024]⟩
abbrev S1x1024 : Shape := ⟨2, ![1, 1024]⟩
abbrev S1x1024x2560 : Shape := ⟨3, ![1, 1024, 2560]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2560 : Shape := ⟨2, ![1024, 2560]⟩
abbrev S8192x2560 : Shape := ⟨2, ![8192, 2560]⟩

abbrev nBuf : Space → Nat
  | .hbm => 24
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x2560, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S1024x2560, .f32⟩
  | .hbm, ⟨22, _⟩ => ⟨S8192x2560, .f32⟩
  | .hbm, ⟨23, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel8.lean ====
abbrev S8192x2816 : Shape := ⟨2, ![8192, 2816]⟩
abbrev S1x2816x1024 : Shape := ⟨3, ![1, 2816, 1024]⟩
abbrev S8192x1024 : Shape := ⟨2, ![8192, 1024]⟩
abbrev S1x1024 : Shape := ⟨2, ![1, 1024]⟩
abbrev S2816x1024 : Shape := ⟨2, ![2816, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S1x2816x1024, .f32⟩
  | .hbm, ⟨2, _⟩ => ⟨S8192x1024, .f32⟩
  | .hbm, ⟨3, _⟩ => ⟨S1x1024, .f32⟩
  | .hbm, ⟨4, _⟩ => ⟨S2816x1024, .f32⟩
  | .hbm, ⟨5, _⟩ => ⟨S2816x1024, .bf16⟩
  | .hbm, ⟨6, _⟩ => ⟨S8192x1024, .f32⟩
  | .hbm, ⟨7, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S8192x2816 : Shape := ⟨2, ![8192, 2816]⟩
abbrev S1x2816x1024 : Shape := ⟨3, ![1, 2816, 1024]⟩
abbrev S8192x1024 : Shape := ⟨2, ![8192, 1024]⟩
abbrev S1x1024 : Shape := ⟨2, ![1, 1024]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1x2816x1024, .f32⟩
  | .hbm, ⟨2, _⟩ => ⟨S8192x1024, .f32⟩
  | .hbm, ⟨3, _⟩ => ⟨S1x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel9.lean ====
abbrev S8192x1024 : Shape := ⟨2, ![8192, 1024]⟩
abbrev S1x1024x5632 : Shape := ⟨3, ![1, 1024, 5632]⟩
abbrev S1024x5632 : Shape := ⟨2, ![1024, 5632]⟩
abbrev S5632x1024 : Shape := ⟨2, ![5632, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1x1024x5632, .f32⟩
  | .hbm, ⟨2, _⟩ => ⟨S1024x5632, .f32⟩
  | .hbm, ⟨3, _⟩ => ⟨S5632x1024, .f32⟩
  | .hbm, ⟨4, _⟩ => ⟨S5632x1024, .bf16⟩
  | .hbm, ⟨5, _⟩ => ⟨S8192x2816, .bf16⟩
  | .hbm, ⟨6, _⟩ => ⟨S8192x2816, .bf16⟩
  | .hbm, ⟨7, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S8192x1024 : Shape := ⟨2, ![8192, 1024]⟩
abbrev S1x1024x5632 : Shape := ⟨3, ![1, 1024, 5632]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x5632, .f32⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .bf16⟩
  | .hbm, ⟨18, _⟩ => ⟨S8192x2816, .bf16⟩
  | .hbm, ⟨19, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Kernel10.lean ====
abbrev S8192x512 : Shape := ⟨2, ![8192, 512]⟩
abbrev S8192x2560 : Shape := ⟨2, ![8192, 2560]⟩
abbrev S1x8192x1024 : Shape := ⟨3, ![1, 8192, 1024]⟩
abbrev S1x128 : Shape := ⟨2, ![1, 128]⟩
abbrev S1x4x128x128 : Shape := ⟨4, ![1, 4, 128, 128]⟩
abbrev S1x4x128 : Shape := ⟨3, ![1, 4, 128]⟩
abbrev S1x512 : Shape := ⟨2, ![1, 512]⟩
abbrev S1x1024x1024 : Shape := ⟨3, ![1, 1024, 1024]⟩
abbrev S1x1024 : Shape := ⟨2, ![1, 1024]⟩
abbrev S4x128 : Shape := ⟨2, ![4, 128]⟩
abbrev S128x4 : Shape := ⟨2, ![128, 4]⟩
abbrev S_ : Shape := ⟨0, ![]⟩
abbrev S128x128 : Shape := ⟨2, ![128, 128]⟩
abbrev S8192x1024 : Shape := ⟨2, ![8192, 1024]⟩
abbrev S4x128x128 : Shape := ⟨3, ![4, 128, 128]⟩
abbrev S1024x1024 : Shape := ⟨2, ![1024, 1024]⟩
abbrev S512x512 : Shape := ⟨2, ![512, 512]⟩
abbrev S512x1024 : Shape := ⟨2, ![512, 1024]⟩
abbrev S1x128x128 : Shape := ⟨3, ![1, 128, 128]⟩
abbrev S128 : Shape := ⟨1, ![128]⟩
abbrev S128x1 : Shape := ⟨2, ![128, 1]⟩
abbrev S512 : Shape := ⟨1, ![512]⟩
abbrev S512x1 : Shape := ⟨2, ![512, 1]⟩

abbrev nBuf : Space → Nat
  | .hbm => 26
  | .vmem => 27
  | .smem => 0
  | _ => 0

abbrev bufTy : (tb : Table) → Fin (tcTables nBuf tb) → BufTy
  | .hbm, ⟨0, _⟩ => ⟨S8192x512, .f32⟩
  | .hbm, ⟨1, _⟩ => ⟨S8192x2560, .f32⟩
  | .hbm, ⟨2, _⟩ => ⟨S1x8192x1024, .f32⟩
  | .hbm, ⟨3, _⟩ => ⟨S1x128, .f32⟩
  | .hbm, ⟨4, _⟩ => ⟨S1x128, .f32⟩
  | .hbm, ⟨5, _⟩ => ⟨S1x4x128x128, .f32⟩
  | .hbm, ⟨6, _⟩ => ⟨S1x4x128, .f32⟩
  | .hbm, ⟨7, _⟩ => ⟨S1x512, .f32⟩
  | .hbm, ⟨8, _⟩ => ⟨S1x512, .f32⟩
  | .hbm, ⟨9, _⟩ => ⟨S1x1024x1024, .f32⟩
  | .hbm, ⟨10, _⟩ => ⟨S1x1024, .f32⟩
  | .hbm, ⟨11, _⟩ => ⟨S1x1024, .f32⟩
  | .hbm, ⟨12, _⟩ => ⟨S4x128, .f32⟩
  | .hbm, ⟨13, _⟩ => ⟨S128x4, .f32⟩
  | .hbm, ⟨14, _⟩ => ⟨S_, .i32⟩
  | .hbm, ⟨15, _⟩ => ⟨S_, .f32⟩
  | .hbm, ⟨16, _⟩ => ⟨S128x128, .f32⟩
  | .hbm, ⟨17, _⟩ => ⟨S8192x1024, .f32⟩
  | .hbm, ⟨18, _⟩ => ⟨S4x128x128, .f32⟩
  | .hbm, ⟨19, _⟩ => ⟨S1024x1024, .f32⟩
  | .hbm, ⟨20, _⟩ => ⟨S1024x1024, .bf16⟩
  | .hbm, ⟨21, _⟩ => ⟨S8192x512, .f32⟩
  | .hbm, ⟨22, _⟩ => ⟨S8192x1024, .bf16⟩
  | .hbm, ⟨23, _⟩ => ⟨S8192x1024, .f32⟩
  | .hbm, ⟨24, _⟩ => ⟨S8192x1024, .f32⟩
  | .hbm, ⟨25, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S1x128, .f32⟩
  | .local _ .vmem, ⟨9, _⟩ => ⟨S1x128, .f32⟩
  | .local _ .vmem, ⟨10, _⟩ => ⟨S4x128x128, .f32⟩
  | .local _ .vmem, ⟨11, _⟩ => ⟨S128x128, .f32⟩
  | .local _ .vmem, ⟨12, _⟩ => ⟨S1x512, .f32⟩
  | .local _ .vmem, ⟨13, _⟩ => ⟨S1x512, .f32⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S512x512, .f32⟩
  | .local _ .vmem, ⟨18, _⟩ => ⟨S512x512, .f32⟩
  | .local _ .vmem, ⟨19, _⟩ => ⟨S512x1024, .bf16⟩
  | .local _ .vmem, ⟨20, _⟩ => ⟨S512x1024, .bf16⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7_0 : Ref sig .tc := ⟨.hbm, 21, rfl⟩
abbrev main_v7_1 : Ref sig .tc := ⟨.hbm, 22, rfl⟩
abbrev main_v7_2 : Ref sig .tc := ⟨.hbm, 23, rfl⟩
abbrev main_v7_3 : Ref sig .tc := ⟨.hbm, 24, rfl⟩
abbrev main_v7_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference10Ideal.lean ====
abbrev S8192x512 : Shape := ⟨2, ![8192, 512]⟩
abbrev S8192x2560 : Shape := ⟨2, ![8192, 2560]⟩
abbrev S1x8192x1024 : Shape := ⟨3, ![1, 8192, 1024]⟩
abbrev S1x128 : Shape := ⟨2, ![1, 128]⟩
abbrev S1x4x128x128 : Shape := ⟨4, ![1, 4, 128, 128]⟩
abbrev S1x4x128 : Shape := ⟨3, ![1, 4, 128]⟩
abbrev S1x512 : Shape := ⟨2, ![1, 512]⟩
abbrev S1x1024x1024 : Shape := ⟨3, ![1, 1024, 1024]⟩
abbrev S1x1024 : Shape := ⟨2, ![1, 1024]⟩
abbrev S1x8192x512 : Shape := ⟨3, ![1, 8192, 512]⟩
abbrev S128 : Shape := ⟨1, ![128]⟩
abbrev S4x128x128 : Shape := ⟨3, ![4, 128, 128]⟩
abbrev S4x128 : Shape := ⟨2, ![4, 128]⟩
abbrev S_ : Shape := ⟨0, ![]⟩
abbrev S1x8192x4x128 : Shape := ⟨4, ![1, 8192, 4, 128]⟩
abbrev S1x8192x4 : Shape := ⟨3, ![1, 8192, 4]⟩
abbrev S1x8192x4x1 : Shape := ⟨4, ![1, 8192, 4, 1]⟩
abbrev S1x1x1x128 : Shape := ⟨4, ![1, 1, 1, 128]⟩
abbrev S1x64x128x4x128 : Shape := ⟨5, ![1, 64, 128, 4, 128]⟩
abbrev S128x128 : Shape := ⟨2, ![128, 128]⟩
abbrev S1x128x128 : Shape := ⟨3, ![1, 128, 128]⟩
abbrev S4x1x64x128x128 : Shape := ⟨5, ![4, 1, 64, 128, 128]⟩
abbrev S128x4 : Shape := ⟨2, ![128, 4]⟩
abbrev S1x1x128x4x1 : Shape := ⟨5, ![1, 1, 128, 4, 1]⟩
abbrev S512 : Shape := ⟨1, ![512]⟩
abbrev S8192 : Shape := ⟨1, ![8192]⟩
abbrev S8192x1 : Shape := ⟨2, ![8192, 1]⟩
abbrev S8192x1024 : Shape := ⟨2, ![8192, 1024]⟩
abbrev S1024x1024 : Shape := ⟨2, ![1024, 1024]⟩
abbrev S1024 : Shape := ⟨1, ![1024]⟩

abbrev nBuf : Space → Nat
  | .hbm => 183
  | .vmem => 0
  | .smem => 0
  | _ => 0

abbrev hbmTy0_0 (i : Nat) : BufTy := match i % 128 with
  | 0 => ⟨S8192x512, .f32⟩
  | 1 => ⟨S8192x2560, .f32⟩
  | 2 => ⟨S1x8192x1024, .f32⟩
  | 3 => ⟨S1x128, .f32⟩
  | 4 => ⟨S1x128, .f32⟩
  | 5 => ⟨S1x4x128x128, .f32⟩
  | 6 => ⟨S1x4x128, .f32⟩
  | 7 => ⟨S1x512, .f32⟩
  | 8 => ⟨S1x512, .f32⟩
  | 9 => ⟨S1x1024x1024, .f32⟩
  | 10 => ⟨S1x1024, .f32⟩
  | 11 => ⟨S1x1024, .f32⟩
  | 12 => ⟨S8192x512, .f32⟩
  | 13 => ⟨S1x8192x512, .f32⟩
  | 14 => ⟨S8192x512, .f32⟩
  | 15 => ⟨S1x8192x512, .f32⟩
  | 16 => ⟨S128, .f32⟩
  | 17 => ⟨S128, .f32⟩
  | 18 => ⟨S4x128x128, .f32⟩
  | 19 => ⟨S4x128, .f32⟩
  | 20 => ⟨S1x8192x512, .f32⟩
  | 21 => ⟨S1x8192x512, .f32⟩
  | 22 => ⟨S_, .f32⟩
  | 23 => ⟨S1x8192x512, .f32⟩
  | 24 => ⟨S1x8192x512, .f32⟩
  | 25 => ⟨S1x8192x512, .f32⟩
  | 26 => ⟨S_, .f32⟩
  | 27 => ⟨S1x8192x512, .f32⟩
  | 28 => ⟨S1x8192x512, .f32⟩
  | 29 => ⟨S1x8192x512, .f32⟩
  | 30 => ⟨S_, .f32⟩
  | 31 => ⟨S1x8192x512, .f32⟩
  | 32 => ⟨S1x8192x512, .f32⟩
  | 33 => ⟨S_, .f32⟩
  | 34 => ⟨S1x8192x512, .f32⟩
  | 35 => ⟨S1x8192x512, .f32⟩
  | 36 => ⟨S1x8192x512, .f32⟩
  | 37 => ⟨S1x8192x4x128, .f32⟩
  | 38 => ⟨S1x8192x512, .f32⟩
  | 39 => ⟨S1x8192x512, .f32⟩
  | 40 => ⟨S_, .f32⟩
  | 41 => ⟨S1x8192x512, .f32⟩
  | 42 => ⟨S1x8192x512, .f32⟩
  | 43 => ⟨S1x8192x512, .f32⟩
  | 44 => ⟨S_, .f32⟩
  | 45 => ⟨S1x8192x512, .f32⟩
  | 46 => ⟨S1x8192x512, .f32⟩
  | 47 => ⟨S1x8192x512, .f32⟩
  | 48 => ⟨S_, .f32⟩
  | 49 => ⟨S1x8192x512, .f32⟩
  | 50 => ⟨S1x8192x512, .f32⟩
  | 51 => ⟨S_, .f32⟩
  | 52 => ⟨S1x8192x512, .f32⟩
  | 53 => ⟨S1x8192x512, .f32⟩
  | 54 => ⟨S1x8192x512, .f32⟩
  | 55 => ⟨S1x8192x4x128, .f32⟩
  | 56 => ⟨S_, .f32⟩
  | 57 => ⟨S1x8192x4, .f32⟩
  | 58 => ⟨S1x8192x4x1, .f32⟩
  | 59 => ⟨S_, .f32⟩
  | 60 => ⟨S1x8192x4x1, .f32⟩
  | 61 => ⟨S1x8192x4x1, .f32⟩
  | 62 => ⟨S1x8192x4x128, .f32⟩
  | 63 => ⟨S1x8192x4x128, .f32⟩
  | 64 => ⟨S1x8192x4x128, .f32⟩
  | 65 => ⟨S_, .f32⟩
  | 66 => ⟨S1x8192x4, .f32⟩
  | 67 => ⟨S1x8192x4x1, .f32⟩
  | 68 => ⟨S_, .f32⟩
  | 69 => ⟨S1x8192x4x1, .f32⟩
  | 70 => ⟨S1x8192x4x1, .f32⟩
  | 71 => ⟨S_, .f32⟩
  | 72 => ⟨S1x8192x4x1, .f32⟩
  | 73 => ⟨S1x8192x4x1, .f32⟩
  | 74 => ⟨S1x8192x4x1, .f32⟩
  | 75 => ⟨S1x8192x4x128, .f32⟩
  | 76 => ⟨S1x8192x4x128, .f32⟩
  | 77 => ⟨S1x1x1x128, .f32⟩
  | 78 => ⟨S1x8192x4x128, .f32⟩
  | 79 => ⟨S1x8192x4x128, .f32⟩
  | 80 => ⟨S1x1x1x128, .f32⟩
  | 81 => ⟨S1x8192x4x128, .f32⟩
  | 82 => ⟨S1x8192x4x128, .f32⟩
  | 83 => ⟨S1x64x128x4x128, .f32⟩
  | 84 => ⟨S_, .f32⟩
  | 85 => ⟨S128x128, .f32⟩
  | 86 => ⟨S128x128, .i32⟩
  | 87 => ⟨S_, .i32⟩
  | 88 => ⟨S128x128, .i32⟩
  | 89 => ⟨S128x128, .i32⟩
  | 90 => ⟨S128x128, .i32⟩
  | 91 => ⟨S128x128, .i1⟩
  | 92 => ⟨S_, .f32⟩
  | 93 => ⟨S128x128, .f32⟩
  | 94 => ⟨S128x128, .f32⟩
  | 95 => ⟨S1x128x128, .f32⟩
  | 96 => ⟨S4x128x128, .f32⟩
  | 97 => ⟨S4x128x128, .f32⟩
  | 98 => ⟨S4x1x64x128x128, .f32⟩
  | 99 => ⟨S1x64x128x4x128, .f32⟩
  | 100 => ⟨S128x4, .f32⟩
  | 101 => ⟨S1x1x128x4x1, .f32⟩
  | 102 => ⟨S1x64x128x4x128, .f32⟩
  | 103 => ⟨S1x64x128x4x128, .f32⟩
  | 104 => ⟨S1x8192x4x128, .f32⟩
  | 105 => ⟨S1x8192x4x128, .f32⟩
  | 106 => ⟨S1x8192x512, .f32⟩
  | 107 => ⟨S8192x512, .f32⟩
  | 108 => ⟨S512, .f32⟩
  | 109 => ⟨S8192x512, .f32⟩
  | 110 => ⟨S_, .f32⟩
  | 111 => ⟨S8192, .f32⟩
  | 112 => ⟨S8192x1, .f32⟩
  | 113 => ⟨S_, .f32⟩
  | 114 => ⟨S8192x1, .f32⟩
  | 115 => ⟨S8192x1, .f32⟩
  | 116 => ⟨S_, .f32⟩
  | 117 => ⟨S8192x1, .f32⟩
  | 118 => ⟨S8192x1, .f32⟩
  | 119 => ⟨S8192x1, .f32⟩
  | 120 => ⟨S8192x512, .f32⟩
  | 121 => ⟨S8192x512, .f32⟩
  | 122 => ⟨S1x512, .f32⟩
  | 123 => ⟨S8192x512, .f32⟩
  | 124 => ⟨S8192x512, .f32⟩
  | 125 => ⟨S512, .f32⟩
  | 126 => ⟨S8192x512, .f32⟩
  | 127 => ⟨S_, .f32⟩
  | _ => ⟨S8192x512, .f32⟩

abbrev hbmTy0_1 (i : Nat) : BufTy := match i % 128 with
  | 0 => ⟨S8192, .f32⟩
  | 1 => ⟨S8192x1, .f32⟩
  | 2 => ⟨S_, .f32⟩
  | 3 => ⟨S8192x1, .f32⟩
  | 4 => ⟨S8192x1, .f32⟩
  | 5 => ⟨S_, .f32⟩
  | 6 => ⟨S8192x1, .f32⟩
  | 7 => ⟨S8192x1, .f32⟩
  | 8 => ⟨S8192x1, .f32⟩
  | 9 => ⟨S8192x512, .f32⟩
  | 10 => ⟨S8192x512, .f32⟩
  | 11 => ⟨S1x512, .f32⟩
  | 12 => ⟨S8192x512, .f32⟩
  | 13 => ⟨S8192x512, .f32⟩
  | 14 => ⟨S8192x1024, .f32⟩
  | 15 => ⟨S1024x1024, .f32⟩
  | 16 => ⟨S8192x1024, .f32⟩
  | 17 => ⟨S8192x1024, .f32⟩
  | 18 => ⟨S1024, .f32⟩
  | 19 => ⟨S8192x1024, .f32⟩
  | 20 => ⟨S_, .f32⟩
  | 21 => ⟨S8192, .f32⟩
  | 22 => ⟨S8192x1, .f32⟩
  | 23 => ⟨S_, .f32⟩
  | 24 => ⟨S8192x1, .f32⟩
  | 25 => ⟨S8192x1, .f32⟩
  | 26 => ⟨S_, .f32⟩
  | 27 => ⟨S8192x1, .f32⟩
  | 28 => ⟨S8192x1, .f32⟩
  | 29 => ⟨S8192x1, .f32⟩
  | 30 => ⟨S8192x1024, .f32⟩
  | 31 => ⟨S8192x1024, .f32⟩
  | 32 => ⟨S1x1024, .f32⟩
  | 33 => ⟨S8192x1024, .f32⟩
  | 34 => ⟨S8192x1024, .f32⟩
  | 35 => ⟨S8192x1024, .f32⟩
  | 36 => ⟨S1024, .f32⟩
  | 37 => ⟨S8192x1024, .f32⟩
  | 38 => ⟨S_, .f32⟩
  | 39 => ⟨S8192, .f32⟩
  | 40 => ⟨S8192x1, .f32⟩
  | 41 => ⟨S_, .f32⟩
  | 42 => ⟨S8192x1, .f32⟩
  | 43 => ⟨S8192x1, .f32⟩
  | 44 => ⟨S_, .f32⟩
  | 45 => ⟨S8192x1, .f32⟩
  | 46 => ⟨S8192x1, .f32⟩
  | 47 => ⟨S8192x1, .f32⟩
  | 48 => ⟨S8192x1024, .f32⟩
  | 49 => ⟨S8192x1024, .f32⟩
  | 50 => ⟨S1x1024, .f32⟩
  | 51 => ⟨S8192x1024, .f32⟩
  | 52 => ⟨S8192x1024, .f32⟩
  | 53 => ⟨S8192x1024, .bf16⟩
  | 54 => ⟨S8192x1024, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_cst_11 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_call0_v0 : Ref sig .tc := ⟨.hbm, 86, rfl⟩
abbrev main_call0_c : Ref sig .tc := ⟨.hbm, 87, rfl⟩
abbrev main_call0_v1 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_call0_cst : Ref sig .tc := ⟨.hbm, 92, rfl⟩
abbrev main_call0_v5 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_13 : Ref sig .tc := ⟨.hbm, 110, rfl⟩
abbrev main_v76 : Ref sig .tc := ⟨.hbm, 111, rfl⟩
abbrev main_v77 : Ref sig .tc := ⟨.hbm, 112, rfl⟩
abbrev main_cst_14 : Ref sig .tc := ⟨.hbm, 113, rfl⟩
abbrev main_v78 : Ref sig .tc := ⟨.hbm, 114, rfl⟩
abbrev main_v79 : Ref sig .tc := ⟨.hbm, 115, rfl⟩
abbrev main_cst_15 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_16 : Ref sig .tc := ⟨.hbm, 127, rfl⟩
abbrev main_v90 : Ref sig .tc := ⟨.hbm, 128, rfl⟩
abbrev main_v91 : Ref sig .tc := ⟨.hbm, 129, rfl⟩
abbrev main_cst_17 : Ref sig .tc := ⟨.hbm, 130, rfl⟩
abbrev main_v92 : Ref sig .tc := ⟨.hbm, 131, rfl⟩
abbrev main_v93 : Ref sig .tc := ⟨.hbm, 132, rfl⟩
abbrev main_cst_18 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_19 : Ref sig .tc := ⟨.hbm, 148, rfl⟩
abbrev main_v108 : Ref sig .tc := ⟨.hbm, 149, rfl⟩
abbrev main_v109 : Ref sig .tc := ⟨.hbm, 150, rfl⟩
abbrev main_cst_20 : Ref sig .tc := ⟨.hbm, 151, rfl⟩
abbrev main_v110 : Ref sig .tc := ⟨.hbm, 152, rfl⟩
abbrev main_v111 : Ref sig .tc := ⟨.hbm, 153, rfl⟩
abbrev main_cst_21 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_cst_22 : Ref sig .tc := ⟨.hbm, 166, rfl⟩
abbrev main_v123 : Ref sig .tc := ⟨.hbm, 167, rfl⟩
abbrev main_v124 : Ref sig .tc := ⟨.hbm, 168, rfl⟩
abbrev main_cst_23 : Ref sig .tc := ⟨.hbm, 169, rfl⟩
abbrev main_v125 : Ref sig .tc := ⟨.hbm, 170, rfl⟩
abbrev main_v126 : Ref sig .tc := ⟨.hbm, 171, rfl⟩
abbrev main_cst_24 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩

abbrev nD : Nat := 1
abbrev τ : Topo := Topo.v7x

variable {F : FTy → Type} [FloatOps F]
-- ==== Kernel11.lean ====
abbrev S8192x2560 : Shape := ⟨2, ![8192, 2560]⟩
abbrev S8 : Shape := ⟨1, ![8]⟩
abbrev S_ : Shape := ⟨0, ![]⟩
abbrev S4x2x1 : Shape := ⟨3, ![4, 2, 1]⟩
abbrev S4x2x128 : Shape := ⟨3, ![4, 2, 128]⟩
abbrev S4x6x128 : Shape := ⟨3, ![4, 6, 128]⟩
abbrev S4x8x128 : Shape := ⟨3, ![4, 8, 128]⟩
abbrev S8192x512 : Shape := ⟨2, ![8192, 512]⟩
abbrev S8192x128 : Shape := ⟨2, ![8192, 128]⟩
abbrev S1x8x128 : Shape := ⟨3, ![1, 8, 128]⟩
abbrev S6x256x256 : Shape := ⟨3, ![6, 256, 256]⟩
abbrev S128x128 : Shape := ⟨2, ![128, 128]⟩
abbrev S1x1x128 : Shape := ⟨3, ![1, 1, 128]⟩
abbrev S1x128 : Shape := ⟨2, ![1, 128]⟩
abbrev S1x128x128 : Shape := ⟨3, ![1, 128, 128]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S128x1 : Shape := ⟨2, ![128, 1]⟩
abbrev S1x256x256 : Shape := ⟨3, ![1, 256, 256]⟩
abbrev S256x256 : Shape := ⟨2, ![256, 256]⟩

abbrev nBuf : Space → Nat
  | .hbm => 16
  | .vmem => 14
  | .smem => 0
  | _ => 0

abbrev bufTy : (tb : Table) → Fin (tcTables nBuf tb) → BufTy
  | .hbm, ⟨0, _⟩ => ⟨S8192x2560, .f32⟩
  | .hbm, ⟨1, _⟩ => ⟨S8, .f32⟩
  | .hbm, ⟨2, _⟩ => ⟨S_, .f32⟩
  | .hbm, ⟨3, _⟩ => ⟨S8, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S4x2x1, .f32⟩
  | .hbm, ⟨10, _⟩ => ⟨S4x2x128, .f32⟩
  | .hbm, ⟨11, _⟩ => ⟨S_, .f32⟩
  | .hbm, ⟨12, _⟩ => ⟨S4x6x128, .f32⟩
  | .hbm, ⟨13, _⟩ => ⟨S4x8x128, .f32⟩
  | .hbm, ⟨14, _⟩ => ⟨S8192x512, .f32⟩
  | .hbm, ⟨15, _⟩ => ⟨S8192x512, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S1x8x128, .f32⟩
  | .local _ .vmem, ⟨7, _⟩ => ⟨S1x8x128, .f32⟩
  | .local _ .vmem, ⟨8, _⟩ => ⟨S8192x128, .f32⟩
  | .local _ .vmem, ⟨9, _⟩ => ⟨S8192x128, .f32⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | .local _ .vmem, ⟨13, _⟩ => ⟨S6x256x256, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_137 : BitVec 32 := 0#32
  let c4_i32_138 : BitVec 32 := 4#32
  let v240 : BitVec 32 := Scalar.addi c0_i32_137 c4_i32_138
  let c1_i32_139 : BitVec 32 := 1#32
  ⟨c0_i32_137, v240, c1_i32_139⟩
def k0_off1 (k0_t1 : Fin k0_t1_loop.trips) (c0_i32_150 : BitVec 32) (c0_i32_165 : BitVec 32) : Fin 2 → Nat :=
  let c0_i32_137 : BitVec 32 := 0#32
  let c1_i32_139 : BitVec 32 := 1#32
  let arg9 : BitVec 32 := Scf.iv c0_i32_137 c1_i32_139 k0_t1
  let c4_i32_149 : BitVec 32 := 4#32
  let v243 : BitVec 32 := Scalar.muli arg9 c4_i32_149
  let v244 : BitVec 32 := Scalar.addi v243 c0_i32_150
  let c0_i32_152 : BitVec 32 := 0#32
  let v246 : BitVec 1 := Scalar.cmpi .sgt v244 c0_i32_152
  let v247 : BitVec 32 := Scalar.extui v246
  let c0_i32_153 : BitVec 32 := 0#32
  let v248 : BitVec 1 := Scalar.cmpi .slt v244 c0_i32_153
  let v249 : BitVec 32 := Scalar.extui v248
  let v250 : BitVec 32 := Scalar.subi v247 v249
  let c1_i32_151 : BitVec 32 := 1#32
  let c0_i32_154 : BitVec 32 := 0#32
  let v251 : BitVec 1 := Scalar.cmpi .sgt c1_i32_151 c0_i32_154
  let v252 : BitVec 32 := Scalar.extui v251
  let c0_i32_155 : BitVec 32 := 0#32
  let v253 : BitVec 1 := Scalar.cmpi .slt c1_i32_151 c0_i32_155
  let v254 : BitVec 32 := Scalar.extui v253
  let v255 : BitVec 32 := Scalar.subi v252 v254
  let v256 : BitVec 1 := Scalar.cmpi .ne v250 v255
  let v257 : BitVec 32 := Scalar.remsi v244 c1_i32_151
  let c0_i32_156 : BitVec 32 := 0#32
  let v258 : BitVec 1 := Scalar.cmpi .ne v257 c0_i32_156
  let v259 : BitVec 1 := Scalar.andi v256 v258
  let v245 : BitVec 32 := Scalar.divsi v244 c1_i32_151
  let c1_i32_157 : BitVec 32 := 1#32
  let v260 : BitVec 32 := Scalar.subi v245 c1_i32_157
  let v261 : BitVec 32 := Scalar.select v259 v260 v245
  let c2048_i32 : BitVec 32 := 2048#32
  let c1_i32_158 : BitVec 32 := 1#32
  let c0_i32_159 : BitVec 32 := 0#32
  let v262 : BitVec 1 := Scalar.cmpi .eq c1_i32_158 c0_i32_159
  let c1_i32_160 : BitVec 32 := 1#32
  let v263 : BitVec 32 := Scalar.select v262 c1_i32_160 c1_i32_158
  let v264 : BitVec 32 := Scalar.remsi v244 v263
  let c0_i32_162 : BitVec 32 := 0#32
  let v266 : BitVec 1 := Scalar.cmpi .slt v264 c0_i32_162
  let c0_i32_163 : BitVec 32 := 0#32
  let v267 : BitVec 1 := Scalar.cmpi .slt v263 c0_i32_163
  let v268 : BitVec 1 := Scalar.xori v266 v267
  let c0_i32_161 : BitVec 32 := 0#32
  let v265 : BitVec 1 := Scalar.cmpi .ne v264 c0_i32_161
  let v269 : BitVec 1 := Scalar.andi v268 v265
  let v270 : BitVec 32 := Scalar.addi v264 v263
  let v271 : BitVec 32 := Scalar.select v269 v270 v264
  let c4_i32_164 : BitVec 32 := 4#32
  let v272 : BitVec 32 := Scalar.muli v271 c4_i32_164
  let v273 : BitVec 32 := Scalar.muli c2048_i32 v272
  let v274 : BitVec 32 := Scalar.addi v261 v273
  let v275 : BitVec 32 := Scalar.addi v274 c0_i32_165
  let v276 : Index := Scalar.indexCast v275
  let c0_166 : Index := 0#32
  ![v276.toNat, 0]
@[reducible] def k0_t2_loop : Scf.Loop 32 :=
  let c0_i32_141 : BitVec 32 := 0#32
  let c4_i32_142 : BitVec 32 := 4#32
  let v241 : BitVec 32 := Scalar.addi c0_i32_141 c4_i32_142
  let c1_i32_143 : BitVec 32 := 1#32
  ⟨c0_i32_141, v241, c1_i32_143⟩
def k0_off2 (k0_t2 : Fin k0_t2_loop.trips) (c0_i32_165 : BitVec 32) : Fin 2 → Nat :=
  let c0_i32_141 : BitVec 32 := 0#32
  let c1_i32_143 : BitVec 32 := 1#32
  let arg9 : BitVec 32 := Scf.iv c0_i32_141 c1_i32_143 k0_t2
  let c1_i32_149 : BitVec 32 := 1#32
  let v243 : BitVec 32 := Scalar.muli arg9 c1_i32_149
  let c0_i32_150 : BitVec 32 := 0#32
  let v244 : BitVec 32 := Scalar.addi v243 c0_i32_150
  let c0_i32_152 : BitVec 32 := 0#32
  let v246 : BitVec 1 := Scalar.cmpi .sgt v244 c0_i32_152
  let v247 : BitVec 32 := Scalar.extui v246
  let c0_i32_153 : BitVec 32 := 0#32
  let v248 : BitVec 1 := Scalar.cmpi .slt v244 c0_i32_153
  let v249 : BitVec 32 := Scalar.extui v248
  let v250 : BitVec 32 := Scalar.subi v247 v249
  let c1_i32_151 : BitVec 32 := 1#32
  let c0_i32_154 : BitVec 32 := 0#32
  let v251 : BitVec 1 := Scalar.cmpi .sgt c1_i32_151 c0_i32_154
  let v252 : BitVec 32 := Scalar.extui v251
  let c0_i32_155 : BitVec 32 := 0#32
  let v253 : BitVec 1 := Scalar.cmpi .slt c1_i32_151 c0_i32_155
  let v254 : BitVec 32 := Scalar.extui v253
  let v255 : BitVec 32 := Scalar.subi v252 v254
  let v256 : BitVec 1 := Scalar.cmpi .ne v250 v255
  let v257 : BitVec 32 := Scalar.remsi v244 c1_i32_151
  let c0_i32_156 : BitVec 32 := 0#32
  let v258 : BitVec 1 := Scalar.cmpi .ne v257 c0_i32_156
  let v259 : BitVec 1 := Scalar.andi v256 v258
  let v245 : BitVec 32 := Scalar.divsi v244 c1_i32_151
  let c1_i32_157 : BitVec 32 := 1#32
  let v260 : BitVec 32 := Scalar.subi v245 c1_i32_157
  let v261 : BitVec 32 := Scalar.select v259 v260 v245
  let c512_i32 : BitVec 32 := 512#32
  let c1_i32_158 : BitVec 32 := 1#32
  let c0_i32_159 : BitVec 32 := 0#32
  let v262 : BitVec 1 := Scalar.cmpi .eq c1_i32_158 c0_i32_159
  let c1_i32_160 : BitVec 32 := 1#32
  let v263 : BitVec 32 := Scalar.select v262 c1_i32_160 c1_i32_158
  let v264 : BitVec 32 := Scalar.remsi v244 v263
  let c0_i32_162 : BitVec 32 := 0#32
  let v266 : BitVec 1 := Scalar.cmpi .slt v264 c0_i32_162
  let c0_i32_163 : BitVec 32 := 0#32
  let v267 : BitVec 1 := Scalar.cmpi .slt v263 c0_i32_163
  let v268 : BitVec 1 := Scalar.xori v266 v267
  let c0_i32_161 : BitVec 32 := 0#32
  let v265 : BitVec 1 := Scalar.cmpi .ne v264 c0_i32_161
  let v269 : BitVec 1 := Scalar.andi v268 v265
  let v270 : BitVec 32 := Scalar.addi v264 v263
  let v271 : BitVec 32 := Scalar.select v269 v270 v264
  let c16_i32_164 : BitVec 32 := 16#32
  let v272 : BitVec 32 := Scalar.muli v271 c16_i32_164
  let v273 : BitVec 32 := Scalar.muli c512_i32 v272
  let v274 : BitVec 32 := Scalar.addi v261 v273
  let v275 : BitVec 32 := Scalar.addi v274 c0_i32_165
  let v276 : Index := Scalar.indexCast v275
  let c0_166 : Index := 0#32
  ![v276.toNat, 0]
@[reducible] def k0_t3_loop : Scf.Loop 32 :=
  let c0_i32_145 : BitVec 32 := 0#32
  let c4_i32_146 : BitVec 32 := 4#32
  let v242 : BitVec 32 := Scalar.addi c0_i32_145 c4_i32_146
  let c1_i32_147 : BitVec 32 := 1#32
  ⟨c0_i32_145, v242, c1_i32_147⟩
def k0_mult1 (k0_t3 : Fin k0_t3_loop.trips) : BitVec 32 :=
  let c0_i32_145 : BitVec 32 := 0#32
  let c1_i32_147 : BitVec 32 := 1#32
  let arg9 : BitVec 32 := Scf.iv c0_i32_145 c1_i32_147 k0_t3
  let c1_i32_149 : BitVec 32 := 1#32
  let v243 : BitVec 32 := Scalar.muli arg9 c1_i32_149
  let c0_i32_150 : BitVec 32 := 0#32
  let v244 : BitVec 32 := Scalar.addi v243 c0_i32_150
  let c0_i32_152 : BitVec 32 := 0#32
  let v246 : BitVec 1 := Scalar.cmpi .sgt v244 c0_i32_152
  let v247 : BitVec 32 := Scalar.extui v246
  let c0_i32_153 : BitVec 32 := 0#32
  let v248 : BitVec 1 := Scalar.cmpi .slt v244 c0_i32_153
  let v249 : BitVec 32 := Scalar.extui v248
  let v250 : BitVec 32 := Scalar.subi v247 v249
  let c4_i32_151 : BitVec 32 := 4#32
  let c0_i32_154 : BitVec 32 := 0#32
  let v251 : BitVec 1 := Scalar.cmpi .sgt c4_i32_151 c0_i32_154
  let v252 : BitVec 32 := Scalar.extui v251
  let c0_i32_155 : BitVec 32 := 0#32
  let v253 : BitVec 1 := Scalar.cmpi .slt c4_i32_151 c0_i32_155
  let v254 : BitVec 32 := Scalar.extui v253
  let v255 : BitVec 32 := Scalar.subi v252 v254
  let v256 : BitVec 1 := Scalar.cmpi .ne v250 v255
  let v257 : BitVec 32 := Scalar.remsi v244 c4_i32_151
  let c0_i32_156 : BitVec 32 := 0#32
  let v258 : BitVec 1 := Scalar.cmpi .ne v257 c0_i32_156
  let v259 : BitVec 1 := Scalar.andi v256 v258
  let v245 : BitVec 32 := Scalar.divsi v244 c4_i32_151
  let c1_i32_157 : BitVec 32 := 1#32
  let v260 : BitVec 32 := Scalar.subi v245 c1_i32_157
  let v261 : BitVec 32 := Scalar.select v259 v260 v245
  let c128_i32_165 : BitVec 32 := 128#32
  let c4_i32_158 : BitVec 32 := 4#32
  let c0_i32_159 : BitVec 32 := 0#32
  let v262 : BitVec 1 := Scalar.cmpi .eq c4_i32_158 c0_i32_159
  let c1_i32_160 : BitVec 32 := 1#32
  let v263 : BitVec 32 := Scalar.select v262 c1_i32_160 c4_i32_158
  let v264 : BitVec 32 := Scalar.remsi v244 v263
  let c0_i32_162 : BitVec 32 := 0#32
  let v266 : BitVec 1 := Scalar.cmpi .slt v264 c0_i32_162
  let c0_i32_163 : BitVec 32 := 0#32
  let v267 : BitVec 1 := Scalar.cmpi .slt v263 c0_i32_163
  let v268 : BitVec 1 := Scalar.xori v266 v267
  let c0_i32_161 : BitVec 32 := 0#32
  let v265 : BitVec 1 := Scalar.cmpi .ne v264 c0_i32_161
  let v269 : BitVec 1 := Scalar.andi v268 v265
  let v270 : BitVec 32 := Scalar.addi v264 v263
  let v271 : BitVec 32 := Scalar.select v269 v270 v264
  let c16_i32_164 : BitVec 32 := 16#32
  let v272 : BitVec 32 := Scalar.muli v271 c16_i32_164
  let v273 : BitVec 32 := Scalar.muli c128_i32_165 v272
  let v274 : BitVec 32 := Scalar.addi v261 v273
  let c128_i32_166 : BitVec 32 := 128#32
  let v275 : BitVec 32 := Scalar.subi v274 c128_i32_166
  let v276 : BitVec 32 := Scalar.maxsi v275 v261
  v276
def k0_off3 (k0_t3 : Fin k0_t3_loop.trips) : Fin 2 → Nat :=
  let c0_i32_145 : BitVec 32 := 0#32
  let c1_i32_147 : BitVec 32 := 1#32
  let arg9 : BitVec 32 := Scf.iv c0_i32_145 c1_i32_147 k0_t3
  let c1_i32_149 : BitVec 32 := 1#32
  let v243 : BitVec 32 := Scalar.muli arg9 c1_i32_149
  let c0_i32_150 : BitVec 32 := 0#32
  let v244 : BitVec 32 := Scalar.addi v243 c0_i32_150
  let c0_i32_152 : BitVec 32 := 0#32
  let v246 : BitVec 1 := Scalar.cmpi .sgt v244 c0_i32_152
  let v247 : BitVec 32 := Scalar.extui v246
  let c0_i32_153 : BitVec 32 := 0#32
  let v248 : BitVec 1 := Scalar.cmpi .slt v244 c0_i32_153
  let v249 : BitVec 32 := Scalar.extui v248
  let v250 : BitVec 32 := Scalar.subi v247 v249
  let c4_i32_151 : BitVec 32 := 4#32
  let c0_i32_154 : BitVec 32 := 0#32
  let v251 : BitVec 1 := Scalar.cmpi .sgt c4_i32_151 c0_i32_154
  let v252 : BitVec 32 := Scalar.extui v251
  let c0_i32_155 : BitVec 32 := 0#32
  let v253 : BitVec 1 := Scalar.cmpi .slt c4_i32_151 c0_i32_155
  let v254 : BitVec 32 := Scalar.extui v253
  let v255 : BitVec 32 := Scalar.subi v252 v254
  let v256 : BitVec 1 := Scalar.cmpi .ne v250 v255
  let v257 : BitVec 32 := Scalar.remsi v244 c4_i32_151
  let c0_i32_156 : BitVec 32 := 0#32
  let v258 : BitVec 1 := Scalar.cmpi .ne v257 c0_i32_156
  let v259 : BitVec 1 := Scalar.andi v256 v258
  let v245 : BitVec 32 := Scalar.divsi v244 c4_i32_151
  let c1_i32_157 : BitVec 32 := 1#32
  let v260 : BitVec 32 := Scalar.subi v245 c1_i32_157
  let v261 : BitVec 32 := Scalar.select v259 v260 v245
  let c128_i32_165 : BitVec 32 := 128#32
  let c4_i32_158 : BitVec 32 := 4#32
  let c0_i32_159 : BitVec 32 := 0#32
  let v262 : BitVec 1 := Scalar.cmpi .eq c4_i32_158 c0_i32_159
  let c1_i32_160 : BitVec 32 := 1#32
  let v263 : BitVec 32 := Scalar.select v262 c1_i32_160 c4_i32_158
  let v264 : BitVec 32 := Scalar.remsi v244 v263
  let c0_i32_162 : BitVec 32 := 0#32
  let v266 : BitVec 1 := Scalar.cmpi .slt v264 c0_i32_162
  let c0_i32_163 : BitVec 32 := 0#32
  let v267 : BitVec 1 := Scalar.cmpi .slt v263 c0_i32_163
  let v268 : BitVec 1 := Scalar.xori v266 v267
  let c0_i32_161 : BitVec 32 := 0#32
  let v265 : BitVec 1 := Scalar.cmpi .ne v264 c0_i32_161
  let v269 : BitVec 1 := Scalar.andi v268 v265
  let v270 : BitVec 32 := Scalar.addi v264 v263
  let v271 : BitVec 32 := Scalar.select v269 v270 v264
  let c16_i32_164 : BitVec 32 := 16#32
  let v272 : BitVec 32 := Scalar.muli v271 c16_i32_164
  let v273 : BitVec 32 := Scalar.muli c128_i32_165 v272
  let v274 : BitVec 32 := Scalar.addi v261 v273
  let c128_i32_166 : BitVec 32 := 128#32
  let v275 : BitVec 32 := Scalar.subi v274 c128_i32_166
  let v276 : BitVec 32 := Scalar.maxsi v275 v261
  let v278 : BitVec 32 := v276
  let v279 : Index := Scalar.indexCast v278
  let c0_168 : Index := 0#32
  ![v279.toNat, 0]
def k0_mult2 (k0_t3 : Fin k0_t3_loop.trips) : BitVec 32 :=
  let c0_i32_145 : BitVec 32 := 0#32
  let c1_i32_147 : BitVec 32 := 1#32
  let arg9 : BitVec 32 := Scf.iv c0_i32_145 c1_i32_147 k0_t3
  let c1_i32_149 : BitVec 32 := 1#32
  let v243 : BitVec 32 := Scalar.muli arg9 c1_i32_149
  let c0_i32_150 : BitVec 32 := 0#32
  let v244 : BitVec 32 := Scalar.addi v243 c0_i32_150
  let c0_i32_152 : BitVec 32 := 0#32
  let v246 : BitVec 1 := Scalar.cmpi .sgt v244 c0_i32_152
  let v247 : BitVec 32 := Scalar.extui v246
  let c0_i32_153 : BitVec 32 := 0#32
  let v248 : BitVec 1 := Scalar.cmpi .slt v244 c0_i32_153
  let v249 : BitVec 32 := Scalar.extui v248
  let v250 : BitVec 32 := Scalar.subi v247 v249
  let c4_i32_151 : BitVec 32 := 4#32
  let c0_i32_154 : BitVec 32 := 0#32
  let v251 : BitVec 1 := Scalar.cmpi .sgt c4_i32_151 c0_i32_154
  let v252 : BitVec 32 := Scalar.extui v251
  let c0_i32_155 : BitVec 32 := 0#32
  let v253 : BitVec 1 := Scalar.cmpi .slt c4_i32_151 c0_i32_155
  let v254 : BitVec 32 := Scalar.extui v253
  let v255 : BitVec 32 := Scalar.subi v252 v254
  let v256 : BitVec 1 := Scalar.cmpi .ne v250 v255
  let v257 : BitVec 32 := Scalar.remsi v244 c4_i32_151
  let c0_i32_156 : BitVec 32 := 0#32
  let v258 : BitVec 1 := Scalar.cmpi .ne v257 c0_i32_156
  let v259 : BitVec 1 := Scalar.andi v256 v258
  let v245 : BitVec 32 := Scalar.divsi v244 c4_i32_151
  let c1_i32_157 : BitVec 32 := 1#32
  let v260 : BitVec 32 := Scalar.subi v245 c1_i32_157
  let v261 : BitVec 32 := Scalar.select v259 v260 v245
  let c128_i32_165 : BitVec 32 := 128#32
  let c4_i32_158 : BitVec 32 := 4#32
  let c0_i32_159 : BitVec 32 := 0#32
  let v262 : BitVec 1 := Scalar.cmpi .eq c4_i32_158 c0_i32_159
  let c1_i32_160 : BitVec 32 := 1#32
  let v263 : BitVec 32 := Scalar.select v262 c1_i32_160 c4_i32_158
  let v264 : BitVec 32 := Scalar.remsi v244 v263
  let c0_i32_162 : BitVec 32 := 0#32
  let v266 : BitVec 1 := Scalar.cmpi .slt v264 c0_i32_162
  let c0_i32_163 : BitVec 32 := 0#32
  let v267 : BitVec 1 := Scalar.cmpi .slt v263 c0_i32_163
  let v268 : BitVec 1 := Scalar.xori v266 v267
  let c0_i32_161 : BitVec 32 := 0#32
  let v265 : BitVec 1 := Scalar.cmpi .ne v264 c0_i32_161
  let v269 : BitVec 1 := Scalar.andi v268 v265
  let v270 : BitVec 32 := Scalar.addi v264 v263
  let v271 : BitVec 32 := Scalar.select v269 v270 v264
  let c16_i32_164 : BitVec 32 := 16#32
  let v272 : BitVec 32 := Scalar.muli v271 c16_i32_164
  let v273 : BitVec 32 := Scalar.muli c128_i32_165 v272
  let v274 : BitVec 32 := Scalar.addi v261 v273
  let c0_i32_170 : BitVec 32 := 0#32
  let v285 : BitVec 32 := Scalar.addi v274 c0_i32_170
  v285
def k0_off4 (k0_t3 : Fin k0_t3_loop.trips) (c0_i32_170 : BitVec 32) : Fin 2 → Nat :=
  let c0_i32_145 : BitVec 32 := 0#32
  let c1_i32_147 : BitVec 32 := 1#32
  let arg9 : BitVec 32 := Scf.iv c0_i32_145 c1_i32_147 k0_t3
  let c1_i32_149 : BitVec 32 := 1#32
  let v243 : BitVec 32 := Scalar.muli arg9 c1_i32_149
  let c0_i32_150 : BitVec 32 := 0#32
  let v244 : BitVec 32 := Scalar.addi v243 c0_i32_150
  let c0_i32_152 : BitVec 32 := 0#32
  let v246 : BitVec 1 := Scalar.cmpi .sgt v244 c0_i32_152
  let v247 : BitVec 32 := Scalar.extui v246
  let c0_i32_153 : BitVec 32 := 0#32
  let v248 : BitVec 1 := Scalar.cmpi .slt v244 c0_i32_153
  let v249 : BitVec 32 := Scalar.extui v248
  let v250 : BitVec 32 := Scalar.subi v247 v249
  let c4_i32_151 : BitVec 32 := 4#32
  let c0_i32_154 : BitVec 32 := 0#32
  let v251 : BitVec 1 := Scalar.cmpi .sgt c4_i32_151 c0_i32_154
  let v252 : BitVec 32 := Scalar.extui v251
  let c0_i32_155 : BitVec 32 := 0#32
  let v253 : BitVec 1 := Scalar.cmpi .slt c4_i32_151 c0_i32_155
  let v254 : BitVec 32 := Scalar.extui v253
  let v255 : BitVec 32 := Scalar.subi v252 v254
  let v256 : BitVec 1 := Scalar.cmpi .ne v250 v255
  let v257 : BitVec 32 := Scalar.remsi v244 c4_i32_151
  let c0_i32_156 : BitVec 32 := 0#32
  let v258 : BitVec 1 := Scalar.cmpi .ne v257 c0_i32_156
  let v259 : BitVec 1 := Scalar.andi v256 v258
  let v245 : BitVec 32 := Scalar.divsi v244 c4_i32_151
  let c1_i32_157 : BitVec 32 := 1#32
  let v260 : BitVec 32 := Scalar.subi v245 c1_i32_157
  let v261 : BitVec 32 := Scalar.select v259 v260 v245
  let c128_i32_165 : BitVec 32 := 128#32
  let c4_i32_158 : BitVec 32 := 4#32
  let c0_i32_159 : BitVec 32 := 0#32
  let v262 : BitVec 1 := Scalar.cmpi .eq c4_i32_158 c0_i32_159
  let c1_i32_160 : BitVec 32 := 1#32
  let v263 : BitVec 32 := Scalar.select v262 c1_i32_160 c4_i32_158
  let v264 : BitVec 32 := Scalar.remsi v244 v263
  let c0_i32_162 : BitVec 32 := 0#32
  let v266 : BitVec 1 := Scalar.cmpi .slt v264 c0_i32_162
  let c0_i32_163 : BitVec 32 := 0#32
  let v267 : BitVec 1 := Scalar.cmpi .slt v263 c0_i32_163
  let v268 : BitVec 1 := Scalar.xori v266 v267
  let c0_i32_161 : BitVec 32 := 0#32
  let v265 : BitVec 1 := Scalar.cmpi .ne v264 c0_i32_161
  let v269 : BitVec 1 := Scalar.andi v268 v265
  let v270 : BitVec 32 := Scalar.addi v264 v263
  let v271 : BitVec 32 := Scalar.select v269 v270 v264
  let c16_i32_164 : BitVec 32 := 16#32
  let v272 : BitVec 32 := Scalar.muli v271 c16_i32_164
  let v273 : BitVec 32 := Scalar.muli c128_i32_165 v272
  let v274 : BitVec 32 := Scalar.addi v261 v273
  let v285 : BitVec 32 := Scalar.addi v274 c0_i32_170
  let v286 : BitVec 32 := v285
  let v287 : Index := Scalar.indexCast v286
  let c0_171 : Index := 0#32
  ![v287.toNat, 0]
def k0_off5 (k0_t3 : Fin k0_t3_loop.trips) : Fin 3 → Nat :=
  let c0_i32_173 : BitVec 32 := 0#32
  let c0_i32_145 : BitVec 32 := 0#32
  let c1_i32_147 : BitVec 32 := 1#32
  let arg9 : BitVec 32 := Scf.iv c0_i32_145 c1_i32_147 k0_t3
  let c1_i32_149 : BitVec 32 := 1#32
  let v243 : BitVec 32 := Scalar.muli arg9 c1_i32_149
  let c0_i32_150 : BitVec 32 := 0#32
  let v244 : BitVec 32 := Scalar.addi v243 c0_i32_150
  let c4_i32_158 : BitVec 32 := 4#32
  let c0_i32_159 : BitVec 32 := 0#32
  let v262 : BitVec 1 := Scalar.cmpi .eq c4_i32_158 c0_i32_159
  let c1_i32_160 : BitVec 32 := 1#32
  let v263 : BitVec 32 := Scalar.select v262 c1_i32_160 c4_i32_158
  let v264 : BitVec 32 := Scalar.remsi v244 v263
  let c0_i32_162 : BitVec 32 := 0#32
  let v266 : BitVec 1 := Scalar.cmpi .slt v264 c0_i32_162
  let c0_i32_163 : BitVec 32 := 0#32
  let v267 : BitVec 1 := Scalar.cmpi .slt v263 c0_i32_163
  let v268 : BitVec 1 := Scalar.xori v266 v267
  let c0_i32_161 : BitVec 32 := 0#32
  let v265 : BitVec 1 := Scalar.cmpi .ne v264 c0_i32_161
  let v269 : BitVec 1 := Scalar.andi v268 v265
  let v270 : BitVec 32 := Scalar.addi v264 v263
  let v271 : BitVec 32 := Scalar.select v269 v270 v264
  let c16_i32_164 : BitVec 32 := 16#32
  let v272 : BitVec 32 := Scalar.muli v271 c16_i32_164
  let c0_i32_167 : BitVec 32 := 0#32
  let v277 : BitVec 1 := Scalar.cmpi .eq v272 c0_i32_167
  let v295 : BitVec 32 := Scalar.extui v277
  let v296 : BitVec 32 := Scalar.addi c0_i32_173 v295
  let v297 : Index := Scalar.indexCast v296
  let c0_174 : Index := 0#32
  let c0_175 : Index := 0#32
  ![v297.toNat, 0, 0]
def k0_mult3 (k0_t3 : Fin k0_t3_loop.trips) : BitVec 32 :=
  let c0_i32_145 : BitVec 32 := 0#32
  let c1_i32_147 : BitVec 32 := 1#32
  let arg9 : BitVec 32 := Scf.iv c0_i32_145 c1_i32_147 k0_t3
  let c1_i32_149 : BitVec 32 := 1#32
  let v243 : BitVec 32 := Scalar.muli arg9 c1_i32_149
  let c0_i32_150 : BitVec 32 := 0#32
  let v244 : BitVec 32 := Scalar.addi v243 c0_i32_150
  let c0_i32_152 : BitVec 32 := 0#32
  let v246 : BitVec 1 := Scalar.cmpi .sgt v244 c0_i32_152
  let v247 : BitVec 32 := Scalar.extui v246
  let c0_i32_153 : BitVec 32 := 0#32
  let v248 : BitVec 1 := Scalar.cmpi .slt v244 c0_i32_153
  let v249 : BitVec 32 := Scalar.extui v248
  let v250 : BitVec 32 := Scalar.subi v247 v249
  let c4_i32_151 : BitVec 32 := 4#32
  let c0_i32_154 : BitVec 32 := 0#32
  let v251 : BitVec 1 := Scalar.cmpi .sgt c4_i32_151 c0_i32_154
  let v252 : BitVec 32 := Scalar.extui v251
  let c0_i32_155 : BitVec 32 := 0#32
  let v253 : BitVec 1 := Scalar.cmpi .slt c4_i32_151 c0_i32_155
  let v254 : BitVec 32 := Scalar.extui v253
  let v255 : BitVec 32 := Scalar.subi v252 v254
  let v256 : BitVec 1 := Scalar.cmpi .ne v250 v255
  let v257 : BitVec 32 := Scalar.remsi v244 c4_i32_151
  let c0_i32_156 : BitVec 32 := 0#32
  let v258 : BitVec 1 := Scalar.cmpi .ne v257 c0_i32_156
  let v259 : BitVec 1 := Scalar.andi v256 v258
  let v245 : BitVec 32 := Scalar.divsi v244 c4_i32_151
  let c1_i32_157 : BitVec 32 := 1#32
  let v260 : BitVec 32 := Scalar.subi v245 c1_i32_157
  let v261 : BitVec 32 := Scalar.select v259 v260 v245
  let c128_i32_165 : BitVec 32 := 128#32
  let c4_i32_158 : BitVec 32 := 4#32
  let c0_i32_159 : BitVec 32 := 0#32
  let v262 : BitVec 1 := Scalar.cmpi .eq c4_i32_158 c0_i32_159
  let c1_i32_160 : BitVec 32 := 1#32
  let v263 : BitVec 32 := Scalar.select v262 c1_i32_160 c4_i32_158
  let v264 : BitVec 32 := Scalar.remsi v244 v263
  let c0_i32_162 : BitVec 32 := 0#32
  let v266 : BitVec 1 := Scalar.cmpi .slt v264 c0_i32_162
  let c0_i32_163 : BitVec 32 := 0#32
  let v267 : BitVec 1 := Scalar.cmpi .slt v263 c0_i32_163
  let v268 : BitVec 1 := Scalar.xori v266 v267
  let c0_i32_161 : BitVec 32 := 0#32
  let v265 : BitVec 1 := Scalar.cmpi .ne v264 c0_i32_161
  let v269 : BitVec 1 := Scalar.andi v268 v265
  let v270 : BitVec 32 := Scalar.addi v264 v263
  let v271 : BitVec 32 := Scalar.select v269 v270 v264
  let c16_i32_164 : BitVec 32 := 16#32
  let v272 : BitVec 32 := Scalar.muli v271 c16_i32_164
  let v273 : BitVec 32 := Scalar.muli c128_i32_165 v272
  let v274 : BitVec 32 := Scalar.addi v261 v273
  let c128_i32_189 : BitVec 32 := 128#32
  let v376 : BitVec 32 := Scalar.addi v274 c128_i32_189
  v376
def k0_mult4 (k0_t3 : Fin k0_t3_loop.trips) : BitVec 32 :=
  let c0_i32_145 : BitVec 32 := 0#32
  let c1_i32_147 : BitVec 32 := 1#32
  let arg9 : BitVec 32 := Scf.iv c0_i32_145 c1_i32_147 k0_t3
  let c1_i32_149 : BitVec 32 := 1#32
  let v243 : BitVec 32 := Scalar.muli arg9 c1_i32_149
  let c0_i32_150 : BitVec 32 := 0#32
  let v244 : BitVec 32 := Scalar.addi v243 c0_i32_150
  let c0_i32_152 : BitVec 32 := 0#32
  let v246 : BitVec 1 := Scalar.cmpi .sgt v244 c0_i32_152
  let v247 : BitVec 32 := Scalar.extui v246
  let c0_i32_153 : BitVec 32 := 0#32
  let v248 : BitVec 1 := Scalar.cmpi .slt v244 c0_i32_153
  let v249 : BitVec 32 := Scalar.extui v248
  let v250 : BitVec 32 := Scalar.subi v247 v249
  let c4_i32_151 : BitVec 32 := 4#32
  let c0_i32_154 : BitVec 32 := 0#32
  let v251 : BitVec 1 := Scalar.cmpi .sgt c4_i32_151 c0_i32_154
  let v252 : BitVec 32 := Scalar.extui v251
  let c0_i32_155 : BitVec 32 := 0#32
  let v253 : BitVec 1 := Scalar.cmpi .slt c4_i32_151 c0_i32_155
  let v254 : BitVec 32 := Scalar.extui v253
  let v255 : BitVec 32 := Scalar.subi v252 v254
  let v256 : BitVec 1 := Scalar.cmpi .ne v250 v255
  let v257 : BitVec 32 := Scalar.remsi v244 c4_i32_151
  let c0_i32_156 : BitVec 32 := 0#32
  let v258 : BitVec 1 := Scalar.cmpi .ne v257 c0_i32_156
  let v259 : BitVec 1 := Scalar.andi v256 v258
  let v245 : BitVec 32 := Scalar.divsi v244 c4_i32_151
  let c1_i32_157 : BitVec 32 := 1#32
  let v260 : BitVec 32 := Scalar.subi v245 c1_i32_157
  let v261 : BitVec 32 := Scalar.select v259 v260 v245
  let c128_i32_165 : BitVec 32 := 128#32
  let c4_i32_158 : BitVec 32 := 4#32
  let c0_i32_159 : BitVec 32 := 0#32
  let v262 : BitVec 1 := Scalar.cmpi .eq c4_i32_158 c0_i32_159
  let c1_i32_160 : BitVec 32 := 1#32
  let v263 : BitVec 32 := Scalar.select v262 c1_i32_160 c4_i32_158
  let v264 : BitVec 32 := Scalar.remsi v244 v263
  let c0_i32_162 : BitVec 32 := 0#32
  let v266 : BitVec 1 := Scalar.cmpi .slt v264 c0_i32_162
  let c0_i32_163 : BitVec 32 := 0#32
  let v267 : BitVec 1 := Scalar.cmpi .slt v263 c0_i32_163
  let v268 : BitVec 1 := Scalar.xori v266 v267
  let c0_i32_161 : BitVec 32 := 0#32
  let v265 : BitVec 1 := Scalar.cmpi .ne v264 c0_i32_161
  let v269 : BitVec 1 := Scalar.andi v268 v265
  let v270 : BitVec 32 := Scalar.addi v264 v263
  let v271 : BitVec 32 := Scalar.select v269 v270 v264
  let c16_i32_164 : BitVec 32 := 16#32
  let v272 : BitVec 32 := Scalar.muli v271 c16_i32_164
  let v273 : BitVec 32 := Scalar.muli c128_i32_165 v272
  let v274 : BitVec 32 := Scalar.addi v261 v273
  let c256_i32 : BitVec 32 := 256#32
  let v464 : BitVec 32 := Scalar.addi v274 c256_i32
  v464
def k0_mult5 (k0_t3 : Fin k0_t3_loop.trips) : BitVec 32 :=
  let c0_i32_145 : BitVec 32 := 0#32
  let c1_i32_147 : BitVec 32 := 1#32
  let arg9 : BitVec 32 := Scf.iv c0_i32_145 c1_i32_147 k0_t3
  let c1_i32_149 : BitVec 32 := 1#32
  let v243 : BitVec 32 := Scalar.muli arg9 c1_i32_149
  let c0_i32_150 : BitVec 32 := 0#32
  let v244 : BitVec 32 := Scalar.addi v243 c0_i32_150
  let c0_i32_152 : BitVec 32 := 0#32
  let v246 : BitVec 1 := Scalar.cmpi .sgt v244 c0_i32_152
  let v247 : BitVec 32 := Scalar.extui v246
  let c0_i32_153 : BitVec 32 := 0#32
  let v248 : BitVec 1 := Scalar.cmpi .slt v244 c0_i32_153
  let v249 : BitVec 32 := Scalar.extui v248
  let v250 : BitVec 32 := Scalar.subi v247 v249
  let c4_i32_151 : BitVec 32 := 4#32
  let c0_i32_154 : BitVec 32 := 0#32
  let v251 : BitVec 1 := Scalar.cmpi .sgt c4_i32_151 c0_i32_154
  let v252 : BitVec 32 := Scalar.extui v251
  let c0_i32_155 : BitVec 32 := 0#32
  let v253 : BitVec 1 := Scalar.cmpi .slt c4_i32_151 c0_i32_155
  let v254 : BitVec 32 := Scalar.extui v253
  let v255 : BitVec 32 := Scalar.subi v252 v254
  let v256 : BitVec 1 := Scalar.cmpi .ne v250 v255
  let v257 : BitVec 32 := Scalar.remsi v244 c4_i32_151
  let c0_i32_156 : BitVec 32 := 0#32
  let v258 : BitVec 1 := Scalar.cmpi .ne v257 c0_i32_156
  let v259 : BitVec 1 := Scalar.andi v256 v258
  let v245 : BitVec 32 := Scalar.divsi v244 c4_i32_151
  let c1_i32_157 : BitVec 32 := 1#32
  let v260 : BitVec 32 := Scalar.subi v245 c1_i32_157
  let v261 : BitVec 32 := Scalar.select v259 v260 v245
  let c128_i32_165 : BitVec 32 := 128#32
  let c4_i32_158 : BitVec 32 := 4#32
  let c0_i32_159 : BitVec 32 := 0#32
  let v262 : BitVec 1 := Scalar.cmpi .eq c4_i32_158 c0_i32_159
  let c1_i32_160 : BitVec 32 := 1#32
  let v263 : BitVec 32 := Scalar.select v262 c1_i32_160 c4_i32_158
  let v264 : BitVec 32 := Scalar.remsi v244 v263
  let c0_i32_162 : BitVec 32 := 0#32
  let v266 : BitVec 1 := Scalar.cmpi .slt v264 c0_i32_162
  let c0_i32_163 : BitVec 32 := 0#32
  let v267 : BitVec 1 := Scalar.cmpi .slt v263 c0_i32_163
  let v268 : BitVec 1 := Scalar.xori v266 v267
  let c0_i32_161 : BitVec 32 := 0#32
  let v265 : BitVec 1 := Scalar.cmpi .ne v264 c0_i32_161
  let v269 : BitVec 1 := Scalar.andi v268 v265
  let v270 : BitVec 32 := Scalar.addi v264 v263
  let v271 : BitVec 32 := Scalar.select v269 v270 v264
  let c16_i32_164 : BitVec 32 := 16#32
  let v272 : BitVec 32 := Scalar.muli v271 c16_i32_164
  let v273 : BitVec 32 := Scalar.muli c128_i32_165 v272
  let v274 : BitVec 32 := Scalar.addi v261 v273
  let c384_i32 : BitVec 32 := 384#32
  let v552 : BitVec 32 := Scalar.addi v274 c384_i32
  v552
def k0_mult6 (k0_t3 : Fin k0_t3_loop.trips) : BitVec 32 :=
  let c0_i32_145 : BitVec 32 := 0#32
  let c1_i32_147 : BitVec 32 := 1#32
  let arg9 : BitVec 32 := Scf.iv c0_i32_145 c1_i32_147 k0_t3
  let c1_i32_149 : BitVec 32 := 1#32
  let v243 : BitVec 32 := Scalar.muli arg9 c1_i32_149
  let c0_i32_150 : BitVec 32 := 0#32
  let v244 : BitVec 32 := Scalar.addi v243 c0_i32_150
  let c0_i32_152 : BitVec 32 := 0#32
  let v246 : BitVec 1 := Scalar.cmpi .sgt v244 c0_i32_152
  let v247 : BitVec 32 := Scalar.extui v246
  let c0_i32_153 : BitVec 32 := 0#32
  let v248 : BitVec 1 := Scalar.cmpi .slt v244 c0_i32_153
  let v249 : BitVec 32 := Scalar.extui v248
  let v250 : BitVec 32 := Scalar.subi v247 v249
  let c4_i32_151 : BitVec 32 := 4#32
  let c0_i32_154 : BitVec 32 := 0#32
  let v251 : BitVec 1 := Scalar.cmpi .sgt c4_i32_151 c0_i32_154
  let v252 : BitVec 32 := Scalar.extui v251
  let c0_i32_155 : BitVec 32 := 0#32
  let v253 : BitVec 1 := Scalar.cmpi .slt c4_i32_151 c0_i32_155
  let v254 : BitVec 32 := Scalar.extui v253
  let v255 : BitVec 32 := Scalar.subi v252 v254
  let v256 : BitVec 1 := Scalar.cmpi .ne v250 v255
  let v257 : BitVec 32 := Scalar.remsi v244 c4_i32_151
  let c0_i32_156 : BitVec 32 := 0#32
  let v258 : BitVec 1 := Scalar.cmpi .ne v257 c0_i32_156
  let v259 : BitVec 1 := Scalar.andi v256 v258
  let v245 : BitVec 32 := Scalar.divsi v244 c4_i32_151
  let c1_i32_157 : BitVec 32 := 1#32
  let v260 : BitVec 32 := Scalar.subi v245 c1_i32_157
  let v261 : BitVec 32 := Scalar.select v259 v260 v245
  let c128_i32_165 : BitVec 32 := 128#32
  let c4_i32_158 : BitVec 32 := 4#32
  let c0_i32_159 : BitVec 32 := 0#32
  let v262 : BitVec 1 := Scalar.cmpi .eq c4_i32_158 c0_i32_159
  let c1_i32_160 : BitVec 32 := 1#32
  let v263 : BitVec 32 := Scalar.select v262 c1_i32_160 c4_i32_158
  let v264 : BitVec 32 := Scalar.remsi v244 v263
  let c0_i32_162 : BitVec 32 := 0#32
  let v266 : BitVec 1 := Scalar.cmpi .slt v264 c0_i32_162
  let c0_i32_163 : BitVec 32 := 0#32
  let v267 : BitVec 1 := Scalar.cmpi .slt v263 c0_i32_163
  let v268 : BitVec 1 := Scalar.xori v266 v267
  let c0_i32_161 : BitVec 32 := 0#32
  let v265 : BitVec 1 := Scalar.cmpi .ne v264 c0_i32_161
  let v269 : BitVec 1 := Scalar.andi v268 v265
  let v270 : BitVec 32 := Scalar.addi v264 v263
  let v271 : BitVec 32 := Scalar.select v269 v270 v264
  let c16_i32_164 : BitVec 32 := 16#32
  let v272 : BitVec 32 := Scalar.muli v271 c16_i32_164
  let v273 : BitVec 32 := Scalar.muli c128_i32_165 v272
  let v274 : BitVec 32 := Scalar.addi v261 v273
  let c512_i32 : BitVec 32 := 512#32
  let v640 : BitVec 32 := Scalar.addi v274 c512_i32
  v640
def k0_mult7 (k0_t3 : Fin k0_t3_loop.trips) : BitVec 32 :=
  let c0_i32_145 : BitVec 32 := 0#32
  let c1_i32_147 : BitVec 32 := 1#32
  let arg9 : BitVec 32 := Scf.iv c0_i32_145 c1_i32_147 k0_t3
  let c1_i32_149 : BitVec 32 := 1#32
  let v243 : BitVec 32 := Scalar.muli arg9 c1_i32_149
  let c0_i32_150 : BitVec 32 := 0#32
  let v244 : BitVec 32 := Scalar.addi v243 c0_i32_150
  let c0_i32_152 : BitVec 32 := 0#32
  let v246 : BitVec 1 := Scalar.cmpi .sgt v244 c0_i32_152
  let v247 : BitVec 32 := Scalar.extui v246
  let c0_i32_153 : BitVec 32 := 0#32
  let v248 : BitVec 1 := Scalar.cmpi .slt v244 c0_i32_153
  let v249 : BitVec 32 := Scalar.extui v248
  let v250 : BitVec 32 := Scalar.subi v247 v249
  let c4_i32_151 : BitVec 32 := 4#32
  let c0_i32_154 : BitVec 32 := 0#32
  let v251 : BitVec 1 := Scalar.cmpi .sgt c4_i32_151 c0_i32_154
  let v252 : BitVec 32 := Scalar.extui v251
  let c0_i32_155 : BitVec 32 := 0#32
  let v253 : BitVec 1 := Scalar.cmpi .slt c4_i32_151 c0_i32_155
  let v254 : BitVec 32 := Scalar.extui v253
  let v255 : BitVec 32 := Scalar.subi v252 v254
  let v256 : BitVec 1 := Scalar.cmpi .ne v250 v255
  let v257 : BitVec 32 := Scalar.remsi v244 c4_i32_151
  let c0_i32_156 : BitVec 32 := 0#32
  let v258 : BitVec 1 := Scalar.cmpi .ne v257 c0_i32_156
  let v259 : BitVec 1 := Scalar.andi v256 v258
  let v245 : BitVec 32 := Scalar.divsi v244 c4_i32_151
  let c1_i32_157 : BitVec 32 := 1#32
  let v260 : BitVec 32 := Scalar.subi v245 c1_i32_157
  let v261 : BitVec 32 := Scalar.select v259 v260 v245
  let c128_i32_165 : BitVec 32 := 128#32
  let c4_i32_158 : BitVec 32 := 4#32
  let c0_i32_159 : BitVec 32 := 0#32
  let v262 : BitVec 1 := Scalar.cmpi .eq c4_i32_158 c0_i32_159
  let c1_i32_160 : BitVec 32 := 1#32
  let v263 : BitVec 32 := Scalar.select v262 c1_i32_160 c4_i32_158
  let v264 : BitVec 32 := Scalar.remsi v244 v263
  let c0_i32_162 : BitVec 32 := 0#32
  let v266 : BitVec 1 := Scalar.cmpi .slt v264 c0_i32_162
  let c0_i32_163 : BitVec 32 := 0#32
  let v267 : BitVec 1 := Scalar.cmpi .slt v263 c0_i32_163
  let v268 : BitVec 1 := Scalar.xori v266 v267
  let c0_i32_161 : BitVec 32 := 0#32
  let v265 : BitVec 1 := Scalar.cmpi .ne v264 c0_i32_161
  let v269 : BitVec 1 := Scalar.andi v268 v265
  let v270 : BitVec 32 := Scalar.addi v264 v263
  let v271 : BitVec 32 := Scalar.select v269 v270 v264
  let c16_i32_164 : BitVec 32 := 16#32
  let v272 : BitVec 32 := Scalar.muli v271 c16_i32_164
  let v273 : BitVec 32 := Scalar.muli c128_i32_165 v272
  let v274 : BitVec 32 := Scalar.addi v261 v273
  let c640_i32 : BitVec 32 := 640#32
  let v728 : BitVec 32 := Scalar.addi v274 c640_i32
  v728
def k0_mult8 (k0_t3 : Fin k0_t3_loop.trips) : BitVec 32 :=
  let c0_i32_145 : BitVec 32 := 0#32
  let c1_i32_147 : BitVec 32 := 1#32
  let arg9 : BitVec 32 := Scf.iv c0_i32_145 c1_i32_147 k0_t3
  let c1_i32_149 : BitVec 32 := 1#32
  let v243 : BitVec 32 := Scalar.muli arg9 c1_i32_149
  let c0_i32_150 : BitVec 32 := 0#32
  let v244 : BitVec 32 := Scalar.addi v243 c0_i32_150
  let c0_i32_152 : BitVec 32 := 0#32
  let v246 : BitVec 1 := Scalar.cmpi .sgt v244 c0_i32_152
  let v247 : BitVec 32 := Scalar.extui v246
  let c0_i32_153 : BitVec 32 := 0#32
  let v248 : BitVec 1 := Scalar.cmpi .slt v244 c0_i32_153
  let v249 : BitVec 32 := Scalar.extui v248
  let v250 : BitVec 32 := Scalar.subi v247 v249
  let c4_i32_151 : BitVec 32 := 4#32
  let c0_i32_154 : BitVec 32 := 0#32
  let v251 : BitVec 1 := Scalar.cmpi .sgt c4_i32_151 c0_i32_154
  let v252 : BitVec 32 := Scalar.extui v251
  let c0_i32_155 : BitVec 32 := 0#32
  let v253 : BitVec 1 := Scalar.cmpi .slt c4_i32_151 c0_i32_155
  let v254 : BitVec 32 := Scalar.extui v253
  let v255 : BitVec 32 := Scalar.subi v252 v254
  let v256 : BitVec 1 := Scalar.cmpi .ne v250 v255
  let v257 : BitVec 32 := Scalar.remsi v244 c4_i32_151
  let c0_i32_156 : BitVec 32 := 0#32
  let v258 : BitVec 1 := Scalar.cmpi .ne v257 c0_i32_156
  let v259 : BitVec 1 := Scalar.andi v256 v258
  let v245 : BitVec 32 := Scalar.divsi v244 c4_i32_151
  let c1_i32_157 : BitVec 32 := 1#32
  let v260 : BitVec 32 := Scalar.subi v245 c1_i32_157
  let v261 : BitVec 32 := Scalar.select v259 v260 v245
  let c128_i32_165 : BitVec 32 := 128#32
  let c4_i32_158 : BitVec 32 := 4#32
  let c0_i32_159 : BitVec 32 := 0#32
  let v262 : BitVec 1 := Scalar.cmpi .eq c4_i32_158 c0_i32_159
  let c1_i32_160 : BitVec 32 := 1#32
  let v263 : BitVec 32 := Scalar.select v262 c1_i32_160 c4_i32_158
  let v264 : BitVec 32 := Scalar.remsi v244 v263
  let c0_i32_162 : BitVec 32 := 0#32
  let v266 : BitVec 1 := Scalar.cmpi .slt v264 c0_i32_162
  let c0_i32_163 : BitVec 32 := 0#32
  let v267 : BitVec 1 := Scalar.cmpi .slt v263 c0_i32_163
  let v268 : BitVec 1 := Scalar.xori v266 v267
  let c0_i32_161 : BitVec 32 := 0#32
  let v265 : BitVec 1 := Scalar.cmpi .ne v264 c0_i32_161
  let v269 : BitVec 1 := Scalar.andi v268 v265
  let v270 : BitVec 32 := Scalar.addi v264 v263
  let v271 : BitVec 32 := Scalar.select v269 v270 v264
  let c16_i32_164 : BitVec 32 := 16#32
  let v272 : BitVec 32 := Scalar.muli v271 c16_i32_164
  let v273 : BitVec 32 := Scalar.muli c128_i32_165 v272
  let v274 : BitVec 32 := Scalar.addi v261 v273
  let c768_i32 : BitVec 32 := 768#32
  let v816 : BitVec 32 := Scalar.addi v274 c768_i32
  v816
def k0_mult9 (k0_t3 : Fin k0_t3_loop.trips) : BitVec 32 :=
  let c0_i32_145 : BitVec 32 := 0#32
  let c1_i32_147 : BitVec 32 := 1#32
  let arg9 : BitVec 32 := Scf.iv c0_i32_145 c1_i32_147 k0_t3
  let c1_i32_149 : BitVec 32 := 1#32
  let v243 : BitVec 32 := Scalar.muli arg9 c1_i32_149
  let c0_i32_150 : BitVec 32 := 0#32
  let v244 : BitVec 32 := Scalar.addi v243 c0_i32_150
  let c0_i32_152 : BitVec 32 := 0#32
  let v246 : BitVec 1 := Scalar.cmpi .sgt v244 c0_i32_152
  let v247 : BitVec 32 := Scalar.extui v246
  let c0_i32_153 : BitVec 32 := 0#32
  let v248 : BitVec 1 := Scalar.cmpi .slt v244 c0_i32_153
  let v249 : BitVec 32 := Scalar.extui v248
  let v250 : BitVec 32 := Scalar.subi v247 v249
  let c4_i32_151 : BitVec 32 := 4#32
  let c0_i32_154 : BitVec 32 := 0#32
  let v251 : BitVec 1 := Scalar.cmpi .sgt c4_i32_151 c0_i32_154
  let v252 : BitVec 32 := Scalar.extui v251
  let c0_i32_155 : BitVec 32 := 0#32
  let v253 : BitVec 1 := Scalar.cmpi .slt c4_i32_151 c0_i32_155
  let v254 : BitVec 32 := Scalar.extui v253
  let v255 : BitVec 32 := Scalar.subi v252 v254
  let v256 : BitVec 1 := Scalar.cmpi .ne v250 v255
  let v257 : BitVec 32 := Scalar.remsi v244 c4_i32_151
  let c0_i32_156 : BitVec 32 := 0#32
  let v258 : BitVec 1 := Scalar.cmpi .ne v257 c0_i32_156
  let v259 : BitVec 1 := Scalar.andi v256 v258
  let v245 : BitVec 32 := Scalar.divsi v244 c4_i32_151
  let c1_i32_157 : BitVec 32 := 1#32
  let v260 : BitVec 32 := Scalar.subi v245 c1_i32_157
  let v261 : BitVec 32 := Scalar.select v259 v260 v245
  let c128_i32_165 : BitVec 32 := 128#32
  let c4_i32_158 : BitVec 32 := 4#32
  let c0_i32_159 : BitVec 32 := 0#32
  let v262 : BitVec 1 := Scalar.cmpi .eq c4_i32_158 c0_i32_159
  let c1_i32_160 : BitVec 32 := 1#32
  let v263 : BitVec 32 := Scalar.select v262 c1_i32_160 c4_i32_158
  let v264 : BitVec 32 := Scalar.remsi v244 v263
  let c0_i32_162 : BitVec 32 := 0#32
  let v266 : BitVec 1 := Scalar.cmpi .slt v264 c0_i32_162
  let c0_i32_163 : BitVec 32 := 0#32
  let v267 : BitVec 1 := Scalar.cmpi .slt v263 c0_i32_163
  let v268 : BitVec 1 := Scalar.xori v266 v267
  let c0_i32_161 : BitVec 32 := 0#32
  let v265 : BitVec 1 := Scalar.cmpi .ne v264 c0_i32_161
  let v269 : BitVec 1 := Scalar.andi v268 v265
  let v270 : BitVec 32 := Scalar.addi v264 v263
  let v271 : BitVec 32 := Scalar.select v269 v270 v264
  let c16_i32_164 : BitVec 32 := 16#32
  let v272 : BitVec 32 := Scalar.muli v271 c16_i32_164
  let v273 : BitVec 32 := Scalar.muli c128_i32_165 v272
  let v274 : BitVec 32 := Scalar.addi v261 v273
  let c896_i32 : BitVec 32 := 896#32
  let v904 : BitVec 32 := Scalar.addi v274 c896_i32
  v904
def k0_mult10 (k0_t3 : Fin k0_t3_loop.trips) : BitVec 32 :=
  let c0_i32_145 : BitVec 32 := 0#32
  let c1_i32_147 : BitVec 32 := 1#32
  let arg9 : BitVec 32 := Scf.iv c0_i32_145 c1_i32_147 k0_t3
  let c1_i32_149 : BitVec 32 := 1#32
  let v243 : BitVec 32 := Scalar.muli arg9 c1_i32_149
  let c0_i32_150 : BitVec 32 := 0#32
  let v244 : BitVec 32 := Scalar.addi v243 c0_i32_150
  let c0_i32_152 : BitVec 32 := 0#32
  let v246 : BitVec 1 := Scalar.cmpi .sgt v244 c0_i32_152
  let v247 : BitVec 32 := Scalar.extui v246
  let c0_i32_153 : BitVec 32 := 0#32
  let v248 : BitVec 1 := Scalar.cmpi .slt v244 c0_i32_153
  let v249 : BitVec 32 := Scalar.extui v248
  let v250 : BitVec 32 := Scalar.subi v247 v249
  let c4_i32_151 : BitVec 32 := 4#32
  let c0_i32_154 : BitVec 32 := 0#32
  let v251 : BitVec 1 := Scalar.cmpi .sgt c4_i32_151 c0_i32_154
  let v252 : BitVec 32 := Scalar.extui v251
  let c0_i32_155 : BitVec 32 := 0#32
  let v253 : BitVec 1 := Scalar.cmpi .slt c4_i32_151 c0_i32_155
  let v254 : BitVec 32 := Scalar.extui v253
  let v255 : BitVec 32 := Scalar.subi v252 v254
  let v256 : BitVec 1 := Scalar.cmpi .ne v250 v255
  let v257 : BitVec 32 := Scalar.remsi v244 c4_i32_151
  let c0_i32_156 : BitVec 32 := 0#32
  let v258 : BitVec 1 := Scalar.cmpi .ne v257 c0_i32_156
  let v259 : BitVec 1 := Scalar.andi v256 v258
  let v245 : BitVec 32 := Scalar.divsi v244 c4_i32_151
  let c1_i32_157 : BitVec 32 := 1#32
  let v260 : BitVec 32 := Scalar.subi v245 c1_i32_157
  let v261 : BitVec 32 := Scalar.select v259 v260 v245
  let c128_i32_165 : BitVec 32 := 128#32
  let c4_i32_158 : BitVec 32 := 4#32
  let c0_i32_159 : BitVec 32 := 0#32
  let v262 : BitVec 1 := Scalar.cmpi .eq c4_i32_158 c0_i32_159
  let c1_i32_160 : BitVec 32 := 1#32
  let v263 : BitVec 32 := Scalar.select v262 c1_i32_160 c4_i32_158
  let v264 : BitVec 32 := Scalar.remsi v244 v263
  let c0_i32_162 : BitVec 32 := 0#32
  let v266 : BitVec 1 := Scalar.cmpi .slt v264 c0_i32_162
  let c0_i32_163 : BitVec 32 := 0#32
  let v267 : BitVec 1 := Scalar.cmpi .slt v263 c0_i32_163
  let v268 : BitVec 1 := Scalar.xori v266 v267
  let c0_i32_161 : BitVec 32 := 0#32
  let v265 : BitVec 1 := Scalar.cmpi .ne v264 c0_i32_161
  let v269 : BitVec 1 := Scalar.andi v268 v265
  let v270 : BitVec 32 := Scalar.addi v264 v263
  let v271 : BitVec 32 := Scalar.select v269 v270 v264
  let c16_i32_164 : BitVec 32 := 16#32
  let v272 : BitVec 32 := Scalar.muli v271 c16_i32_164
  let v273 : BitVec 32 := Scalar.muli c128_i32_165 v272
  let v274 : BitVec 32 := Scalar.addi v261 v273
  let c1024_i32 : BitVec 32 := 1024#32
  let v992 : BitVec 32 := Scalar.addi v274 c1024_i32
  v992
def k0_mult11 (k0_t3 : Fin k0_t3_loop.trips) : BitVec 32 :=
  let c0_i32_145 : BitVec 32 := 0#32
  let c1_i32_147 : BitVec 32 := 1#32
  let arg9 : BitVec 32 := Scf.iv c0_i32_145 c1_i32_147 k0_t3
  let c1_i32_149 : BitVec 32 := 1#32
  let v243 : BitVec 32 := Scalar.muli arg9 c1_i32_149
  let c0_i32_150 : BitVec 32 := 0#32
  let v244 : BitVec 32 := Scalar.addi v243 c0_i32_150
  let c0_i32_152 : BitVec 32 := 0#32
  let v246 : BitVec 1 := Scalar.cmpi .sgt v244 c0_i32_152
  let v247 : BitVec 32 := Scalar.extui v246
  let c0_i32_153 : BitVec 32 := 0#32
  let v248 : BitVec 1 := Scalar.cmpi .slt v244 c0_i32_153
  let v249 : BitVec 32 := Scalar.extui v248
  let v250 : BitVec 32 := Scalar.subi v247 v249
  let c4_i32_151 : BitVec 32 := 4#32
  let c0_i32_154 : BitVec 32 := 0#32
  let v251 : BitVec 1 := Scalar.cmpi .sgt c4_i32_151 c0_i32_154
  let v252 : BitVec 32 := Scalar.extui v251
  let c0_i32_155 : BitVec 32 := 0#32
  let v253 : BitVec 1 := Scalar.cmpi .slt c4_i32_151 c0_i32_155
  let v254 : BitVec 32 := Scalar.extui v253
  let v255 : BitVec 32 := Scalar.subi v252 v254
  let v256 : BitVec 1 := Scalar.cmpi .ne v250 v255
  let v257 : BitVec 32 := Scalar.remsi v244 c4_i32_151
  let c0_i32_156 : BitVec 32 := 0#32
  let v258 : BitVec 1 := Scalar.cmpi .ne v257 c0_i32_156
  let v259 : BitVec 1 := Scalar.andi v256 v258
  let v245 : BitVec 32 := Scalar.divsi v244 c4_i32_151
  let c1_i32_157 : BitVec 32 := 1#32
  let v260 : BitVec 32 := Scalar.subi v245 c1_i32_157
  let v261 : BitVec 32 := Scalar.select v259 v260 v245
  let c128_i32_165 : BitVec 32 := 128#32
  let c4_i32_158 : BitVec 32 := 4#32
  let c0_i32_159 : BitVec 32 := 0#32
  let v262 : BitVec 1 := Scalar.cmpi .eq c4_i32_158 c0_i32_159
  let c1_i32_160 : BitVec 32 := 1#32
  let v263 : BitVec 32 := Scalar.select v262 c1_i32_160 c4_i32_158
  let v264 : BitVec 32 := Scalar.remsi v244 v263
  let c0_i32_162 : BitVec 32 := 0#32
  let v266 : BitVec 1 := Scalar.cmpi .slt v264 c0_i32_162
  let c0_i32_163 : BitVec 32 := 0#32
  let v267 : BitVec 1 := Scalar.cmpi .slt v263 c0_i32_163
  let v268 : BitVec 1 := Scalar.xori v266 v267
  let c0_i32_161 : BitVec 32 := 0#32
  let v265 : BitVec 1 := Scalar.cmpi .ne v264 c0_i32_161
  let v269 : BitVec 1 := Scalar.andi v268 v265
  let v270 : BitVec 32 := Scalar.addi v264 v263
  let v271 : BitVec 32 := Scalar.select v269 v270 v264
  let c16_i32_164 : BitVec 32 := 16#32
  let v272 : BitVec 32 := Scalar.muli v271 c16_i32_164
  let v273 : BitVec 32 := Scalar.muli c128_i32_165 v272
  let v274 : BitVec 32 := Scalar.addi v261 v273
  let c1152_i32 : BitVec 32 := 1152#32
  let v1080 : BitVec 32 := Scalar.addi v274 c1152_i32
  v1080
def k0_mult12 (k0_t3 : Fin k0_t3_loop.trips) : BitVec 32 :=
  let c0_i32_145 : BitVec 32 := 0#32
  let c1_i32_147 : BitVec 32 := 1#32
  let arg9 : BitVec 32 := Scf.iv c0_i32_145 c1_i32_147 k0_t3
  let c1_i32_149 : BitVec 32 := 1#32
  let v243 : BitVec 32 := Scalar.muli arg9 c1_i32_149
  let c0_i32_150 : BitVec 32 := 0#32
  let v244 : BitVec 32 := Scalar.addi v243 c0_i32_150
  let c0_i32_152 : BitVec 32 := 0#32
  let v246 : BitVec 1 := Scalar.cmpi .sgt v244 c0_i32_152
  let v247 : BitVec 32 := Scalar.extui v246
  let c0_i32_153 : BitVec 32 := 0#32
  let v248 : BitVec 1 := Scalar.cmpi .slt v244 c0_i32_153
  let v249 : BitVec 32 := Scalar.extui v248
  let v250 : BitVec 32 := Scalar.subi v247 v249
  let c4_i32_151 : BitVec 32 := 4#32
  let c0_i32_154 : BitVec 32 := 0#32
  let v251 : BitVec 1 := Scalar.cmpi .sgt c4_i32_151 c0_i32_154
  let v252 : BitVec 32 := Scalar.extui v251
  let c0_i32_155 : BitVec 32 := 0#32
  let v253 : BitVec 1 := Scalar.cmpi .slt c4_i32_151 c0_i32_155
  let v254 : BitVec 32 := Scalar.extui v253
  let v255 : BitVec 32 := Scalar.subi v252 v254
  let v256 : BitVec 1 := Scalar.cmpi .ne v250 v255
  let v257 : BitVec 32 := Scalar.remsi v244 c4_i32_151
  let c0_i32_156 : BitVec 32 := 0#32
  let v258 : BitVec 1 := Scalar.cmpi .ne v257 c0_i32_156
  let v259 : BitVec 1 := Scalar.andi v256 v258
  let v245 : BitVec 32 := Scalar.divsi v244 c4_i32_151
  let c1_i32_157 : BitVec 32 := 1#32
  let v260 : BitVec 32 := Scalar.subi v245 c1_i32_157
  let v261 : BitVec 32 := Scalar.select v259 v260 v245
  let c128_i32_165 : BitVec 32 := 128#32
  let c4_i32_158 : BitVec 32 := 4#32
  let c0_i32_159 : BitVec 32 := 0#32
  let v262 : BitVec 1 := Scalar.cmpi .eq c4_i32_158 c0_i32_159
  let c1_i32_160 : BitVec 32 := 1#32
  let v263 : BitVec 32 := Scalar.select v262 c1_i32_160 c4_i32_158
  let v264 : BitVec 32 := Scalar.remsi v244 v263
  let c0_i32_162 : BitVec 32 := 0#32
  let v266 : BitVec 1 := Scalar.cmpi .slt v264 c0_i32_162
  let c0_i32_163 : BitVec 32 := 0#32
  let v267 : BitVec 1 := Scalar.cmpi .slt v263 c0_i32_163
  let v268 : BitVec 1 := Scalar.xori v266 v267
  let c0_i32_161 : BitVec 32 := 0#32
  let v265 : BitVec 1 := Scalar.cmpi .ne v264 c0_i32_161
  let v269 : BitVec 1 := Scalar.andi v268 v265
  let v270 : BitVec 32 := Scalar.addi v264 v263
  let v271 : BitVec 32 := Scalar.select v269 v270 v264
  let c16_i32_164 : BitVec 32 := 16#32
  let v272 : BitVec 32 := Scalar.muli v271 c16_i32_164
  let v273 : BitVec 32 := Scalar.muli c128_i32_165 v272
  let v274 : BitVec 32 := Scalar.addi v261 v273
  let c1280_i32 : BitVec 32 := 1280#32
  let v1168 : BitVec 32 := Scalar.addi v274 c1280_i32
  v1168
def k0_mult13 (k0_t3 : Fin k0_t3_loop.trips) : BitVec 32 :=
  let c0_i32_145 : BitVec 32 := 0#32
  let c1_i32_147 : BitVec 32 := 1#32
  let arg9 : BitVec 32 := Scf.iv c0_i32_145 c1_i32_147 k0_t3
  let c1_i32_149 : BitVec 32 := 1#32
  let v243 : BitVec 32 := Scalar.muli arg9 c1_i32_149
  let c0_i32_150 : BitVec 32 := 0#32
  let v244 : BitVec 32 := Scalar.addi v243 c0_i32_150
  let c0_i32_152 : BitVec 32 := 0#32
  let v246 : BitVec 1 := Scalar.cmpi .sgt v244 c0_i32_152
  let v247 : BitVec 32 := Scalar.extui v246
  let c0_i32_153 : BitVec 32 := 0#32
  let v248 : BitVec 1 := Scalar.cmpi .slt v244 c0_i32_153
  let v249 : BitVec 32 := Scalar.extui v248
  let v250 : BitVec 32 := Scalar.subi v247 v249
  let c4_i32_151 : BitVec 32 := 4#32
  let c0_i32_154 : BitVec 32 := 0#32
  let v251 : BitVec 1 := Scalar.cmpi .sgt c4_i32_151 c0_i32_154
  let v252 : BitVec 32 := Scalar.extui v251
  let c0_i32_155 : BitVec 32 := 0#32
  let v253 : BitVec 1 := Scalar.cmpi .slt c4_i32_151 c0_i32_155
  let v254 : BitVec 32 := Scalar.extui v253
  let v255 : BitVec 32 := Scalar.subi v252 v254
  let v256 : BitVec 1 := Scalar.cmpi .ne v250 v255
  let v257 : BitVec 32 := Scalar.remsi v244 c4_i32_151
  let c0_i32_156 : BitVec 32 := 0#32
  let v258 : BitVec 1 := Scalar.cmpi .ne v257 c0_i32_156
  let v259 : BitVec 1 := Scalar.andi v256 v258
  let v245 : BitVec 32 := Scalar.divsi v244 c4_i32_151
  let c1_i32_157 : BitVec 32 := 1#32
  let v260 : BitVec 32 := Scalar.subi v245 c1_i32_157
  let v261 : BitVec 32 := Scalar.select v259 v260 v245
  let c128_i32_165 : BitVec 32 := 128#32
  let c4_i32_158 : BitVec 32 := 4#32
  let c0_i32_159 : BitVec 32 := 0#32
  let v262 : BitVec 1 := Scalar.cmpi .eq c4_i32_158 c0_i32_159
  let c1_i32_160 : BitVec 32 := 1#32
  let v263 : BitVec 32 := Scalar.select v262 c1_i32_160 c4_i32_158
  let v264 : BitVec 32 := Scalar.remsi v244 v263
  let c0_i32_162 : BitVec 32 := 0#32
  let v266 : BitVec 1 := Scalar.cmpi .slt v264 c0_i32_162
  let c0_i32_163 : BitVec 32 := 0#32
  let v267 : BitVec 1 := Scalar.cmpi .slt v263 c0_i32_163
  let v268 : BitVec 1 := Scalar.xori v266 v267
  let c0_i32_161 : BitVec 32 := 0#32
  let v265 : BitVec 1 := Scalar.cmpi .ne v264 c0_i32_161
  let v269 : BitVec 1 := Scalar.andi v268 v265
  let v270 : BitVec 32 := Scalar.addi v264 v263
  let v271 : BitVec 32 := Scalar.select v269 v270 v264
  let c16_i32_164 : BitVec 32 := 16#32
  let v272 : BitVec 32 := Scalar.muli v271 c16_i32_164
  let v273 : BitVec 32 := Scalar.muli c128_i32_165 v272
  let v274 : BitVec 32 := Scalar.addi v261 v273
  let c1408_i32 : BitVec 32 := 1408#32
  let v1256 : BitVec 32 := Scalar.addi v274 c1408_i32
  v1256
def k0_mult14 (k0_t3 : Fin k0_t3_loop.trips) : BitVec 32 :=
  let c0_i32_145 : BitVec 32 := 0#32
  let c1_i32_147 : BitVec 32 := 1#32
  let arg9 : BitVec 32 := Scf.iv c0_i32_145 c1_i32_147 k0_t3
  let c1_i32_149 : BitVec 32 := 1#32
  let v243 : BitVec 32 := Scalar.muli arg9 c1_i32_149
  let c0_i32_150 : BitVec 32 := 0#32
  let v244 : BitVec 32 := Scalar.addi v243 c0_i32_150
  let c0_i32_152 : BitVec 32 := 0#32
  let v246 : BitVec 1 := Scalar.cmpi .sgt v244 c0_i32_152
  let v247 : BitVec 32 := Scalar.extui v246
  let c0_i32_153 : BitVec 32 := 0#32
  let v248 : BitVec 1 := Scalar.cmpi .slt v244 c0_i32_153
  let v249 : BitVec 32 := Scalar.extui v248
  let v250 : BitVec 32 := Scalar.subi v247 v249
  let c4_i32_151 : BitVec 32 := 4#32
  let c0_i32_154 : BitVec 32 := 0#32
  let v251 : BitVec 1 := Scalar.cmpi .sgt c4_i32_151 c0_i32_154
  let v252 : BitVec 32 := Scalar.extui v251
  let c0_i32_155 : BitVec 32 := 0#32
  let v253 : BitVec 1 := Scalar.cmpi .slt c4_i32_151 c0_i32_155
  let v254 : BitVec 32 := Scalar.extui v253
  let v255 : BitVec 32 := Scalar.subi v252 v254
  let v256 : BitVec 1 := Scalar.cmpi .ne v250 v255
  let v257 : BitVec 32 := Scalar.remsi v244 c4_i32_151
  let c0_i32_156 : BitVec 32 := 0#32
  let v258 : BitVec 1 := Scalar.cmpi .ne v257 c0_i32_156
  let v259 : BitVec 1 := Scalar.andi v256 v258
  let v245 : BitVec 32 := Scalar.divsi v244 c4_i32_151
  let c1_i32_157 : BitVec 32 := 1#32
  let v260 : BitVec 32 := Scalar.subi v245 c1_i32_157
  let v261 : BitVec 32 := Scalar.select v259 v260 v245
  let c128_i32_165 : BitVec 32 := 128#32
  let c4_i32_158 : BitVec 32 := 4#32
  let c0_i32_159 : BitVec 32 := 0#32
  let v262 : BitVec 1 := Scalar.cmpi .eq c4_i32_158 c0_i32_159
  let c1_i32_160 : BitVec 32 := 1#32
  let v263 : BitVec 32 := Scalar.select v262 c1_i32_160 c4_i32_158
  let v264 : BitVec 32 := Scalar.remsi v244 v263
  let c0_i32_162 : BitVec 32 := 0#32
  let v266 : BitVec 1 := Scalar.cmpi .slt v264 c0_i32_162
  let c0_i32_163 : BitVec 32 := 0#32
  let v267 : BitVec 1 := Scalar.cmpi .slt v263 c0_i32_163
  let v268 : BitVec 1 := Scalar.xori v266 v267
  let c0_i32_161 : BitVec 32 := 0#32
  let v265 : BitVec 1 := Scalar.cmpi .ne v264 c0_i32_161
  let v269 : BitVec 1 := Scalar.andi v268 v265
  let v270 : BitVec 32 := Scalar.addi v264 v263
  let v271 : BitVec 32 := Scalar.select v269 v270 v264
  let c16_i32_164 : BitVec 32 := 16#32
  let v272 : BitVec 32 := Scalar.muli v271 c16_i32_164
  let v273 : BitVec 32 := Scalar.muli c128_i32_165 v272
  let v274 : BitVec 32 := Scalar.addi v261 v273
  let c1536_i32 : BitVec 32 := 1536#32
  let v1344 : BitVec 32 := Scalar.addi v274 c1536_i32
  v1344
def k0_mult15 (k0_t3 : Fin k0_t3_loop.trips) : BitVec 32 :=
  let c0_i32_145 : BitVec 32 := 0#32
  let c1_i32_147 : BitVec 32 := 1#32
  let arg9 : BitVec 32 := Scf.iv c0_i32_145 c1_i32_147 k0_t3
  let c1_i32_149 : BitVec 32 := 1#32
  let v243 : BitVec 32 := Scalar.muli arg9 c1_i32_149
  let c0_i32_150 : BitVec 32 := 0#32
  let v244 : BitVec 32 := Scalar.addi v243 c0_i32_150
  let c0_i32_152 : BitVec 32 := 0#32
  let v246 : BitVec 1 := Scalar.cmpi .sgt v244 c0_i32_152
  let v247 : BitVec 32 := Scalar.extui v246
  let c0_i32_153 : BitVec 32 := 0#32
  let v248 : BitVec 1 := Scalar.cmpi .slt v244 c0_i32_153
  let v249 : BitVec 32 := Scalar.extui v248
  let v250 : BitVec 32 := Scalar.subi v247 v249
  let c4_i32_151 : BitVec 32 := 4#32
  let c0_i32_154 : BitVec 32 := 0#32
  let v251 : BitVec 1 := Scalar.cmpi .sgt c4_i32_151 c0_i32_154
  let v252 : BitVec 32 := Scalar.extui v251
  let c0_i32_155 : BitVec 32 := 0#32
  let v253 : BitVec 1 := Scalar.cmpi .slt c4_i32_151 c0_i32_155
  let v254 : BitVec 32 := Scalar.extui v253
  let v255 : BitVec 32 := Scalar.subi v252 v254
  let v256 : BitVec 1 := Scalar.cmpi .ne v250 v255
  let v257 : BitVec 32 := Scalar.remsi v244 c4_i32_151
  let c0_i32_156 : BitVec 32 := 0#32
  let v258 : BitVec 1 := Scalar.cmpi .ne v257 c0_i32_156
  let v259 : BitVec 1 := Scalar.andi v256 v258
  let v245 : BitVec 32 := Scalar.divsi v244 c4_i32_151
  let c1_i32_157 : BitVec 32 := 1#32
  let v260 : BitVec 32 := Scalar.subi v245 c1_i32_157
  let v261 : BitVec 32 := Scalar.select v259 v260 v245
  let c128_i32_165 : BitVec 32 := 128#32
  let c4_i32_158 : BitVec 32 := 4#32
  let c0_i32_159 : BitVec 32 := 0#32
  let v262 : BitVec 1 := Scalar.cmpi .eq c4_i32_158 c0_i32_159
  let c1_i32_160 : BitVec 32 := 1#32
  let v263 : BitVec 32 := Scalar.select v262 c1_i32_160 c4_i32_158
  let v264 : BitVec 32 := Scalar.remsi v244 v263
  let c0_i32_162 : BitVec 32 := 0#32
  let v266 : BitVec 1 := Scalar.cmpi .slt v264 c0_i32_162
  let c0_i32_163 : BitVec 32 := 0#32
  let v267 : BitVec 1 := Scalar.cmpi .slt v263 c0_i32_163
  let v268 : BitVec 1 := Scalar.xori v266 v267
  let c0_i32_161 : BitVec 32 := 0#32
  let v265 : BitVec 1 := Scalar.cmpi .ne v264 c0_i32_161
  let v269 : BitVec 1 := Scalar.andi v268 v265
  let v270 : BitVec 32 := Scalar.addi v264 v263
  let v271 : BitVec 32 := Scalar.select v269 v270 v264
  let c16_i32_164 : BitVec 32 := 16#32
  let v272 : BitVec 32 := Scalar.muli v271 c16_i32_164
  let v273 : BitVec 32 := Scalar.muli c128_i32_165 v272
  let v274 : BitVec 32 := Scalar.addi v261 v273
  let c1664_i32 : BitVec 32 := 1664#32
  let v1432 : BitVec 32 := Scalar.addi v274 c1664_i32
  v1432
def k0_mult16 (k0_t3 : Fin k0_t3_loop.trips) : BitVec 32 :=
  let c0_i32_145 : BitVec 32 := 0#32
  let c1_i32_147 : BitVec 32 := 1#32
  let arg9 : BitVec 32 := Scf.iv c0_i32_145 c1_i32_147 k0_t3
  let c1_i32_149 : BitVec 32 := 1#32
  let v243 : BitVec 32 := Scalar.muli arg9 c1_i32_149
  let c0_i32_150 : BitVec 32 := 0#32
  let v244 : BitVec 32 := Scalar.addi v243 c0_i32_150
  let c0_i32_152 : BitVec 32 := 0#32
  let v246 : BitVec 1 := Scalar.cmpi .sgt v244 c0_i32_152
  let v247 : BitVec 32 := Scalar.extui v246
  let c0_i32_153 : BitVec 32 := 0#32
  let v248 : BitVec 1 := Scalar.cmpi .slt v244 c0_i32_153
  let v249 : BitVec 32 := Scalar.extui v248
  let v250 : BitVec 32 := Scalar.subi v247 v249
  let c4_i32_151 : BitVec 32 := 4#32
  let c0_i32_154 : BitVec 32 := 0#32
  let v251 : BitVec 1 := Scalar.cmpi .sgt c4_i32_151 c0_i32_154
  let v252 : BitVec 32 := Scalar.extui v251
  let c0_i32_155 : BitVec 32 := 0#32
  let v253 : BitVec 1 := Scalar.cmpi .slt c4_i32_151 c0_i32_155
  let v254 : BitVec 32 := Scalar.extui v253
  let v255 : BitVec 32 := Scalar.subi v252 v254
  let v256 : BitVec 1 := Scalar.cmpi .ne v250 v255
  let v257 : BitVec 32 := Scalar.remsi v244 c4_i32_151
  let c0_i32_156 : BitVec 32 := 0#32
  let v258 : BitVec 1 := Scalar.cmpi .ne v257 c0_i32_156
  let v259 : BitVec 1 := Scalar.andi v256 v258
  let v245 : BitVec 32 := Scalar.divsi v244 c4_i32_151
  let c1_i32_157 : BitVec 32 := 1#32
  let v260 : BitVec 32 := Scalar.subi v245 c1_i32_157
  let v261 : BitVec 32 := Scalar.select v259 v260 v245
  let c128_i32_165 : BitVec 32 := 128#32
  let c4_i32_158 : BitVec 32 := 4#32
  let c0_i32_159 : BitVec 32 := 0#32
  let v262 : BitVec 1 := Scalar.cmpi .eq c4_i32_158 c0_i32_159
  let c1_i32_160 : BitVec 32 := 1#32
  let v263 : BitVec 32 := Scalar.select v262 c1_i32_160 c4_i32_158
  let v264 : BitVec 32 := Scalar.remsi v244 v263
  let c0_i32_162 : BitVec 32 := 0#32
  let v266 : BitVec 1 := Scalar.cmpi .slt v264 c0_i32_162
  let c0_i32_163 : BitVec 32 := 0#32
  let v267 : BitVec 1 := Scalar.cmpi .slt v263 c0_i32_163
  let v268 : BitVec 1 := Scalar.xori v266 v267
  let c0_i32_161 : BitVec 32 := 0#32
  let v265 : BitVec 1 := Scalar.cmpi .ne v264 c0_i32_161
  let v269 : BitVec 1 := Scalar.andi v268 v265
  let v270 : BitVec 32 := Scalar.addi v264 v263
  let v271 : BitVec 32 := Scalar.select v269 v270 v264
  let c16_i32_164 : BitVec 32 := 16#32
  let v272 : BitVec 32 := Scalar.muli v271 c16_i32_164
  let v273 : BitVec 32 := Scalar.muli c128_i32_165 v272
  let v274 : BitVec 32 := Scalar.addi v261 v273
  let c1792_i32 : BitVec 32 := 1792#32
  let v1520 : BitVec 32 := Scalar.addi v274 c1792_i32
  v1520
def k0_mult17 (k0_t3 : Fin k0_t3_loop.trips) : BitVec 32 :=
  let c0_i32_145 : BitVec 32 := 0#32
  let c1_i32_147 : BitVec 32 := 1#32
  let arg9 : BitVec 32 := Scf.iv c0_i32_145 c1_i32_147 k0_t3
  let c1_i32_149 : BitVec 32 := 1#32
  let v243 : BitVec 32 := Scalar.muli arg9 c1_i32_149
  let c0_i32_150 : BitVec 32 := 0#32
  let v244 : BitVec 32 := Scalar.addi v243 c0_i32_150
  let c0_i32_152 : BitVec 32 := 0#32
  let v246 : BitVec 1 := Scalar.cmpi .sgt v244 c0_i32_152
  let v247 : BitVec 32 := Scalar.extui v246
  let c0_i32_153 : BitVec 32 := 0#32
  let v248 : BitVec 1 := Scalar.cmpi .slt v244 c0_i32_153
  let v249 : BitVec 32 := Scalar.extui v248
  let v250 : BitVec 32 := Scalar.subi v247 v249
  let c4_i32_151 : BitVec 32 := 4#32
  let c0_i32_154 : BitVec 32 := 0#32
  let v251 : BitVec 1 := Scalar.cmpi .sgt c4_i32_151 c0_i32_154
  let v252 : BitVec 32 := Scalar.extui v251
  let c0_i32_155 : BitVec 32 := 0#32
  let v253 : BitVec 1 := Scalar.cmpi .slt c4_i32_151 c0_i32_155
  let v254 : BitVec 32 := Scalar.extui v253
  let v255 : BitVec 32 := Scalar.subi v252 v254
  let v256 : BitVec 1 := Scalar.cmpi .ne v250 v255
  let v257 : BitVec 32 := Scalar.remsi v244 c4_i32_151
  let c0_i32_156 : BitVec 32 := 0#32
  let v258 : BitVec 1 := Scalar.cmpi .ne v257 c0_i32_156
  let v259 : BitVec 1 := Scalar.andi v256 v258
  let v245 : BitVec 32 := Scalar.divsi v244 c4_i32_151
  let c1_i32_157 : BitVec 32 := 1#32
  let v260 : BitVec 32 := Scalar.subi v245 c1_i32_157
  let v261 : BitVec 32 := Scalar.select v259 v260 v245
  let c128_i32_165 : BitVec 32 := 128#32
  let c4_i32_158 : BitVec 32 := 4#32
  let c0_i32_159 : BitVec 32 := 0#32
  let v262 : BitVec 1 := Scalar.cmpi .eq c4_i32_158 c0_i32_159
  let c1_i32_160 : BitVec 32 := 1#32
  let v263 : BitVec 32 := Scalar.select v262 c1_i32_160 c4_i32_158
  let v264 : BitVec 32 := Scalar.remsi v244 v263
  let c0_i32_162 : BitVec 32 := 0#32
  let v266 : BitVec 1 := Scalar.cmpi .slt v264 c0_i32_162
  let c0_i32_163 : BitVec 32 := 0#32
  let v267 : BitVec 1 := Scalar.cmpi .slt v263 c0_i32_163
  let v268 : BitVec 1 := Scalar.xori v266 v267
  let c0_i32_161 : BitVec 32 := 0#32
  let v265 : BitVec 1 := Scalar.cmpi .ne v264 c0_i32_161
  let v269 : BitVec 1 := Scalar.andi v268 v265
  let v270 : BitVec 32 := Scalar.addi v264 v263
  let v271 : BitVec 32 := Scalar.select v269 v270 v264
  let c16_i32_164 : BitVec 32 := 16#32
  let v272 : BitVec 32 := Scalar.muli v271 c16_i32_164
  let v273 : BitVec 32 := Scalar.muli c128_i32_165 v272
  let v274 : BitVec 32 := Scalar.addi v261 v273
  let c1920_i32 : BitVec 32 := 1920#32
  let v1608 : BitVec 32 := Scalar.addi v274 c1920_i32
  v1608
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel11Ideal.lean ====
variable {F : FTy → Type} [FloatOps F] [Named F]
def κ : String → Option EReal := fun
  | "mask" => some ⊥
  | _ => none
-- ==== Kernel12.lean ====
abbrev S8x352x1024 : Shape := ⟨3, ![8, 352, 1024]⟩
abbrev S1x352x1024 : Shape := ⟨3, ![1, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 11
  | .vmem => 16
  | .smem => 0
  | _ => 0

abbrev bufTy : (tb : Table) → Fin (tcTables nBuf tb) → BufTy
  | .hbm, ⟨0, _⟩ => ⟨S8x352x1024, .f32⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S352x1024, .f32⟩
  | .local _ .vmem, ⟨0, _⟩ => ⟨S8x176x1024, .f32⟩
  | .local _ .vmem, ⟨1, _⟩ => ⟨S8x176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S8x352x1024 : Shape := ⟨3, ![8, 352, 1024]⟩
abbrev S1x352x1024 : Shape := ⟨3, ![1, 352, 1024]⟩
abbrev S_ : Shape := ⟨0, ![]⟩
abbrev S352x1024 : Shape := ⟨2, ![352, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S_, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S_, .f32⟩
  | .hbm, ⟨10, _⟩ => ⟨S352x1024, .f32⟩
  | .hbm, ⟨11, _⟩ => ⟨S352x1024, .f32⟩
  | .hbm, ⟨12, _⟩ => ⟨S_, .f32⟩
  | .hbm, ⟨13, _⟩ => ⟨S352x1024, .f32⟩
  | .hbm, ⟨14, _⟩ => ⟨S352x1024, .f32⟩
  | .hbm, ⟨15, _⟩ => ⟨S352x1024, .f32⟩
  | .hbm, ⟨16, _⟩ => ⟨S_, .f32⟩
  | .hbm, ⟨17, _⟩ => ⟨S352x1024, .f32⟩
  | .hbm, ⟨18, _⟩ => ⟨S352x1024, .f32⟩
  | .hbm, ⟨19, _⟩ => ⟨S352x1024, .f32⟩
  | .hbm, ⟨20, _⟩ => ⟨S_, .f32⟩
  | .hbm, ⟨21, _⟩ => ⟨S352x1024, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S_, .f32⟩
  | .hbm, ⟨28, _⟩ => ⟨S352x1024, .f32⟩
  | .hbm, ⟨29, _⟩ => ⟨S352x1024, .f32⟩
  | .hbm, ⟨30, _⟩ => ⟨S352x1024, .f32⟩
  | .hbm, ⟨31, _⟩ => ⟨S_, .f32⟩
  | .hbm, ⟨32, _⟩ => ⟨S352x1024, .f32⟩
  | .hbm, ⟨33, _⟩ => ⟨S352x1024, .f32⟩
  | .hbm, ⟨34, _⟩ => ⟨S352x1024, .f32⟩
  | .hbm, ⟨35, _⟩ => ⟨S_, .f32⟩
  | .hbm, ⟨36, _⟩ => ⟨S352x1024, .f32⟩
  | .hbm, ⟨37, _⟩ => ⟨S352x1024, .f32⟩
  | .hbm, ⟨38, _⟩ => ⟨S352x1024, .f32⟩
  | .hbm, ⟨39, _⟩ => ⟨S_, .f32⟩
  | .hbm, ⟨40, _⟩ => ⟨S352x1024, .f32⟩
  | .hbm, ⟨41, _⟩ => ⟨S352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel13.lean ====
abbrev S8x128x256 : Shape := ⟨3, ![8, 128, 256]⟩
abbrev S128x256 : Shape := ⟨2, ![128, 256]⟩
abbrev S1x128x256 : Shape := ⟨3, ![1, 128, 256]⟩

abbrev nBuf : Space → Nat
  | .hbm => 2
  | .vmem => 2
  | .smem => 0
  | _ => 0

abbrev bufTy : (tb : Table) → Fin (tcTables nBuf tb) → BufTy
  | .hbm, ⟨0, _⟩ => ⟨S8x128x256, .f32⟩
  | .hbm, ⟨1, _⟩ => ⟨S128x256, .f32⟩
  | .local _ .vmem, ⟨0, _⟩ => ⟨S8x128x256, .f32⟩
  | .local _ .vmem, ⟨1, _⟩ => ⟨S128x256, .f32⟩
  | _, _ => ⟨S8x128x256, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference13Ideal.lean ====
abbrev S8x128x256 : Shape := ⟨3, ![8, 128, 256]⟩
abbrev S_ : Shape := ⟨0, ![]⟩
abbrev S128x256 : Shape := ⟨2, ![128, 256]⟩

abbrev nBuf : Space → Nat
  | .hbm => 3
  | .vmem => 0
  | .smem => 0
  | _ => 0

abbrev bufTy : (tb : Table) → Fin (tcTables nBuf tb) → BufTy
  | .hbm, ⟨0, _⟩ => ⟨S8x128x256, .f32⟩
  | .hbm, ⟨1, _⟩ => ⟨S_, .f32⟩
  | .hbm, ⟨2, _⟩ => ⟨S128x256, .f32⟩
  | _, _ => ⟨S8x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel14.lean ====
abbrev S256x128 : Shape := ⟨2, ![256, 128]⟩
abbrev S1x256x128 : Shape := ⟨3, ![1, 256, 128]⟩

abbrev nBuf : Space → Nat
  | .hbm => 10
  | .vmem => 7
  | .smem => 0
  | _ => 0

abbrev bufTy : (tb : Table) → Fin (tcTables nBuf tb) → BufTy
  | .hbm, ⟨0, _⟩ => ⟨S256x128, .f32⟩
  | .hbm, ⟨1, _⟩ => ⟨S1x256x128, .f32⟩
  | .hbm, ⟨2, _⟩ => ⟨S1x256x128, .f32⟩
  | .hbm, ⟨3, _⟩ => ⟨S1x256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .hbm, ⟨8, _⟩ => ⟨S256x128, .f32⟩
  | .hbm, ⟨9, _⟩ => ⟨S256x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference14Ideal.lean ====
abbrev S256x128 : Shape := ⟨2, ![256, 128]⟩
abbrev S1x256x128 : Shape := ⟨3, ![1, 256, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S1x256x128, .f32⟩
  | .hbm, ⟨2, _⟩ => ⟨S1x256x128, .f32⟩
  | .hbm, ⟨3, _⟩ => ⟨S1x256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S_, .f32⟩
  | .hbm, ⟨8, _⟩ => ⟨S256x128, .f32⟩
  | .hbm, ⟨9, _⟩ => ⟨S256x128, .f32⟩
  | .hbm, ⟨10, _⟩ => ⟨S_, .f32⟩
  | .hbm, ⟨11, _⟩ => ⟨S256x128, .f32⟩
  | .hbm, ⟨12, _⟩ => ⟨S256x128, .f32⟩
  | .hbm, ⟨13, _⟩ => ⟨S256x128, .f32⟩
  | .hbm, ⟨14, _⟩ => ⟨S_, .f32⟩
  | .hbm, ⟨15, _⟩ => ⟨S256x128, .f32⟩
  | .hbm, ⟨16, _⟩ => ⟨S256x128, .f32⟩
  | .hbm, ⟨17, _⟩ => ⟨S256x128, .f32⟩
  | .hbm, ⟨18, _⟩ => ⟨S_, .f32⟩
  | .hbm, ⟨19, _⟩ => ⟨S256x128, .f32⟩
  | .hbm, ⟨20, _⟩ => ⟨S256x128, .f32⟩
  | .hbm, ⟨21, _⟩ => ⟨S256x128, .f32⟩
  | .hbm, ⟨22, _⟩ => ⟨S_, .f32⟩
  | .hbm, ⟨23, _⟩ => ⟨S256x128, .f32⟩
  | .hbm, ⟨24, _⟩ => ⟨S256x128, .f32⟩
  | .hbm, ⟨25, _⟩ => ⟨S_, .f32⟩
  | .hbm, ⟨26, _⟩ => ⟨S256x128, .f32⟩
  | .hbm, ⟨27, _⟩ => ⟨S256x128, .f32⟩
  | .hbm, ⟨28, _⟩ => ⟨S256x128, .f32⟩
  | .hbm, ⟨29, _⟩ => ⟨S_, .f32⟩
  | .hbm, ⟨30, _⟩ => ⟨S256x128, .f32⟩
  | .hbm, ⟨31, _⟩ => ⟨S256x128, .f32⟩
  | .hbm, ⟨32, _⟩ => ⟨S256x128, .f32⟩
  | .hbm, ⟨33, _⟩ => ⟨S_, .f32⟩
  | .hbm, ⟨34, _⟩ => ⟨S256x128, .f32⟩
  | .hbm, ⟨35, _⟩ => ⟨S256x128, .f32⟩
  | .hbm, ⟨36, _⟩ => ⟨S256x128, .f32⟩
  | .hbm, ⟨37, _⟩ => ⟨S_, .f32⟩
  | .hbm, ⟨38, _⟩ => ⟨S256x128, .f32⟩
  | .hbm, ⟨39, _⟩ => ⟨S256x128, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel15.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S3x8192x512 : Shape := ⟨3, ![3, 8192, 512]⟩
abbrev S2x8192x512 : Shape := ⟨3, ![2, 8192, 512]⟩
abbrev S8192x1024 : Shape := ⟨2, ![8192, 1024]⟩
abbrev S2560x1024 : Shape := ⟨2, ![2560, 1024]⟩
abbrev S3x1024x512 : Shape := ⟨3, ![3, 1024, 512]⟩
abbrev S2x1024x512 : Shape := ⟨3, ![2, 1024, 512]⟩
abbrev S1024x1024 : Shape := ⟨2, ![1024, 1024]⟩
abbrev S1x1024x512 : Shape := ⟨3, ![1, 1024, 512]⟩
abbrev S1024x512 : Shape := ⟨2, ![1024, 512]⟩
abbrev S1024x2560 : Shape := ⟨2, ![1024, 2560]⟩

abbrev nBuf : Space → Nat
  | .hbm => 4
  | .vmem => 8
  | .smem => 0
  | _ => 0

abbrev bufTy : (tb : Table) → Fin (tcTables nBuf tb) → BufTy
  | .hbm, ⟨0, _⟩ => ⟨S3x8192x512, .f32⟩
  | .hbm, ⟨1, _⟩ => ⟨S2x8192x512, .bf16⟩
  | .hbm, ⟨2, _⟩ => ⟨S8192x1024, .bf16⟩
  | .hbm, ⟨3, _⟩ => ⟨S2560x1024, .bf16⟩
  | .local _ .vmem, ⟨0, _⟩ => ⟨S3x1024x512, .f32⟩
  | .local _ .vmem, ⟨1, _⟩ => ⟨S3x1024x512, .f32⟩
  | .local _ .vmem, ⟨2, _⟩ => ⟨S2x1024x512, .bf16⟩
  | .local _ .vmem, ⟨3, _⟩ => ⟨S2x1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S2560x1024, .bf16⟩
  | .local _ .vmem, ⟨7, _⟩ => ⟨S2560x1024, .f32⟩
  | _, _ => ⟨S3x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v24 : BitVec 1 := Scalar.cmpi .eq arg0 c7_i32
  let v25 : BitVec 32 := Scalar.extui v24
  let c0_i32_19 : BitVec 32 := 0#32
  let v26 : BitVec 1 := Scalar.cmpi .ne v25 c0_i32_19
  v26

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2560x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference16Ideal.lean ====
abbrev S3x8192x512 : Shape := ⟨3, ![3, 8192, 512]⟩
abbrev S2x8192x512 : Shape := ⟨3, ![2, 8192, 512]⟩
abbrev S8192x1024 : Shape := ⟨2, ![8192, 1024]⟩
abbrev S1x8192x512 : Shape := ⟨3, ![1, 8192, 512]⟩
abbrev S8192x512 : Shape := ⟨2, ![8192, 512]⟩
abbrev S_ : Shape := ⟨0, ![]⟩
abbrev S1024x2560 : Shape := ⟨2, ![1024, 2560]⟩
abbrev S8192x2560 : Shape := ⟨2, ![8192, 2560]⟩
abbrev S2560x1024 : Shape := ⟨2, ![2560, 1024]⟩

abbrev nBuf : Space → Nat
  | .hbm => 28
  | .vmem => 0
  | .smem => 0
  | _ => 0

abbrev bufTy : (tb : Table) → Fin (tcTables nBuf tb) → BufTy
  | .hbm, ⟨0, _⟩ => ⟨S3x8192x512, .f32⟩
  | .hbm, ⟨1, _⟩ => ⟨S2x8192x512, .bf16⟩
  | .hbm, ⟨2, _⟩ => ⟨S8192x1024, .bf16⟩
  | .hbm, ⟨3, _⟩ => ⟨S2x8192x512, .f32⟩
  | .hbm, ⟨4, _⟩ => ⟨S1x8192x512, .f32⟩
  | .hbm, ⟨5, _⟩ => ⟨S8192x512, .f32⟩
  | .hbm, ⟨6, _⟩ => ⟨S1x8192x512, .f32⟩
  | .hbm, ⟨7, _⟩ => ⟨S8192x512, .f32⟩
  | .hbm, ⟨8, _⟩ => ⟨S1x8192x512, .f32⟩
  | .hbm, ⟨9, _⟩ => ⟨S8192x512, .f32⟩
  | .hbm, ⟨10, _⟩ => ⟨S1x8192x512, .f32⟩
  | .hbm, ⟨11, _⟩ => ⟨S8192x512, .f32⟩
  | .hbm, ⟨12, _⟩ => ⟨S1x8192x512, .f32⟩
  | .hbm, ⟨13, _⟩ => ⟨S8192x512, .f32⟩
  | .hbm, ⟨14, _⟩ => ⟨S_, .f32⟩
  | .hbm, ⟨15, _⟩ => ⟨S1024x2560, .f32⟩
  | .hbm, ⟨16, _⟩ => ⟨S8192x1024, .f32⟩
  | .hbm, ⟨17, _⟩ => ⟨S8192x2560, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x2560, .f32⟩
  | .hbm, ⟨24, _⟩ => ⟨S2560x1024, .f32⟩
  | .hbm, ⟨25, _⟩ => ⟨S1024x2560, .f32⟩
  | .hbm, ⟨26, _⟩ => ⟨S2560x1024, .f32⟩
  | .hbm, ⟨27, _⟩ => ⟨S2560x1024, .bf16⟩
  | _, _ => ⟨S3x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]
-- ==== Proof.DownFrame.lean ====
/- The SwiGLU gradient call: its run. The gate and up rows come through two rings of three slots, so a point is the first one
   (it starts three blocks of each ring), one of the middle ones (it starts one), or one of the last two (it starts none). -/
module

public import proofs.«01_k».proof.Proof.Gen.Kernel6Ideal.Frame.RunC
public import Idealize.ShloMosaic.Lib.Claim

@[expose] public section

set_option maxRecDepth 16384

noncomputable section

namespace Cert.Kernel6Ideal.Down

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem points (t : Fin cfg0.N) : t.val < 16 := lt_of_lt_of_eq t.isLt N_0

/-- The conditions of the two branches, in closed form. -/
theorem first (t : Fin cfg0.N) (h : t.val = 0) : cond0_0 (grid0.coords t) := (hcond0_0 t).mpr (by omega)
theorem later (t : Fin cfg0.N) (h : t.val ≠ 0) : ¬cond0_0 (grid0.coords t) := fun h' => by
  have := (hcond0_0 t).mp h'
  have := points t
  omega
theorem more (t : Fin cfg0.N) (h : t.val < 14) : cond0_1 (grid0.coords t) := (hcond0_1 t).mpr h
theorem last (t : Fin cfg0.N) (h : ¬t.val < 14) : ¬cond0_1 (grid0.coords t) := fun h' => h ((hcond0_1 t).mp h')

/-- What a point stores into its two output blocks, store by store. -/
abbrev Stores (F : FTy → Type) := List (View.Piece (Elt F) S512x2816 .bf16)

def storesA (c : Dev nD) (t : Fin cfg0.N) (h0 : t.val = 0) (h1 : t.val < 14) : Stores F × Stores F :=
  let K := kernelRun0_A c t (ms0_0 t) (hs0_0 t) (ms0_1 t) (hs0_1 t) (ms0_2 t) (hs0_2 t) (ms0_3 t) (hs0_3 t) (first t h0) (more t h1)
    (iblk m c 0 t) (iblk m c 1 t) (V m c main_arg1) (V m c main_arg2)
  (K.1, K.2.1)
def storesB (c : Dev nD) (t : Fin cfg0.N) (h0 : t.val ≠ 0) (h1 : t.val < 14) : Stores F × Stores F :=
  let K := kernelRun0_B c t (ms0_0 t) (hs0_0 t) (ms0_1 t) (hs0_1 t) (ms0_2 t) (hs0_2 t) (ms0_3 t) (hs0_3 t) (later t h0) (more t h1)
    (iblk m c 0 t) (iblk m c 1 t) (V m c main_arg1) (V m c main_arg2)
  (K.1, K.2.1)
def storesC (c : Dev nD) (t : Fin cfg0.N) (h0 : t.val ≠ 0) (h1 : ¬t.val < 14) : Stores F × Stores F :=
  let K := kernelRun0_C c t (ms0_0 t) (hs0_0 t) (ms0_1 t) (hs0_1 t) (ms0_2 t) (hs0_2 t) (ms0_3 t) (hs0_3 t) (later t h0) (last t h1)
    (iblk m c 0 t) (iblk m c 1 t) (V m c main_arg1) (V m c main_arg2)
  (K.1, K.2.1)

/-- A point's stores: the first point's, a middle one's or one of the last two's. -/
def stores (c : Dev nD) (t : Fin cfg0.N) : Stores F × Stores F :=
  if h1 : t.val < 14 then if h0 : t.val = 0 then storesA m c t h0 h1 else storesB m c t h0 h1
  else storesC m c t (fun h => h1 (by omega)) h1

/-- A block's contents once its stores are made. -/
def made (L : Stores F) : Vec F S512x2816 .bf16 := VO0_2.read (Elt F) (VO0_2.writes (Elt F) VO0_2.junk L)

/-- Eleven stores of 256 columns cover a block. -/
theorem covers (c : Dev nD) (t : Fin cfg0.N) (y : S512x2816.Idx) :
    (∃ pc ∈ (stores m c t).1, y ∈ pc.1.set) ∧ ∃ pc ∈ (stores m c t).2, y ∈ pc.1.set := by
  unfold stores
  split_ifs with h1 h0
  · exact ⟨View.cover_of_tiledL (storesA m c t h0 h1).1 S512x256.size (by sl_kernel_rfl) y,
      View.cover_of_tiledL (storesA m c t h0 h1).2 S512x256.size (by sl_kernel_rfl) y⟩
  · exact ⟨View.cover_of_tiledL (storesB m c t h0 h1).1 S512x256.size (by sl_kernel_rfl) y,
      View.cover_of_tiledL (storesB m c t h0 h1).2 S512x256.size (by sl_kernel_rfl) y⟩
  · exact ⟨View.cover_of_tiledL (storesC m c t _ h1).1 S512x256.size (by sl_kernel_rfl) y,
      View.cover_of_tiledL (storesC m c t _ h1).2 S512x256.size (by sl_kernel_rfl) y⟩

/-- Between points: the generator's register, and both rings at the step the point has reached. -/
def between (c : Dev nD) (k : ℕ) : sProp 𝕄 :=
  iprop((∃ r, prngReg c r) ∗ ringAt0_0 c (V m c main_arg1) k ∗ ringAt0_1 c (V m c main_arg2) k)

/-- The pipeline's proof data: inputs keep their blocks, outputs end at what the point's stores make. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => made (stores m c t).1
    | ⟨3, _⟩ => made (stores m c t).2
  Φ t := between m c t.val
  q _ := fullShare
  owed _ := 0

theorem entry (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = made (stores m c t).1 := by dsimp only [dats]
theorem after3 (c : Dev nD) (t : Fin cfg0.N) : (dats m 0 c).after 3 t = made (stores m c t).2 := by dsimp only [dats]

set_option maxHeartbeats 4000000 in
/-- The body at a point: the rings' shares go in by the point's role and come back one step on; the outputs' stores cover. -/
theorem body (c : Dev nD) (t : Fin cfg0.N) :
    iprop((dats m 0 c).Φ t.castSucc ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d)))
    ⊢ wp frame (wpE (defs₀ (F := F)) Variants.none c none) Set.univ (bodyAt0 t) fun _ =>
      iprop((dats m 0 c).Φ t.succ ∗ (dats m 0 c).owesAt () t.succ
        ∗ owns (c : Thread nD τ) (ms0_0 t) fullShare ((dats m 0 c).after 0 t)
        ∗ owns (c : Thread nD τ) (ms0_1 t) fullShare ((dats m 0 c).after 1 t)
        ∗ owns (c : Thread nD τ) (ms0_2 t) fullShare ((dats m 0 c).after 2 t)
        ∗ owns (c : Thread nD τ) (ms0_3 t) fullShare ((dats m 0 c).after 3 t)) := by
  have hN := points t
  have hcov2 := fun y => (covers m c t y).1
  have hcov3 := fun y => (covers m c t y).2
  rw [after0, after1, after2, after3, show (dats m 0 c).Φ t.castSucc = between m c t.val from rfl,
    show (dats m 0 c).Φ t.succ = between m c (t.val + 1) from rfl]
  simp only [before0_0_of m (dats m 0 c) (entry m c 0) (after0 m c), before0_1_of m (dats m 0 c) (entry m c 1) (after1 m c)]
  unfold bodyAt0 between ringAt0_0 ringAt0_1 Dat.owesAt Pipeline.owesWithin
  rw [show (dats m 0 c).owed t.castSucc = 0 from rfl, show (dats m 0 c).owed t.succ = 0 from rfl]
  revert hcov2 hcov3
  unfold stores
  have hne : ¬t.val + 1 = 0 := by omega
  obtain ⟨h1, h0⟩ | ⟨h1, h0⟩ | ⟨h1, h0⟩ : (t.val < 14 ∧ t.val = 0) ∨ (t.val < 14 ∧ ¬t.val = 0) ∨ (¬t.val < 14 ∧ ¬t.val = 0) := by omega
  -- the first point: both rings still whole, nothing in flight
  simp only [dif_pos h1, dif_pos h0, if_pos h0, if_neg hne,
      Ring.At₀_eq3' _ _ _ t.val h0 (by decide : 3 ≤ 16), Ring.At3_one' _ _ _ _ t.val h0 (by decide : 3 ≤ 16)]
  intro hcov2 hcov3
  iintro ⟨⟨Hg, ⟨-, Hu0, Hu1, Hu2⟩, ⟨-, Hv0, Hv1, Hv2⟩⟩, ⟨%W, -, HW⟩, ⟨%d0, H0⟩, ⟨%d1, H1⟩, ⟨%d2, H2⟩, ⟨%d3, H3⟩⟩
  iapply ((kernelRun0_A c t _ _ _ _ _ _ _ _ (first t h0) (more t h1) (iblk m c 0 t) (iblk m c 1 t) (V m c main_arg1) (V m c main_arg2)).2.2 W _)
  rotate_left
  -- a middle point: one block lands, one more is started
  have hB : t.val + 2 < 16 := by omega
  simp only [dif_pos h1, dif_neg h0, if_neg h0, if_neg hne, Ring.At3_here _ _ _ _ t.val hB, Ring.At3_next _ _ _ _ t.val hB,
      Ring.slotAt3_next0 _ _ _ t.val (show t.val + 1 < 16 by omega), Ring.slotAt3_next1 _ _ _ t.val hB]
  intro hcov2 hcov3
  iintro ⟨⟨Hg, ⟨-, Hu0, Hu1, Hu2⟩, ⟨-, Hv0, Hv1, Hv2⟩⟩, ⟨%W, -, HW⟩, ⟨%d0, H0⟩, ⟨%d1, H1⟩, ⟨%d2, H2⟩, ⟨%d3, H3⟩⟩
  iapply ((kernelRun0_B c t _ _ _ _ _ _ _ _ (later t h0) (more t h1) (iblk m c 0 t) (iblk m c 1 t) (V m c main_arg1) (V m c main_arg2)).2.2 W _)
  rotate_left
  -- the last two points: a block lands, none is started
  have hB : 16 ≤ t.val + 2 := by omega
  simp only [dif_neg h1, if_neg h0, if_neg hne,
      Ring.At3_here_tail _ _ _ _ t.val hN, Ring.At3_next_tail _ _ _ _ t.val hB hN, Ring.slotAt3_tail_role _ _ _ t.val]
  intro hcov2 hcov3
  iintro ⟨⟨Hg, ⟨-, Hu0, Hu1, Hu2⟩, ⟨-, Hv0, Hv1, Hv2⟩⟩, ⟨%W, -, HW⟩, ⟨%d0, H0⟩, ⟨%d1, H1⟩, ⟨%d2, H2⟩, ⟨%d3, H3⟩⟩
  iapply ((kernelRun0_C c t _ _ _ _ _ _ _ _ (later t h0) (last t h1) (iblk m c 0 t) (iblk m c 1 t) (V m c main_arg1) (V m c main_arg2)).2.2 W _)
  rotate_left
  all_goals
    isplitl [H0]; · iexact H0
    isplitl [H1]; · iexact H1
    isplitl [H2]; · iexists _; iexact H2
    isplitl [H3]; · iexists _; iexact H3
    isplitl [Hu0]; · iexact Hu0
    isplitl [Hu1]; · iexact Hu1
    isplitl [Hu2]; · iexact Hu2
    isplitl [Hv0]; · iexact Hv0
    isplitl [Hv1]; · iexact Hv1
    isplitl [Hv2]; · iexact Hv2
    isplitl [HW]; · iexact HW
    iintro ⟨H0, H1, ⟨%e2, H2⟩, ⟨%e3, H3⟩, Hu0, Hu1, Hu2, Hv0, Hv1, Hv2, ⟨%W', HW⟩⟩
    isplitl [Hg Hu0 Hu1 Hu2 Hv0 Hv1 Hv2]
    · isplitl [Hg]; · iexact Hg
      isplitl [Hu0 Hu1 Hu2]
      · iapply (Ring.with_homes (Idealize.SL.BI.Entails.refl _))
        isplitl [Hu0]; · iexact Hu0
        isplitl [Hu1]; · iexact Hu1
        iexact Hu2
      iapply (Ring.with_homes (Idealize.SL.BI.Entails.refl _))
      isplitl [Hv0]; · iexact Hv0
      isplitl [Hv1]; · iexact Hv1
      iexact Hv2
    isplitl [HW]
    · iexists W'; isplitr; · ipureintro; exact fun _ _ => Or.inl trivial
      iexact HW
    isplitl [H0]; · iexact H0
    isplitl [H1]; · iexact H1
    isplitl [H2]
    · unfold owns; iexists _; isplitr
      swap; · iexact H2
      ipureintro; exact View.read_writes_of_cover _ _ _ _ _ hcov2
    unfold owns; iexists _; isplitr
    swap; · iexact H3
    ipureintro; exact View.read_writes_of_cover _ _ _ _ _ hcov3

/-- The region's entry holds the rings at their first step, and their last step holds the region's exit. -/
theorem enter (c : Dev nD) : Pipeline.ΦD osem0 spec0 H0 (V m) c ⊢ (dats m 0 c).Φ 0 := by
  rw [PhiD0_eq, show (dats m 0 c).Φ 0 = between m c 0 from rfl]
  unfold between
  iintro ⟨⟨Hs, Ht⟩, Hg, ⟨Ha0, Ha1, Ha2, Hb0, Hb1, Hb2⟩, Hu, Hv⟩
  isplitl [Hg]; · iexact Hg
  isplitl [Hs Ha0 Ha1 Ha2 Hu]
  · iapply (ring0_0_in (F := F) m c)
    iframe
  iapply (ring0_1_in (F := F) m c)
  iframe

theorem leave (c : Dev nD) : (dats m 0 c).Φ (Fin.last cfg0.N) ⊢ Pipeline.ΦD osem0 spec0 H0 (V m) c := by
  rw [PhiD0_eq, show (dats m 0 c).Φ (Fin.last cfg0.N) = between m c 16 from congrArg (between m c) N_0]
  unfold between
  iintro ⟨Hg, Hs, Ht⟩
  ihave Hs' := (ring0_0_out (F := F) m c) $$ Hs
  icases Hs' with ⟨Hs, ⟨Ha0, Ha1, Ha2⟩, Hu⟩
  ihave Ht' := (ring0_1_out (F := F) m c) $$ Ht
  icases Ht' with ⟨Ht, ⟨Hb0, Hb1, Hb2⟩, Hv⟩
  iframe

theorem obliged (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body m c t) rfl .rfl fun _ => .rfl

set_option backward.isDefEq.respectTransparency.types false in
/-- The run: it ends, with every array of the pipeline at what the proof data computes and every counter at zero. -/
theorem run : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (obliged m c).loose) (hshare := fun c => (dats m 0 c).share_full fun _ => rfl)
    (howed := fun _ _ => rfl) (V := V m) (hmain := hmain m Variants.none) (hA := entry m) (hin := enter m) (hout := leave m)

theorem post : θ_run defs (onTc (τ := τ) (main (F := F))) (s₀ m ρ) (Pipeline.FramePost cfgs (dats m) 0 (V m)) :=
  (θ_run defs _ _).mono (fun _ h => h.1) (run m ρ)

/-- The arguments end unchanged, and every counter at zero. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (entry m) (post m ρ)) ((θ_run defs _ _).mono (fun _ h => h.2) (run m ρ))

/-- The two results end at the arrays the points' stores make, and the arguments unchanged. -/
theorem results : θ_run defs (onTc (τ := τ) (main (F := F))) (s₀ m ρ) (fun r => (∀ c : Dev nD,
      r.2.mem ((c.tc : Thread nD τ).loc main_v2_0) = (dats m 0 c).arrAt 2 (Fin.last cfg0.N)
      ∧ r.2.mem ((c.tc : Thread nD τ).loc main_v2_1) = (dats m 0 c).arrAt 3 (Fin.last cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))) :=
  (θ_run defs _ _).mono (fun _ h c => ⟨(h.1 c).1 2, (h.1 c).1 3, h.2 c⟩)
    (θ_run_and (post m ρ) (frame_of m ρ (dats m) (entry m) (post m ρ)))

end Cert.Kernel6Ideal.Down

end
-- ==== Proof.DownValue.lean ====
/- The Swi[gatePiece m c t 10 (by decide), gatePiece m c t 9 (by decide), gatePiece m c t 8 (by decide), gatePiece m c t 7 (by decide), gatePiece m c t 6 (by decide), gatePiece m c t 5 (by decide), gatePiece m c t 4 (by decide), gatePiece m c t 3 (by decide), gatePiece m c t 2 (by decide), gatePiece m c t 1 (by decide), gatePiece m c t 0 (by decide)]U gradient call: its two result arrays as functions of its argument arrays. -/
module

public import proofs.«01_k».proof.Proof.DownFrame
public import Idealize.ShloMosaic.Lib.Pipeline.ValueKit
public import Idealize.ShloMosaic.Lib.WholeRead

@[expose] public section

set_option maxRecDepth 16384

noncomputable section

namespace Cert.Kernel6Ideal.Down

open Cert.Kernel6Ideal Cert.Kernel6Ideal.Gen Idealize.ShloMosaic Idealize.ShloMosaic.TcCoe Idealize.SL.Sem
open Idealize.ShloMosaic.Pipeline (Dat)

section Blocks
variable {F : FTy → Type} [FloatOps F] (m : (ℓ : Loc nD τ sig) → Buf (Elt F) ℓ)

/-- What a point computes of 256 columns: the gate's gradient and the up projection's. -/
def gateBlk (x : Vec F S512x1024 .bf16) (w : Vec F S256x1024 .bf16) (g u : Vec F S512x256 .bf16) : FVec F S512x256 .bf16 :=
  k0_pay3 (k0_pay5 x w) g u (k0_pay6 g) (Scalar.ofBits .bf16 0x3F00#16)
def upBlk (x : Vec F S512x1024 .bf16) (w : Vec F S256x1024 .bf16) (g : Vec F S512x256 .bf16) : FVec F S512x256 .bf16 :=
  k0_pay4 (k0_pay5 x w) g (k0_pay6 g) (Scalar.ofBits .bf16 0x3F00#16)

theorem inC {k : ℕ} (h : k < 11) : ∀ a, (![0, 256 * k] : Fin 2 → ℕ) a + S512x256.size a ≤ S512x2816.size a := by
  intro a; fin_cases a <;> simp <;> omega
theorem inW {k : ℕ} (h : k < 11) : ∀ a, (![256 * k, 0] : Fin 2 → ℕ) a + S256x1024.size a ≤ S2816x1024.size a := by
  intro a; fin_cases a <;> simp <;> omega

/-- Columns `256 k …` of a block, and the weight's rows `256 k …`. -/
abbrev cols (k : ℕ) (h : k < 11) : Rect S512x2816 := Rect.unit ![0, 256 * k] S512x256.size (inC h)
abbrev rows (k : ℕ) (h : k < 11) : Rect S2816x1024 := Rect.unit ![256 * k, 0] S256x1024.size (inW h)

/-- The operands of one such piece as the body loads them. -/
def xs (c : Dev nD) (t : Fin cfg0.N) : Vec F S512x1024 .bf16 :=
  View.readAt (Elt F) (ms0_0 t).view (Rect.unit ![0, 0] S512x1024.size inb_S512x1024_S512x1024_0_0).toLoadRect ((hs0_0 t).unread (iblk m c 0 t))
def ws (c : Dev nD) (t : Fin cfg0.N) (k : ℕ) (h : k < 11) : Vec F S256x1024 .bf16 :=
  View.readAt (Elt F) (ms0_1 t).view (rows k h).toLoadRect ((hs0_1 t).unread (iblk m c 1 t))
def gs (c : Dev nD) (t : Fin cfg0.N) (k : ℕ) (h : k < 11) : Vec F S512x256 .bf16 :=
  (rslot0_0 (Ring.sl 3 t.val)).view.readCov [⟨Rect.whole S512x2816, ReadAs.same.apply (View.read (Elt F) (srcB0_0 (Ring.bk 16 t.val)).view (V m c main_arg1))⟩]
    (cols k h).toLoadRect
def us (c : Dev nD) (t : Fin cfg0.N) (k : ℕ) (h : k < 11) : Vec F S512x256 .bf16 :=
  (rslot0_1 (Ring.sl 3 t.val)).view.readCov [⟨Rect.whole S512x2816, ReadAs.same.apply (View.read (Elt F) (srcB0_1 (Ring.bk 16 t.val)).view (V m c main_arg2))⟩]
    (cols k h).toLoadRect

def gatePiece (c : Dev nD) (t : Fin cfg0.N) (k : ℕ) (h : k < 11) : View.Piece (Elt F) S512x2816 .bf16 :=
  ⟨cols k h, gateBlk (xs m c t) (ws m c t k h) (gs m c t k h) (us m c t k h)⟩
def upPiece (c : Dev nD) (t : Fin cfg0.N) (k : ℕ) (h : k < 11) : View.Piece (Elt F) S512x2816 .bf16 :=
  ⟨cols k h, upBlk (xs m c t) (ws m c t k h) (gs m c t k h)⟩

/-- Every point makes the same eleven stores into each block. -/
def pieces (c : Dev nD) (t : Fin cfg0.N) : Stores F × Stores F :=
  ([gatePiece m c t 10 (by decide), gatePiece m c t 9 (by decide), gatePiece m c t 8 (by decide), gatePiece m c t 7 (by decide), gatePiece m c t 6 (by decide), gatePiece m c t 5 (by decide), gatePiece m c t 4 (by decide), gatePiece m c t 3 (by decide), gatePiece m c t 2 (by decide), gatePiece m c t 1 (by decide), gatePiece m c t 0 (by decide)],
   [upPiece m c t 10 (by decide), upPiece m c t 9 (by decide), upPiece m c t 8 (by decide), upPiece m c t 7 (by decide), upPiece m c t 6 (by decide), upPiece m c t 5 (by decide), upPiece m c t 4 (by decide), upPiece m c t 3 (by decide), upPiece m c t 2 (by decide), upPiece m c t 1 (by decide), upPiece m c t 0 (by decide)])

theorem storesB_eq (c : Dev nD) (t : Fin cfg0.N) (h0 : t.val ≠ 0) (h1 : t.val < 14) : storesB m c t h0 h1 = pieces m c t := rfl
theorem storesC_eq (c : Dev nD) (t : Fin cfg0.N) (h0 : t.val ≠ 0) (h1 : ¬t.val < 14) : storesC m c t h0 h1 = pieces m c t := rfl
theorem storesA_eq (c : Dev nD) (t : Fin cfg0.N) (h0 : t.val = 0) (h1 : t.val < 14) : storesA m c t h0 h1 = pieces m c t := rfl

theorem stores_eq (c : Dev nD) (t : Fin cfg0.N) : stores m c t = pieces m c t := by
  unfold stores
  split_ifs with h1 h0
  · exact storesA_eq m c t h0 h1
  · exact storesB_eq m c t h0 h1
  · exact storesC_eq m c t _ h1

end Blocks

variable (Dy : FVec Ideal S8192x1024 .bf16) (Gt Up : FVec Ideal S8192x2816 .bf16) (W : FVec Ideal S1x2816x1024 .f32)

/-- One half and one, as the program spells them. -/
abbrev half : EReal := Ideal.ofBits .bf16 16128#16
abbrev one : EReal := Ideal.ofBits .bf16 16256#16

/-- The cotangent of the gated product: the output's against the weight's rows. -/
def da (r : Fin 8192) (j : Fin 2816) : EReal := ∑ k : Fin 1024, Dy (ix2 r k) * W (ix3 0 j k)
def sg (g : EReal) : EReal := half * Ideal.tanh (half * g) + half

/-- One element of the two gradients, from the product's cotangent, the gate and the up projection. -/
def gateAt (d g u : EReal) : EReal := d * sg g * u * (one + g * (one - sg g))
def upAt (d g : EReal) : EReal := d * sg g * g

def dg : FVec Ideal S8192x2816 .bf16 := fun i => gateAt (da Dy W (i 0) (i 1)) (Gt i) (Up i)
def du : FVec Ideal S8192x2816 .bf16 := fun i => upAt (da Dy W (i 0) (i 1)) (Gt i)

theorem idx : ∀ t : Fin cfg0.N, win0_0.index t = ![t.val, 0] ∧ win0_1.index t = ![0, 0] ∧ win0_2.index t = ![t.val, 0]
    ∧ win0_3.index t = ![t.val, 0] := (by decide +kernel : ∀ t : Fin grid0.N, _)

variable (m : (ℓ : Loc nD τ sig) → Buf (Elt Ideal) ℓ)

abbrev dgM (c : Dev nD) : FVec Ideal S8192x2816 .bf16 := dg (m ((c : Thread nD τ).loc main_arg0)) (m ((c : Thread nD τ).loc main_arg1))
  (m ((c : Thread nD τ).loc main_arg2)) (m ((c : Thread nD τ).loc main_arg3))
abbrev duM (c : Dev nD) : FVec Ideal S8192x2816 .bf16 := du (m ((c : Thread nD τ).loc main_arg0)) (m ((c : Thread nD τ).loc main_arg1))
  (m ((c : Thread nD τ).loc main_arg3))

/-- A piece's element, from its operands' elements. -/
theorem gateBlk_at (x : Vec Ideal S512x1024 .bf16) (w : Vec Ideal S256x1024 .bf16) (g u : Vec Ideal S512x256 .bf16) (r : Fin 512) (j : Fin 256) :
    gateBlk x w g u (ix2 r j) = gateAt (∑ k : Fin 1024, x (ix2 r k) * w (ix2 j k)) (g (ix2 r j)) (u (ix2 r j)) := by
  unfold gateBlk
  pointwise [k0_pay3, k0_pay2, k0_pay1, k0_pay5, k0_pay6, gateAt, sg]
theorem upBlk_at (x : Vec Ideal S512x1024 .bf16) (w : Vec Ideal S256x1024 .bf16) (g : Vec Ideal S512x256 .bf16) (r : Fin 512) (j : Fin 256) :
    upBlk x w g (ix2 r j) = upAt (∑ k : Fin 1024, x (ix2 r k) * w (ix2 j k)) (g (ix2 r j)) := by
  unfold upBlk
  pointwise [k0_pay4, k0_pay2, k0_pay1, k0_pay5, k0_pay6, upAt, sg]

/-- The row of the arrays a point's row is. -/
def row (t : Fin cfg0.N) (r : Fin 512) : Fin 8192 := ⟨t.val * 512 + r.val, by have := points t; omega⟩
def col (k : ℕ) (h : k < 11) (j : Fin 256) : Fin 2816 := ⟨256 * k + j.val, by omega⟩

theorem xs_at (c : Dev nD) (t : Fin cfg0.N) (r : Fin 512) (k : Fin 1024) :
    xs m c t (ix2 r k) = (m ((c : Thread nD τ).loc main_arg0) : FVec Ideal S8192x1024 .bf16) (ix2 (row t r) k) := by
  unfold xs
  rw [(hs0_0 t).readAt_unread]
  blk_point [iblk, V, idx t] <;> simp [LoadRect.idx, row, col]
theorem ws_at (c : Dev nD) (t : Fin cfg0.N) (k : ℕ) (h : k < 11) (j : Fin 256) (i : Fin 1024) :
    ws m c t k h (ix2 j i) = (m ((c : Thread nD τ).loc main_arg3) : FVec Ideal S1x2816x1024 .f32) (ix3 0 (col k h j) i) := by
  unfold ws
  rw [(hs0_1 t).readAt_unread]
  blk_point [iblk, V, idx t] <;> simp [LoadRect.idx, row, col]

/-- A ring's slot, filled by one whole copy and read through a box, gives the copied block there. -/
theorem slot_at (v : View sig .tc .vmem S512x2816 .bf16) (w : S512x2816.Idx → Elt Ideal .bf16) (k : ℕ) (h : k < 11) (r : Fin 512) (j : Fin 256) :
    v.readCov [⟨Rect.whole S512x2816, w⟩] (cols k h).toLoadRect (ix2 r j) = w (ix2 r (col k h j)) := by
  rw [View.readCov_eq_canon']
  have e := View.canon_cons_emb (Val := Elt Ideal) (Rect.whole S512x2816) w [] ((cols k h).idx (ix2 r j))
  rw [Rect.emb_whole_apply] at e
  refine e.trans (congrArg w (funext fun a => Fin.ext ?_))
  fin_cases a <;> simp [LoadRect.idx, col]

theorem gs_at (c : Dev nD) (t : Fin cfg0.N) (k : ℕ) (h : k < 11) (r : Fin 512) (j : Fin 256) :
    gs m c t k h (ix2 r j) = (m ((c : Thread nD τ).loc main_arg1) : FVec Ideal S8192x2816 .bf16) (ix2 (row t r) (col k h j)) := by
  unfold gs
  rw [slot_at, V_main_arg1]
  refine congrArg (m ((c : Thread nD τ).loc main_arg1)) (funext fun a => Fin.ext ?_)
  have hb := Ring.bk_val (points t)
  fin_cases a
  · show 512 * (Ring.bk 16 t.val).val + 1 * r.val = t.val * 512 + r.val
    rw [hb]; omega
  · show 0 + 1 * (256 * k + j.val) = 256 * k + j.val
    omega
theorem us_at (c : Dev nD) (t : Fin cfg0.N) (k : ℕ) (h : k < 11) (r : Fin 512) (j : Fin 256) :
    us m c t k h (ix2 r j) = (m ((c : Thread nD τ).loc main_arg2) : FVec Ideal S8192x2816 .bf16) (ix2 (row t r) (col k h j)) := by
  unfold us
  rw [slot_at, V_main_arg2]
  refine congrArg (m ((c : Thread nD τ).loc main_arg2)) (funext fun a => Fin.ext ?_)
  have hb := Ring.bk_val (points t)
  fin_cases a
  · show 512 * (Ring.bk 16 t.val).val + 1 * r.val = t.val * 512 + r.val
    rw [hb]; omega
  · show 0 + 1 * (256 * k + j.val) = 256 * k + j.val
    omega

/-- A piece's element is the whole array's function at the point's row and the piece's column. -/
theorem gatePiece_at (c : Dev nD) (t : Fin cfg0.N) (k : ℕ) (h : k < 11) (r : Fin 512) (j : Fin 256) :
    (gatePiece m c t k h).2 (ix2 r j) = dgM m c (ix2 (row t r) (col k h j)) := by
  refine (gateBlk_at _ _ _ _ r j).trans ?_
  simp only [xs_at, ws_at, gs_at, us_at]
  rfl
theorem upPiece_at (c : Dev nD) (t : Fin cfg0.N) (k : ℕ) (h : k < 11) (r : Fin 512) (j : Fin 256) :
    (upPiece m c t k h).2 (ix2 r j) = duM m c (ix2 (row t r) (col k h j)) := by
  refine (upBlk_at _ _ _ r j).trans ?_
  simp only [xs_at, ws_at, gs_at]
  rfl

/-- A block of pieces that all agree with one function of the block's indices is that function. -/
theorem made_at (G : S512x2816.Idx → EReal) (L : Stores Ideal)
    (hL : ∀ p ∈ L, ∃ k, ∃ h : k < 11, ∃ w : Vec Ideal S512x256 .bf16, p = ⟨cols k h, w⟩ ∧ ∀ r j, w (ix2 r j) = G (ix2 r (col k h j)))
    (y : S512x2816.Idx) (hy : ∃ p ∈ L, y ∈ p.1.set) : made L y = G y := by
  refine View.read_writes_apply_of_pieces _ _ G L (fun p hp x => ?_) y hy
  obtain ⟨k, h, w, rfl, hw⟩ := hL p hp
  obtain ⟨r, j, rfl⟩ : ∃ r j, x = ix2 r j := ⟨x 0, x 1, funext fun a => by fin_cases a <;> rfl⟩
  refine (hw r j).trans (congrArg G (funext fun a => Fin.ext ?_))
  fin_cases a
  · show r.val = 0 + 1 * r.val
    omega
  · show 256 * k + j.val = 256 * k + 1 * j.val
    omega

/-- The same of a point's eleven pieces: each agrees with the array's function at the point's rows. -/
theorem pieces_at (c : Dev nD) (t : Fin cfg0.N) :
    (∀ p ∈ (stores m c t).1, ∃ k, ∃ h : k < 11, ∃ w : Vec Ideal S512x256 .bf16, p = ⟨cols k h, w⟩ ∧ ∀ r j, w (ix2 r j) = dgM m c (ix2 (row t r) (col k h j)))
    ∧ ∀ p ∈ (stores m c t).2, ∃ k, ∃ h : k < 11, ∃ w : Vec Ideal S512x256 .bf16, p = ⟨cols k h, w⟩ ∧ ∀ r j, w (ix2 r j) = duM m c (ix2 (row t r) (col k h j)) := by
  rw [stores_eq]
  constructor
  · intro p hp
    obtain ⟨k, h, rfl⟩ : ∃ k, ∃ h : k < 11, p = gatePiece m c t k h := by
      simp only [pieces, List.mem_cons, List.not_mem_nil, or_false] at hp
      rcases hp with h | h | h | h | h | h | h | h | h | h | h <;> exact ⟨_, _, h⟩
    exact ⟨k, h, _, rfl, gatePiece_at m c t k h⟩
  · intro p hp
    obtain ⟨k, h, rfl⟩ : ∃ k, ∃ h : k < 11, p = upPiece m c t k h := by
      simp only [pieces, List.mem_cons, List.not_mem_nil, or_false] at hp
      rcases hp with h | h | h | h | h | h | h | h | h | h | h <;> exact ⟨_, _, h⟩
    exact ⟨k, h, _, rfl, upPiece_at m c t k h⟩

theorem final2 (c : Dev nD) : (dats m 0 c).arrAt 2 cfg0.N = dgM m c := by
  refine (dats m 0 c).arrAt_eq_of_covers 2 _ (by decide +kernel) fun t _ y => ?_
  blk_simp
  rw [after2]
  refine (made_at (fun y => dgM m c (ix2 (row t (y 0)) (y 1))) (stores m c t).1 (fun p hp => (pieces_at m c t).1 p hp) y (covers m c t y).1).trans ?_
  blk_point [idx t, row]

theorem final3 (c : Dev nD) : (dats m 0 c).arrAt 3 cfg0.N = duM m c := by
  refine (dats m 0 c).arrAt_eq_of_covers 3 _ (by decide +kernel) fun t _ y => ?_
  blk_simp
  rw [after3]
  refine (made_at (fun y => duM m c (ix2 (row t (y 0)) (y 1))) (stores m c t).2 (fun p hp => (pieces_at m c t).2 p hp) y (covers m c t y).2).trans ?_
  blk_point [idx t, row]

end Cert.Kernel6Ideal.Down

end
-- ==== Proof.Finite.lean ====
/- The precondition that every element of an array is finite, read at the ideal values: each element is a real number. -/
module

public import Idealize.ShloMosaic.Lib.Pipeline.ValueKit
public import Idealize.ShloMosaic.Lib.ReduceAll

@[expose] public section

namespace Cert.Finite

open Idealize.ShloMosaic

theorem real_of_abs_lt (x : EReal) (h : max x (-x) < ⊤) : ∃ r : ℝ, x = r := by
  induction x using EReal.rec with
  | bot => simp at h
  | top => simp at h
  | coe r => exact ⟨r, rfl⟩

/-- An array whose every magnitude is below infinity, as the precondition's operations say it, holds real numbers. -/
theorem real {S u t : Shape} {φ : FTy} {axes : List (Fin S.rank)} [Subsingleton t.Idx] (X B : FVec Ideal S φ) (hB : ∀ i, B i = (⊤ : EReal))
    (init : u.Idx → BitVec 1) (h : S.ReducesTo axes t) (hu : 0 < u.numel) (j : t.Idx)
    (e : Host.reduce IntOp.andi (cmpf .olt (Host.absf X) B) init h hu j = 1#1) (i : S.Idx) : ∃ r : ℝ, (X i : EReal) = r := by
  have h1 : Ideal.cmp .olt (max (X i) (-(X i))) (B i) = 1#1 := Host.reduce_andi_all _ init h hu j e i
  rw [hB] at h1
  refine real_of_abs_lt _ ?_
  by_contra hn
  simp [Ideal.cmp, hn] at h1

theorem inf32 : Ideal.ofBits .f32 0x7F800000#32 = ⊤ := by
  simp [Ideal.ofBits, Ideal.ieee]
theorem inf16 : Ideal.ofBits .bf16 0x7F80#16 = ⊤ := by
  simp [Ideal.ofBits, Ideal.ieee]

theorem and_one (a b : BitVec 1) (h : a &&& b = 1#1) : a = 1#1 ∧ b = 1#1 := by
  revert h; revert a b; decide

/-- A finite sum of products of real numbers is a real number. -/
theorem sum_mul {n : ℕ} (a b : Fin n → EReal) (ha : ∀ k, ∃ r : ℝ, a k = r) (hb : ∀ k, ∃ r : ℝ, b k = r) :
    ∃ r : ℝ, ∑ k, a k * b k = r := by
  choose a' ha using ha
  choose b' hb using hb
  refine ⟨∑ k, a' k * b' k, ?_⟩
  simp only [ha, hb, ← EReal.coe_mul]
  exact (map_sum (⟨⟨Real.toEReal, EReal.coe_zero⟩, EReal.coe_add⟩ : ℝ →+ EReal) _ _).symm

end Cert.Finite

end
-- ==== Proof.Sigmoid.lean ====
/- The logistic function through the hyperbolic tangent, on the extended reals, and the loss's constant factor. -/
module

public import Idealize.ShloMosaic.PureOps.Ideal

@[expose] public section

noncomputable section

namespace Cert.Sigmoid

open Idealize.ShloMosaic

theorem ofBits_half : Ideal.ofBits .f32 1056964608#32 = ((1 / 2 : ℝ) : EReal) := by
  simp [Ideal.ofBits, Ideal.ieee, -EReal.coe_mul]; norm_num
theorem ofBits_one : Ideal.ofBits .f32 1065353216#32 = 1 := by
  rw [← EReal.coe_one]
  simp [Ideal.ofBits, Ideal.ieee, -EReal.coe_mul]; norm_num
theorem ofBits_two : Ideal.ofBits .f32 1073741824#32 = ((2 : ℝ) : EReal) := by
  simp [Ideal.ofBits, Ideal.ieee, -EReal.coe_mul]; norm_num
theorem ofBits_width : Ideal.ofBits .f32 1149239296#32 = ((1024 : ℝ) : EReal) := by
  simp [Ideal.ofBits, Ideal.ieee, -EReal.coe_mul]; norm_num
theorem ofBits_scale : Ideal.ofBits .f32 981467136#32 = ((1 / 1024 : ℝ) : EReal) := by
  simp [Ideal.ofBits, Ideal.ieee, -EReal.coe_mul]; norm_num

/-- The logistic function of a real is half of one plus the tangent of half of it. -/
theorem real_eq (a : ℝ) : (1 + Real.exp (-a))⁻¹ = 1 / 2 * Real.tanh (1 / 2 * a) + 1 / 2 := by
  have hp := Real.exp_pos (1 / 2 * a)
  have h : Real.exp (-a) = (Real.exp (1 / 2 * a))⁻¹ * (Real.exp (1 / 2 * a))⁻¹ := by
    rw [← Real.exp_neg, ← Real.exp_add]; congr 1; ring
  rw [h, Real.tanh_eq_sinh_div_cosh, Real.sinh_eq, Real.cosh_eq, Real.exp_neg]
  generalize Real.exp (1 / 2 * a) = q at *
  field_simp
  ring

theorem eq_tanh (x : EReal) :
    Ideal.div 1 (1 + Ideal.exp (-x))
      = Ideal.ofBits .f32 1056964608#32 * Ideal.tanh (Ideal.ofBits .f32 1056964608#32 * x) + Ideal.ofBits .f32 1056964608#32 := by
  rw [ofBits_half]
  change Ideal.logistic x = _
  induction x using EReal.rec with
  | bot =>
    rw [Ideal.logistic_bot, EReal.coe_mul_bot_of_pos (by norm_num), Ideal.tanh_bot, ← EReal.coe_one, ← EReal.coe_neg, ← EReal.coe_mul,
      ← EReal.coe_add, ← EReal.coe_zero]
    congr 1; norm_num
  | coe a =>
    rw [Ideal.logistic_coe, ← EReal.coe_mul, Ideal.tanh_coe, ← EReal.coe_mul, ← EReal.coe_add, real_eq]
  | top =>
    rw [Ideal.logistic_top, EReal.coe_mul_top_of_pos (by norm_num), Ideal.tanh_top, ← EReal.coe_one, ← EReal.coe_mul, ← EReal.coe_add]
    congr 1; norm_num

/-- Half of a mean over the width, times the square's factor two. -/
theorem mean_factor (x : EReal) :
    Ideal.div (Ideal.ofBits .f32 1056964608#32) (Ideal.ofBits .f32 1149239296#32)
        * (Ideal.ofBits .f32 1073741824#32 * x) = x * Ideal.ofBits .f32 981467136#32 := by
  rw [ofBits_half, ofBits_width, ofBits_two, ofBits_scale, Ideal.div_coe (by norm_num), ← mul_assoc, mul_comm x]
  simp only [← EReal.coe_mul]
  congr 2
  norm_num

end Cert.Sigmoid

end
-- ==== Proof.DownEquation.lean ====
/- The SwiGLU gradient call: its result arrays are those of the plain derivative. -/
module

public import proofs.«01_k».proof.Proof.DownValue
public import proofs.«01_k».proof.Proof.Finite
public import proofs.«01_k».proof.Proof.Sigmoid
public import proofs.«01_k».proof.Proof.Gen.Reference6Ideal.Read
public import proofs.«01_k».proof.Defs

@[expose] public section

set_option maxRecDepth 16384

noncomputable section

namespace Cert.Kernel6Ideal.Down

open Cert.Reference6Ideal.Read Cert.Finite Cert.Sigmoid Idealize.ShloMosaic Idealize.ShloMosaic.TcCoe

theorem half_real : half = ((1 / 2 : ℝ) : EReal) := by
  simp [half, Ideal.ofBits, Ideal.ieee, -EReal.coe_mul]; norm_num
theorem one_real : one = 1 := by
  rw [← EReal.coe_one]
  simp [one, Ideal.ofBits, Ideal.ieee, -EReal.coe_mul]; norm_num

/-- The gate as the kernel spells it is a real number, whatever its argument. -/
theorem sg_real (g : EReal) : (∃ s : ℝ, sg g = s) ∧ (g = ⊥ → sg g = 0) ∧ (g = ⊤ → sg g = 1) := by
  unfold sg
  rw [half_real]
  induction g using EReal.rec with
  | bot =>
    rw [EReal.coe_mul_bot_of_pos (by norm_num), Ideal.tanh_bot, ← EReal.coe_one, ← EReal.coe_neg, ← EReal.coe_mul, ← EReal.coe_add]
    exact ⟨⟨_, rfl⟩, fun _ => by norm_num, fun h => absurd h (by simp)⟩
  | top =>
    rw [EReal.coe_mul_top_of_pos (by norm_num), Ideal.tanh_top, ← EReal.coe_one, ← EReal.coe_mul, ← EReal.coe_add]
    exact ⟨⟨_, rfl⟩, fun h => absurd h (by simp), fun _ => by norm_num⟩
  | coe r =>
    rw [← EReal.coe_mul, Ideal.tanh_coe, ← EReal.coe_mul, ← EReal.coe_add]
    exact ⟨⟨_, rfl⟩, fun h => absurd h (by simp), fun h => absurd h (by simp)⟩

/-- The gate's gradient: the kernel's factored form is the product rule's sum, the product's cotangent and the other factor real. -/
theorem gate_eq (d u : ℝ) (g : EReal) : gateAt d g u = d * u * sg g + g * (d * u) * (sg g * (1 - sg g)) := by
  obtain ⟨⟨s, hs⟩, hb, ht⟩ := sg_real g
  unfold gateAt
  rw [one_real]
  induction g using EReal.rec with
  | bot => rw [hb rfl]; simp
  | top =>
    rw [ht rfl, show (1 : EReal) - 1 = 0 by rw [← EReal.coe_one, ← EReal.coe_sub]; norm_num]
    simp
  | coe r =>
    rw [hs, ← EReal.coe_one]
    simp only [← EReal.coe_mul, ← EReal.coe_sub, ← EReal.coe_add]
    congr 1; ring

variable (Dy : FVec Ideal S8192x1024 .bf16) (Gt Up : FVec Ideal S8192x2816 .bf16) (W : FVec Ideal S1x2816x1024 .f32)

theorem ref_sg (i : S8192x2816.Idx) : val_main_v2_2 (F := Ideal) Gt i = sg (Gt i) := by
  pointwise [val_main_v2_2, val_main_call0_v0, val_main_call0_v1, val_main_call0_v2, val_main_call0_v3, val_main_call0_v4,
    val_main_call0_cst, val_main_call0_cst_0, val_main_v0, ofBits_one]
  rw [eq_tanh, ofBits_half, ← half_real]
  rfl
theorem ref_one (i : S8192x2816.Idx) : val_main_call0_v6 (F := Ideal) i = 1 := by
  pointwise [val_main_call0_v6, val_main_call0_cst_1]
theorem ref_da (i : S8192x2816.Idx) : val_main_v7 (F := Ideal) Dy W i = da Dy W (i 0) (i 1) := by
  rw [val_main_v7_apply]
  refine Finset.sum_congr rfl fun k _ => ?_
  rw [val_main_v6_apply, val_main_v4_apply]
  refine congrArg₂ (· * ·) (congrArg Dy (funext fun a => ?_)) (congrArg W (funext fun a => ?_))
  · match a with
    | ⟨0, _⟩ => rfl
    | ⟨1, _⟩ => rfl
  have h0 : (i 1).val < 2816 := (i 1).isLt
  have h1 := k.isLt
  match a with
  | ⟨0, _⟩ => rfl
  | ⟨1, _⟩ => exact Fin.ext (show ((i 1).val * 1024 + k.val) / 1024 % 2816 = (i 1).val by omega)
  | ⟨2, _⟩ => exact Fin.ext (show ((i 1).val * 1024 + k.val) % 1024 = k.val by omega)

/-- The up projection's gradient. -/
theorem ref12_fun : val_main_v12 (F := Ideal) Dy Gt W = du Dy Gt W := by
  funext i
  rw [val_main_v12_apply, val_main_v8_apply, val_main_v2_0_apply]
  show Gt i * val_main_v2_2 (F := Ideal) Gt i * val_main_v7 (F := Ideal) Dy W i = upAt (da Dy W (i 0) (i 1)) (Gt i)
  rw [ref_sg, ref_da, upAt, mul_assoc, mul_comm (sg _), mul_comm]

/-- The gate's gradient, at finite cotangent, up projection and weight. -/
theorem ref11_fun (hD : ∀ i, ∃ r : ℝ, Dy i = (r : EReal)) (hU : ∀ i, ∃ r : ℝ, Up i = (r : EReal)) (hW : ∀ i, ∃ r : ℝ, W i = (r : EReal)) :
    val_main_v11 (F := Ideal) Dy Gt Up W = dg Dy Gt Up W := by
  funext i
  obtain ⟨d, hd⟩ : ∃ d : ℝ, da Dy W (i 0) (i 1) = d := Finite.sum_mul _ _ (fun _ => hD _) (fun _ => hW _)
  obtain ⟨u, hu⟩ := hU i
  show val_main_v7 (F := Ideal) Dy W i * Up i * val_main_v2_2 (F := Ideal) Gt i
      + Gt i * (val_main_v7 (F := Ideal) Dy W i * Up i) * (val_main_v2_2 (F := Ideal) Gt i * (val_main_call0_v6 (F := Ideal) i - val_main_v2_2 (F := Ideal) Gt i))
    = gateAt (da Dy W (i 0) (i 1)) (Gt i) (Up i)
  rw [ref_sg, ref_da, ref_one, hd, hu, gate_eq]

/-- What the precondition says of the three arrays it names. -/
theorem finite_args [Cert.Pre_finite6.Facts]
    (h : Cert.Pre_finite6.fn (F := Ideal) Dy Gt Up W = fun _ => 1#1) :
    (∀ i, ∃ r : ℝ, Dy i = (r : EReal)) ∧ (∀ i, ∃ r : ℝ, Up i = (r : EReal)) ∧ (∀ i, ∃ r : ℝ, W i = (r : EReal)) := by
  have e := congrFun h ix0
  obtain ⟨e12, e3⟩ := and_one _ _ e
  obtain ⟨e1, e2⟩ := and_one _ _ e12
  exact ⟨Finite.real _ _ (fun _ => Finite.inf16) _ _ _ _ e1, Finite.real _ _ (fun _ => Finite.inf16) _ _ _ _ e2,
    Finite.real _ _ (fun _ => Finite.inf32) _ _ _ _ e3⟩

end Cert.Kernel6Ideal.Down

end
-- ==== Proof.SguBlock.lean ====
/- The spatial gating's gradient call: what one grid point leaves in each block, as functions of the blocks it reads. -/
module

public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

namespace Cert.Kernel2Ideal.Sgu

open Cert.Kernel2Ideal Cert.Kernel2Ideal.Gen Idealize.ShloMosaic Idealize.ShloMosaic.TcCoe Idealize.SL.Sem

variable {F : FTy → Type} [FloatOps F] [Named F] (m : (ℓ : Loc nD τ sig) → Buf (Elt F) ℓ)

/-- The blocks one grid point reads: both halves of the projection, the cotangent, the norm's gain and offset, the mixing
    weights and biases. -/
structure Ins (F : FTy → Type) where
  u : Vec F S512x512 .f32
  z : Vec F S512x512 .f32
  d : Vec F S512x512 .f32
  lng : Vec F S1x128 .f32
  lnb : Vec F S1x128 .f32
  w : Vec F S4x128x128 .f32
  b : Vec F S128x128 .f32

theorem inT {g c : ℕ} (hg : g < 4) (hc : c < 4) : ∀ a, (![128 * c, 128 * g] : Fin 2 → ℕ) a + S128x128.size a ≤ S512x512.size a := by
  intro a; fin_cases a <;> simp <;> omega
theorem inB {g : ℕ} (hg : g < 4) : ∀ a, (![0, g] : Fin 2 → ℕ) a + S128x1.size a ≤ S128x128.size a := by
  intro a; fin_cases a <;> simp <;> omega
theorem inW {g : ℕ} (hg : g < 4) : ∀ a, (![g, 0, 0] : Fin 3 → ℕ) a + S1x128x128.size a ≤ S4x128x128.size a := by
  intro a; fin_cases a <;> simp <;> omega
theorem inO {k g c : ℕ} (hk : k < 2) (hg : g < 4) (hc : c < 4) :
    ∀ a, (![k, 128 * c, 128 * g] : Fin 3 → ℕ) a + S1x128x128.size a ≤ S2x512x512.size a := by
  intro a; fin_cases a <;> simp <;> omega

/-- Group `g`'s columns at chunk `c`'s rows, its bias column, its weight, and its tile of either half of the result. -/
abbrev tile (g c : ℕ) (hg : g < 4) (hc : c < 4) : Rect S512x512 := Rect.unit ![128 * c, 128 * g] S128x128.size (inT hg hc)
abbrev bias (g : ℕ) (hg : g < 4) : Rect S128x128 := Rect.unit ![0, g] S128x1.size (inB hg)
abbrev grp (g : ℕ) (hg : g < 4) : Rect S4x128x128 := Rect.unit ![g, 0, 0] S1x128x128.size (inW hg)
abbrev half (k g c : ℕ) (hk : k < 2) (hg : g < 4) (hc : c < 4) : Rect S2x512x512 := Rect.unit ![k, 128 * c, 128 * g] S1x128x128.size (inO hk hg hc)

variable (X : Ins F)

def ut (g c : ℕ) (hg : g < 4) (hc : c < 4) : Vec F S128x128 .f32 := View.ld X.u (tile g c hg hc)
def zt (g c : ℕ) (hg : g < 4) (hc : c < 4) : Vec F S128x128 .f32 := View.ld X.z (tile g c hg hc)
def dt (g c : ℕ) (hg : g < 4) (hc : c < 4) : Vec F S128x128 .f32 := View.ld X.d (tile g c hg hc)
def wt (g : ℕ) (hg : g < 4) : FVec F S128x128 .f32 := k0_pay12 (View.ld X.w (grp g hg))
def dmix (g c : ℕ) (hg : g < 4) (hc : c < 4) : FVec F S128x128 .f32 := k0_pay23 (ut X g c hg hc) (dt X g c hg hc)

/-- One tile's two results, and what it adds to each running sum. -/
def duT (g c : ℕ) (hg : g < 4) (hc : c < 4) : FVec F S1x128x128 .bf16 :=
  k0_pay22 (ut X g c hg hc) (dt X g c hg hc) (k0_pay19 X.lng X.lnb (wt X g hg) (zt X g c hg hc)) (k0_pay20 (View.ld X.b (bias g hg)))
def dzT (g c : ℕ) (hg : g < 4) (hc : c < 4) : FVec F S1x128x128 .bf16 :=
  k0_pay32 (k0_pay31 X.lng (zt X g c hg hc) (k0_pay14 (zt X g c hg hc)) (k0_pay16 (zt X g c hg hc)) (k0_pay17 (zt X g c hg hc))
    (k0_pay27 (k0_pay13 (wt X g hg)) (dmix X g c hg hc)))
def dwT (g c : ℕ) (hg : g < 4) (hc : c < 4) (a : Vec F S1x128x128 .f32) : FVec F S1x128x128 .f32 :=
  k0_pay25 (k0_pay18 X.lng X.lnb (zt X g c hg hc)) (dmix X g c hg hc) a
def dbT (g c : ℕ) (hg : g < 4) (hc : c < 4) (a : Vec F S1x128x128 .f32) : FVec F S1x128x128 .f32 := k0_pay26 (dmix X g c hg hc) a
def dlgT (g c : ℕ) (hg : g < 4) (hc : c < 4) (a : Vec F S1x128 .f32) : FVec F S1x128 .f32 :=
  k0_pay28 (k0_pay13 (wt X g hg)) (k0_pay17 (zt X g c hg hc)) (dmix X g c hg hc) a
def dlbT (g c : ℕ) (hg : g < 4) (hc : c < 4) (a : Vec F S1x128 .f32) : FVec F S1x128 .f32 :=
  k0_pay30 (k0_pay29 (k0_pay13 (wt X g hg)) (dmix X g c hg hc) a)

/-- A running sum of one group's after its chunks up to `c`. -/
def chunks (f : (c : ℕ) → c < 4 → Vec F S1x128x128 .f32 → FVec F S1x128x128 .f32) (a : Vec F S1x128x128 .f32) : (c : ℕ) → c < 4 → FVec F S1x128x128 .f32
  | 0, h => f 0 h a
  | c + 1, h => f (c + 1) h (chunks f a c (by omega))

def duzP (g c : ℕ) (hg : g < 4) (hc : c < 4) : List (View.Piece (Elt F) S2x512x512 .bf16) :=
  [⟨half 1 g c (by decide) hg hc, dzT X g c hg hc⟩, ⟨half 0 g c (by decide) hg hc, duT X g c hg hc⟩]
def dwP (o : Vec F S4x128x128 .f32) (g c : ℕ) (hg : g < 4) (hc : c < 4) : View.Piece (Elt F) S4x128x128 .f32 :=
  ⟨grp g hg, chunks (fun c hc => dwT X g c hg hc) (View.ld o (grp g hg)) c hc⟩
def dbP (o : Vec F S4x128x128 .f32) (g c : ℕ) (hg : g < 4) (hc : c < 4) : View.Piece (Elt F) S4x128x128 .f32 :=
  ⟨grp g hg, chunks (fun c hc => dbT X g c hg hc) (View.ld o (grp g hg)) c hc⟩

/-- The whole buffer's piece. -/
def zeroP (o : Vec F S4x128x128 .f32) : View.Piece (Elt F) S4x128x128 .f32 :=
  ⟨Rect.unit ![0, 0, 0] S4x128x128.size (by intro a; fin_cases a <;> simp), o⟩

/-- The sixteen tiles, the last stored first. -/
abbrev tiles {A : Type} (f : (g c : ℕ) → g < 4 → c < 4 → A) : List A :=
  [f 3 3 (by decide) (by decide), f 3 2 (by decide) (by decide), f 3 1 (by decide) (by decide), f 3 0 (by decide) (by decide), f 2 3 (by decide) (by decide), f 2 2 (by decide) (by decide), f 2 1 (by decide) (by decide), f 2 0 (by decide) (by decide), f 1 3 (by decide) (by decide), f 1 2 (by decide) (by decide), f 1 1 (by decide) (by decide), f 1 0 (by decide) (by decide), f 0 3 (by decide) (by decide), f 0 2 (by decide) (by decide), f 0 1 (by decide) (by decide), f 0 0 (by decide) (by decide)]
/-- A running sum of all groups' after the sixteen tiles. -/
abbrev sweep {A : Type} (f : (g c : ℕ) → g < 4 → c < 4 → A → A) (a : A) : A :=
  f 3 3 (by decide) (by decide) (f 3 2 (by decide) (by decide) (f 3 1 (by decide) (by decide) (f 3 0 (by decide) (by decide) (f 2 3 (by decide) (by decide) (f 2 2 (by decide) (by decide) (f 2 1 (by decide) (by decide) (f 2 0 (by decide) (by decide) (f 1 3 (by decide) (by decide) (f 1 2 (by decide) (by decide) (f 1 1 (by decide) (by decide) (f 1 0 (by decide) (by decide) (f 0 3 (by decide) (by decide) (f 0 2 (by decide) (by decide) (f 0 1 (by decide) (by decide) (f 0 0 (by decide) (by decide) a)))))))))))))))

/-- A grid point's blocks. -/
abbrev ins (c : Dev nD) (t : Fin cfg0.N) : Ins F := ⟨iblk m c 0 t, iblk m c 1 t, iblk m c 2 t, iblk m c 3 t, iblk m c 4 t, iblk m c 5 t, iblk m c 6 t⟩

set_option maxHeartbeats 2000000
theorem at11_A (c : Dev nD) (t : Fin cfg0.N) (h : t.val % 16 = 0) :
    (outsAt0 m c t.val t.isLt).1 = View.canon (tiles (duzP (ins m c t))).flatten := by
  rw [outsAt0_A m c t h (by omega)]
  generalize (outsAt0 m c (t.val - 1) (Nat.lt_of_le_of_lt (Nat.sub_le _ _) t.isLt)) = o
  unfold ins
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  frame_out
  rfl
theorem at12_A (c : Dev nD) (t : Fin cfg0.N) (h : t.val % 16 = 0) :
    (outsAt0 m c t.val t.isLt).2.1 = View.canon (tiles (dwP (ins m c t) (k0_pay3 (F := F))) ++ [zeroP (k0_pay3 (F := F))]) := by
  rw [outsAt0_A m c t h (by omega)]
  generalize (outsAt0 m c (t.val - 1) (Nat.lt_of_le_of_lt (Nat.sub_le _ _) t.isLt)) = o
  unfold ins
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  frame_out [View.readCov_cons_toLoadRect, View.readCov_skip, View.readCov_fill, read_unread_whole]
  rfl
theorem at14_A (c : Dev nD) (t : Fin cfg0.N) (h : t.val % 16 = 0) :
    (outsAt0 m c t.val t.isLt).2.2.2.1 = sweep (dlgT (ins m c t)) k0_pay5 := by
  rw [outsAt0_A m c t h (by omega)]
  generalize (outsAt0 m c (t.val - 1) (Nat.lt_of_le_of_lt (Nat.sub_le _ _) t.isLt)) = o
  unfold ins
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  frame_out
  rfl
theorem at15_A (c : Dev nD) (t : Fin cfg0.N) (h : t.val % 16 = 0) :
    (outsAt0 m c t.val t.isLt).2.2.2.2.1 = sweep (dlbT (ins m c t)) k0_pay6 := by
  rw [outsAt0_A m c t h (by omega)]
  generalize (outsAt0 m c (t.val - 1) (Nat.lt_of_le_of_lt (Nat.sub_le _ _) t.isLt)) = o
  unfold ins
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  frame_out
  rfl
theorem at20_A (c : Dev nD) (t : Fin cfg0.N) (h : t.val % 16 = 0) :
    (outsAt0 m c t.val t.isLt).2.2.2.2.2.2.2 = View.canon (tiles (dbP (ins m c t) k0_pay9) ++ [zeroP k0_pay9]) := by
  rw [outsAt0_A m c t h (by omega)]
  generalize (outsAt0 m c (t.val - 1) (Nat.lt_of_le_of_lt (Nat.sub_le _ _) t.isLt)) = o
  unfold ins
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  frame_out [View.readCov_cons_toLoadRect, View.readCov_skip, View.readCov_fill, read_unread_whole]
  rfl
theorem at11_B (c : Dev nD) (t : Fin cfg0.N) (h : ¬t.val % 16 = 0) (h1 : ¬t.val % 16 = 15) :
    (outsAt0 m c t.val t.isLt).1 = View.canon (tiles (duzP (ins m c t))).flatten := by
  rw [outsAt0_B m c t h h1]
  generalize (outsAt0 m c (t.val - 1) (Nat.lt_of_le_of_lt (Nat.sub_le _ _) t.isLt)) = o
  unfold ins
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  frame_out
  rfl
theorem at12_B (c : Dev nD) (t : Fin cfg0.N) (h : ¬t.val % 16 = 0) (h1 : ¬t.val % 16 = 15) :
    (outsAt0 m c t.val t.isLt).2.1 = View.canon (tiles (dwP (ins m c t) (outsAt0 m c (t.val - 1) (Nat.lt_of_le_of_lt (Nat.sub_le _ _) t.isLt)).2.1)) := by
  rw [outsAt0_B m c t h h1]
  generalize (outsAt0 m c (t.val - 1) (Nat.lt_of_le_of_lt (Nat.sub_le _ _) t.isLt)) = o
  unfold ins
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  frame_out [View.readCov_cons_toLoadRect, View.readCov_skip, View.readCov_fill, read_unread_whole]
  rfl
theorem at14_B (c : Dev nD) (t : Fin cfg0.N) (h : ¬t.val % 16 = 0) (h1 : ¬t.val % 16 = 15) :
    (outsAt0 m c t.val t.isLt).2.2.2.1 = sweep (dlgT (ins m c t)) (outsAt0 m c (t.val - 1) (Nat.lt_of_le_of_lt (Nat.sub_le _ _) t.isLt)).2.2.2.1 := by
  rw [outsAt0_B m c t h h1]
  generalize (outsAt0 m c (t.val - 1) (Nat.lt_of_le_of_lt (Nat.sub_le _ _) t.isLt)) = o
  unfold ins
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  frame_out
  rfl
theorem at15_B (c : Dev nD) (t : Fin cfg0.N) (h : ¬t.val % 16 = 0) (h1 : ¬t.val % 16 = 15) :
    (outsAt0 m c t.val t.isLt).2.2.2.2.1 = sweep (dlbT (ins m c t)) (outsAt0 m c (t.val - 1) (Nat.lt_of_le_of_lt (Nat.sub_le _ _) t.isLt)).2.2.2.2.1 := by
  rw [outsAt0_B m c t h h1]
  generalize (outsAt0 m c (t.val - 1) (Nat.lt_of_le_of_lt (Nat.sub_le _ _) t.isLt)) = o
  unfold ins
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  frame_out
  rfl
theorem at20_B (c : Dev nD) (t : Fin cfg0.N) (h : ¬t.val % 16 = 0) (h1 : ¬t.val % 16 = 15) :
    (outsAt0 m c t.val t.isLt).2.2.2.2.2.2.2 = View.canon (tiles (dbP (ins m c t) (outsAt0 m c (t.val - 1) (Nat.lt_of_le_of_lt (Nat.sub_le _ _) t.isLt)).2.2.2.2.2.2.2)) := by
  rw [outsAt0_B m c t h h1]
  generalize (outsAt0 m c (t.val - 1) (Nat.lt_of_le_of_lt (Nat.sub_le _ _) t.isLt)) = o
  unfold ins
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  frame_out [View.readCov_cons_toLoadRect, View.readCov_skip, View.readCov_fill, read_unread_whole]
  rfl
theorem at11_C (c : Dev nD) (t : Fin cfg0.N) (h : ¬t.val % 16 = 0) (h1 : t.val % 16 = 15) :
    (outsAt0 m c t.val t.isLt).1 = View.canon (tiles (duzP (ins m c t))).flatten := by
  rw [outsAt0_C m c t h h1]
  generalize (outsAt0 m c (t.val - 1) (Nat.lt_of_le_of_lt (Nat.sub_le _ _) t.isLt)) = o
  unfold ins
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  frame_out
  rfl
theorem at12_C (c : Dev nD) (t : Fin cfg0.N) (h : ¬t.val % 16 = 0) (h1 : t.val % 16 = 15) :
    (outsAt0 m c t.val t.isLt).2.1 = View.canon (tiles (dwP (ins m c t) (outsAt0 m c (t.val - 1) (Nat.lt_of_le_of_lt (Nat.sub_le _ _) t.isLt)).2.1)) := by
  rw [outsAt0_C m c t h h1]
  generalize (outsAt0 m c (t.val - 1) (Nat.lt_of_le_of_lt (Nat.sub_le _ _) t.isLt)) = o
  unfold ins
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  frame_out [View.readCov_cons_toLoadRect, View.readCov_skip, View.readCov_fill, read_unread_whole]
  rfl
theorem at14_C (c : Dev nD) (t : Fin cfg0.N) (h : ¬t.val % 16 = 0) (h1 : t.val % 16 = 15) :
    (outsAt0 m c t.val t.isLt).2.2.2.1 = sweep (dlgT (ins m c t)) (outsAt0 m c (t.val - 1) (Nat.lt_of_le_of_lt (Nat.sub_le _ _) t.isLt)).2.2.2.1 := by
  rw [outsAt0_C m c t h h1]
  generalize (outsAt0 m c (t.val - 1) (Nat.lt_of_le_of_lt (Nat.sub_le _ _) t.isLt)) = o
  unfold ins
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  frame_out
  rfl
theorem at15_C (c : Dev nD) (t : Fin cfg0.N) (h : ¬t.val % 16 = 0) (h1 : t.val % 16 = 15) :
    (outsAt0 m c t.val t.isLt).2.2.2.2.1 = sweep (dlbT (ins m c t)) (outsAt0 m c (t.val - 1) (Nat.lt_of_le_of_lt (Nat.sub_le _ _) t.isLt)).2.2.2.2.1 := by
  rw [outsAt0_C m c t h h1]
  generalize (outsAt0 m c (t.val - 1) (Nat.lt_of_le_of_lt (Nat.sub_le _ _) t.isLt)) = o
  unfold ins
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  frame_out
  rfl
theorem at20_C (c : Dev nD) (t : Fin cfg0.N) (h : ¬t.val % 16 = 0) (h1 : t.val % 16 = 15) :
    (outsAt0 m c t.val t.isLt).2.2.2.2.2.2.2 = View.canon (tiles (dbP (ins m c t) (outsAt0 m c (t.val - 1) (Nat.lt_of_le_of_lt (Nat.sub_le _ _) t.isLt)).2.2.2.2.2.2.2)) := by
  rw [outsAt0_C m c t h h1]
  generalize (outsAt0 m c (t.val - 1) (Nat.lt_of_le_of_lt (Nat.sub_le _ _) t.isLt)) = o
  unfold ins
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  frame_out [View.readCov_cons_toLoadRect, View.readCov_skip, View.readCov_fill, read_unread_whole]
  rfl
/-- The biases' gradient at the last point: each group's row of the running sum, summed along the row. -/
theorem at13_C (c : Dev nD) (t : Fin cfg0.N) (h : ¬t.val % 16 = 0) (h1 : t.val % 16 = 15) :
    (outsAt0 m c t.val t.isLt).2.2.1 = k0_pay1 (k0_pay2 (dbP (ins m c t) (outsAt0 m c (t.val - 1) (Nat.lt_of_le_of_lt (Nat.sub_le _ _) t.isLt)).2.2.2.2.2.2.2 0 3 (by decide) (by decide)).2 (dbP (ins m c t) (outsAt0 m c (t.val - 1) (Nat.lt_of_le_of_lt (Nat.sub_le _ _) t.isLt)).2.2.2.2.2.2.2 1 3 (by decide) (by decide)).2 (dbP (ins m c t) (outsAt0 m c (t.val - 1) (Nat.lt_of_le_of_lt (Nat.sub_le _ _) t.isLt)).2.2.2.2.2.2.2 2 3 (by decide) (by decide)).2 (dbP (ins m c t) (outsAt0 m c (t.val - 1) (Nat.lt_of_le_of_lt (Nat.sub_le _ _) t.isLt)).2.2.2.2.2.2.2 3 3 (by decide) (by decide)).2) := by
  rw [outsAt0_C m c t h h1]
  generalize (outsAt0 m c (t.val - 1) (Nat.lt_of_le_of_lt (Nat.sub_le _ _) t.isLt)) = o
  unfold ins
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  frame_out [View.readCov_cons_toLoadRect, View.readCov_skip, View.readCov_fill, read_unread_whole]
  rfl

theorem grp_skip {g g' : ℕ} (hg : g < 4) (hg' : g' < 4) (hn : g ≠ g') (x : S1x128x128.Idx) : (grp g hg).emb x ∉ (grp g' hg').set := by
  intro hm
  obtain ⟨y, hy⟩ := (grp g' hg').exists_idx_of_mem hm
  have h0 : g' + 1 * (y 0).val = g + 1 * (x 0).val := congrArg Fin.val (congrFun hy 0)
  have h1 : (y 0).val < 1 := (y 0).isLt
  have h2 : (x 0).val < 1 := (x 0).isLt
  omega

theorem row_skip {g : ℕ} (g' : ℕ) (hg : g < 4) (hg' : g' < 4) (hn : g ≠ g') (w : FVec F S1x128x128 .f32) (L : List (View.Piece (Elt F) S4x128x128 .f32))
    (x : S1x128x128.Idx) : View.canon ((⟨grp g' hg', w⟩ : View.Piece (Elt F) S4x128x128 .f32) :: L) ((grp g hg).emb x) = View.canon L ((grp g hg).emb x) :=
  View.canon_cons_of_not_mem _ L (grp_skip hg hg' hn x)

/-- A running sum's buffer after the sixteen tiles: each group's row holds its last chunk's value. -/
theorem canon_rows (f : (g c : ℕ) → g < 4 → c < 4 → FVec F S1x128x128 .f32) (L : List (View.Piece (Elt F) S4x128x128 .f32))
    (g : ℕ) (hg : g < 4) (x : S1x128x128.Idx) :
    View.canon ((tiles fun g c hg hc => (⟨grp g hg, f g c hg hc⟩ : View.Piece (Elt F) S4x128x128 .f32)) ++ L) ((grp g hg).emb x) = f g 3 hg (by decide) x := by
  match g, hg with
  | 3, hg => exact View.canon_cons_emb _ _ _ _
  | 2, hg =>
    iterate 4 refine (row_skip _ hg _ (by decide) _ _ x).trans ?_
    exact View.canon_cons_emb _ _ _ _
  | 1, hg =>
    iterate 8 refine (row_skip _ hg _ (by decide) _ _ x).trans ?_
    exact View.canon_cons_emb _ _ _ _
  | 0, hg =>
    iterate 12 refine (row_skip _ hg _ (by decide) _ _ x).trans ?_
    exact View.canon_cons_emb _ _ _ _

end Cert.Kernel2Ideal.Sgu

end
-- ==== Proof.SguReal.lean ====
/- The spatial gating's gradient over the real numbers: the smooth gate and its slope, the norm of a row of one group, the causal mixing
   of a chunk's rows, and their derivatives, as functions of a row's or a chunk's entries. -/
module

public import Idealize.ShloMosaic.Lib.StableHlo
public import Idealize.ShloMosaic.PureOps
public import Idealize.ShloMosaic.Lib.Pointwise

@[expose] public section

noncomputable section

namespace Cert.SguReal

open Idealize.ShloMosaic

/-- The literals the programs spell: the gate's factor and the norm's offset. -/
def fac : ℝ := 13386282 / 16777216
def off : ℝ := 8796093 / 8796093022208

theorem fac_bits : Ideal.ofBits .f32 0x3F4C422A#32 = ((fac : ℝ) : EReal) := by
  simp [fac, Ideal.ofBits, Ideal.ieee, -EReal.coe_mul]; norm_num
theorem off_bits : Ideal.ofBits .f32 0x358637BD#32 = ((off : ℝ) : EReal) := by
  simp [off, Ideal.ofBits, Ideal.ieee, -EReal.coe_mul]; norm_num
theorem half_bits : Ideal.ofBits .f32 0x3F000000#32 = ((1 / 2 : ℝ) : EReal) := by
  simp [Ideal.ofBits, Ideal.ieee, -EReal.coe_mul]; norm_num
theorem neg_half_bits : Ideal.ofBits .f32 0xBF000000#32 = ((-(1 / 2) : ℝ) : EReal) := by
  simp [Ideal.ofBits, Ideal.ieee, -EReal.coe_mul]; norm_num
theorem one_bits : Ideal.ofBits .f32 0x3F800000#32 = ((1 : ℝ) : EReal) := by
  simp [Ideal.ofBits, Ideal.ieee, -EReal.coe_mul]; norm_num
theorem three_bits : Ideal.ofBits .f32 0x40400000#32 = ((3 : ℝ) : EReal) := by
  simp [Ideal.ofBits, Ideal.ieee, -EReal.coe_mul]; norm_num
theorem width_bits : Ideal.ofBits .f32 0x43000000#32 = ((128 : ℝ) : EReal) := by
  simp [Ideal.ofBits, Ideal.ieee, -EReal.coe_mul]; norm_num
theorem num_bits : Ideal.ofBits .f32 0x472EAB00#32 = ((44715 : ℝ) : EReal) := by
  simp [Ideal.ofBits, Ideal.ieee, -EReal.coe_mul]; norm_num
theorem den_bits : Ideal.ofBits .f32 0x49742400#32 = ((1000000 : ℝ) : EReal) := by
  simp [Ideal.ofBits, Ideal.ieee, -EReal.coe_mul]; norm_num

/-- A sum of real numbers, taken in the extended reals. -/
theorem coe_sum {ι : Type} [Fintype ι] (f : ι → ℝ) : ∑ k, ((f k : ℝ) : EReal) = ((∑ k, f k : ℝ) : EReal) :=
  (map_sum (⟨⟨Real.toEReal, EReal.coe_zero⟩, EReal.coe_add⟩ : ℝ →+ EReal) _ _).symm

/-- The causal mask as the programs compute it, from the two coordinates. -/
theorem mask_word : ∀ i k : Fin 128, IntOp.cmpi CmpIPredicate.sge (BitVec.ofNat 32 i.val) (BitVec.ofNat 32 k.val) = if k ≤ i then 1#1 else 0#1 := by
  decide +kernel
theorem mask (i k : Fin 128) (x y : EReal) :
    Scalar.select (IntOp.cmpi CmpIPredicate.sge (BitVec.ofNat 32 i.val) (BitVec.ofNat 32 k.val)) x y = if k ≤ i then x else y := by
  rw [mask_word]
  by_cases h : k ≤ i
  · rw [if_pos h, if_pos h]; rfl
  · rw [if_neg h, if_neg h]; rfl

/-- The smooth gate, its inner tangent and its slope. -/
def th (x : ℝ) : ℝ := Real.tanh (fac * (x + 8943 / 200000 * x * x * x))
def gl (x : ℝ) : ℝ := 1 / 2 * x * (1 + th x)
def gd (x : ℝ) : ℝ := 1 / 2 * (1 + th x) + 1 / 2 * x * (1 - th x * th x) * (fac * (1 + 26829 / 200000 * x * x))

/-- One group's row: the gated row less its mean, the reciprocal root of its mean square, the normed row, and with gain and offset. -/
def xc (z : Fin 128 → ℝ) (j : Fin 128) : ℝ := gl (z j) - (∑ k, gl (z k)) * (1 / 128)
def ms (z : Fin 128 → ℝ) : ℝ := (∑ k, xc z k * xc z k) * (1 / 128) + off
def rs (z : Fin 128 → ℝ) : ℝ := (Real.sqrt (ms z))⁻¹
def xh (z : Fin 128 → ℝ) (j : Fin 128) : ℝ := xc z j * rs z
def zn (lg lb z : Fin 128 → ℝ) (j : Fin 128) : ℝ := xh z j * lg j + lb j

theorem sum_xc (z : Fin 128 → ℝ) : ∑ k, xc z k = 0 := by
  unfold xc
  rw [Finset.sum_sub_distrib, Finset.sum_const, Finset.card_univ, Fintype.card_fin]
  ring

theorem ms_pos (z : Fin 128 → ℝ) : 0 < ms z := by
  have : 0 ≤ ∑ k, xc z k * xc z k := Finset.sum_nonneg fun k _ => mul_self_nonneg _
  unfold ms off
  positivity

/-- A chunk: the causal weights, the mixed rows, and the gradients of the mixing. -/
def wm (w : Fin 128 → Fin 128 → ℝ) (i k : Fin 128) : ℝ := if k ≤ i then w i k else 0
def mix (lg lb b : Fin 128 → ℝ) (w z : Fin 128 → Fin 128 → ℝ) (i j : Fin 128) : ℝ := (∑ k, wm w i k * zn lg lb (z k) j) + b i
def dm (u d : ℝ) : ℝ := d * gl u
def dz (w u d : Fin 128 → Fin 128 → ℝ) (k j : Fin 128) : ℝ := ∑ i, wm w i k * dm (u i j) (d i j)
def dw (lg lb : Fin 128 → ℝ) (z u d : Fin 128 → Fin 128 → ℝ) (i k : Fin 128) : ℝ :=
  if k ≤ i then ∑ j, dm (u i j) (d i j) * zn lg lb (z k) j else 0
def du (lg lb b : Fin 128 → ℝ) (w z u d : Fin 128 → Fin 128 → ℝ) (i j : Fin 128) : ℝ := d i j * mix lg lb b w z i j * gd (u i j)

/-- The norm's gradient along one row, through the gate. -/
def back (lg z dn : Fin 128 → ℝ) (j : Fin 128) : ℝ :=
  rs z * (dn j * lg j - (∑ k, dn k * lg k) * (1 / 128) - xh z j * ((∑ k, dn k * lg k * xh z k) * (1 / 128))) * gd (z j)

theorem rs_div (z : Fin 128 → ℝ) : 1 / ms z = rs z * rs z := by
  rw [rs, ← mul_inv, Real.mul_self_sqrt (ms_pos z).le, one_div]

/-- The norm's gradient as the chain rule spells it, one term for the row, two for its mean square and one for its mean. -/
theorem chain (lg z dn : Fin 128 → ℝ) (j : Fin 128) (s : ℝ)
    (hs : s = (∑ k, xc z k * (dn k * lg k)) * (-(1 / 2) * (rs z * (1 / ms z))) * (1 / 128)) :
    (dn j * lg j * rs z + xc z j * s + s * xc z j) + (∑ k, -(dn k * lg k * rs z + xc z k * s + s * xc z k)) * (1 / 128) =
      rs z * (dn j * lg j - (∑ k, dn k * lg k) * (1 / 128) - xh z j * ((∑ k, dn k * lg k * xh z k) * (1 / 128))) := by
  have e1 : ∑ k, -(dn k * lg k * rs z + xc z k * s + s * xc z k) = -(∑ k, dn k * lg k) * rs z := by
    rw [Finset.sum_neg_distrib, Finset.sum_add_distrib, Finset.sum_add_distrib, ← Finset.sum_mul, ← Finset.sum_mul, ← Finset.mul_sum, sum_xc]
    ring
  have e2 : ∑ k, dn k * lg k * xh z k = (∑ k, xc z k * (dn k * lg k)) * rs z := by
    rw [Finset.sum_mul]
    exact Finset.sum_congr rfl fun k _ => by unfold xh; ring
  rw [e1, e2, hs, rs_div, xh]
  ring

/-- The call's real arguments: the projection, the cotangent, the norm's gain and offset, the mixing weights and biases. -/
structure Arr where
  p : Fin 8192 → Fin 2560 → ℝ
  q : Fin 8192 → Fin 512 → ℝ
  lg : Fin 128 → ℝ
  lb : Fin 128 → ℝ
  w : Fin 4 → Fin 128 → Fin 128 → ℝ
  b : Fin 4 → Fin 128 → ℝ

/-- Row `i` of chunk `n`, and column `j` of group `g`. -/
abbrev row (n : Fin 64) (i : Fin 128) : Fin 8192 := ⟨n.val * 128 + i.val, by omega⟩
abbrev col (g : Fin 4) (j : Fin 128) : Fin 512 := ⟨g.val * 128 + j.val, by omega⟩

namespace Arr

variable (R : Arr) (n : Fin 64) (g : Fin 4)

/-- One group's columns of one chunk, and what the call computes from them. -/
def u (i j : Fin 128) : ℝ := R.p (row n i) ⟨1536 + (col g j).val, by omega⟩
def z (i j : Fin 128) : ℝ := R.p (row n i) ⟨2048 + (col g j).val, by omega⟩
def d (i j : Fin 128) : ℝ := R.q (row n i) (col g j)
def dmT (i j : Fin 128) : ℝ := dm (R.u n g i j) (R.d n g i j)
def duT (i j : Fin 128) : ℝ := du R.lg R.lb (R.b g) (R.w g) (R.z n g) (R.u n g) (R.d n g) i j
def dnT (k j : Fin 128) : ℝ := dz (R.w g) (R.u n g) (R.d n g) k j
def dzT (k j : Fin 128) : ℝ := back R.lg (R.z n g k) (R.dnT n g k) j
def dwT (i k : Fin 128) : ℝ := dw R.lg R.lb (R.z n g) (R.u n g) (R.d n g) i k
def dlgT (j : Fin 128) : ℝ := ∑ k, R.dnT n g k j * xh (R.z n g k) j
def dlbT (j : Fin 128) : ℝ := ∑ k, R.dnT n g k j

/-- The sums over the chunks. -/
def dwS (i k : Fin 128) : ℝ := ∑ n, R.dwT n g i k
def dbS (i : Fin 128) : ℝ := ∑ j, ∑ n, R.dmT n g i j
def dlgS (j : Fin 128) : ℝ := ∑ n, ∑ g, R.dlgT n g j
def dlbS (j : Fin 128) : ℝ := ∑ n, ∑ g, R.dlbT n g j

end Arr

end Cert.SguReal

end
-- ==== Proof.SguTile.lean ====
/- The spatial gating's gradient call: one tile's payloads at real arguments. -/
module

public import proofs.«01_k».proof.Proof.SguBlock
public import proofs.«01_k».proof.Proof.SguReal

@[expose] public section

set_option maxRecDepth 16384

noncomputable section

namespace Cert.Kernel2Ideal.Sgu

open Cert.Kernel2Ideal Cert.Kernel2Ideal.Gen Cert.SguReal Idealize.ShloMosaic Idealize.ShloMosaic.TcCoe

theorem named_c : (Named.named κ "gelu_c" 0x3D372713#32 : Ideal .f32) = ((8943 / 200000 : ℝ) : EReal) := rfl
theorem named_3c : (Named.named κ "gelu_3c" 0x3E095D4F#32 : Ideal .f32) = ((26829 / 200000 : ℝ) : EReal) := rfl

/-- A rounded block of real numbers, and the same over a leading axis of length one. -/
abbrev Is {φ : FTy} (X : FVec Ideal S128x128 φ) (x : Fin 128 → Fin 128 → ℝ) : Prop := ∀ i j, X (ix2 i j) = ((x i j : ℝ) : EReal)
abbrev IsRow {φ : FTy} (X : FVec Ideal S1x128 φ) (x : Fin 128 → ℝ) : Prop := ∀ j, X (ix2 0 j) = ((x j : ℝ) : EReal)

variable {U Z D : FVec Ideal S128x128 .f32} {Lg Lb : FVec Ideal S1x128 .f32} {W : FVec Ideal S1x128x128 .f32} {B : FVec Ideal S128x1 .f32}
  {u z d w : Fin 128 → Fin 128 → ℝ} {lg lb b : Fin 128 → ℝ}

theorem real12 (hw : ∀ i k, W (ix3 0 i k) = ((w i k : ℝ) : EReal)) : Is (k0_pay12 (F := Ideal) W) (wm w) := by
  intro i k
  pointwise [k0_pay12]
  rw [mask, hw, wm]
  split <;> simp
theorem real14 (hz : Is Z z) : Is (k0_pay14 (F := Ideal) Z) fun i j => th (z i j) := by
  intro i j
  pointwise [k0_pay14]
  rw [named_c, fac_bits, hz]
  simp only [← EReal.coe_mul, ← EReal.coe_add, Ideal.tanh_coe]
  rfl
theorem real15 (hz : Is Z z) : Is (k0_pay15 (F := Ideal) Z) fun i j => xc (z i) j := by
  intro i j
  pointwise [k0_pay15]
  rw [half_bits, width_bits, Ideal.div_coe (by norm_num)]
  simp only [hz _ _, real14 hz _ _, ← EReal.coe_one, ← EReal.coe_mul, ← EReal.coe_add, ← EReal.coe_sub, coe_sum]
  rfl
theorem real16 (hz : Is Z z) (i : Fin 128) : k0_pay16 (F := Ideal) Z (ix2 i 0) = ((rs (z i) : ℝ) : EReal) := by
  pointwise [k0_pay16]
  rw [off_bits, width_bits, Ideal.div_coe (by norm_num)]
  simp only [real15 hz _ _, ← EReal.coe_mul, ← EReal.coe_add, coe_sum]
  rw [show ((∑ k, xc (z i) k * xc (z i) k) * (1 / 128) + off : ℝ) = ms (z i) from rfl, Ideal.rsqrt_coe,
    if_neg (ms_pos _).not_gt, if_neg (ms_pos _).ne']
  rfl
theorem real17 (hz : Is Z z) : Is (k0_pay17 (F := Ideal) Z) fun i j => xh (z i) j := by
  intro i j
  pointwise [k0_pay17]
  rw [real15 hz, real16 hz, ← EReal.coe_mul]
  rfl
theorem real18 (hz : Is Z z) (hg : IsRow Lg lg) (hb : IsRow Lb lb) : Is (k0_pay18 (F := Ideal) Lg Lb Z) fun i j => zn lg lb (z i) j := by
  intro i j
  pointwise [k0_pay18]
  rw [real17 hz, hg, hb, ← EReal.coe_mul, ← EReal.coe_add]
  rfl
theorem real19 (hw : Is U w) (hz : Is Z z) (hg : IsRow Lg lg) (hb : IsRow Lb lb) :
    Is (k0_pay19 (F := Ideal) Lg Lb U Z) fun i j => ∑ k, w i k * zn lg lb (z k) j := by
  intro i j
  pointwise [k0_pay19, k0_pay13]
  simp only [hw _ _, real18 hz hg hb _ _, ← EReal.coe_mul, coe_sum]
theorem real20 (hb : ∀ i, B (ix2 i 0) = ((b i : ℝ) : EReal)) : Is (k0_pay20 (F := Ideal) B) fun i _ => b i := by
  intro i j
  pointwise [k0_pay20]
  exact hb i
theorem real21 (hz : Is Z z) : Is (k0_pay21 (F := Ideal) Z) fun i j => th (z i j) := real14 hz
theorem real22 {M N : FVec Ideal S128x128 .f32} {x y : Fin 128 → Fin 128 → ℝ} (hu : Is U u) (hd : Is D d) (hm : Is M x) (hn : Is N y) (i j : Fin 128) :
    k0_pay22 (F := Ideal) U D M N (ix3 0 i j) = ((d i j * (x i j + y i j) * gd (u i j) : ℝ) : EReal) := by
  pointwise [k0_pay22]
  rw [named_3c, half_bits, fac_bits, real21 hu, hu, hd, hm, hn]
  simp only [← EReal.coe_one, ← EReal.coe_mul, ← EReal.coe_add, ← EReal.coe_sub]
  congr 1
theorem real23 (hu : Is U u) (hd : Is D d) : Is (k0_pay23 (F := Ideal) U D) fun i j => dm (u i j) (d i j) := by
  intro i j
  pointwise [k0_pay23]
  rw [half_bits, real21 hu, hu, hd]
  simp only [← EReal.coe_one, ← EReal.coe_mul, ← EReal.coe_add]
  congr 1
theorem real25 {V : FVec Ideal S128x128 .bf16} {v : Fin 128 → Fin 128 → ℝ} (hv : Is V v) (hd : Is D d) (a : FVec Ideal S1x128x128 .f32) (i k : Fin 128) :
    k0_pay25 (F := Ideal) V D a (ix3 0 i k) = a (ix3 0 i k) + ((if k ≤ i then ∑ j, d i j * v k j else 0 : ℝ) : EReal) := by
  pointwise [k0_pay25, k0_pay24]
  rw [mask]
  simp only [hv _ _, hd _ _, ← EReal.coe_mul, coe_sum]
  split <;> simp
theorem real26 (hd : Is D d) (a : FVec Ideal S1x128x128 .f32) (i j : Fin 128) :
    k0_pay26 (F := Ideal) D a (ix3 0 i j) = a (ix3 0 i j) + ((d i j : ℝ) : EReal) := by
  pointwise [k0_pay26]
  rw [hd]
theorem real27 {V : FVec Ideal S128x128 .bf16} (hw : Is V w) (hd : Is D d) : Is (k0_pay27 (F := Ideal) V D) fun k j => ∑ i, w i k * d i j := by
  intro k j
  pointwise [k0_pay27, k0_pay24]
  simp only [hw _ _, hd _ _, ← EReal.coe_mul, coe_sum]
theorem real28 {V : FVec Ideal S128x128 .bf16} (hw : Is V w) (hd : Is D d) (hz : Is Z z) (a : FVec Ideal S1x128 .f32) (j : Fin 128) :
    k0_pay28 (F := Ideal) V Z D a (ix2 0 j) = a (ix2 0 j) + ((∑ k, (∑ i, w i k * d i j) * z k j : ℝ) : EReal) := by
  pointwise [k0_pay28]
  simp only [real27 hw hd _ _, hz _ _, ← EReal.coe_mul, coe_sum]
theorem real30 {V : FVec Ideal S128x128 .bf16} (hw : Is V w) (hd : Is D d) (a : FVec Ideal S1x128 .f32) (j : Fin 128) :
    k0_pay30 (F := Ideal) (k0_pay29 V D a) (ix2 0 j) = a (ix2 0 j) + ((∑ k, ∑ i, w i k * d i j : ℝ) : EReal) := by
  pointwise [k0_pay30, k0_pay29]
  simp only [real27 hw hd _ _, coe_sum]
theorem real32 {T X N : FVec Ideal S128x128 .f32} {R : FVec Ideal S128x1 .f32} {n : Fin 128 → Fin 128 → ℝ} (hz : Is Z z) (hg : IsRow Lg lg) (hn : Is N n)
    (hT : Is T fun i j => th (z i j)) (hX : Is X fun i j => xh (z i) j) (hR : ∀ i, R (ix2 i 0) = ((rs (z i) : ℝ) : EReal)) (i j : Fin 128) :
    k0_pay32 (F := Ideal) (k0_pay31 Lg Z T R X N) (ix3 0 i j) = ((back lg (z i) (n i) j : ℝ) : EReal) := by
  pointwise [k0_pay32, k0_pay31]
  rw [named_3c, half_bits, fac_bits, width_bits, Ideal.div_coe (by norm_num), Ideal.div_coe (by norm_num)]
  simp only [hT _ _, hX _ _, hR _, hz _ _, hg _, hn _ _, ← EReal.coe_one, ← EReal.coe_mul, ← EReal.coe_add, ← EReal.coe_sub, coe_sum]
  congr 1

end Cert.Kernel2Ideal.Sgu

end
-- ==== Proof.SguValue.lean ====
/- The spatial gating's gradient call: its seven result arrays, at real argument arrays. -/
module

public import proofs.«01_k».proof.Proof.SguTile
public import Idealize.ShloMosaic.Lib.KernelVsHost
public import Idealize.ShloMosaic.Lib.Claim

@[expose] public section

set_option maxRecDepth 16384

noncomputable section

namespace Cert.Kernel2Ideal.Sgu

open Cert.Kernel2Ideal Cert.Kernel2Ideal.Gen Cert.SguReal Idealize.ShloMosaic Idealize.ShloMosaic.TcCoe Idealize.SL.Sem
open Idealize.ShloMosaic.Pipeline (Dat)

theorem idx : ∀ t : Fin cfg0.N, win0_0.index t = ![t.val, 3] ∧ win0_1.index t = ![t.val, 4] ∧ win0_2.index t = ![t.val, 0]
    ∧ win0_3.index t = ![0, 0] ∧ win0_4.index t = ![0, 0] ∧ win0_5.index t = ![0, 0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![0, t.val, 0] ∧ win0_12.index t = ![0, 0, 0] ∧ win0_13.index t = ![0, 0] ∧ win0_14.index t = ![0, 0]
    ∧ win0_15.index t = ![0, 0] ∧ win0_16.index t = ![0, 0] ∧ win0_17.index t = ![1, 0] :=
  (by decide +kernel : ∀ t : Fin grid0.N, _)

variable (m : (ℓ : Loc nD τ sig) → Buf (Elt Ideal) ℓ) (c : Dev nD)

abbrev A0 : FVec Ideal S8192x2560 .f32 := m ((c : Thread nD τ).loc main_arg0)
abbrev A1 : FVec Ideal S8192x512 .f32 := m ((c : Thread nD τ).loc main_arg1)
abbrev A2 : FVec Ideal S1x128 .f32 := m ((c : Thread nD τ).loc main_arg2)
abbrev A3 : FVec Ideal S1x128 .f32 := m ((c : Thread nD τ).loc main_arg3)
abbrev A4 : FVec Ideal S1x4x128x128 .f32 := m ((c : Thread nD τ).loc main_arg4)
abbrev A5 : FVec Ideal S1x4x128 .f32 := m ((c : Thread nD τ).loc main_arg5)
abbrev A6 : FVec Ideal S8192x1024 .bf16 := m ((c : Thread nD τ).loc main_arg6)
abbrev A7 : FVec Ideal S8192x1024 .bf16 := m ((c : Thread nD τ).loc main_arg7)
abbrev A8 : FVec Ideal S8192x2816 .bf16 := m ((c : Thread nD τ).loc main_arg8)
abbrev A9 : FVec Ideal S8192x1024 .bf16 := m ((c : Thread nD τ).loc main_arg9)
abbrev A10 : FVec Ideal S5632x1024 .f32 := m ((c : Thread nD τ).loc main_arg10)

/-- The six arrays of the gating's arguments hold the real arrays of `R`. -/
structure Holds (R : Arr) : Prop where
  p : ∀ r j, A0 m c (ix2 r j) = ((R.p r j : ℝ) : EReal)
  q : ∀ r j, A1 m c (ix2 r j) = ((R.q r j : ℝ) : EReal)
  lg : ∀ j, A2 m c (ix2 0 j) = ((R.lg j : ℝ) : EReal)
  lb : ∀ j, A3 m c (ix2 0 j) = ((R.lb j : ℝ) : EReal)
  w : ∀ g i k, A4 m c (ix4 0 g i k) = ((R.w g i k : ℝ) : EReal)
  b : ∀ g i, A5 m c (ix3 0 g i) = ((R.b g i : ℝ) : EReal)

theorem pt_lt (t : Fin cfg0.N) : t.val < 16 := t.isLt.trans_eq N_0

abbrev prow (t : Fin cfg0.N) (k : Fin 512) : Fin 8192 := ⟨t.val * 512 + k.val, by have := pt_lt t; omega⟩

theorem blk0 (t : Fin cfg0.N) (k j : Fin 512) :
    (iblk m c 0 t : FVec Ideal S512x512 .f32) (ix2 k j) = A0 m c (ix2 (prow t k) ⟨1536 + j.val, by omega⟩) := by
  blk_point [iblk, V, idx t]
theorem blk1 (t : Fin cfg0.N) (k j : Fin 512) :
    (iblk m c 1 t : FVec Ideal S512x512 .f32) (ix2 k j) = A0 m c (ix2 (prow t k) ⟨2048 + j.val, by omega⟩) := by
  blk_point [iblk, V, idx t]
theorem blk2 (t : Fin cfg0.N) (k j : Fin 512) : (iblk m c 2 t : FVec Ideal S512x512 .f32) (ix2 k j) = A1 m c (ix2 (prow t k) j) := by
  blk_point [iblk, V, idx t]
theorem blk3 (t : Fin cfg0.N) (j : Fin 128) : (iblk m c 3 t : FVec Ideal S1x128 .f32) (ix2 0 j) = A2 m c (ix2 0 j) := by
  blk_point [iblk, V, idx t]
theorem blk4 (t : Fin cfg0.N) (j : Fin 128) : (iblk m c 4 t : FVec Ideal S1x128 .f32) (ix2 0 j) = A3 m c (ix2 0 j) := by
  blk_point [iblk, V, idx t]
/-- What the host lines leave as the mixing weights and biases the call reads. -/
theorem w3V : (V m c main_v3 : FVec Ideal S4x128x128 .f32) = fun i => A4 m c (ix4 0 (i 0) (i 1) (i 2)) := by
  unfold V
  simp only [hostOps0, hostOps0_1, hostOps0_2, List.flatten_cons, List.flatten_nil, List.append_nil, List.cons_append, List.nil_append]
  entry_read
  funext i
  idx_vars i
  pointwise []
theorem b2V (i : Fin 128) (g : Fin 4) : (V m c main_v2 : FVec Ideal S128x128 .f32) (ix2 i ⟨g.val, by omega⟩) = A5 m c (ix3 0 g i) := by
  unfold V
  simp only [hostOps0, hostOps0_1, hostOps0_2, List.flatten_cons, List.flatten_nil, List.append_nil, List.cons_append, List.nil_append]
  entry_read
  refine Eq.trans (b := pad S128x128 ![0, 0] ![0, 124] ![0, 0] (transpose S128x4 [1, 0]
    (fun i => shapeCast S4x128 (A5 m c) shapeCasts_S1x4x128_S4x128 i) transposes_S4x128_S128x4_1_0)
    (sitofp (F := Ideal) FTy.f32 (constantI S_ 32 0#32)) pads_S128x4_S128x128_000_01240 h_S_ (ix2 i ⟨g.val, by omega⟩)) rfl ?_
  refine (pad_apply_of_inside _ _ _ _ _ _ _ _ (ix2 i g : S128x4.Idx) fun a => ?_).trans ?_
  · fin_cases a <;> simp
  · pointwise []
theorem emb5 (t : Fin cfg0.N) (g : Fin 4) (i k : Fin 128) : ((cfg0.win 5).blk t).view.emb (ix3 g i k) = (ix3 g i k : S4x128x128.Idx) := by
  funext a; fin_cases a <;> refine Fin.ext ?_ <;> blk_simp [idx t] <;> rfl
theorem emb6 (t : Fin cfg0.N) (i k : Fin 128) : ((cfg0.win 6).blk t).view.emb (ix2 i k) = (ix2 i k : S128x128.Idx) := by
  funext a; fin_cases a <;> refine Fin.ext ?_ <;> blk_simp [idx t] <;> rfl
theorem blk5 (t : Fin cfg0.N) (g : Fin 4) (i k : Fin 128) : (iblk m c 5 t : FVec Ideal S4x128x128 .f32) (ix3 g i k) = A4 m c (ix4 0 g i k) := by
  show (V m c main_v3 : FVec Ideal S4x128x128 .f32) (((cfg0.win 5).blk t).view.emb (ix3 g i k)) = _
  rw [w3V, emb5]
  rfl
theorem blk6 (t : Fin cfg0.N) (i : Fin 128) (g : Fin 4) :
    (iblk m c 6 t : FVec Ideal S128x128 .f32) (ix2 i ⟨g.val, by omega⟩) = A5 m c (ix3 0 g i) := by
  show (V m c main_v2 : FVec Ideal S128x128 .f32) (((cfg0.win 6).blk t).view.emb (ix2 i ⟨g.val, by omega⟩)) = _
  rw [emb6, b2V]
theorem blk7 (t : Fin cfg0.N) (k : Fin 512) (j : Fin 1024) : (iblk m c 7 t : FVec Ideal S512x1024 .bf16) (ix2 k j) = A6 m c (ix2 (prow t k) j) := by
  blk_point [iblk, V, idx t]
theorem blk8 (t : Fin cfg0.N) (k : Fin 512) (j : Fin 1024) : (iblk m c 8 t : FVec Ideal S512x1024 .bf16) (ix2 k j) = A7 m c (ix2 (prow t k) j) := by
  blk_point [iblk, V, idx t]
theorem blk9 (t : Fin cfg0.N) (k : Fin 512) (j : Fin 2816) : (iblk m c 9 t : FVec Ideal S512x2816 .bf16) (ix2 k j) = A8 m c (ix2 (prow t k) j) := by
  blk_point [iblk, V, idx t]
theorem blk10 (t : Fin cfg0.N) (k : Fin 512) (j : Fin 1024) : (iblk m c 10 t : FVec Ideal S512x1024 .bf16) (ix2 k j) = A9 m c (ix2 (prow t k) j) := by
  blk_point [iblk, V, idx t]

/-! ## One tile over the arrays -/

/-- The chunk of a point's `k`-th tile. -/
abbrev chk (t : Fin cfg0.N) (k : ℕ) (hk : k < 4) : Fin 64 := ⟨t.val * 4 + k, by have := pt_lt t; omega⟩

section Tile

variable {m c} {R : Arr} (h : Holds m c R) (t : Fin cfg0.N) (g k : ℕ) (hg : g < 4) (hk : k < 4)

theorem tile_emb (i j : Fin 128) : (tile g k hg hk).emb (ix2 i j) = (ix2 (⟨128 * k + i.val, by omega⟩ : Fin 512) (⟨128 * g + j.val, by omega⟩ : Fin 512) : S512x512.Idx) := by
  funext a
  fin_cases a
  · exact Fin.ext (show 128 * k + 1 * i.val = 128 * k + i.val by omega)
  · exact Fin.ext (show 128 * g + 1 * j.val = 128 * g + j.val by omega)

include h in
theorem ut_is : Is (φ := .f32) (ut (ins m c t) g k hg hk) (R.u (chk t k hk) ⟨g, hg⟩) := by
  intro i j
  show (iblk m c 0 t : FVec Ideal S512x512 .f32) ((tile g k hg hk).emb (ix2 i j)) = _
  rw [tile_emb, blk0, h.p, Arr.u]
  refine congrArg _ (congrArg₂ R.p (Fin.ext ?_) (Fin.ext ?_)) <;> simp <;> omega
include h in
theorem zt_is : Is (φ := .f32) (zt (ins m c t) g k hg hk) (R.z (chk t k hk) ⟨g, hg⟩) := by
  intro i j
  show (iblk m c 1 t : FVec Ideal S512x512 .f32) ((tile g k hg hk).emb (ix2 i j)) = _
  rw [tile_emb, blk1, h.p, Arr.z]
  refine congrArg _ (congrArg₂ R.p (Fin.ext ?_) (Fin.ext ?_)) <;> simp <;> omega
include h in
theorem dt_is : Is (φ := .f32) (dt (ins m c t) g k hg hk) (R.d (chk t k hk) ⟨g, hg⟩) := by
  intro i j
  show (iblk m c 2 t : FVec Ideal S512x512 .f32) ((tile g k hg hk).emb (ix2 i j)) = _
  rw [tile_emb, blk2, h.q, Arr.d]
  refine congrArg _ (congrArg₂ R.q (Fin.ext ?_) (Fin.ext ?_)) <;> simp <;> omega
include h in
theorem lg_is : IsRow (φ := .f32) (ins m c t).lng R.lg := fun j => (blk3 m c t j).trans (h.lg j)
include h in
theorem lb_is : IsRow (φ := .f32) (ins m c t).lnb R.lb := fun j => (blk4 m c t j).trans (h.lb j)
include h in
theorem wt_is : Is (wt (ins m c t) g hg) (wm (R.w ⟨g, hg⟩)) := by
  refine real12 fun i k => ?_
  show (iblk m c 5 t : FVec Ideal S4x128x128 .f32) ((grp g hg).emb (ix3 0 i k)) = _
  rw [show (grp g hg).emb (ix3 0 i k) = (ix3 (⟨g, hg⟩ : Fin 4) i k : S4x128x128.Idx) from ?_, blk5, h.w]
  funext a
  fin_cases a
  · exact Fin.ext (show g + 1 * 0 = g by omega)
  · exact Fin.ext (show 0 + 1 * i.val = i.val by omega)
  · exact Fin.ext (show 0 + 1 * k.val = k.val by omega)
include h in
theorem bt_is (i : Fin 128) : View.ld (ins m c t).b (bias g hg) (ix2 i 0) = ((R.b ⟨g, hg⟩ i : ℝ) : EReal) := by
  show (iblk m c 6 t : FVec Ideal S128x128 .f32) ((bias g hg).emb (ix2 i 0)) = _
  rw [show (bias g hg).emb (ix2 i 0) = (ix2 i (⟨g, by omega⟩ : Fin 128) : S128x128.Idx) from ?_, blk6 m c t i ⟨g, hg⟩, h.b]
  funext a
  fin_cases a
  · exact Fin.ext (show 0 + 1 * i.val = i.val by omega)
  · exact Fin.ext (show g + 1 * 0 = g by omega)

include h in
theorem dmix_is : Is (dmix (ins m c t) g k hg hk) (R.dmT (chk t k hk) ⟨g, hg⟩) := real23 (ut_is h t g k hg hk) (dt_is h t g k hg hk)
include h in
theorem duT_is (i j : Fin 128) : duT (ins m c t) g k hg hk (ix3 0 i j) = ((R.duT (chk t k hk) ⟨g, hg⟩ i j : ℝ) : EReal) :=
  real22 (ut_is h t g k hg hk) (dt_is h t g k hg hk)
    (real19 (wt_is h t g hg) (zt_is h t g k hg hk) (lg_is h t) (lb_is h t)) (real20 (bt_is h t g hg)) i j
include h in
theorem dzT_is (i j : Fin 128) : dzT (ins m c t) g k hg hk (ix3 0 i j) = ((R.dzT (chk t k hk) ⟨g, hg⟩ i j : ℝ) : EReal) :=
  real32 (zt_is h t g k hg hk) (lg_is h t) (real27 (wt_is h t g hg) (dmix_is h t g k hg hk))
    (real14 (zt_is h t g k hg hk)) (real17 (zt_is h t g k hg hk)) (real16 (zt_is h t g k hg hk)) i j
include h in
theorem dwT_is (a : FVec Ideal S1x128x128 .f32) (i j : Fin 128) :
    dwT (ins m c t) g k hg hk a (ix3 0 i j) = a (ix3 0 i j) + ((R.dwT (chk t k hk) ⟨g, hg⟩ i j : ℝ) : EReal) :=
  real25 (real18 (zt_is h t g k hg hk) (lg_is h t) (lb_is h t)) (dmix_is h t g k hg hk) a i j
include h in
theorem dbT_is (a : FVec Ideal S1x128x128 .f32) (i j : Fin 128) :
    dbT (ins m c t) g k hg hk a (ix3 0 i j) = a (ix3 0 i j) + ((R.dmT (chk t k hk) ⟨g, hg⟩ i j : ℝ) : EReal) :=
  real26 (dmix_is h t g k hg hk) a i j
include h in
theorem dlgT_is (a : FVec Ideal S1x128 .f32) (j : Fin 128) :
    dlgT (ins m c t) g k hg hk a (ix2 0 j) = a (ix2 0 j) + ((R.dlgT (chk t k hk) ⟨g, hg⟩ j : ℝ) : EReal) :=
  real28 (wt_is h t g hg) (dmix_is h t g k hg hk) (real17 (zt_is h t g k hg hk)) a j
include h in
theorem dlbT_is (a : FVec Ideal S1x128 .f32) (j : Fin 128) :
    dlbT (ins m c t) g k hg hk a (ix2 0 j) = a (ix2 0 j) + ((R.dlbT (chk t k hk) ⟨g, hg⟩ j : ℝ) : EReal) :=
  real30 (wt_is h t g hg) (dmix_is h t g k hg hk) a j

end Tile

/-! ## The running sums of one point -/

theorem mem_tiles {A : Type} {f : (g c : ℕ) → g < 4 → c < 4 → A} {a : A} (h : a ∈ tiles f) : ∃ g c hg hc, a = f g c hg hc := by
  simp only [tiles, List.mem_cons, List.not_mem_nil, or_false] at h
  rcases h with h | h | h | h | h | h | h | h | h | h | h | h | h | h | h | h <;> exact ⟨_, _, _, _, h⟩

theorem duz_cover (X : Ins Ideal) (y : S2x512x512.Idx) : ∃ p ∈ (tiles (duzP X)).flatten, y ∈ p.1.set :=
  View.cover_of_tiled (s := S2x512x512) _ S1x128x128.size rfl y

theorem chunks_at (f : (c : ℕ) → c < 4 → Vec Ideal S1x128x128 .f32 → FVec Ideal S1x128x128 .f32) (T : Fin 4 → Fin 128 → Fin 128 → EReal)
    (h : ∀ c hc (a : FVec Ideal S1x128x128 .f32) i j, f c hc a (ix3 0 i j) = a (ix3 0 i j) + T ⟨c, hc⟩ i j) (a : FVec Ideal S1x128x128 .f32)
    (i j : Fin 128) : chunks f a 3 (by decide) (ix3 0 i j) = a (ix3 0 i j) + ∑ c : Fin 4, T c i j := by
  simp only [chunks, h, Fin.sum_univ_four, add_assoc]
  rfl

theorem sweep_at (f : (g c : ℕ) → g < 4 → c < 4 → FVec Ideal S1x128 .f32 → FVec Ideal S1x128 .f32) (T : Fin 4 → Fin 4 → Fin 128 → EReal)
    (h : ∀ g c hg hc (a : FVec Ideal S1x128 .f32) j, f g c hg hc a (ix2 0 j) = a (ix2 0 j) + T ⟨g, hg⟩ ⟨c, hc⟩ j) (a : FVec Ideal S1x128 .f32)
    (j : Fin 128) : sweep f a (ix2 0 j) = a (ix2 0 j) + ∑ c : Fin 4, ∑ g : Fin 4, T g c j := by
  rw [Finset.sum_comm]
  simp only [sweep, h, Fin.sum_univ_four, add_assoc]
  rfl

theorem grp_emb (g : Fin 4) (i j : Fin 128) : (grp g.val g.isLt).emb (ix3 0 i j) = (ix3 g i j : S4x128x128.Idx) := by
  funext a
  fin_cases a
  · exact Fin.ext (show g.val + 1 * 0 = g.val by omega)
  · exact Fin.ext (show 0 + 1 * i.val = i.val by omega)
  · exact Fin.ext (show 0 + 1 * j.val = j.val by omega)

theorem pay10 (a : FVec Ideal S1024x1024 .f32) (d f : FVec Ideal S512x1024 .bf16) (i j : Fin 1024) :
    k0_pay10 a d f (ix2 i j) = a (ix2 i j) + ∑ r : Fin 512, d (ix2 r i) * f (ix2 r j) := by
  pointwise [k0_pay10]
theorem pay11 (a : FVec Ideal S2816x1024 .f32) (d : FVec Ideal S512x2816 .bf16) (f : FVec Ideal S512x1024 .bf16) (i : Fin 2816) (j : Fin 1024) :
    k0_pay11 a d f (ix2 i j) = a (ix2 i j) + ∑ r : Fin 512, d (ix2 r i) * f (ix2 r j) := by
  pointwise [k0_pay11]
theorem pay3 (j : S4x128x128.Idx) : k0_pay3 (F := Ideal) j = 0 := by pointwise [k0_pay3]
theorem pay5 (j : S1x128.Idx) : k0_pay5 (F := Ideal) j = 0 := by pointwise [k0_pay5]
theorem pay6 (j : S1x128.Idx) : k0_pay6 (F := Ideal) j = 0 := by pointwise [k0_pay6]
theorem pay7 (j : S1024x1024.Idx) : k0_pay7 (F := Ideal) j = 0 := by pointwise [k0_pay7]
theorem pay8 (j : S2816x1024.Idx) : k0_pay8 (F := Ideal) j = 0 := by pointwise [k0_pay8]
theorem pay9 (j : S4x128x128.Idx) : k0_pay9 (F := Ideal) j = 0 := by pointwise [k0_pay9]

theorem lane : ∀ (k : Fin 4) (j : Fin 128), IntOp.cmpi .eq (BitVec.ofNat 32 j.val) (BitVec.ofNat 32 k.val) = if j.val = k.val then 1#1 else 0#1 := by
  decide +kernel
theorem select_if {α : Type} (p : Prop) [Decidable p] (a b : α) : Scalar.select (if p then 1#1 else 0#1) a b = if p then a else b := by
  split <;> rfl
theorem pay2 (r0 r1 r2 r3 : FVec Ideal S1x128x128 .f32) (i j : Fin 128) :
    k0_pay1 (k0_pay2 r0 r1 r2 r3) (ix2 i j) = if j.val = 3 then ∑ x : Fin 128, r3 (ix3 0 i x) else if j.val = 2 then ∑ x : Fin 128, r2 (ix3 0 i x)
      else if j.val = 1 then ∑ x : Fin 128, r1 (ix3 0 i x) else if j.val = 0 then ∑ x : Fin 128, r0 (ix3 0 i x) else 0 := by
  pointwise [k0_pay1, k0_pay2]
  rw [show (3#32 : BitVec 32) = BitVec.ofNat 32 (3 : Fin 4).val from rfl, show (2#32 : BitVec 32) = BitVec.ofNat 32 (2 : Fin 4).val from rfl,
    show (1#32 : BitVec 32) = BitVec.ofNat 32 (1 : Fin 4).val from rfl, show (0#32 : BitVec 32) = BitVec.ofNat 32 (0 : Fin 4).val from rfl]
  simp only [lane, select_if]
  rfl

/-! ## The result arrays -/

theorem at11 (t : Fin cfg0.N) : (outsAt0 m c t.val t.isLt).1 = View.canon (tiles (duzP (ins m c t))).flatten := by
  by_cases h : t.val % 16 = 0
  · exact at11_A m c t h
  by_cases h1 : t.val % 16 = 15
  · exact at11_C m c t h h1
  · exact at11_B m c t h h1

/-- A group's row of a buffer before a point, and the point's four tiles. -/
theorem rows_at (f : (g c : ℕ) → g < 4 → c < 4 → Vec Ideal S1x128x128 .f32 → FVec Ideal S1x128x128 .f32) (T : Fin 4 → Fin 4 → Fin 128 → Fin 128 → EReal)
    (h : ∀ g c hg hc (a : FVec Ideal S1x128x128 .f32) i j, f g c hg hc a (ix3 0 i j) = a (ix3 0 i j) + T ⟨g, hg⟩ ⟨c, hc⟩ i j)
    (o : FVec Ideal S4x128x128 .f32) (L : List (View.Piece (Elt Ideal) S4x128x128 .f32)) (y : S4x128x128.Idx) :
    View.canon ((tiles fun g c hg hc => (⟨grp g hg, chunks (fun c hc => f g c hg hc) (View.ld (Val := Elt Ideal) (S := S4x128x128) (e' := EltTy.f32) o (grp g hg)) c hc⟩ : View.Piece (Elt Ideal) S4x128x128 .f32)) ++ L) y
      = o y + ∑ c : Fin 4, T (y 0) c (y 1) (y 2) := by
  idx_vars y
  rw [← grp_emb y0 y1 y2, canon_rows (fun g c hg hc => chunks (fun c hc => f g c hg hc) (View.ld (Val := Elt Ideal) (S := S4x128x128) (e' := EltTy.f32) o (grp g hg)) c hc),
    chunks_at _ (T y0) (fun c hc a i j => h y0.val c y0.isLt hc a i j), grp_emb]
  refine congrArg₂ (· + ·) ?_ rfl
  exact congrArg o (grp_emb y0 y1 y2)

section Final

variable {m c} {R : Arr} (h : Holds m c R)

def duz (R : Arr) : FVec Ideal S2x8192x512 .bf16 := fun i =>
  (((if (i 0).val = 0 then R.duT else R.dzT) ⟨(i 1).val / 128, by have := (i 1).isLt; change _ < 8192 at this; omega⟩
    ⟨(i 2).val / 128, by have := (i 2).isLt; change _ < 512 at this; omega⟩ ⟨(i 1).val % 128, by omega⟩ ⟨(i 2).val % 128, by omega⟩ : ℝ) : EReal)
def dwA (R : Arr) : FVec Ideal S4x128x128 .f32 := fun i => ((R.dwS (i 0) (i 1) (i 2) : ℝ) : EReal)
def dbA (R : Arr) : FVec Ideal S128x128 .f32 := fun i => if h : (i 1).val < 4 then ((R.dbS ⟨(i 1).val, h⟩ (i 0) : ℝ) : EReal) else 0
def dlgA (R : Arr) : FVec Ideal S1x128 .f32 := fun i => ((R.dlgS (i 1) : ℝ) : EReal)
def dlbA (R : Arr) : FVec Ideal S1x128 .f32 := fun i => ((R.dlbS (i 1) : ℝ) : EReal)

theorem half_emb (k g k' : ℕ) (hk : k < 2) (hg : g < 4) (hk' : k' < 4) (t : Fin cfg0.N) (i j : Fin 128) :
    ((cfg0.win 11).blk t).view.emb ((half k g k' hk hg hk').emb (ix3 0 i j))
      = (ix3 (⟨k, hk⟩ : Fin 2) (⟨t.val * 512 + (128 * k' + i.val), by have := pt_lt t; omega⟩ : Fin 8192) (⟨128 * g + j.val, by omega⟩ : Fin 512) : S2x8192x512.Idx) := by
  funext a
  fin_cases a <;> refine Fin.ext ?_ <;> blk_simp [idx t] <;> simp [half, ix3]
theorem duz_at (k g k' : ℕ) (hk : k < 2) (hg : g < 4) (hk' : k' < 4) (t : Fin cfg0.N) (i j : Fin 128) :
    duz R (((cfg0.win 11).blk t).view.emb ((half k g k' hk hg hk').emb (ix3 0 i j)))
      = (((if k = 0 then R.duT else R.dzT) (chk t k' hk') ⟨g, hg⟩ i j : ℝ) : EReal) := by
  rw [half_emb]
  refine congrArg (fun x : ℝ => (x : EReal)) ?_
  show (if k = 0 then R.duT else R.dzT) _ _ _ _ = _
  refine congr (congr (congr (congrArg _ (Fin.ext ?_)) (Fin.ext ?_)) (Fin.ext ?_)) (Fin.ext ?_) <;> simp [ix3] <;> omega

include h in
theorem final11 : (dats m 0 c).arrAt 11 cfg0.N = duz R := by
  refine (dats m 0 c).arrAt_eq_of_covers 11 _ (by decide +kernel) fun t _ y => ?_
  blk_simp
  rw [after0_11, at11]
  refine View.canon_apply_of_pieces (S := S2x512x512) (fun y => duz R (((cfg0.win 11).blk t).view.emb y)) _ (fun p hp x => ?_) y (duz_cover _ y)
  obtain ⟨l, hl, hp⟩ := List.mem_flatten.mp hp
  obtain ⟨g, k, hg, hk, rfl⟩ := mem_tiles hl
  simp only [duzP, List.mem_cons, List.not_mem_nil, or_false] at hp
  rcases hp with rfl | rfl
  · idx_vars x
    obtain rfl : x0 = 0 := Subsingleton.elim _ _
    exact (dzT_is h t g k hg hk x1 x2).trans (duz_at 1 g k (by decide) hg hk t x1 x2).symm
  · idx_vars x
    obtain rfl : x0 = 0 := Subsingleton.elim _ _
    exact (duT_is h t g k hg hk x1 x2).trans (duz_at 0 g k (by decide) hg hk t x1 x2).symm

include h in
theorem dw_step (t : Fin cfg0.N) (o : FVec Ideal S4x128x128 .f32) (L : List (View.Piece (Elt Ideal) S4x128x128 .f32)) (y : S4x128x128.Idx) :
    View.canon (tiles (dwP (ins m c t) o) ++ L) y
      = o y + ∑ k : Fin 4, ((R.dwT (chk t k.val k.isLt) (y 0) (y 1) (y 2) : ℝ) : EReal) :=
  rows_at _ (fun g k i j => ((R.dwT (chk t k.val k.isLt) g i j : ℝ) : EReal)) (fun g k hg hk a i j => dwT_is h t g k hg hk a i j) o L y
include h in
theorem db_step (t : Fin cfg0.N) (o : FVec Ideal S4x128x128 .f32) (L : List (View.Piece (Elt Ideal) S4x128x128 .f32)) (y : S4x128x128.Idx) :
    View.canon (tiles (dbP (ins m c t) o) ++ L) y
      = o y + ∑ k : Fin 4, ((R.dmT (chk t k.val k.isLt) (y 0) (y 1) (y 2) : ℝ) : EReal) :=
  rows_at _ (fun g k i j => ((R.dmT (chk t k.val k.isLt) g i j : ℝ) : EReal)) (fun g k hg hk a i j => dbT_is h t g k hg hk a i j) o L y

include h in
theorem at12_first (t : Fin cfg0.N) (h0 : t.val % 16 = 0) (y : S4x128x128.Idx) : ((outsAt0 m c t.val t.isLt).2.1 : FVec Ideal S4x128x128 .f32) y
    = 0 + ∑ k : Fin 4, ((R.dwT (chk t k.val k.isLt) (y 0) (y 1) (y 2) : ℝ) : EReal) := by
  rw [at12_A m c t h0, dw_step h, pay3]
include h in
theorem at12_next (t : Fin cfg0.N) (h0 : ¬t.val % 16 = 0) (y : S4x128x128.Idx) : ((outsAt0 m c t.val t.isLt).2.1 : FVec Ideal S4x128x128 .f32) y
    = ((outsAt0 m c (t.val - 1) (Nat.lt_of_le_of_lt (Nat.sub_le _ _) t.isLt)).2.1 : FVec Ideal S4x128x128 .f32) y
      + ∑ k : Fin 4, ((R.dwT (chk t k.val k.isLt) (y 0) (y 1) (y 2) : ℝ) : EReal) := by
  rw [← dw_step h t _ [], List.append_nil]
  by_cases h1 : t.val % 16 = 15
  · rw [at12_C m c t h0 h1]
  · rw [at12_B m c t h0 h1]
include h in
theorem at20_first (t : Fin cfg0.N) (h0 : t.val % 16 = 0) (y : S4x128x128.Idx) : ((outsAt0 m c t.val t.isLt).2.2.2.2.2.2.2 : FVec Ideal S4x128x128 .f32) y
    = 0 + ∑ k : Fin 4, ((R.dmT (chk t k.val k.isLt) (y 0) (y 1) (y 2) : ℝ) : EReal) := by
  rw [at20_A m c t h0, db_step h, pay9]
include h in
theorem at20_next (t : Fin cfg0.N) (h0 : ¬t.val % 16 = 0) (y : S4x128x128.Idx) : ((outsAt0 m c t.val t.isLt).2.2.2.2.2.2.2 : FVec Ideal S4x128x128 .f32) y
    = ((outsAt0 m c (t.val - 1) (Nat.lt_of_le_of_lt (Nat.sub_le _ _) t.isLt)).2.2.2.2.2.2.2 : FVec Ideal S4x128x128 .f32) y
      + ∑ k : Fin 4, ((R.dmT (chk t k.val k.isLt) (y 0) (y 1) (y 2) : ℝ) : EReal) := by
  rw [← db_step h t _ [], List.append_nil]
  by_cases h1 : t.val % 16 = 15
  · rw [at20_C m c t h0 h1]
  · rw [at20_B m c t h0 h1]
/-- The points' four chunks each are all the chunks. -/
theorem all_chunks (f : Fin 64 → ℝ) : ∑ t : Fin cfg0.N, ∑ k : Fin 4, ((f (chk t k.val k.isLt) : ℝ) : EReal) = ((∑ n : Fin 64, f n : ℝ) : EReal) :=
  (Fin.sum_mul_add_congr (f := fun n : Fin 64 => ((f n : ℝ) : EReal)) fun _ _ _ => rfl).trans (coe_sum f)

include h in
theorem final12 : (dats m 0 c).arrAt 12 cfg0.N = dwA R := by
  refine (dats m 0 c).arrAt_eq_of_after_last 12 t0_15 (by decide +kernel) _ fun y => ?_
  blk_simp
  rw [after0_12, Pipeline.eq_sum_fin_of_reset_step_apply_last (fun n h => (outsAt0 m c n h).2.1) 16 (fun _ => 0)
      (fun t y => ∑ k : Fin 4, ((R.dwT (chk t k.val k.isLt) (y 0) (y 1) (y 2) : ℝ) : EReal))
      (fun t h0 j => at12_first h t h0 j) (fun t h0 j => at12_next h t h0 j)
      (le_of_eq N_0) t0_15 rfl y, zero_add]
  exact all_chunks fun n => R.dwT n (y 0) (y 1) (y 2)

include h in
/-- The scratch after the last point: every chunk's contribution to the biases' gradient, summed. -/
theorem scratch_last (g : Fin 4) (i j : Fin 128) :
    ((outsAt0 m c t0_15.val t0_15.isLt).2.2.2.2.2.2.2 : FVec Ideal S4x128x128 .f32) (ix3 g i j) = ((∑ n : Fin 64, R.dmT n g i j : ℝ) : EReal) := by
  rw [Pipeline.eq_sum_fin_of_reset_step_apply_last (fun n h => (outsAt0 m c n h).2.2.2.2.2.2.2) 16 (fun _ => 0)
      (fun t y => ∑ k : Fin 4, ((R.dmT (chk t k.val k.isLt) (y 0) (y 1) (y 2) : ℝ) : EReal))
      (fun t h0 j => at20_first h t h0 j) (fun t h0 j => at20_next h t h0 j)
      (le_of_eq N_0) t0_15 rfl (ix3 g i j), zero_add]
  exact all_chunks fun n => R.dmT n g i j

include h in
theorem row_last (g : ℕ) (hg : g < 4) (i : Fin 128) :
    ∑ x : Fin 128, ((dbP (ins m c t0_15) (outsAt0 m c (t0_15.val - 1) (Nat.lt_of_le_of_lt (Nat.sub_le _ _) t0_15.isLt)).2.2.2.2.2.2.2 g 3 hg (by decide)).2 : FVec Ideal S1x128x128 .f32) (ix3 0 i x)
      = ((R.dbS ⟨g, hg⟩ i : ℝ) : EReal) := by
  refine Eq.trans (Finset.sum_congr rfl fun x _ => ?_) (coe_sum _)
  refine Eq.trans ?_ (scratch_last h ⟨g, hg⟩ i x)
  rw [at20_C m c t0_15 (by decide) (by decide), ← grp_emb ⟨g, hg⟩ i x]
  exact ((congrArg (fun L => View.canon L _) (List.append_nil _).symm).trans (canon_rows (fun g k hg hk => chunks (fun k hk => dbT (ins m c t0_15) g k hg hk) (View.ld (Val := Elt Ideal) (S := S4x128x128) (e' := EltTy.f32) _ (grp g hg)) k hk) [] g hg (ix3 0 i x))).symm

include h in
theorem final13 : (dats m 0 c).arrAt 13 cfg0.N = dbA R := by
  refine (dats m 0 c).arrAt_eq_of_after_last 13 t0_15 (by decide +kernel) _ fun y => ?_
  blk_simp
  rw [after0_13, at13_C m c t0_15 (by decide) (by decide)]
  idx_vars y
  refine (pay2 _ _ _ _ y0 y1).trans ?_
  rw [row_last h, row_last h, row_last h, row_last h]
  show _ = if h : y1.val < 4 then ((R.dbS ⟨y1.val, h⟩ y0 : ℝ) : EReal) else 0
  by_cases h4 : y1.val < 4
  · rw [dif_pos h4]
    have hc : y1.val = 0 ∨ y1.val = 1 ∨ y1.val = 2 ∨ y1.val = 3 := by omega
    rcases hc with e | e | e | e <;> simp only [e] <;> rfl
  · rw [dif_neg h4, if_neg (by omega), if_neg (by omega), if_neg (by omega), if_neg (by omega)]

include h in
theorem final14 : (dats m 0 c).arrAt 14 cfg0.N = dlgA R := by
  refine (dats m 0 c).arrAt_eq_of_after_last 14 t0_15 (by decide +kernel) _ fun y => ?_
  blk_simp
  idx_vars y
  obtain rfl : y0 = 0 := Subsingleton.elim _ _
  have e (t : Fin cfg0.N) (a : FVec Ideal S1x128 .f32) (j : Fin 128) : sweep (dlgT (ins m c t)) a (ix2 0 j) = a (ix2 0 j) + ∑ k : Fin 4, ((∑ g : Fin 4, R.dlgT (chk t k.val k.isLt) g j : ℝ) : EReal) :=
    (sweep_at _ (fun g k j => ((R.dlgT (chk t k.val k.isLt) g j : ℝ) : EReal)) (fun g k hg hk a j => dlgT_is h t g k hg hk a j) a j).trans
      (congrArg (_ + ·) (Finset.sum_congr rfl fun k _ => coe_sum _))
  rw [after0_14, Pipeline.eq_sum_fin_of_reset_step_apply_last (fun n h (j : Fin 128) => (outsAt0 m c n h).2.2.2.1 (ix2 0 j)) 16 (fun _ => 0)
      (fun t j => ∑ k : Fin 4, ((∑ g : Fin 4, R.dlgT (chk t k.val k.isLt) g j : ℝ) : EReal))
      (fun t h0 j => ((congrFun (at14_A m c t h0) _).trans (e t _ j)).trans (congrArg (· + _) (pay5 _)))
      (fun t h0 j => Eq.trans (by
        by_cases h1 : t.val % 16 = 15
        · exact congrFun (at14_C m c t h0 h1) _
        · exact congrFun (at14_B m c t h0 h1) _) (e t _ j))
      (le_of_eq N_0) t0_15 rfl y1, zero_add]
  exact all_chunks fun n => ∑ g : Fin 4, R.dlgT n g y1

include h in
theorem final15 : (dats m 0 c).arrAt 15 cfg0.N = dlbA R := by
  refine (dats m 0 c).arrAt_eq_of_after_last 15 t0_15 (by decide +kernel) _ fun y => ?_
  blk_simp
  idx_vars y
  obtain rfl : y0 = 0 := Subsingleton.elim _ _
  have e (t : Fin cfg0.N) (a : FVec Ideal S1x128 .f32) (j : Fin 128) : sweep (dlbT (ins m c t)) a (ix2 0 j) = a (ix2 0 j) + ∑ k : Fin 4, ((∑ g : Fin 4, R.dlbT (chk t k.val k.isLt) g j : ℝ) : EReal) :=
    (sweep_at _ (fun g k j => ((R.dlbT (chk t k.val k.isLt) g j : ℝ) : EReal)) (fun g k hg hk a j => dlbT_is h t g k hg hk a j) a j).trans
      (congrArg (_ + ·) (Finset.sum_congr rfl fun k _ => coe_sum _))
  rw [after0_15, Pipeline.eq_sum_fin_of_reset_step_apply_last (fun n h (j : Fin 128) => (outsAt0 m c n h).2.2.2.2.1 (ix2 0 j)) 16 (fun _ => 0)
      (fun t j => ∑ k : Fin 4, ((∑ g : Fin 4, R.dlbT (chk t k.val k.isLt) g j : ℝ) : EReal))
      (fun t h0 j => ((congrFun (at15_A m c t h0) _).trans (e t _ j)).trans (congrArg (· + _) (pay6 _)))
      (fun t h0 j => Eq.trans (by
        by_cases h1 : t.val % 16 = 15
        · exact congrFun (at15_C m c t h0 h1) _
        · exact congrFun (at15_B m c t h0 h1) _) (e t _ j))
      (le_of_eq N_0) t0_15 rfl y1, zero_add]
  exact all_chunks fun n => ∑ g : Fin 4, R.dlbT n g y1

end Final

/-! ## The two weight gradients the call carries along -/

def gout : FVec Ideal S1024x1024 .f32 := fun i => ∑ r : Fin 8192, A6 m c (ix2 r (i 0)) * A7 m c (ix2 r (i 1))
def gguRow (n : Fin 2816) (j : Fin 1024) : EReal := ∑ r : Fin 8192, A8 m c (ix2 r n) * A9 m c (ix2 r j)
def ggu : FVec Ideal S5632x1024 .f32 := fun i =>
  if h : (i 0).val < 2816 then A10 m c i else gguRow m c ⟨(i 0).val - 2816, by have := (i 0).isLt; change _ < 5632 at this; omega⟩ (i 1)

theorem at16_first (t : Fin cfg0.N) (h : t.val % 16 = 0) : (outsAt0 m c t.val t.isLt).2.2.2.2.2.1 = k0_pay10 k0_pay7 (iblk m c 7 t) (iblk m c 8 t) := by
  rw [outsAt0_A m c t h (by omega)]
  generalize (outsAt0 m c (t.val - 1) (Nat.lt_of_le_of_lt (Nat.sub_le _ _) t.isLt)) = o
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  frame_out
  rfl
theorem at16_next (t : Fin cfg0.N) (h : ¬t.val % 16 = 0) : (outsAt0 m c t.val t.isLt).2.2.2.2.2.1
    = k0_pay10 (outsAt0 m c (t.val - 1) (Nat.lt_of_le_of_lt (Nat.sub_le _ _) t.isLt)).2.2.2.2.2.1 (iblk m c 7 t) (iblk m c 8 t) := by
  by_cases h1 : t.val % 16 = 15
  · rw [outsAt0_C m c t h h1]
    generalize (outsAt0 m c (t.val - 1) (Nat.lt_of_le_of_lt (Nat.sub_le _ _) t.isLt)) = o
    generalize iblk m c 0 t = x0, iblk m c 1 t = x1, iblk m c 2 t = x2, iblk m c 3 t = x3, iblk m c 4 t = x4, iblk m c 5 t = x5,
      iblk m c 6 t = x6, iblk m c 7 t = x7, iblk m c 8 t = x8, iblk m c 9 t = x9, iblk m c 10 t = x10
    frame_out
    rfl
  · rw [outsAt0_B m c t h h1]
    generalize (outsAt0 m c (t.val - 1) (Nat.lt_of_le_of_lt (Nat.sub_le _ _) t.isLt)) = o
    generalize iblk m c 0 t = x0, iblk m c 1 t = x1, iblk m c 2 t = x2, iblk m c 3 t = x3, iblk m c 4 t = x4, iblk m c 5 t = x5,
      iblk m c 6 t = x6, iblk m c 7 t = x7, iblk m c 8 t = x8, iblk m c 9 t = x9, iblk m c 10 t = x10
    frame_out
    rfl
theorem at17_first (t : Fin cfg0.N) (h : t.val % 16 = 0) : (outsAt0 m c t.val t.isLt).2.2.2.2.2.2.1 = k0_pay11 k0_pay8 (iblk m c 9 t) (iblk m c 10 t) := by
  rw [outsAt0_A m c t h (by omega)]
  generalize (outsAt0 m c (t.val - 1) (Nat.lt_of_le_of_lt (Nat.sub_le _ _) t.isLt)) = o
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10
  frame_out
  rfl
theorem at17_next (t : Fin cfg0.N) (h : ¬t.val % 16 = 0) : (outsAt0 m c t.val t.isLt).2.2.2.2.2.2.1
    = k0_pay11 (outsAt0 m c (t.val - 1) (Nat.lt_of_le_of_lt (Nat.sub_le _ _) t.isLt)).2.2.2.2.2.2.1 (iblk m c 9 t) (iblk m c 10 t) := by
  by_cases h1 : t.val % 16 = 15
  · rw [outsAt0_C m c t h h1]
    generalize (outsAt0 m c (t.val - 1) (Nat.lt_of_le_of_lt (Nat.sub_le _ _) t.isLt)) = o
    generalize iblk m c 0 t = x0, iblk m c 1 t = x1, iblk m c 2 t = x2, iblk m c 3 t = x3, iblk m c 4 t = x4, iblk m c 5 t = x5,
      iblk m c 6 t = x6, iblk m c 7 t = x7, iblk m c 8 t = x8, iblk m c 9 t = x9, iblk m c 10 t = x10
    frame_out
    rfl
  · rw [outsAt0_B m c t h h1]
    generalize (outsAt0 m c (t.val - 1) (Nat.lt_of_le_of_lt (Nat.sub_le _ _) t.isLt)) = o
    generalize iblk m c 0 t = x0, iblk m c 1 t = x1, iblk m c 2 t = x2, iblk m c 3 t = x3, iblk m c 4 t = x4, iblk m c 5 t = x5,
      iblk m c 6 t = x6, iblk m c 7 t = x7, iblk m c 8 t = x8, iblk m c 9 t = x9, iblk m c 10 t = x10
    frame_out
    rfl

/-- One row's term of either sum, over a point's blocks. -/
def prod {a b : ℕ} (d : FVec Ideal ⟨2, ![512, a]⟩ .bf16) (f : FVec Ideal ⟨2, ![512, b]⟩ .bf16) (i : Fin a) (j : Fin b) (r : Fin 512) : EReal :=
  d (ix2 r i) * f (ix2 r j)

theorem ggu_low (j : S5632x1024.Idx) (hj : (j 0).val < 2816) : ggu m c j = A10 m c j := dif_pos hj

theorem final16 : (dats m 0 c).arrAt 16 cfg0.N = gout m c := by
  refine (dats m 0 c).arrAt_eq_of_after_last 16 t0_15 (by decide +kernel) _ fun y => ?_
  blk_simp
  idx_vars y
  rw [after0_16, Pipeline.eq_sum_fin_of_reset_step_apply_last (fun n h (j : Fin 1024 × Fin 1024) => (outsAt0 m c n h).2.2.2.2.2.1 (ix2 j.1 j.2)) 16 (fun _ => 0)
      (fun t j => ∑ r : Fin 512, prod (a := 1024) (b := 1024) (iblk m c 7 t) (iblk m c 8 t) j.1 j.2 r)
      (fun t h j => (congrFun (at16_first m c t h) _).trans ((pay10 _ _ _ _ _).trans (by rw [pay7]; rfl)))
      (fun t h j => (congrFun (at16_next m c t h) _).trans ((pay10 _ _ _ _ _).trans rfl))
      (le_of_eq N_0) t0_15 rfl (y0, y1), zero_add]
  exact Fin.sum_mul_add_congr (f := fun r => A6 m c (ix2 r y0) * A7 m c (ix2 r y1)) fun t k hl => congrArg₂ (fun x y : EReal => x * y) (blk7 m c t k y0) (blk8 m c t k y1)

/-- The second half of the array is the gradient; the first half stays as it was. -/
theorem final17 : (dats m 0 c).arrAt 17 cfg0.N = ggu m c := by
  refine (dats m 0 c).arrAt_eq_of_coversWhere_of_agree 17 (ggu m c) (fun β => 0 < β 0) (by decide +kernel) (fun t hf y => ?_)
    (fun j hj => ?_)
  · obtain rfl := (by decide +kernel : ∀ t, (cfg0.win 17).flush t = true → t = t0_15) t hf
    blk_simp
    idx_vars y
    rw [after0_17, Pipeline.eq_sum_fin_of_reset_step_apply_last (fun n h (j : Fin 2816 × Fin 1024) => (outsAt0 m c n h).2.2.2.2.2.2.1 (ix2 j.1 j.2)) 16 (fun _ => 0)
      (fun t j => ∑ r : Fin 512, prod (a := 2816) (b := 1024) (iblk m c 9 t) (iblk m c 10 t) j.1 j.2 r)
      (fun t h j => (congrFun (at17_first m c t h) _).trans ((pay11 _ _ _ _ _).trans (by rw [pay8]; rfl)))
      (fun t h j => (congrFun (at17_next m c t h) _).trans ((pay11 _ _ _ _ _).trans rfl))
      (le_of_eq N_0) t0_15 rfl (y0, y1), zero_add]
    refine Eq.trans (Fin.sum_mul_add_congr (f := fun r => A8 m c (ix2 r y0) * A9 m c (ix2 r y1)) fun t k hl => congrArg₂ (fun x y : EReal => x * y) (blk9 m c t k y0) (blk10 m c t k y1)) ?_
    rw [show ((View.whole main_v4_6).slice (win0_17.rect t0_15)).emb (ix2 y0 y1) = (ix2 (⟨2816 + y0.val, by omega⟩ : Fin 5632) y1 : S5632x1024.Idx) from ?_]
    · show _ = dite _ _ _
      rw [dif_neg (by simp)]
      exact congrArg₂ (gguRow m c) (Fin.ext (by simp)) rfl
    · funext a
      fin_cases a <;> refine Fin.ext ?_ <;> blk_simp [idx t0_15] <;> rfl
  · blk_simp [Pipeline.Window.cell_apply] at hj
    exact (ggu_low m c j (by omega)).symm

end Cert.Kernel2Ideal.Sgu

end
-- ==== Proof.SguSums.lean ====
/- The sums over several axes in the spatial gating's plain derivative, at an index. -/
module

public import proofs.«01_k».proof.Proof.SguReal
public import proofs.«01_k».proof.Proof.Gen.Reference2Ideal.Read
public import Idealize.ShloMosaic.Lib.Pipeline.ValueKit
public import Idealize.ShloMosaic.Lib.Claim

@[expose] public section
set_option maxRecDepth 16384
noncomputable section
namespace Cert.Reference2Ideal.Sgu
open Cert.Reference2Ideal Cert.Reference2Ideal.Gen Cert.Reference2Ideal.Read Cert.SguReal Idealize.ShloMosaic Idealize.ShloMosaic.TcCoe Idealize.SL.Sem

/-! ## Sums over several axes -/

theorem sum_at {s t : Shape} {axes : List (Fin s.rank)} (h : s.ReducesTo axes t) (x : s.Idx → EReal) (init : EReal) (j : t.Idx) {K : Type} [Fintype K]
    (e : K → s.Idx) (he : Function.Injective e) (hf : ∀ i, h.drop i = j ↔ ∃ k, e k = i) : Ideal.hostReduceAdd h x init j = init + ∑ k, x (e k) :=
  congrArg (init + ·) (Finset.sum_filter_eq_sum_of_fiber _ e he hf x)

theorem sum99 (x : S1x64x128x4x128.Idx → EReal) (init : EReal) (i : Fin 128) (g : Fin 4) :
    Ideal.hostReduceAdd reducesTo_S1x64x128x4x128_S1x128x4_d1_4 x init (ix3 0 i g) = init + ∑ p : Fin 64 × Fin 128, x (ix5 0 p.1 i g p.2) := by
  refine sum_at _ _ _ _ (fun p : Fin 64 × Fin 128 => (ix5 0 p.1 i g p.2 : S1x64x128x4x128.Idx)) (fun p q e => Prod.ext (congrFun e 1) (congrFun e 4)) fun y => ?_
  constructor
  · intro e
    refine ⟨(y 1, y 4), ?_⟩
    funext a
    fin_cases a
    · exact Subsingleton.elim (α := Fin 1) _ _
    · rfl
    · exact Fin.ext (congrArg Fin.val (congrFun e 1)).symm
    · exact Fin.ext (congrArg Fin.val (congrFun e 2)).symm
    · rfl
  · rintro ⟨p, rfl⟩
    funext a
    fin_cases a <;> rfl

theorem sum101 (x : S1x1x128x4x1.Idx → EReal) (init : EReal) (i : Fin 128) (g : Fin 4) :
    Ideal.hostReduceAdd reducesTo_S1x1x128x4x1_S128x4_d0_1_4 x init (ix2 i g) = init + ∑ p : Unit, x (ix5 0 0 i g 0) := by
  refine sum_at _ _ _ _ (fun _ : Unit => (ix5 0 0 i g 0 : S1x1x128x4x1.Idx)) (fun p q e => rfl) fun y => ?_
  constructor
  · intro e
    refine ⟨(), ?_⟩
    funext a
    fin_cases a
    · exact Subsingleton.elim (α := Fin 1) _ _
    · exact Subsingleton.elim (α := Fin 1) _ _
    · exact Fin.ext (congrArg Fin.val (congrFun e 0)).symm
    · exact Fin.ext (congrArg Fin.val (congrFun e 1)).symm
    · exact Subsingleton.elim (α := Fin 1) _ _
  · rintro ⟨p, rfl⟩
    funext a
    fin_cases a <;> rfl

theorem sum110 (x : S1x8192x4x128.Idx → EReal) (init : EReal) (j : Fin 128) :
    Ideal.hostReduceAdd reducesTo_S1x8192x4x128_S1x128_d1_2 x init (ix2 0 j) = init + ∑ p : Fin 8192 × Fin 4, x (ix4 0 p.1 p.2 j) := by
  refine sum_at _ _ _ _ (fun p : Fin 8192 × Fin 4 => (ix4 0 p.1 p.2 j : S1x8192x4x128.Idx)) (fun p q e => Prod.ext (congrFun e 1) (congrFun e 2)) fun y => ?_
  constructor
  · intro e
    refine ⟨(y 1, y 2), ?_⟩
    funext a
    fin_cases a
    · exact Subsingleton.elim (α := Fin 1) _ _
    · rfl
    · rfl
    · exact Fin.ext (congrArg Fin.val (congrFun e 1)).symm
  · rintro ⟨p, rfl⟩
    funext a
    fin_cases a <;> rfl

theorem sum112 (x : S1x1x1x128.Idx → EReal) (init : EReal) (j : Fin 128) :
    Ideal.hostReduceAdd reducesTo_S1x1x1x128_S128_d0_1_2 x init (ix1 j) = init + ∑ p : Unit, x (ix4 0 0 0 j) := by
  refine sum_at _ _ _ _ (fun _ : Unit => (ix4 0 0 0 j : S1x1x1x128.Idx)) (fun p q e => rfl) fun y => ?_
  constructor
  · intro e
    refine ⟨(), ?_⟩
    funext a
    fin_cases a
    · exact Subsingleton.elim (α := Fin 1) _ _
    · exact Subsingleton.elim (α := Fin 1) _ _
    · exact Subsingleton.elim (α := Fin 1) _ _
    · exact Fin.ext (congrArg Fin.val (congrFun e 0)).symm
  · rintro ⟨p, rfl⟩
    funext a
    fin_cases a <;> rfl

theorem sum127 (x : S1x8192x4x1.Idx → EReal) (init : EReal) (r : Fin 8192) (g : Fin 4) :
    Ideal.hostReduceAdd reducesTo_S1x8192x4x1_S8192x4_d0_3 x init (ix2 r g) = init + ∑ p : Unit, x (ix4 0 r g 0) := by
  refine sum_at _ _ _ _ (fun _ : Unit => (ix4 0 r g 0 : S1x8192x4x1.Idx)) (fun p q e => rfl) fun y => ?_
  constructor
  · intro e
    refine ⟨(), ?_⟩
    funext a
    fin_cases a
    · exact Subsingleton.elim (α := Fin 1) _ _
    · exact Fin.ext (congrArg Fin.val (congrFun e 0)).symm
    · exact Fin.ext (congrArg Fin.val (congrFun e 1)).symm
    · exact Subsingleton.elim (α := Fin 1) _ _
  · rintro ⟨p, rfl⟩
    funext a
    fin_cases a <;> rfl

abbrev dims104 := dot_S4x1x64x128x128_S1x64x128x4x128_S4x128x128_123_014_4_2_0_3
/-- A contraction index: a chunk and a column. -/
def at104 (p : Fin 64 × Fin 128) : dims104.contr.Idx := fun a =>
  match a with
  | ⟨0, _⟩ => (0 : Fin 1)
  | ⟨1, _⟩ => p.1
  | ⟨2, _⟩ => p.2

theorem dot104 (x : S4x1x64x128x128.Idx → EReal) (y : S1x64x128x4x128.Idx → EReal) (g : Fin 4) (i k : Fin 128) :
    Ideal.matmul dims104 x y (fun _ => 0) (ix3 g i k) = ∑ p : Fin 64 × Fin 128, x (ix5 g 0 p.1 p.2 i) * y (ix5 0 p.1 k g p.2) := by
  have hb : Function.Bijective at104 := by
    refine ⟨fun p q e => Prod.ext (congrFun e ⟨1, by decide⟩) (congrFun e ⟨2, by decide⟩), fun q => ⟨(q ⟨1, by decide⟩, q ⟨2, by decide⟩), ?_⟩⟩
    funext a
    match a with
    | ⟨0, _⟩ => exact Subsingleton.elim (α := Fin 1) _ _
    | ⟨1, _⟩ => rfl
    | ⟨2, _⟩ => rfl
  unfold Ideal.matmul
  rw [zero_add]
  refine (Fintype.sum_bijective at104 hb _ _ fun p => ?_).symm
  refine congrArg₂ (fun a b : EReal => a * b) (congrArg x ?_) (congrArg y ?_) <;> funext a <;> fin_cases a <;> rfl

end Cert.Reference2Ideal.Sgu

end
-- ==== Proof.SguForward.lean ====
/- The spatial gating's reference at real arguments: what its forward lines compute. -/
module

public import proofs.«01_k».proof.Proof.SguSums

@[expose] public section

set_option maxRecDepth 16384

noncomputable section

namespace Cert.Reference2Ideal.Sgu

open Cert.Reference2Ideal Cert.Reference2Ideal.Read Cert.SguReal Idealize.ShloMosaic Idealize.ShloMosaic.TcCoe

/-- The reference's arguments hold these real numbers. -/
structure Args (R : Arr) (x0 : FVec Ideal S8192x2560 .f32) (x1 : FVec Ideal S8192x512 .f32) (x2 x3 : FVec Ideal S1x128 .f32)
    (x4 : FVec Ideal S1x4x128x128 .f32) (x5 : FVec Ideal S1x4x128 .f32) : Prop where
  p : ∀ r j, x0 (ix2 r j) = ((R.p r j : ℝ) : EReal)
  q : ∀ r j, x1 (ix2 r j) = ((R.q r j : ℝ) : EReal)
  lg : ∀ j, x2 (ix2 0 j) = ((R.lg j : ℝ) : EReal)
  lb : ∀ j, x3 (ix2 0 j) = ((R.lb j : ℝ) : EReal)
  w : ∀ g i k, x4 (ix4 0 g i k) = ((R.w g i k : ℝ) : EReal)
  b : ∀ g i, x5 (ix3 0 g i) = ((R.b g i : ℝ) : EReal)

variable {R : Arr} {x0 : FVec Ideal S8192x2560 .f32} {x1 : FVec Ideal S8192x512 .f32} {x2 x3 : FVec Ideal S1x128 .f32}
  {x4 : FVec Ideal S1x4x128x128 .f32} {x5 : FVec Ideal S1x4x128 .f32} (h : Args R x0 x1 x2 x3 x4 x5)
include h

theorem at_u (n : Fin 64) (g : Fin 4) (i j : Fin 128) :
    val_main_v1 (F := Ideal) x0 (ix3 0 (row n i) (col g j)) = ((R.u n g i j : ℝ) : EReal) := by
  pointwise [val_main_v1, val_main_v0]
  exact h.p _ _
theorem at_z (n : Fin 64) (g : Fin 4) (i j : Fin 128) :
    val_main_v3 (F := Ideal) x0 (ix3 0 (row n i) (col g j)) = ((R.z n g i j : ℝ) : EReal) := by
  pointwise [val_main_v3, val_main_v2]
  exact h.p _ _
omit h

/-- The gate's cubic factor, a quotient of two literals. -/
theorem cubic : Ideal.div (Ideal.ofBits .f32 0x472EAB00#32) (Ideal.ofBits .f32 0x49742400#32) = ((8943 / 200000 : ℝ) : EReal) := by
  rw [num_bits, den_bits, Ideal.div_coe (by norm_num), ← EReal.coe_mul]
  congr 1; norm_num

theorem at_tu (i : S1x8192x512.Idx) (x : ℝ) (hx : val_main_v1 (F := Ideal) x0 i = ((x : ℝ) : EReal)) :
    val_main_v19 (F := Ideal) x0 i = ((th x : ℝ) : EReal) := by
  pointwise [val_main_v19, val_main_v18, val_main_v17, val_main_cst_2, val_main_v16, val_main_v15, val_main_v14, val_main_v8, val_main_cst, val_main_cst_0, val_main_v10, val_main_v9]
  rw [hx, cubic, fac_bits]
  simp only [← EReal.coe_one, ← EReal.coe_add, ← EReal.coe_sub, ← EReal.coe_mul, ← EReal.coe_neg, Ideal.tanh_coe]
  unfold th
  congr 2; ring
theorem at_su (i : S1x8192x512.Idx) (x : ℝ) (hx : val_main_v1 (F := Ideal) x0 i = ((x : ℝ) : EReal)) :
    val_main_v24 (F := Ideal) x0 i = (((1 + th x) * (1 - th x) : ℝ) : EReal) := by
  pointwise [val_main_v24, val_main_v21, val_main_v20, val_main_cst_3, val_main_v23, val_main_v22, val_main_cst_4]
  rw [at_tu i x hx]
  simp only [← EReal.coe_one, ← EReal.coe_add, ← EReal.coe_sub, ← EReal.coe_mul, ← EReal.coe_neg]
theorem at_hu (i : S1x8192x512.Idx) (x : ℝ) (hx : val_main_v1 (F := Ideal) x0 i = ((x : ℝ) : EReal)) :
    val_main_v28 (F := Ideal) x0 i = ((1 / 2 * (1 + th x) : ℝ) : EReal) := by
  pointwise [val_main_v28, val_main_v27, val_main_cst_6, val_main_v26, val_main_v25, val_main_cst_5]
  rw [at_tu i x hx, half_bits]
  simp only [← EReal.coe_one, ← EReal.coe_add, ← EReal.coe_sub, ← EReal.coe_mul, ← EReal.coe_neg]
theorem at_gu (i : S1x8192x512.Idx) (x : ℝ) (hx : val_main_v1 (F := Ideal) x0 i = ((x : ℝ) : EReal)) :
    val_main_v29 (F := Ideal) x0 i = ((gl x : ℝ) : EReal) := by
  pointwise [val_main_v29]
  rw [hx, at_hu i x hx, ← EReal.coe_mul]
  unfold gl
  congr 1; ring
theorem at_yu (i : S1x8192x512.Idx) (x : ℝ) (hx : val_main_v1 (F := Ideal) x0 i = ((x : ℝ) : EReal)) :
    val_main_v13 (F := Ideal) x0 i = ((3 * (x * x) : ℝ) : EReal) := by
  pointwise [val_main_v13, val_main_v12, val_main_cst_1, val_main_v11]
  rw [hx, three_bits]
  simp only [← EReal.coe_one, ← EReal.coe_add, ← EReal.coe_sub, ← EReal.coe_mul, ← EReal.coe_neg]
theorem at_tz (i : S1x8192x512.Idx) (x : ℝ) (hx : val_main_v3 (F := Ideal) x0 i = ((x : ℝ) : EReal)) :
    val_main_v42 (F := Ideal) x0 i = ((th x : ℝ) : EReal) := by
  pointwise [val_main_v42, val_main_v41, val_main_v40, val_main_cst_10, val_main_v39, val_main_v38, val_main_v37, val_main_v31, val_main_cst_7, val_main_cst_8, val_main_v33, val_main_v32]
  rw [hx, cubic, fac_bits]
  simp only [← EReal.coe_one, ← EReal.coe_add, ← EReal.coe_sub, ← EReal.coe_mul, ← EReal.coe_neg, Ideal.tanh_coe]
  unfold th
  congr 2; ring
theorem at_sz (i : S1x8192x512.Idx) (x : ℝ) (hx : val_main_v3 (F := Ideal) x0 i = ((x : ℝ) : EReal)) :
    val_main_v47 (F := Ideal) x0 i = (((1 + th x) * (1 - th x) : ℝ) : EReal) := by
  pointwise [val_main_v47, val_main_v44, val_main_v43, val_main_cst_11, val_main_v46, val_main_v45, val_main_cst_12]
  rw [at_tz i x hx]
  simp only [← EReal.coe_one, ← EReal.coe_add, ← EReal.coe_sub, ← EReal.coe_mul, ← EReal.coe_neg]
theorem at_hz (i : S1x8192x512.Idx) (x : ℝ) (hx : val_main_v3 (F := Ideal) x0 i = ((x : ℝ) : EReal)) :
    val_main_v51 (F := Ideal) x0 i = ((1 / 2 * (1 + th x) : ℝ) : EReal) := by
  pointwise [val_main_v51, val_main_v50, val_main_cst_14, val_main_v49, val_main_v48, val_main_cst_13]
  rw [at_tz i x hx, half_bits]
  simp only [← EReal.coe_one, ← EReal.coe_add, ← EReal.coe_sub, ← EReal.coe_mul, ← EReal.coe_neg]
theorem at_gz (i : S1x8192x512.Idx) (x : ℝ) (hx : val_main_v3 (F := Ideal) x0 i = ((x : ℝ) : EReal)) :
    val_main_v52 (F := Ideal) x0 i = ((gl x : ℝ) : EReal) := by
  pointwise [val_main_v52]
  rw [hx, at_hz i x hx, ← EReal.coe_mul]
  unfold gl
  congr 1; ring
theorem at_yz (i : S1x8192x512.Idx) (x : ℝ) (hx : val_main_v3 (F := Ideal) x0 i = ((x : ℝ) : EReal)) :
    val_main_v36 (F := Ideal) x0 i = ((3 * (x * x) : ℝ) : EReal) := by
  pointwise [val_main_v36, val_main_v35, val_main_cst_9, val_main_v34]
  rw [hx, three_bits]
  simp only [← EReal.coe_one, ← EReal.coe_add, ← EReal.coe_sub, ← EReal.coe_mul, ← EReal.coe_neg]

include h
variable (n : Fin 64) (g : Fin 4) (i j k : Fin 128)

theorem at_gu4 : val_main_v30 (F := Ideal) x0 (ix4 0 (row n i) g j) = ((gl (R.u n g i j) : ℝ) : EReal) := by
  refine Eq.trans ?_ (at_gu _ _ (at_u h n g i j))
  pointwise [val_main_v30]
theorem at_gz4 : val_main_v53 (F := Ideal) x0 (ix4 0 (row n i) g j) = ((gl (R.z n g i j) : ℝ) : EReal) := by
  refine Eq.trans ?_ (at_gz _ _ (at_z h n g i j))
  pointwise [val_main_v53]
theorem at_d4 : val_main_v95 (F := Ideal) x1 (ix4 0 (row n i) g j) = ((R.d n g i j : ℝ) : EReal) := by
  refine Eq.trans ?_ (h.q (row n i) (col g j))
  pointwise [val_main_v95, val_main_v94]
theorem at_xc : val_main_v59 (F := Ideal) x0 (ix4 0 (row n i) g j) = ((xc (R.z n g i) j : ℝ) : EReal) := by
  pointwise [val_main_v59, val_main_v58, val_main_v57, val_main_v56, val_main_cst_16, val_main_v55, val_main_v54, val_main_cst_15]
  simp only [at_gz4 h, coe_sum, width_bits]
  rw [Ideal.div_coe (by norm_num), ← EReal.coe_mul, ← EReal.coe_sub]
  rfl
theorem at_ms : val_main_v66 (F := Ideal) x0 (ix4 0 (row n i) g 0) = ((ms (R.z n g i) : ℝ) : EReal) := by
  pointwise [val_main_v66, val_main_v65, val_main_cst_19, val_main_v64, val_main_v63, val_main_cst_18, val_main_v62, val_main_v61,
    val_main_cst_17, val_main_v60]
  simp only [at_xc h, ← EReal.coe_mul, coe_sum, width_bits, off_bits]
  rw [Ideal.div_coe (by norm_num), ← EReal.coe_mul, ← EReal.coe_add]
  rfl
theorem at_rs : val_main_v67 (F := Ideal) x0 (ix4 0 (row n i) g 0) = ((rs (R.z n g i) : ℝ) : EReal) := by
  pointwise [val_main_v67]
  rw [at_ms h, Ideal.rsqrt_coe, if_neg (ms_pos _).le.not_gt, if_neg (ms_pos _).ne']
  rfl
theorem at_slope : val_main_v70 (F := Ideal) x0 (ix4 0 (row n i) g 0) =
    ((-(1 / 2) * (rs (R.z n g i) * (1 / ms (R.z n g i))) : ℝ) : EReal) := by
  pointwise [val_main_v70, val_main_v69, val_main_cst_20, val_main_v68]
  rw [at_ms h, at_rs h, neg_half_bits, Ideal.div_coe (ms_pos _).ne', ← EReal.coe_mul, ← EReal.coe_mul]
theorem at_xh : val_main_v72 (F := Ideal) x0 (ix4 0 (row n i) g j) = ((xh (R.z n g i) j : ℝ) : EReal) := by
  pointwise [val_main_v72, val_main_v71]
  rw [at_xc h, at_rs h, ← EReal.coe_mul]
  rfl
theorem at_zn : val_main_v79 (F := Ideal) x0 x2 x3 (ix5 0 n i g j) = ((zn R.lg R.lb (R.z n g i) j : ℝ) : EReal) := by
  pointwise [val_main_v79, val_main_v78, val_main_v77, val_main_v76, val_main_v75, val_main_v74, val_main_v73, val_main_v4, val_main_v5]
  rw [at_xh h, h.lg, h.lb, ← EReal.coe_mul, ← EReal.coe_add]
  rfl
omit h in
theorem at_tril : val_main_v81 (F := Ideal) (ix2 i k) = if k ≤ i then 1 else 0 := by
  refine Eq.trans ?_ (mask i k 1 0)
  pointwise [val_main_v81, val_main_call0_v4, val_main_call0_v3, val_main_call0_v2, val_main_call0_v1, val_main_call0_v0, val_main_call0_c,
    val_main_call0_v5, val_main_call0_cst, val_main_v80, val_main_cst_21]
  rw [show IntOp.addi (BitVec.ofNat 32 i.val) 0#32 = BitVec.ofNat 32 i.val from BitVec.add_zero _]
theorem at_w : val_main_v84 (F := Ideal) x4 (ix3 g i k) = ((wm (R.w g) i k : ℝ) : EReal) := by
  pointwise [val_main_v84, val_main_v83, val_main_v82, val_main_v6]
  rw [at_tril, h.w, wm]
  split <;> simp
omit h in
theorem div_row (hn : (n.val * 128 + i.val) / 128 < 64) : (⟨(n.val * 128 + i.val) / 128, hn⟩ : Fin 64) = n := by ext; dsimp only; omega
omit h in
theorem mod_row (hi : (n.val * 128 + i.val) % 128 < 128) : (⟨(n.val * 128 + i.val) % 128, hi⟩ : Fin 128) = i := by ext; dsimp only; omega
omit h in
theorem div_col (hg : (g.val * 128 + j.val) / 128 < 4) : (⟨(g.val * 128 + j.val) / 128, hg⟩ : Fin 4) = g := by ext; dsimp only; omega
omit h in
theorem mod_col (hj : (g.val * 128 + j.val) % 128 < 128) : (⟨(g.val * 128 + j.val) % 128, hj⟩ : Fin 128) = j := by ext; dsimp only; omega
theorem at_mix : val_main_v91 (F := Ideal) x0 x2 x3 x4 x5 (ix4 0 (row n i) g j) =
    ((mix R.lg R.lb (R.b g) (R.w g) (R.z n g) i j : ℝ) : EReal) := by
  pointwise [val_main_v91, val_main_v90, val_main_v89, val_main_v88, val_main_v87, val_main_v86, val_main_v85, val_main_v7]
  simp only [at_zn h, at_w h, h.b, ← EReal.coe_mul, coe_sum, ← EReal.coe_add, div_row, mod_row]
  unfold mix
  congr 2
  exact Finset.sum_congr rfl fun k _ => mul_comm _ _

end Cert.Reference2Ideal.Sgu

end
-- ==== Proof.SguBackward.lean ====
/- The spatial gating's reference at real arguments: the derivative's lines. -/
module

public import proofs.«01_k».proof.Proof.SguForward

@[expose] public section

set_option maxRecDepth 16384

noncomputable section

namespace Cert.Reference2Ideal.Sgu

open Cert.Reference2Ideal Cert.Reference2Ideal.Read Cert.SguReal Idealize.ShloMosaic Idealize.ShloMosaic.TcCoe

variable {R : Arr} {x0 : FVec Ideal S8192x2560 .f32} {x1 : FVec Ideal S8192x512 .f32} {x2 x3 : FVec Ideal S1x128 .f32}
  {x4 : FVec Ideal S1x4x128x128 .f32} {x5 : FVec Ideal S1x4x128 .f32} (h : Args R x0 x1 x2 x3 x4 x5)
include h
variable (n : Fin 64) (g : Fin 4) (i j k : Fin 128)

theorem at_dm4 : val_main_v96 (F := Ideal) x0 x1 (ix4 0 (row n i) g j) = ((R.dmT n g i j : ℝ) : EReal) := by
  pointwise [val_main_v96]
  rw [at_gu4 h, at_d4 h, ← EReal.coe_mul, mul_comm]
  rfl
theorem at_dm : val_main_v98 (F := Ideal) x0 x1 (ix5 0 n i g j) = ((R.dmT n g i j : ℝ) : EReal) := by
  refine Eq.trans ?_ (at_dm4 h n g i j)
  pointwise [val_main_v98]
theorem at_dmt : val_main_v103 (F := Ideal) x0 x1 (ix5 g 0 n j i) = ((R.dmT n g i j : ℝ) : EReal) := by
  refine Eq.trans ?_ (at_dm h n g i j)
  pointwise [val_main_v103]
theorem at_dn : val_main_v109 (F := Ideal) x0 x1 x4 (ix4 0 (row n k) g j) = ((R.dnT n g k j : ℝ) : EReal) := by
  pointwise [val_main_v109, val_main_v106, val_main_v105]
  simp only [at_dmt h, at_w h, ← EReal.coe_mul, coe_sum, div_row, mod_row]
  exact congrArg _ (Finset.sum_congr rfl fun i _ => mul_comm _ _)
theorem at_dxh : val_main_v117 (F := Ideal) x0 x1 x2 x4 (ix4 0 (row n i) g j) = ((R.dnT n g i j * R.lg j : ℝ) : EReal) := by
  pointwise [val_main_v117, val_main_v116, val_main_v73, val_main_v4]
  rw [at_dn h, h.lg, ← EReal.coe_mul]

/-- The mean square's cotangent, spread over the row. -/
def spread (R : Arr) (n : Fin 64) (g : Fin 4) (i : Fin 128) : ℝ :=
  (∑ k, xc (R.z n g i) k * (R.dnT n g i k * R.lg k)) * (-(1 / 2) * (rs (R.z n g i) * (1 / ms (R.z n g i)))) * (1 / 128)
theorem at_spread : val_main_v129 (F := Ideal) x0 x1 x2 x4 (ix4 0 (row n i) g j) = ((spread R n g i : ℝ) : EReal) := by
  pointwise [val_main_v129, val_main_v128, val_main_v127]
  rw [sum127]
  pointwise [val_main_cst_30, val_main_v126, val_main_v125, val_main_cst_29, val_main_v124, val_main_v121, val_main_v120, val_main_cst_28,
    val_main_v119]
  simp only [at_xc h, at_dxh h, at_slope h, width_bits, ← EReal.coe_mul, coe_sum]
  rw [Ideal.div_coe (by norm_num), ← EReal.coe_mul]
  exact Fintype.sum_unique _
/-- The three terms without the mean's. -/
theorem at_three : val_main_v133 (F := Ideal) x0 x1 x2 x4 (ix4 0 (row n i) g j) =
    ((R.dnT n g i j * R.lg j * rs (R.z n g i) + xc (R.z n g i) j * spread R n g i + spread R n g i * xc (R.z n g i) j : ℝ) : EReal) := by
  pointwise [val_main_v133, val_main_v132, val_main_v131, val_main_v130, val_main_v123, val_main_v122]
  simp only [at_xc h, at_dxh h, at_rs h, at_spread h, ← EReal.coe_mul, ← EReal.coe_add]
theorem at_dgz : val_main_v142 (F := Ideal) x0 x1 x2 x4 (ix4 0 (row n i) g j) =
    ((rs (R.z n g i) * (R.dnT n g i j * R.lg j - (∑ k, R.dnT n g i k * R.lg k) * (1 / 128) -
      xh (R.z n g i) j * ((∑ k, R.dnT n g i k * R.lg k * xh (R.z n g i) k) * (1 / 128))) : ℝ) : EReal) := by
  rw [← chain R.lg (R.z n g i) (R.dnT n g i) j (spread R n g i) rfl]
  pointwise [val_main_v142, val_main_v141, val_main_v140, val_main_v139]
  rw [sum127]
  pointwise [val_main_cst_33, val_main_v138, val_main_v137, val_main_cst_32, val_main_v136, val_main_v135, val_main_cst_31,
    val_main_v134]
  simp only [at_three h, width_bits, ← EReal.coe_neg, coe_sum]
  rw [Ideal.div_coe (by norm_num), ← EReal.coe_mul]
  rw [EReal.coe_add]
  exact congrArg _ (Fintype.sum_unique _)
theorem at_dz : val_main_v155 (F := Ideal) x0 x1 x2 x4 (ix3 0 (row n i) (col g j)) = ((R.dzT n g i j : ℝ) : EReal) := by
  have e : val_main_v143 (F := Ideal) x0 x1 x2 x4 (ix3 0 (row n i) (col g j)) = val_main_v142 (F := Ideal) x0 x1 x2 x4 (ix4 0 (row n i) g j) := by
    pointwise [val_main_v143]
    simp only [div_col, mod_col]
  pointwise [val_main_v155, val_main_v154, val_main_v153, val_main_v152, val_main_v151, val_main_v150, val_main_v149, val_main_v148,
    val_main_v147, val_main_v146, val_main_v145, val_main_v144, val_main_cst_34, val_main_cst_35, val_main_v31, val_main_cst_7, val_main_cst_8]
  rw [e, at_dgz h, at_yz _ _ (at_z h n g i j), at_sz _ _ (at_z h n g i j), at_hz _ _ (at_z h n g i j), at_z h, cubic, half_bits, fac_bits]
  simp only [← EReal.coe_add, ← EReal.coe_mul]
  congr 1
  unfold Arr.dzT back gd
  ring
theorem at_du : val_main_v168 (F := Ideal) x0 x1 x2 x3 x4 x5 (ix3 0 (row n i) (col g j)) = ((R.duT n g i j : ℝ) : EReal) := by
  have e : val_main_v156 (F := Ideal) x0 x1 x2 x3 x4 x5 (ix3 0 (row n i) (col g j)) =
      ((R.d n g i j * mix R.lg R.lb (R.b g) (R.w g) (R.z n g) i j : ℝ) : EReal) := by
    rw [EReal.coe_mul, ← at_d4 h, ← at_mix h]
    pointwise [val_main_v156, val_main_v97]
    simp only [div_col, mod_col]
  pointwise [val_main_v168, val_main_v167, val_main_v166, val_main_v165, val_main_v164, val_main_v163, val_main_v162, val_main_v161,
    val_main_v160, val_main_v159, val_main_v158, val_main_v157, val_main_cst_36, val_main_cst_37, val_main_v8, val_main_cst, val_main_cst_0]
  rw [e, at_yu _ _ (at_u h n g i j), at_su _ _ (at_u h n g i j), at_hu _ _ (at_u h n g i j), at_u h, cubic, half_bits, fac_bits]
  simp only [← EReal.coe_add, ← EReal.coe_mul]
  congr 1
  unfold Arr.duT du gd
  ring

end Cert.Reference2Ideal.Sgu

end
-- ==== Proof.SguEquation.lean ====
/- The spatial gating's gradient call: its result arrays are those of the plain derivative. -/
module

public import proofs.«01_k».proof.Proof.SguValue
public import proofs.«01_k».proof.Proof.SguBackward
public import proofs.«01_k».proof.Proof.Finite
public import proofs.«01_k».proof.Defs

@[expose] public section

set_option maxRecDepth 16384

noncomputable section

namespace Cert.Reference2Ideal.Sgu

open Cert.Reference2Ideal Cert.Reference2Ideal.Read Cert.SguReal Idealize.ShloMosaic Idealize.ShloMosaic.TcCoe
open Cert.Kernel2Ideal.Sgu (duz dwA dbA dlgA dlbA)

/-- A sum over the rows, chunk by chunk. -/
theorem sum_rows (f : Fin 8192 → EReal) : ∑ r, f r = ∑ n : Fin 64, ∑ i : Fin 128, f (row n i) := by
  rw [← (finProdFinEquiv (m := 64) (n := 128)).sum_comp f, Fintype.sum_prod_type]
  refine Finset.sum_congr rfl fun n _ => Finset.sum_congr rfl fun i _ => congrArg f (Fin.ext ?_)
  show i.val + 128 * n.val = n.val * 128 + i.val
  omega

/-- A row and a column, by chunk and by group. -/
theorem row_eq (r : Fin 8192) : r = row ⟨r.val / 128, by omega⟩ ⟨r.val % 128, by omega⟩ := by ext; show r.val = r.val / 128 * 128 + r.val % 128; omega
theorem col_eq (c : Fin 512) : c = col ⟨c.val / 128, by omega⟩ ⟨c.val % 128, by omega⟩ := by ext; show c.val = c.val / 128 * 128 + c.val % 128; omega

variable {R : Arr} {x0 : FVec Ideal S8192x2560 .f32} {x1 : FVec Ideal S8192x512 .f32} {x2 x3 : FVec Ideal S1x128 .f32}
  {x4 : FVec Ideal S1x4x128x128 .f32} {x5 : FVec Ideal S1x4x128 .f32} (h : Args R x0 x1 x2 x3 x4 x5)
include h

theorem ref_duz : val_main_v189 (F := Ideal) x0 x1 x2 x3 x4 x5 = duz R := by
  funext i
  obtain ⟨a, r, c, rfl⟩ : ∃ (a : Fin 2) (r : Fin 8192) (c : Fin 512), i = (ix3 a r c : S2x8192x512.Idx) := ⟨i 0, i 1, i 2, (ix3_eta i).symm⟩
  have e1 := at_du h ⟨r.val / 128, by omega⟩ ⟨c.val / 128, by omega⟩ ⟨r.val % 128, by omega⟩ ⟨c.val % 128, by omega⟩
  have e2 := at_dz h ⟨r.val / 128, by omega⟩ ⟨c.val / 128, by omega⟩ ⟨r.val % 128, by omega⟩ ⟨c.val % 128, by omega⟩
  rw [← row_eq, ← col_eq] at e1 e2
  match a with
  | ⟨0, _⟩ =>
    refine Eq.trans ?_ e1
    pointwise [val_main_v189, val_main_v188, val_main_v186, val_main_v184]
  | ⟨1, _⟩ =>
    refine Eq.trans ?_ e2
    pointwise [val_main_v189, val_main_v188, val_main_v187, val_main_v185]

theorem ref_dw : val_main_v190 (F := Ideal) x0 x1 x2 x3 = dwA R := by
  funext y
  obtain ⟨g, i, k, rfl⟩ : ∃ (g : Fin 4) (i k : Fin 128), y = (ix3 g i k : S4x128x128.Idx) := ⟨_, _, _, (ix3_eta y).symm⟩
  have e : val_main_v104 (F := Ideal) x0 x1 x2 x3 (ix3 g i k) = ((∑ n, ∑ j, R.dmT n g i j * zn R.lg R.lb (R.z n g k) j : ℝ) : EReal) := by
    refine (dot104 _ _ g i k).trans ?_
    simp only [at_dmt h, at_zn h, ← EReal.coe_mul, coe_sum, Fintype.sum_prod_type]
  pointwise [val_main_v190, val_main_v170, val_main_v108, val_main_v107, val_main_v82]
  rw [e, at_tril]
  show _ = ((R.dwS g i k : ℝ) : EReal)
  unfold Arr.dwS Arr.dwT dw
  by_cases hk : k ≤ i
  · simp only [if_pos hk, mul_one]; rfl
  · simp [if_neg hk]

theorem ref_db : val_main_v183 (F := Ideal) x0 x1 = dbA R := by
  funext y
  obtain ⟨i, g, rfl⟩ : ∃ (i g : Fin 128), y = (ix2 i g : S128x128.Idx) := ⟨_, _, (ix2_eta y).symm⟩
  show _ = if h : g.val < 4 then ((R.dbS ⟨g.val, h⟩ i : ℝ) : EReal) else 0
  by_cases hg : g.val < 4
  · rw [dif_pos hg]
    refine (pad_apply_of_inside _ _ _ _ _ _ _ _ (ix2 i (⟨g.val, hg⟩ : Fin 4) : S128x4.Idx) fun a => ?_).trans ?_
    · fin_cases a <;> simp
    · pointwise [val_main_v182, val_main_v181, val_main_v169, val_main_v102, val_main_v101]
      rw [sum101]
      pointwise [val_main_v100, val_main_v99, val_main_cst_23]
      simp only [sum99]
      pointwise [val_main_cst_22]
      simp only [at_dm h, coe_sum, Fintype.sum_prod_type]
      refine congrArg (fun x : ℝ => (x : EReal)) ((Fintype.sum_unique _).trans Finset.sum_comm)
  · rw [dif_neg hg]
    refine (pad_apply_of_not_inside _ _ _ _ _ _ _ _ (1 : Fin 2) fun e => hg ?_).trans ?_
    · simpa using e.2.2
    · pointwise [val_main_call1_v0, val_main_c]
      show ((((0#32 : BitVec 32).toInt : ℤ) : ℝ) : EReal) = 0
      simp

theorem ref_dlb : val_main_v171 (F := Ideal) x0 x1 x4 = dlbA R := by
  funext i
  obtain ⟨j, rfl⟩ : ∃ j : Fin 128, i = (ix2 0 j : S1x128.Idx) := ⟨i 1, funext fun a => by fin_cases a; exacts [Subsingleton.elim (α := Fin 1) _ _, rfl]⟩
  pointwise [val_main_v171, val_main_v112]
  rw [sum112]
  pointwise [val_main_v111, val_main_v110, val_main_cst_25]
  simp only [sum110]
  pointwise [val_main_cst_24]
  rw [Fintype.sum_unique, Fintype.sum_prod_type, sum_rows]
  simp only [at_dn h, coe_sum]
  refine congrArg (fun x : ℝ => (x : EReal)) (Finset.sum_congr rfl fun n _ => Finset.sum_comm)

theorem ref_dlg : val_main_v172 (F := Ideal) x0 x1 x4 = dlgA R := by
  funext i
  obtain ⟨j, rfl⟩ : ∃ j : Fin 128, i = (ix2 0 j : S1x128.Idx) := ⟨i 1, funext fun a => by fin_cases a; exacts [Subsingleton.elim (α := Fin 1) _ _, rfl]⟩
  pointwise [val_main_v172, val_main_v118]
  rw [sum112]
  pointwise [val_main_v115, val_main_v114, val_main_cst_27]
  simp only [sum110]
  pointwise [val_main_cst_26, val_main_v113]
  rw [Fintype.sum_unique, Fintype.sum_prod_type, sum_rows]
  simp only [at_xh h, at_dn h, coe_sum, ← EReal.coe_mul]
  refine congrArg (fun x : ℝ => (x : EReal)) (Finset.sum_congr rfl fun n _ => Finset.sum_comm.trans ?_)
  exact Finset.sum_congr rfl fun g _ => Finset.sum_congr rfl fun k _ => mul_comm _ _

end Cert.Reference2Ideal.Sgu

namespace Cert.Kernel2Ideal.Sgu

open Cert.Reference2Ideal.Read Cert.SguReal Cert.Finite Idealize.ShloMosaic Idealize.ShloMosaic.TcCoe

/-- Finite arguments hold real numbers. -/
theorem finite_args [Pre_finite2.Facts] (x0 : FVec Ideal S8192x2560 .f32) (x1 : FVec Ideal S8192x512 .f32) (x2 x3 : FVec Ideal S1x128 .f32)
    (x4 : FVec Ideal S1x4x128x128 .f32) (x5 : FVec Ideal S1x4x128 .f32) (x6 x7 : FVec Ideal S8192x1024 .bf16)
    (x8 : FVec Ideal S8192x2816 .bf16) (x9 : FVec Ideal S8192x1024 .bf16) (x10 : FVec Ideal S5632x1024 .f32)
    (h : Pre_finite2.fn (F := Ideal) x0 x1 x2 x3 x4 x5 x6 x7 x8 x9 x10 = fun _ => 1#1) :
    ∃ R, Reference2Ideal.Sgu.Args R x0 x1 x2 x3 x4 x5 := by
  have e := congrFun h ix0
  obtain ⟨e, e5⟩ := and_one _ _ e
  obtain ⟨e, e4⟩ := and_one _ _ e
  obtain ⟨e, e3⟩ := and_one _ _ e
  obtain ⟨e, e2⟩ := and_one _ _ e
  obtain ⟨e0, e1⟩ := and_one _ _ e
  choose a0 h0 using Finite.real x0 _ (fun _ => Finite.inf32) _ _ _ _ e0
  choose a1 h1 using Finite.real x1 _ (fun _ => Finite.inf32) _ _ _ _ e1
  choose a2 h2 using Finite.real x2 _ (fun _ => Finite.inf32) _ _ _ _ e2
  choose a3 h3 using Finite.real x3 _ (fun _ => Finite.inf32) _ _ _ _ e3
  choose a4 h4 using Finite.real x4 _ (fun _ => Finite.inf32) _ _ _ _ e4
  choose a5 h5 using Finite.real x5 _ (fun _ => Finite.inf32) _ _ _ _ e5
  exact ⟨⟨fun r j => a0 (ix2 r j), fun r j => a1 (ix2 r j), fun j => a2 (ix2 0 j), fun j => a3 (ix2 0 j), fun g i k => a4 (ix4 0 g i k),
    fun g i => a5 (ix3 0 g i)⟩, ⟨fun r j => h0 _, fun r j => h1 _, fun j => h2 _, fun j => h3 _, fun g i k => h4 _, fun g i => h5 _⟩⟩

theorem ref_gout (x6 x7 : FVec Ideal S8192x1024 .bf16) (i : S1024x1024.Idx) :
    val_main_v176 (F := Ideal) x6 x7 i = ∑ r : Fin 8192, x6 (ix2 r (i 0)) * x7 (ix2 r (i 1)) := by
  idx_vars i
  pointwise [val_main_v176, val_main_v175, val_main_v174, val_main_v173]
variable (x8 : FVec Ideal S8192x2816 .bf16) (x9 : FVec Ideal S8192x1024 .bf16) (x10 : FVec Ideal S5632x1024 .f32)
theorem ref_low (r : Fin 5632) (j : Fin 1024) (h : r.val < 2816) : val_main_v192 (F := Ideal) x8 x9 x10 (ix2 r j) = x10 (ix2 r j) := by
  pointwise [val_main_v192, val_main_v191]
  simp only [dif_pos h]
theorem ref_high (r : Fin 5632) (j : Fin 1024) (h : ¬r.val < 2816) :
    val_main_v192 (F := Ideal) x8 x9 x10 (ix2 r j) = ∑ k : Fin 8192, x8 (ix2 k ⟨r.val - 2816, by omega⟩) * x9 (ix2 k j) := by
  pointwise [val_main_v192, val_main_v180, val_main_v179, val_main_v178, val_main_v177]
  simp only [dif_neg h]

theorem ref_ggu_fun (m : (ℓ : Loc Kernel2Ideal.nD Kernel2Ideal.τ Kernel2Ideal.sig) → Buf (Elt Ideal) ℓ) (c : Dev Kernel2Ideal.nD) :
    val_main_v192 (F := Ideal) (A8 m c) (A9 m c) (A10 m c) = ggu m c := by
  funext i
  obtain ⟨r, j, rfl⟩ : ∃ (r : Fin 5632) (j : Fin 1024), i = (ix2 r j : S5632x1024.Idx) := ⟨i 0, i 1, (ix2_eta i).symm⟩
  by_cases h : r.val < 2816
  · refine (ref_low _ _ _ r j h).trans ?_
    unfold ggu
    split
    · rfl
    · exact absurd h ‹_›
  · refine (ref_high _ _ _ r j h).trans ?_
    unfold ggu
    split
    · exact absurd ‹_› h
    · rfl

end Cert.Kernel2Ideal.Sgu

end
-- ==== Proof.AttnTrip.lean ====
/- One trip of each of the three loops of the attention's forward call, the dilations 16, 4 and 1: the blocks it stores. -/
module

public import proofs.«01_k».proof.Proof.Gen.Kernel11Ideal.Loops
public import proofs.«01_k».proof.Proof.Gen.Kernel11Ideal.Frame

@[expose] public section

set_option maxRecDepth 8192

noncomputable section

namespace Cert.Kernel11Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel11Ideal.Gen

variable {F : FTy → Type} [FloatOps F] [Named F]

local notation "𝕄" => MT nD τ sig Unit (Elt F) ℕ (UR sig nD τ) ℕ

set_option warn.classDefReducibility false

/-- Where the blocks of a trip begin: residue `4 k + s`, block `b`. -/
theorem off1_eq : ∀ (k : Fin k0_t1_loop.trips) (s b : Fin 4),
    k0_off1 k (BitVec.ofNat 32 s.val) (BitVec.ofNat 32 (2048 * b.val)) = ![4 * k.val + (s.val + 2048 * b.val), 0] := by decide +kernel

instance (k : Fin k0_t1_loop.trips) : ClosedOff (k0_off1 k 0#32 0#32) := ⟨![4 * k.val + 0, 0], off1_eq k 0 0⟩
instance (k : Fin k0_t1_loop.trips) : ClosedOff (k0_off1 k 0#32 2048#32) := ⟨![4 * k.val + 2048, 0], off1_eq k 0 1⟩
instance (k : Fin k0_t1_loop.trips) : ClosedOff (k0_off1 k 0#32 4096#32) := ⟨![4 * k.val + 4096, 0], off1_eq k 0 2⟩
instance (k : Fin k0_t1_loop.trips) : ClosedOff (k0_off1 k 0#32 6144#32) := ⟨![4 * k.val + 6144, 0], off1_eq k 0 3⟩
instance (k : Fin k0_t1_loop.trips) : ClosedOff (k0_off1 k 1#32 0#32) := ⟨![4 * k.val + 1, 0], off1_eq k 1 0⟩
instance (k : Fin k0_t1_loop.trips) : ClosedOff (k0_off1 k 1#32 2048#32) := ⟨![4 * k.val + 2049, 0], off1_eq k 1 1⟩
instance (k : Fin k0_t1_loop.trips) : ClosedOff (k0_off1 k 1#32 4096#32) := ⟨![4 * k.val + 4097, 0], off1_eq k 1 2⟩
instance (k : Fin k0_t1_loop.trips) : ClosedOff (k0_off1 k 1#32 6144#32) := ⟨![4 * k.val + 6145, 0], off1_eq k 1 3⟩
instance (k : Fin k0_t1_loop.trips) : ClosedOff (k0_off1 k 2#32 0#32) := ⟨![4 * k.val + 2, 0], off1_eq k 2 0⟩
instance (k : Fin k0_t1_loop.trips) : ClosedOff (k0_off1 k 2#32 2048#32) := ⟨![4 * k.val + 2050, 0], off1_eq k 2 1⟩
instance (k : Fin k0_t1_loop.trips) : ClosedOff (k0_off1 k 2#32 4096#32) := ⟨![4 * k.val + 4098, 0], off1_eq k 2 2⟩
instance (k : Fin k0_t1_loop.trips) : ClosedOff (k0_off1 k 2#32 6144#32) := ⟨![4 * k.val + 6146, 0], off1_eq k 2 3⟩
instance (k : Fin k0_t1_loop.trips) : ClosedOff (k0_off1 k 3#32 0#32) := ⟨![4 * k.val + 3, 0], off1_eq k 3 0⟩
instance (k : Fin k0_t1_loop.trips) : ClosedOff (k0_off1 k 3#32 2048#32) := ⟨![4 * k.val + 2051, 0], off1_eq k 3 1⟩
instance (k : Fin k0_t1_loop.trips) : ClosedOff (k0_off1 k 3#32 4096#32) := ⟨![4 * k.val + 4099, 0], off1_eq k 3 2⟩
instance (k : Fin k0_t1_loop.trips) : ClosedOff (k0_off1 k 3#32 6144#32) := ⟨![4 * k.val + 6147, 0], off1_eq k 3 3⟩

/-- Where the blocks of a trip begin with the dilation 4: residue `k`. -/
theorem off2_eq : ∀ (k : Fin k0_t2_loop.trips) (b : Fin 16), k0_off2 k (BitVec.ofNat 32 (512 * b.val)) = ![k.val + 512 * b.val, 0] := by
  decide +kernel

instance (k : Fin k0_t2_loop.trips) : ClosedOff (k0_off2 k 0#32) := ⟨![k.val + 0, 0], off2_eq k 0⟩
instance (k : Fin k0_t2_loop.trips) : ClosedOff (k0_off2 k 512#32) := ⟨![k.val + 512, 0], off2_eq k 1⟩
instance (k : Fin k0_t2_loop.trips) : ClosedOff (k0_off2 k 1024#32) := ⟨![k.val + 1024, 0], off2_eq k 2⟩
instance (k : Fin k0_t2_loop.trips) : ClosedOff (k0_off2 k 1536#32) := ⟨![k.val + 1536, 0], off2_eq k 3⟩
instance (k : Fin k0_t2_loop.trips) : ClosedOff (k0_off2 k 2048#32) := ⟨![k.val + 2048, 0], off2_eq k 4⟩
instance (k : Fin k0_t2_loop.trips) : ClosedOff (k0_off2 k 2560#32) := ⟨![k.val + 2560, 0], off2_eq k 5⟩
instance (k : Fin k0_t2_loop.trips) : ClosedOff (k0_off2 k 3072#32) := ⟨![k.val + 3072, 0], off2_eq k 6⟩
instance (k : Fin k0_t2_loop.trips) : ClosedOff (k0_off2 k 3584#32) := ⟨![k.val + 3584, 0], off2_eq k 7⟩
instance (k : Fin k0_t2_loop.trips) : ClosedOff (k0_off2 k 4096#32) := ⟨![k.val + 4096, 0], off2_eq k 8⟩
instance (k : Fin k0_t2_loop.trips) : ClosedOff (k0_off2 k 4608#32) := ⟨![k.val + 4608, 0], off2_eq k 9⟩
instance (k : Fin k0_t2_loop.trips) : ClosedOff (k0_off2 k 5120#32) := ⟨![k.val + 5120, 0], off2_eq k 10⟩
instance (k : Fin k0_t2_loop.trips) : ClosedOff (k0_off2 k 5632#32) := ⟨![k.val + 5632, 0], off2_eq k 11⟩
instance (k : Fin k0_t2_loop.trips) : ClosedOff (k0_off2 k 6144#32) := ⟨![k.val + 6144, 0], off2_eq k 12⟩
instance (k : Fin k0_t2_loop.trips) : ClosedOff (k0_off2 k 6656#32) := ⟨![k.val + 6656, 0], off2_eq k 13⟩
instance (k : Fin k0_t2_loop.trips) : ClosedOff (k0_off2 k 7168#32) := ⟨![k.val + 7168, 0], off2_eq k 14⟩
instance (k : Fin k0_t2_loop.trips) : ClosedOff (k0_off2 k 7680#32) := ⟨![k.val + 7680, 0], off2_eq k 15⟩

/-- Where the blocks of a trip begin with the dilation 1. -/
theorem off4_eq : ∀ (k : Fin k0_t3_loop.trips) (b : Fin 16), k0_off4 k (BitVec.ofNat 32 (128 * b.val)) = ![2048 * k.val + 128 * b.val, 0] := by
  decide +kernel

instance (k : Fin k0_t3_loop.trips) : ClosedOff (k0_off4 k 0#32) := ⟨![2048 * k.val + 0, 0], off4_eq k 0⟩
instance (k : Fin k0_t3_loop.trips) : ClosedOff (k0_off4 k 128#32) := ⟨![2048 * k.val + 128, 0], off4_eq k 1⟩
instance (k : Fin k0_t3_loop.trips) : ClosedOff (k0_off4 k 256#32) := ⟨![2048 * k.val + 256, 0], off4_eq k 2⟩
instance (k : Fin k0_t3_loop.trips) : ClosedOff (k0_off4 k 384#32) := ⟨![2048 * k.val + 384, 0], off4_eq k 3⟩
instance (k : Fin k0_t3_loop.trips) : ClosedOff (k0_off4 k 512#32) := ⟨![2048 * k.val + 512, 0], off4_eq k 4⟩
instance (k : Fin k0_t3_loop.trips) : ClosedOff (k0_off4 k 640#32) := ⟨![2048 * k.val + 640, 0], off4_eq k 5⟩
instance (k : Fin k0_t3_loop.trips) : ClosedOff (k0_off4 k 768#32) := ⟨![2048 * k.val + 768, 0], off4_eq k 6⟩
instance (k : Fin k0_t3_loop.trips) : ClosedOff (k0_off4 k 896#32) := ⟨![2048 * k.val + 896, 0], off4_eq k 7⟩
instance (k : Fin k0_t3_loop.trips) : ClosedOff (k0_off4 k 1024#32) := ⟨![2048 * k.val + 1024, 0], off4_eq k 8⟩
instance (k : Fin k0_t3_loop.trips) : ClosedOff (k0_off4 k 1152#32) := ⟨![2048 * k.val + 1152, 0], off4_eq k 9⟩
instance (k : Fin k0_t3_loop.trips) : ClosedOff (k0_off4 k 1280#32) := ⟨![2048 * k.val + 1280, 0], off4_eq k 10⟩
instance (k : Fin k0_t3_loop.trips) : ClosedOff (k0_off4 k 1408#32) := ⟨![2048 * k.val + 1408, 0], off4_eq k 11⟩
instance (k : Fin k0_t3_loop.trips) : ClosedOff (k0_off4 k 1536#32) := ⟨![2048 * k.val + 1536, 0], off4_eq k 12⟩
instance (k : Fin k0_t3_loop.trips) : ClosedOff (k0_off4 k 1664#32) := ⟨![2048 * k.val + 1664, 0], off4_eq k 13⟩
instance (k : Fin k0_t3_loop.trips) : ClosedOff (k0_off4 k 1792#32) := ⟨![2048 * k.val + 1792, 0], off4_eq k 14⟩
instance (k : Fin k0_t3_loop.trips) : ClosedOff (k0_off4 k 1920#32) := ⟨![2048 * k.val + 1920, 0], off4_eq k 15⟩

section Trip

variable (c : Dev nD) (i : grid0.Coords)
  (arg1 : Memref sig .tc .vmem S8192x128 .f32) (harg1 : arg1.IsWhole) (arg2 : Memref sig .tc .vmem S8192x128 .f32) (harg2 : arg2.IsWhole)
  (arg3 : Memref sig .tc .vmem S8192x128 .f32) (harg3 : arg3.IsWhole) (arg4 : Memref sig .tc .vmem S1x8x128 .f32) (harg4 : arg4.IsWhole)
  (arg5 : Memref sig .tc .vmem S8192x128 .f32) (harg5 : arg5.IsWhole) (arg6 : Memref sig .tc .vmem S8192x128 .f32) (harg6 : arg6.IsWhole)
  (arg7 : Memref sig .tc .vmem S8192x128 .f32) (harg7 : arg7.IsWhole) (arg8 : Memref sig .tc .vmem S6x256x256 .f32) (harg8 : arg8.IsWhole)
  (X1 : Buf (Elt F) (arg1.view.loc (c : Thread nD τ))) (X2 : Buf (Elt F) (arg2.view.loc (c : Thread nD τ)))
  (X3 : Buf (Elt F) (arg3.view.loc (c : Thread nD τ))) (X8 : Buf (Elt F) (arg8.view.loc (c : Thread nD τ)))

/-- What a trip finds: the three operands and the biases, the two results and the running sums, each at its contents. -/
abbrev Held (f5 : Buf (Elt F) (arg5.view.loc (c : Thread nD τ))) (f6 : Buf (Elt F) (arg6.view.loc (c : Thread nD τ)))
    (f7 : Buf (Elt F) (arg7.view.loc (c : Thread nD τ))) : sProp 𝕄 :=
  iprop((arg1.view.loc (c : Thread nD τ) ↦[arg1.view.set]{fullShare} X1) ∗ (arg2.view.loc (c : Thread nD τ) ↦[arg2.view.set]{fullShare} X2)
    ∗ (arg3.view.loc (c : Thread nD τ) ↦[arg3.view.set]{fullShare} X3) ∗ (arg8.view.loc (c : Thread nD τ) ↦[arg8.view.set]{fullShare} X8)
    ∗ (arg5.view.loc (c : Thread nD τ) ↦[arg5.view.set]{fullShare} f5) ∗ (arg6.view.loc (c : Thread nD τ) ↦[arg6.view.set]{fullShare} f6)
    ∗ (arg7.view.loc (c : Thread nD τ) ↦[arg7.view.set]{fullShare} f7))

/-- The blocks a trip stores, the newest first. -/
abbrev Blocks : Type := List (View.Piece (Elt F) S8192x128 .f32)

set_option maxHeartbeats 8000000 in
set_option backward.proofsInPublic true in
/-- One trip with the dilation 16: it stores the same blocks whatever the results' buffers hold. -/
def trip1 (v239 : IVec S1x128 1) (c0 c1 : BitVec 32) (k : Fin k0_t1_loop.trips) :
    Σ' (L5 : Blocks (F := F)) (L6 : Blocks (F := F)), { L7 : Blocks (F := F) // ∀ f5 f6 f7,
      Held c arg1 arg2 arg3 arg5 arg6 arg7 arg8 X1 X2 X3 X8 f5 f6 f7
      ⊢ wp frame (wpE (defs₀ (F := F)) Variants.none (c : Thread nD τ) none) Set.univ
        (k0_t1_body (F := F) i arg1 harg1 arg2 harg2 arg3 harg3 arg4 harg4 arg5 harg5 arg6 harg6 arg7 harg7 arg8 harg8 v239 c0 c1 k ())
        (fun _ => Held c arg1 arg2 arg3 arg5 arg6 arg7 arg8 X1 X2 X3 X8 (arg5.view.writes (Elt F) f5 L5) (arg6.view.writes (Elt F) f6 L6)
          (arg7.view.writes (Elt F) f7 L7)) } := by
  refine ⟨?_, ?_, ?_, fun f5 f6 f7 => ?run⟩
  case run =>
    unfold k0_t1_body
    iintro ⟨H1, H2, H3, H8, H5, H6, H7⟩
    sl_exec_parts
    sl_step
    sl_close

set_option maxHeartbeats 8000000 in
set_option backward.proofsInPublic true in
/-- One trip with the dilation 4, from what the results' buffers hold. -/
def trip2 (v239 : IVec S1x128 1) (k : Fin k0_t2_loop.trips) (f5 : Buf (Elt F) (arg5.view.loc (c : Thread nD τ)))
    (f6 : Buf (Elt F) (arg6.view.loc (c : Thread nD τ))) (f7 : Buf (Elt F) (arg7.view.loc (c : Thread nD τ))) :
    Σ' (L5 : Blocks (F := F)) (L6 : Blocks (F := F)), { L7 : Blocks (F := F) //
      Held c arg1 arg2 arg3 arg5 arg6 arg7 arg8 X1 X2 X3 X8 f5 f6 f7
      ⊢ wp frame (wpE (defs₀ (F := F)) Variants.none (c : Thread nD τ) none) Set.univ
        (k0_t2_body (F := F) i arg1 harg1 arg2 harg2 arg3 harg3 arg4 harg4 arg5 harg5 arg6 harg6 arg7 harg7 arg8 harg8 v239 k ())
        (fun _ => Held c arg1 arg2 arg3 arg5 arg6 arg7 arg8 X1 X2 X3 X8 (arg5.view.writes (Elt F) f5 L5) (arg6.view.writes (Elt F) f6 L6)
          (arg7.view.writes (Elt F) f7 L7)) } := by
  refine ⟨?_, ?_, ?_, ?run⟩
  case run =>
    unfold k0_t2_body
    iintro ⟨H1, H2, H3, H8, H5, H6, H7⟩
    sl_exec_parts
    sl_step
    sl_close

set_option maxHeartbeats 8000000 in
set_option backward.proofsInPublic true in
/-- One trip with the dilation 1, from what the results' buffers hold. -/
def trip3 (v239 : IVec S1x128 1) (k : Fin k0_t3_loop.trips) (f5 : Buf (Elt F) (arg5.view.loc (c : Thread nD τ)))
    (f6 : Buf (Elt F) (arg6.view.loc (c : Thread nD τ))) (f7 : Buf (Elt F) (arg7.view.loc (c : Thread nD τ))) :
    Σ' (L5 : Blocks (F := F)), { L6 : Blocks (F := F) //
      Held c arg1 arg2 arg3 arg5 arg6 arg7 arg8 X1 X2 X3 X8 f5 f6 f7
      ⊢ wp frame (wpE (defs₀ (F := F)) Variants.none (c : Thread nD τ) none) Set.univ
        (k0_t3_body (F := F) i arg1 harg1 arg2 harg2 arg3 harg3 arg4 harg4 arg5 harg5 arg6 harg6 arg7 harg7 arg8 harg8 v239 k ())
        (fun _ => Held c arg1 arg2 arg3 arg5 arg6 arg7 arg8 X1 X2 X3 X8 (arg5.view.writes (Elt F) f5 L5) (arg6.view.writes (Elt F) f6 L6)
          f7) } := by
  refine ⟨?_, ?_, ?run⟩
  case run =>
    unfold k0_t3_body
    iintro ⟨H1, H2, H3, H8, H5, H6, H7⟩
    sl_exec_parts
    sl_step
    sl_close

end Trip

end Cert.Kernel11Ideal

end
-- ==== Proof.AttnPieces.lean ====
/- The blocks a trip of the attention's forward call stores, written out: which rows, and what from which rows. -/
module

public import proofs.«01_k».proof.Proof.AttnTrip

@[expose] public section

set_option maxRecDepth 65536

noncomputable section

namespace Cert.Kernel11Ideal

open Idealize.ShloMosaic Idealize.ShloMosaic.TcCoe Idealize.ShloMosaic.Tactic
open Idealize.SL Idealize.SL.RA Idealize.SL.Sem
open Cert.Kernel11Ideal.Gen

variable {F : FTy → Type} [FloatOps F] [Named F]

/-! ## One block: 128 queries of two heads against their own 128 keys, or against the 128 before them as well -/

section Block

variable (lo : IVec S1x128 1) (kp k vp v : Vec F S128x128 .f32) (q : Vec F S128x128 .f32)
  (b1 : Vec F S1x256x128 .f32) (b2 : Vec F S1x256x256 .f32)

/-- The largest score of each query, over the lanes of its head. -/
def ownM : FVec F S128x128 .f32 := k0_pay14 lo (k0_pay9 k) b1 q
/-- The sum of the exponentials. -/
def ownL : FVec F S128x128 .f32 := k0_pay15 lo (k0_pay9 k) b1 q
/-- The sum of the values, each with its exponential. -/
def ownO : FVec F S128x128 .f32 :=
  select (k0_pay19 lo) (k0_pay17 lo (k0_pay9 k) (k0_pay9 v) b1 q) (k0_pay18 lo (k0_pay9 k) (k0_pay9 v) b1 q)

/-- The same three with the keys before as well. -/
def twoM : FVec F S128x128 .f32 := k0_pay37 lo (k0_pay9 kp) (k0_pay9 k) b2 q
def twoL : FVec F S128x128 .f32 := k0_pay38 lo (k0_pay9 kp) (k0_pay9 k) b2 q
def twoO : FVec F S128x128 .f32 :=
  select (k0_pay19 lo) (k0_pay40 lo (k0_pay9 kp) (k0_pay9 vp) (k0_pay9 k) (k0_pay9 v) b2 q) (k0_pay41 lo (k0_pay9 kp) (k0_pay9 vp) (k0_pay9 k) (k0_pay9 v) b2 q)

/-- A block as it is stored. -/
def kept (x : FVec F S128x128 .f32) : FVec F S128x128 .f32 := shapeCast S128x128 x shapeCasts_S128x128_S128x128

variable {s : Shape} (mo mb xo xb lo' lb : Vec F s .f32)

/-- The larger of two maxima, and two sums brought to it. -/
def joinM : FVec F s .f32 := maximumf mo mb
def joinX : FVec F s .f32 := addf (mulf (exp (subf mo (maximumf mo mb))) xo) (mulf (exp (subf mb (maximumf mo mb))) xb)
/-- At the end: the logarithm of the whole sum, and the quotient. -/
def endM : FVec F s .f32 := addf (joinM mo mb) (log (joinX mo mb lo' lb))
def endO : FVec F s .f32 := divf (joinX mo mb xo xb) (joinX mo mb lo' lb)

end Block

/-! ## The rows of a block -/

def rows1 (k : Fin k0_t1_loop.trips) (s b : Fin 4) : Rect S8192x128 :=
  ⟨⟨k0_off1 k (BitVec.ofNat 32 s.val) (BitVec.ofNat 32 (2048 * b.val)), S128x128.size, ![16, 1], k0_off1_inb k s b⟩, spos_16_1⟩
def rows2 (k : Fin k0_t2_loop.trips) (b : Fin 16) : Rect S8192x128 :=
  ⟨⟨k0_off2 k (BitVec.ofNat 32 (512 * b.val)), S128x128.size, ![4, 1], k0_off2_inb k b⟩, spos_4_1⟩
def rows3 (k : Fin k0_t3_loop.trips) (b : Fin 16) : Rect S8192x128 :=
  Rect.unit (s := S8192x128) (k0_off4 k (BitVec.ofNat 32 (128 * b.val))) S128x128.size (k0_off4_inb k b)
/-- The rows before a trip's first block with the dilation 1. -/
def rows3' (k : Fin k0_t3_loop.trips) : Rect S8192x128 := Rect.unit (s := S8192x128) (k0_off3 k) S128x128.size (k0_off3_inb k)

/-- The order in which a trip's blocks were stored, the newest first. -/
def order1 : List (Fin 4 × Fin 4) :=
  [(3, 3), (3, 2), (3, 1), (3, 0), (2, 3), (2, 2), (2, 1), (2, 0), (1, 3), (1, 2), (1, 1), (1, 0), (0, 3), (0, 2), (0, 1), (0, 0)]
def order2 : List (Fin 16) := [15, 14, 13, 12, 11, 10, 9, 8, 7, 6, 5, 4, 3, 2, 1, 0]
theorem mem_order1 : ∀ x, x ∈ order1 := by decide
theorem mem_order2 : ∀ x, x ∈ order2 := by decide

/-- What the blocks are computed from: the three projections' columns of two heads, the biases, and which lanes are the first head's. -/
structure Operands (F : FTy → Type) where
  q : Vec F S8192x128 .f32
  k : Vec F S8192x128 .f32
  v : Vec F S8192x128 .f32
  bias : Vec F S6x256x256 .f32
  lo : IVec S1x128 1

/-- The running results: the weighted values, the maxima and the sums. -/
structure Running (F : FTy → Type) where
  o : Vec F S8192x128 .f32
  m : Vec F S8192x128 .f32
  l : Vec F S8192x128 .f32

section Pieces

variable (A : Operands F) (G : Running F)

/-- The biases against the block's own keys, and against those before as well. -/
abbrev bias1 (off : Fin 3 → ℕ) (h : ∀ a, off a + S1x256x128.size a ≤ S6x256x256.size a) :=
  View.ld (Val := Elt F) (e' := .f32) A.bias (Rect.unit (s := S6x256x256) off S1x256x128.size h)
abbrev bias2 (off : Fin 3 → ℕ) (h : ∀ a, off a + S1x256x256.size a ≤ S6x256x256.size a) :=
  View.ld (Val := Elt F) (e' := .f32) A.bias (Rect.unit (s := S6x256x256) off S1x256x256.size h)
/-- Rows of an array. -/
abbrev rows (X : Vec F S8192x128 .f32) (r : Rect S8192x128) := View.ld (Val := Elt F) (e' := .f32) X r

/-! ### The dilation 16: a trip has four residues of four blocks each; the first block of a residue has only its own keys -/

def first1M (k : Fin k0_t1_loop.trips) (s : Fin 4) : FVec F S128x128 .f32 :=
  ownM A.lo (rows A.k (rows1 k s 0)) (rows A.q (rows1 k s 0)) (bias1 A _ inb_S6x256x256_S1x256x128_4_0_128)
def next1M (k : Fin k0_t1_loop.trips) (s : Fin 4) (p b : Fin 4) : FVec F S128x128 .f32 :=
  twoM A.lo (rows A.k (rows1 k s p)) (rows A.k (rows1 k s b)) (rows A.q (rows1 k s b)) (bias2 A _ inb_S6x256x256_S1x256x256_4_0_0)
def val1M (k : Fin k0_t1_loop.trips) (s : Fin 4) : Fin 4 → FVec F S128x128 .f32
  | ⟨0, _⟩ => first1M A k s
  | ⟨b + 1, h⟩ => next1M A k s ⟨b, by omega⟩ ⟨b + 1, h⟩

def first1L (k : Fin k0_t1_loop.trips) (s : Fin 4) : FVec F S128x128 .f32 :=
  ownL A.lo (rows A.k (rows1 k s 0)) (rows A.q (rows1 k s 0)) (bias1 A _ inb_S6x256x256_S1x256x128_4_0_128)
def next1L (k : Fin k0_t1_loop.trips) (s : Fin 4) (p b : Fin 4) : FVec F S128x128 .f32 :=
  twoL A.lo (rows A.k (rows1 k s p)) (rows A.k (rows1 k s b)) (rows A.q (rows1 k s b)) (bias2 A _ inb_S6x256x256_S1x256x256_4_0_0)
def val1L (k : Fin k0_t1_loop.trips) (s : Fin 4) : Fin 4 → FVec F S128x128 .f32
  | ⟨0, _⟩ => first1L A k s
  | ⟨b + 1, h⟩ => next1L A k s ⟨b, by omega⟩ ⟨b + 1, h⟩

def first1O (k : Fin k0_t1_loop.trips) (s : Fin 4) : FVec F S128x128 .f32 :=
  ownO A.lo (rows A.k (rows1 k s 0)) (rows A.v (rows1 k s 0)) (rows A.q (rows1 k s 0)) (bias1 A _ inb_S6x256x256_S1x256x128_4_0_128)
def next1O (k : Fin k0_t1_loop.trips) (s : Fin 4) (p b : Fin 4) : FVec F S128x128 .f32 :=
  twoO A.lo (rows A.k (rows1 k s p)) (rows A.k (rows1 k s b)) (rows A.v (rows1 k s p)) (rows A.v (rows1 k s b)) (rows A.q (rows1 k s b)) (bias2 A _ inb_S6x256x256_S1x256x256_4_0_0)
def val1O (k : Fin k0_t1_loop.trips) (s : Fin 4) : Fin 4 → FVec F S128x128 .f32
  | ⟨0, _⟩ => first1O A k s
  | ⟨b + 1, h⟩ => next1O A k s ⟨b, by omega⟩ ⟨b + 1, h⟩

def piece1O (k : Fin k0_t1_loop.trips) (sb : Fin 4 × Fin 4) : View.Piece (Elt F) S8192x128 .f32 := ⟨rows1 k sb.1 sb.2, kept (val1O A k sb.1 sb.2)⟩
def piece1M (k : Fin k0_t1_loop.trips) (sb : Fin 4 × Fin 4) : View.Piece (Elt F) S8192x128 .f32 := ⟨rows1 k sb.1 sb.2, kept (val1M A k sb.1 sb.2)⟩
def piece1L (k : Fin k0_t1_loop.trips) (sb : Fin 4 × Fin 4) : View.Piece (Elt F) S8192x128 .f32 := ⟨rows1 k sb.1 sb.2, kept (val1L A k sb.1 sb.2)⟩

/-! ### The dilation 4: a trip has one residue of sixteen blocks, the first of them with only its own keys -/

def first2M (k : Fin k0_t2_loop.trips) : FVec F S128x128 .f32 :=
  ownM A.lo (rows A.k (rows2 k 0)) (rows A.q (rows2 k 0)) (bias1 A _ inb_S6x256x256_S1x256x128_2_0_128)
def next2M (k : Fin k0_t2_loop.trips) (p b : Fin 16) : FVec F S128x128 .f32 :=
  twoM A.lo (rows A.k (rows2 k p)) (rows A.k (rows2 k b)) (rows A.q (rows2 k b)) (bias2 A _ inb_S6x256x256_S1x256x256_2_0_0)
def val2M (k : Fin k0_t2_loop.trips) : Fin 16 → FVec F S128x128 .f32
  | ⟨0, _⟩ => first2M A k
  | ⟨b + 1, h⟩ => next2M A k ⟨b, by omega⟩ ⟨b + 1, h⟩

def first2L (k : Fin k0_t2_loop.trips) : FVec F S128x128 .f32 :=
  ownL A.lo (rows A.k (rows2 k 0)) (rows A.q (rows2 k 0)) (bias1 A _ inb_S6x256x256_S1x256x128_2_0_128)
def next2L (k : Fin k0_t2_loop.trips) (p b : Fin 16) : FVec F S128x128 .f32 :=
  twoL A.lo (rows A.k (rows2 k p)) (rows A.k (rows2 k b)) (rows A.q (rows2 k b)) (bias2 A _ inb_S6x256x256_S1x256x256_2_0_0)
def val2L (k : Fin k0_t2_loop.trips) : Fin 16 → FVec F S128x128 .f32
  | ⟨0, _⟩ => first2L A k
  | ⟨b + 1, h⟩ => next2L A k ⟨b, by omega⟩ ⟨b + 1, h⟩

def first2O (k : Fin k0_t2_loop.trips) : FVec F S128x128 .f32 :=
  ownO A.lo (rows A.k (rows2 k 0)) (rows A.v (rows2 k 0)) (rows A.q (rows2 k 0)) (bias1 A _ inb_S6x256x256_S1x256x128_2_0_128)
def next2O (k : Fin k0_t2_loop.trips) (p b : Fin 16) : FVec F S128x128 .f32 :=
  twoO A.lo (rows A.k (rows2 k p)) (rows A.k (rows2 k b)) (rows A.v (rows2 k p)) (rows A.v (rows2 k b)) (rows A.q (rows2 k b)) (bias2 A _ inb_S6x256x256_S1x256x256_2_0_0)
def val2O (k : Fin k0_t2_loop.trips) : Fin 16 → FVec F S128x128 .f32
  | ⟨0, _⟩ => first2O A k
  | ⟨b + 1, h⟩ => next2O A k ⟨b, by omega⟩ ⟨b + 1, h⟩

def piece2O (k : Fin k0_t2_loop.trips) (b : Fin 16) : View.Piece (Elt F) S8192x128 .f32 := ⟨rows2 k b, kept (joinX (rows G.m (rows2 k b)) (val2M A k b) (rows G.o (rows2 k b)) (val2O A k b))⟩
def piece2M (k : Fin k0_t2_loop.trips) (b : Fin 16) : View.Piece (Elt F) S8192x128 .f32 := ⟨rows2 k b, kept (joinM (rows G.m (rows2 k b)) (val2M A k b))⟩
def piece2L (k : Fin k0_t2_loop.trips) (b : Fin 16) : View.Piece (Elt F) S8192x128 .f32 := ⟨rows2 k b, kept (joinX (rows G.m (rows2 k b)) (val2M A k b) (rows G.l (rows2 k b)) (val2L A k b))⟩

/-! ### The dilation 1: a trip has sixteen blocks in a row; the first one's bias says whether there are keys before -/

def first3M (k : Fin k0_t3_loop.trips) : FVec F S128x128 .f32 :=
  twoM A.lo (rows A.k (rows3' k)) (rows A.k (rows3 k 0)) (rows A.q (rows3 k 0)) (bias2 A (k0_off5 k) (k0_off5_inb k))
def next3M (k : Fin k0_t3_loop.trips) (p b : Fin 16) : FVec F S128x128 .f32 :=
  twoM A.lo (rows A.k (rows3 k p)) (rows A.k (rows3 k b)) (rows A.q (rows3 k b)) (bias2 A _ inb_S6x256x256_S1x256x256_0_0_0)
def val3M (k : Fin k0_t3_loop.trips) : Fin 16 → FVec F S128x128 .f32
  | ⟨0, _⟩ => first3M A k
  | ⟨b + 1, h⟩ => next3M A k ⟨b, by omega⟩ ⟨b + 1, h⟩

def first3L (k : Fin k0_t3_loop.trips) : FVec F S128x128 .f32 :=
  twoL A.lo (rows A.k (rows3' k)) (rows A.k (rows3 k 0)) (rows A.q (rows3 k 0)) (bias2 A (k0_off5 k) (k0_off5_inb k))
def next3L (k : Fin k0_t3_loop.trips) (p b : Fin 16) : FVec F S128x128 .f32 :=
  twoL A.lo (rows A.k (rows3 k p)) (rows A.k (rows3 k b)) (rows A.q (rows3 k b)) (bias2 A _ inb_S6x256x256_S1x256x256_0_0_0)
def val3L (k : Fin k0_t3_loop.trips) : Fin 16 → FVec F S128x128 .f32
  | ⟨0, _⟩ => first3L A k
  | ⟨b + 1, h⟩ => next3L A k ⟨b, by omega⟩ ⟨b + 1, h⟩

def first3O (k : Fin k0_t3_loop.trips) : FVec F S128x128 .f32 :=
  twoO A.lo (rows A.k (rows3' k)) (rows A.k (rows3 k 0)) (rows A.v (rows3' k)) (rows A.v (rows3 k 0)) (rows A.q (rows3 k 0)) (bias2 A (k0_off5 k) (k0_off5_inb k))
def next3O (k : Fin k0_t3_loop.trips) (p b : Fin 16) : FVec F S128x128 .f32 :=
  twoO A.lo (rows A.k (rows3 k p)) (rows A.k (rows3 k b)) (rows A.v (rows3 k p)) (rows A.v (rows3 k b)) (rows A.q (rows3 k b)) (bias2 A _ inb_S6x256x256_S1x256x256_0_0_0)
def val3O (k : Fin k0_t3_loop.trips) : Fin 16 → FVec F S128x128 .f32
  | ⟨0, _⟩ => first3O A k
  | ⟨b + 1, h⟩ => next3O A k ⟨b, by omega⟩ ⟨b + 1, h⟩

def piece3O (k : Fin k0_t3_loop.trips) (b : Fin 16) : View.Piece (Elt F) S8192x128 .f32 := ⟨rows3 k b, kept (endO (rows G.m (rows3 k b)) (val3M A k b) (rows G.o (rows3 k b)) (val3O A k b) (rows G.l (rows3 k b)) (val3L A k b))⟩
def piece3M (k : Fin k0_t3_loop.trips) (b : Fin 16) : View.Piece (Elt F) S8192x128 .f32 := ⟨rows3 k b, kept (endM (rows G.m (rows3 k b)) (val3M A k b) (rows G.l (rows3 k b)) (val3L A k b))⟩

variable (c : Dev nD) (i : grid0.Coords)
  (arg1 : Memref sig .tc .vmem S8192x128 .f32) (harg1 : arg1.IsWhole) (arg2 : Memref sig .tc .vmem S8192x128 .f32) (harg2 : arg2.IsWhole)
  (arg3 : Memref sig .tc .vmem S8192x128 .f32) (harg3 : arg3.IsWhole) (arg4 : Memref sig .tc .vmem S1x8x128 .f32) (harg4 : arg4.IsWhole)
  (arg5 : Memref sig .tc .vmem S8192x128 .f32) (harg5 : arg5.IsWhole) (arg6 : Memref sig .tc .vmem S8192x128 .f32) (harg6 : arg6.IsWhole)
  (arg7 : Memref sig .tc .vmem S8192x128 .f32) (harg7 : arg7.IsWhole) (arg8 : Memref sig .tc .vmem S6x256x256 .f32) (harg8 : arg8.IsWhole)
  (X1 : Buf (Elt F) (arg1.view.loc (c : Thread nD τ))) (X2 : Buf (Elt F) (arg2.view.loc (c : Thread nD τ)))
  (X3 : Buf (Elt F) (arg3.view.loc (c : Thread nD τ))) (X8 : Buf (Elt F) (arg8.view.loc (c : Thread nD τ)))
  (f5 : Buf (Elt F) (arg5.view.loc (c : Thread nD τ))) (f6 : Buf (Elt F) (arg6.view.loc (c : Thread nD τ))) (f7 : Buf (Elt F) (arg7.view.loc (c : Thread nD τ)))
  (lo : IVec S1x128 1)

/-- What the buffers hold, as arrays. -/
def operands : Operands F :=
  ⟨arg1.view.read (Elt F) X1, arg2.view.read (Elt F) X2, arg3.view.read (Elt F) X3, arg8.view.read (Elt F) X8, lo⟩
def running : Running F := ⟨arg5.view.read (Elt F) f5, arg6.view.read (Elt F) f6, arg7.view.read (Elt F) f7⟩

set_option maxHeartbeats 4000000 in
theorem trip1_O (c0 c1 : BitVec 32) (k : Fin k0_t1_loop.trips) :
    (trip1 c i arg1 harg1 arg2 harg2 arg3 harg3 arg4 harg4 arg5 harg5 arg6 harg6 arg7 harg7 arg8 harg8 X1 X2 X3 X8 lo c0 c1 k).1
      = order1.map (piece1O (operands c arg1 arg2 arg3 arg8 X1 X2 X3 X8 lo) k) := by
  with_unfolding_all rfl

set_option maxHeartbeats 4000000 in
theorem trip1_M (c0 c1 : BitVec 32) (k : Fin k0_t1_loop.trips) :
    (trip1 c i arg1 harg1 arg2 harg2 arg3 harg3 arg4 harg4 arg5 harg5 arg6 harg6 arg7 harg7 arg8 harg8 X1 X2 X3 X8 lo c0 c1 k).2.1
      = order1.map (piece1M (operands c arg1 arg2 arg3 arg8 X1 X2 X3 X8 lo) k) := by
  with_unfolding_all rfl

set_option maxHeartbeats 4000000 in
theorem trip1_L (c0 c1 : BitVec 32) (k : Fin k0_t1_loop.trips) :
    (trip1 c i arg1 harg1 arg2 harg2 arg3 harg3 arg4 harg4 arg5 harg5 arg6 harg6 arg7 harg7 arg8 harg8 X1 X2 X3 X8 lo c0 c1 k).2.2.1
      = order1.map (piece1L (operands c arg1 arg2 arg3 arg8 X1 X2 X3 X8 lo) k) := by
  with_unfolding_all rfl

set_option maxHeartbeats 4000000 in
theorem trip2_O (k : Fin k0_t2_loop.trips) :
    (trip2 c i arg1 harg1 arg2 harg2 arg3 harg3 arg4 harg4 arg5 harg5 arg6 harg6 arg7 harg7 arg8 harg8 X1 X2 X3 X8 lo k f5 f6 f7).1
      = order2.map (piece2O (operands c arg1 arg2 arg3 arg8 X1 X2 X3 X8 lo) (running c arg5 arg6 arg7 f5 f6 f7) k) := by
  with_unfolding_all rfl

set_option maxHeartbeats 4000000 in
theorem trip2_M (k : Fin k0_t2_loop.trips) :
    (trip2 c i arg1 harg1 arg2 harg2 arg3 harg3 arg4 harg4 arg5 harg5 arg6 harg6 arg7 harg7 arg8 harg8 X1 X2 X3 X8 lo k f5 f6 f7).2.1
      = order2.map (piece2M (operands c arg1 arg2 arg3 arg8 X1 X2 X3 X8 lo) (running c arg5 arg6 arg7 f5 f6 f7) k) := by
  with_unfolding_all rfl

set_option maxHeartbeats 4000000 in
theorem trip2_L (k : Fin k0_t2_loop.trips) :
    (trip2 c i arg1 harg1 arg2 harg2 arg3 harg3 arg4 harg4 arg5 harg5 arg6 harg6 arg7 harg7 arg8 harg8 X1 X2 X3 X8 lo k f5 f6 f7).2.2.1
      = order2.map (piece2L (operands c arg1 arg2 arg3 arg8 X1 X2 X3 X8 lo) (running c arg5 arg6 arg7 f5 f6 f7) k) := by
  with_unfolding_all rfl

set_option maxHeartbeats 4000000 in
theorem trip3_O (k : Fin k0_t3_loop.trips) :
    (trip3 c i arg1 harg1 arg2 harg2 arg3 harg3 arg4 harg4 arg5 harg5 arg6 harg6 arg7 harg7 arg8 harg8 X1 X2 X3 X8 lo k f5 f6 f7).1
      = order2.map (piece3O (operands c arg1 arg2 arg3 arg8 X1 X2 X3 X8 lo) (running c arg5 arg6 arg7 f5 f6 f7) k) := by
  with_unfolding_all rfl

set_option maxHeartbeats 4000000 in
theorem trip3_M (k : Fin k0_t3_loop.trips) :
    (trip3 c i arg1 harg1 arg2 harg2 arg3 harg3 arg4 harg4 arg5 harg5 arg6 harg6 arg7 harg7 arg8 harg8 X1 X2 X3 X8 lo k f5 f6 f7).2.1
      = order2.map (piece3M (operands c arg1 arg2 arg3 arg8 X1 X2 X3 X8 lo) (running c arg5 arg6 arg7 f5 f6 f7) k) := by
  with_unfolding_all rfl

end Pieces

end Cert.Kernel11Ideal

end
-- ==== Proof.AttnBody.lean ====
/- The body of the attention's forward call: its three loops by what their trips store, and what it leaves in the results' buffers. -/
module

public import proofs.«01_k».proof.Proof.AttnTrip

@[expose] public section

set_option maxRecDepth 16384
set_option warn.classDefReducibility false

noncomputable section

namespace Cert.Kernel11Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel11Ideal.Gen

variable {F : FTy → Type} [FloatOps F] [Named F]

local notation "𝕄" => MT nD τ sig Unit (Elt F) ℕ (UR sig nD τ) ℕ

section Body

variable (c : Dev nD) (i : grid0.Coords)
  (arg1 : Memref sig .tc .vmem S8192x128 .f32) (harg1 : arg1.IsWhole) (arg2 : Memref sig .tc .vmem S8192x128 .f32) (harg2 : arg2.IsWhole)
  (arg3 : Memref sig .tc .vmem S8192x128 .f32) (harg3 : arg3.IsWhole) (arg4 : Memref sig .tc .vmem S1x8x128 .f32) (harg4 : arg4.IsWhole)
  (arg5 : Memref sig .tc .vmem S8192x128 .f32) (harg5 : arg5.IsWhole) (arg6 : Memref sig .tc .vmem S8192x128 .f32) (harg6 : arg6.IsWhole)
  (arg7 : Memref sig .tc .vmem S8192x128 .f32) (harg7 : arg7.IsWhole) (arg8 : Memref sig .tc .vmem S6x256x256 .f32) (harg8 : arg8.IsWhole)
  (X1 : Buf (Elt F) (arg1.view.loc (c : Thread nD τ))) (X2 : Buf (Elt F) (arg2.view.loc (c : Thread nD τ)))
  (X3 : Buf (Elt F) (arg3.view.loc (c : Thread nD τ))) (X8 : Buf (Elt F) (arg8.view.loc (c : Thread nD τ)))

/-- What the results' buffers and the running sums' hold. -/
abbrev Three : Type :=
  Buf (Elt F) (arg5.view.loc (c : Thread nD τ)) × Buf (Elt F) (arg6.view.loc (c : Thread nD τ)) × Buf (Elt F) (arg7.view.loc (c : Thread nD τ))

/-- After the trips before `k` with the dilation 16. -/
def after1 (v239 : IVec S1x128 1) (c0 c1 : BitVec 32) (G : Three (F := F) c arg5 arg6 arg7) : ℕ → Three (F := F) c arg5 arg6 arg7
  | 0 => G
  | k + 1 => if h : k < k0_t1_loop.trips then
      let T := trip1 c i arg1 harg1 arg2 harg2 arg3 harg3 arg4 harg4 arg5 harg5 arg6 harg6 arg7 harg7 arg8 harg8 X1 X2 X3 X8 v239 c0 c1 ⟨k, h⟩
      (arg5.view.writes (Elt F) (after1 v239 c0 c1 G k).1 T.1, arg6.view.writes (Elt F) (after1 v239 c0 c1 G k).2.1 T.2.1,
        arg7.view.writes (Elt F) (after1 v239 c0 c1 G k).2.2 T.2.2.1)
    else G

/-- After the trips before `k` with the dilation 4. -/
def after2 (v239 : IVec S1x128 1) (G : Three (F := F) c arg5 arg6 arg7) : ℕ → Three (F := F) c arg5 arg6 arg7
  | 0 => G
  | k + 1 => if h : k < k0_t2_loop.trips then
      let s := after2 v239 G k
      let T := trip2 c i arg1 harg1 arg2 harg2 arg3 harg3 arg4 harg4 arg5 harg5 arg6 harg6 arg7 harg7 arg8 harg8 X1 X2 X3 X8 v239 ⟨k, h⟩ s.1 s.2.1 s.2.2
      (arg5.view.writes (Elt F) s.1 T.1, arg6.view.writes (Elt F) s.2.1 T.2.1, arg7.view.writes (Elt F) s.2.2 T.2.2.1)
    else G

/-- After the trips before `k` with the dilation 1. -/
def after3 (v239 : IVec S1x128 1) (G : Three (F := F) c arg5 arg6 arg7) : ℕ → Three (F := F) c arg5 arg6 arg7
  | 0 => G
  | k + 1 => if h : k < k0_t3_loop.trips then
      let s := after3 v239 G k
      let T := trip3 c i arg1 harg1 arg2 harg2 arg3 harg3 arg4 harg4 arg5 harg5 arg6 harg6 arg7 harg7 arg8 harg8 X1 X2 X3 X8 v239 ⟨k, h⟩ s.1 s.2.1 s.2.2
      (arg5.view.writes (Elt F) s.1 T.1, arg6.view.writes (Elt F) s.2.1 T.2.1, s.2.2)
    else G

/-- The loops' invariants: each buffer at what the trips so far have left. -/
@[sl_loop] def loopInv1 (v239 : IVec S1x128 1) (c0 c1 : BitVec 32) (G5 : Buf (Elt F) (arg5.view.loc (c : Thread nD τ)))
    (G6 : Buf (Elt F) (arg6.view.loc (c : Thread nD τ))) (G7 : Buf (Elt F) (arg7.view.loc (c : Thread nD τ))) :
    LoopInvTy_k0_t1 (F := F) Unit ℕ (UR sig nD τ) ℕ Variants.none c none Set.univ i arg1 harg1 arg2 harg2 arg3 harg3 arg4 harg4 arg5 harg5 arg6 harg6 arg7 harg7 arg8 harg8 v239 c0 c1 where
  inv k _ :=
    let s := after1 c i arg1 harg1 arg2 harg2 arg3 harg3 arg4 harg4 arg5 harg5 arg6 harg6 arg7 harg7 arg8 harg8 X1 X2 X3 X8 v239 c0 c1 (G5, G6, G7) k
    Held c arg1 arg2 arg3 arg5 arg6 arg7 arg8 X1 X2 X3 X8 s.1 s.2.1 s.2.2
  step k _ := by
    have e := (after1.eq_2 c i arg1 harg1 arg2 harg2 arg3 harg3 arg4 harg4 arg5 harg5 arg6 harg6 arg7 harg7 arg8 harg8 X1 X2 X3 X8 v239 c0 c1 (G5, G6, G7) k).trans
      (dif_pos k.isLt)
    dsimp only
    rw [e]
    exact (trip1 c i arg1 harg1 arg2 harg2 arg3 harg3 arg4 harg4 arg5 harg5 arg6 harg6 arg7 harg7 arg8 harg8 X1 X2 X3 X8 v239 c0 c1 k).2.2.2 _ _ _

@[sl_loop] def loopInv2 (v239 : IVec S1x128 1) (G5 : Buf (Elt F) (arg5.view.loc (c : Thread nD τ)))
    (G6 : Buf (Elt F) (arg6.view.loc (c : Thread nD τ))) (G7 : Buf (Elt F) (arg7.view.loc (c : Thread nD τ))) :
    LoopInvTy_k0_t2 (F := F) Unit ℕ (UR sig nD τ) ℕ Variants.none c none Set.univ i arg1 harg1 arg2 harg2 arg3 harg3 arg4 harg4 arg5 harg5 arg6 harg6 arg7 harg7 arg8 harg8 v239 where
  inv k _ :=
    let s := after2 c i arg1 harg1 arg2 harg2 arg3 harg3 arg4 harg4 arg5 harg5 arg6 harg6 arg7 harg7 arg8 harg8 X1 X2 X3 X8 v239 (G5, G6, G7) k
    Held c arg1 arg2 arg3 arg5 arg6 arg7 arg8 X1 X2 X3 X8 s.1 s.2.1 s.2.2
  step k _ := by
    have e := (after2.eq_2 c i arg1 harg1 arg2 harg2 arg3 harg3 arg4 harg4 arg5 harg5 arg6 harg6 arg7 harg7 arg8 harg8 X1 X2 X3 X8 v239 (G5, G6, G7) k).trans
      (dif_pos k.isLt)
    dsimp only
    rw [e]
    exact (trip2 c i arg1 harg1 arg2 harg2 arg3 harg3 arg4 harg4 arg5 harg5 arg6 harg6 arg7 harg7 arg8 harg8 X1 X2 X3 X8 v239 k _ _ _).2.2.2

@[sl_loop] def loopInv3 (v239 : IVec S1x128 1) (G5 : Buf (Elt F) (arg5.view.loc (c : Thread nD τ)))
    (G6 : Buf (Elt F) (arg6.view.loc (c : Thread nD τ))) (G7 : Buf (Elt F) (arg7.view.loc (c : Thread nD τ))) :
    LoopInvTy_k0_t3 (F := F) Unit ℕ (UR sig nD τ) ℕ Variants.none c none Set.univ i arg1 harg1 arg2 harg2 arg3 harg3 arg4 harg4 arg5 harg5 arg6 harg6 arg7 harg7 arg8 harg8 v239 where
  inv k _ :=
    let s := after3 c i arg1 harg1 arg2 harg2 arg3 harg3 arg4 harg4 arg5 harg5 arg6 harg6 arg7 harg7 arg8 harg8 X1 X2 X3 X8 v239 (G5, G6, G7) k
    Held c arg1 arg2 arg3 arg5 arg6 arg7 arg8 X1 X2 X3 X8 s.1 s.2.1 s.2.2
  step k _ := by
    have e := (after3.eq_2 c i arg1 harg1 arg2 harg2 arg3 harg3 arg4 harg4 arg5 harg5 arg6 harg6 arg7 harg7 arg8 harg8 X1 X2 X3 X8 v239 (G5, G6, G7) k).trans
      (dif_pos k.isLt)
    dsimp only
    rw [e]
    exact (trip3 c i arg1 harg1 arg2 harg2 arg3 harg3 arg4 harg4 arg5 harg5 arg6 harg6 arg7 harg7 arg8 harg8 X1 X2 X3 X8 v239 k _ _ _).2.2

set_option maxHeartbeats 8000000 in
set_option backward.proofsInPublic true in
/-- The body: the biases are written, then the three loops run. -/
def bodyRun (X4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (f8 : Buf (Elt F) (arg8.view.loc (c : Thread nD τ))) :
    Σ' (g5 : Buf (Elt F) (arg5.view.loc (c : Thread nD τ))), { g6 : Buf (Elt F) (arg6.view.loc (c : Thread nD τ)) //
      iprop(Held c arg1 arg2 arg3 arg5 arg6 arg7 arg8 X1 X2 X3 f8 f5 f6 f7 ∗ (arg4.view.loc (c : Thread nD τ) ↦[arg4.view.set]{fullShare} X4))
      ⊢ wp frame (wpE (defs₀ (F := F)) Variants.none (c : Thread nD τ) none) Set.univ
        (cc0_attn_fwd (F := F) i arg1 harg1 arg2 harg2 arg3 harg3 arg4 harg4 arg5 harg5 arg6 harg6 arg7 harg7 arg8 harg8)
        (fun _ => iprop((arg1.view.loc (c : Thread nD τ) ↦[arg1.view.set]{fullShare} X1) ∗ (arg2.view.loc (c : Thread nD τ) ↦[arg2.view.set]{fullShare} X2)
          ∗ (arg3.view.loc (c : Thread nD τ) ↦[arg3.view.set]{fullShare} X3) ∗ (arg4.view.loc (c : Thread nD τ) ↦[arg4.view.set]{fullShare} X4)
          ∗ (arg5.view.loc (c : Thread nD τ) ↦[arg5.view.set]{fullShare} g5) ∗ (arg6.view.loc (c : Thread nD τ) ↦[arg6.view.set]{fullShare} g6)
          ∗ (∃ f, arg7.view.loc (c : Thread nD τ) ↦[arg7.view.set]{fullShare} f) ∗ (∃ f, arg8.view.loc (c : Thread nD τ) ↦[arg8.view.set]{fullShare} f))) } := by
  refine ⟨?_, ?_, ?run⟩
  case run =>
    simp only [cc0_attn_fwd_eq_skeleton]; unfold cc0_attn_fwd_skel
    iintro ⟨⟨H1, H2, H3, H8, H5, H6, H7⟩, H4⟩
    sl_exec_parts
    sl_step
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8

end Body

end Cert.Kernel11Ideal

end
-- ==== Proof.AttnRead.lean ====
/- What the three loops of the attention's forward call leave in the results' arrays, row by row. -/
module

public import proofs.«01_k».proof.Proof.AttnPieces
public import proofs.«01_k».proof.Proof.AttnBody
public import Idealize.ShloMosaic.Lib.Pointwise.Index
public import Idealize.ShloMosaic.Lib.Pointwise.Reshape

@[expose] public section

set_option maxRecDepth 16384

noncomputable section

namespace Cert.Kernel11Ideal

open Idealize.ShloMosaic Idealize.ShloMosaic.TcCoe Idealize.ShloMosaic.Tactic
open Idealize.SL Idealize.SL.RA Idealize.SL.Sem
open Cert.Kernel11Ideal.Gen

variable {F : FTy → Type} [FloatOps F] [Named F]

theorem trips1 : k0_t1_loop.trips = 4 := by decide +kernel
theorem trips2 : k0_t2_loop.trips = 4 := by decide +kernel
theorem trips3 : k0_t3_loop.trips = 4 := by decide +kernel

/-! ## Where a block's entries lie -/

abbrev Row : Type := S8192x128.Idx

theorem idx_ext (x y : Row) (h0 : (x 0).val = (y 0).val) (h1 : (x 1).val = (y 1).val) : x = y := by
  funext a
  match a with
  | ⟨0, _⟩ => exact Fin.ext h0
  | ⟨1, _⟩ => exact Fin.ext h1

theorem row_lt (y : Row) : (y 0).val < 8192 := (y 0).isLt
theorem lane_lt (y : Row) : (y 1).val < 128 := (y 1).isLt

theorem emb1_0 (k : Fin k0_t1_loop.trips) (s b : Fin 4) (x : S128x128.Idx) :
    ((rows1 k s b).emb x 0).val = 4 * k.val + (s.val + 2048 * b.val) + 16 * (x 0).val := by
  refine (Rect.emb_apply _ _ _).trans ?_
  show k0_off1 k (BitVec.ofNat 32 s.val) (BitVec.ofNat 32 (2048 * b.val)) 0 + 16 * (x 0).val = _
  rw [off1_eq]; rfl
theorem emb1_1 (k : Fin k0_t1_loop.trips) (s b : Fin 4) (x : S128x128.Idx) : ((rows1 k s b).emb x 1).val = (x 1).val := by
  refine (Rect.emb_apply _ _ _).trans ?_
  show k0_off1 k (BitVec.ofNat 32 s.val) (BitVec.ofNat 32 (2048 * b.val)) 1 + 1 * (x 1).val = _
  rw [off1_eq]; show 0 + 1 * _ = _; omega
theorem emb2_0 (k : Fin k0_t2_loop.trips) (b : Fin 16) (x : S128x128.Idx) :
    ((rows2 k b).emb x 0).val = k.val + 512 * b.val + 4 * (x 0).val := by
  refine (Rect.emb_apply _ _ _).trans ?_
  show k0_off2 k (BitVec.ofNat 32 (512 * b.val)) 0 + 4 * (x 0).val = _
  rw [off2_eq]; rfl
theorem emb2_1 (k : Fin k0_t2_loop.trips) (b : Fin 16) (x : S128x128.Idx) : ((rows2 k b).emb x 1).val = (x 1).val := by
  refine (Rect.emb_apply _ _ _).trans ?_
  show k0_off2 k (BitVec.ofNat 32 (512 * b.val)) 1 + 1 * (x 1).val = _
  rw [off2_eq]; show 0 + 1 * _ = _; omega
theorem emb3_0 (k : Fin k0_t3_loop.trips) (b : Fin 16) (x : S128x128.Idx) :
    ((rows3 k b).emb x 0).val = 2048 * k.val + 128 * b.val + (x 0).val := by
  refine (Rect.emb_apply _ _ _).trans ?_
  show k0_off4 k (BitVec.ofNat 32 (128 * b.val)) 0 + 1 * (x 0).val = _
  rw [off4_eq]; show 2048 * k.val + 128 * b.val + 1 * _ = _; omega
theorem emb3_1 (k : Fin k0_t3_loop.trips) (b : Fin 16) (x : S128x128.Idx) : ((rows3 k b).emb x 1).val = (x 1).val := by
  refine (Rect.emb_apply _ _ _).trans ?_
  show k0_off4 k (BitVec.ofNat 32 (128 * b.val)) 1 + 1 * (x 1).val = _
  rw [off4_eq]; show 0 + 1 * _ = _; omega

/-- The blocks of a loop put together into one array. -/
def spread1 (val : Fin k0_t1_loop.trips → Fin 4 → Fin 4 → FVec F S128x128 .f32) : Vec F S8192x128 .f32 := fun y =>
  val ⟨(y 0).val % 16 / 4, by rw [trips1]; omega⟩ ⟨(y 0).val % 4, by omega⟩ ⟨(y 0).val / 2048, by have := row_lt y; omega⟩
    (ix2 ⟨(y 0).val % 2048 / 16, by omega⟩ ⟨(y 1).val, lane_lt y⟩)
def spread2 (val : Fin k0_t2_loop.trips → Fin 16 → FVec F S128x128 .f32) : Vec F S8192x128 .f32 := fun y =>
  val ⟨(y 0).val % 4, by rw [trips2]; omega⟩ ⟨(y 0).val / 512, by have := row_lt y; omega⟩
    (ix2 ⟨(y 0).val % 512 / 4, by omega⟩ ⟨(y 1).val, lane_lt y⟩)
def spread3 (val : Fin k0_t3_loop.trips → Fin 16 → FVec F S128x128 .f32) : Vec F S8192x128 .f32 := fun y =>
  val ⟨(y 0).val / 2048, by rw [trips3]; have := row_lt y; omega⟩ ⟨(y 0).val % 2048 / 128, by omega⟩
    (ix2 ⟨(y 0).val % 128, by omega⟩ ⟨(y 1).val, lane_lt y⟩)

theorem ix2_of (x : S128x128.Idx) (a b : Fin 128) (h0 : a.val = (x 0).val) (h1 : b.val = (x 1).val) : ix2 a b = x := by
  funext j
  match j with
  | ⟨0, _⟩ => exact Fin.ext h0
  | ⟨1, _⟩ => exact Fin.ext h1

theorem spread1_emb (val : Fin k0_t1_loop.trips → Fin 4 → Fin 4 → FVec F S128x128 .f32) (k s b) (x : S128x128.Idx) :
    spread1 val ((rows1 k s b).emb x) = val k s b x := by
  have e0 := emb1_0 k s b x; have e1 := emb1_1 k s b x
  have hk : k.val < 4 := lt_of_lt_of_eq k.isLt trips1
  have hx : (x 0).val < 128 := (x 0).isLt
  have hs := s.isLt; have hb := b.isLt
  exact congr (congr (congr (congrArg val (Fin.ext (by show ((rows1 k s b).emb x 0).val % 16 / 4 = _; rw [e0]; omega)))
    (Fin.ext (by show ((rows1 k s b).emb x 0).val % 4 = _; rw [e0]; omega)))
    (Fin.ext (by show ((rows1 k s b).emb x 0).val / 2048 = _; rw [e0]; omega)))
    (ix2_of x _ _ (by show ((rows1 k s b).emb x 0).val % 2048 / 16 = _; rw [e0]; omega) e1)
theorem spread2_emb (val : Fin k0_t2_loop.trips → Fin 16 → FVec F S128x128 .f32) (k b) (x : S128x128.Idx) :
    spread2 val ((rows2 k b).emb x) = val k b x := by
  have e0 := emb2_0 k b x; have e1 := emb2_1 k b x
  have hk : k.val < 4 := lt_of_lt_of_eq k.isLt trips2
  have hx : (x 0).val < 128 := (x 0).isLt
  have hb := b.isLt
  exact congr (congr (congrArg val (Fin.ext (by show ((rows2 k b).emb x 0).val % 4 = _; rw [e0]; omega)))
    (Fin.ext (by show ((rows2 k b).emb x 0).val / 512 = _; rw [e0]; omega)))
    (ix2_of x _ _ (by show ((rows2 k b).emb x 0).val % 512 / 4 = _; rw [e0]; omega) e1)
theorem spread3_emb (val : Fin k0_t3_loop.trips → Fin 16 → FVec F S128x128 .f32) (k b) (x : S128x128.Idx) :
    spread3 val ((rows3 k b).emb x) = val k b x := by
  have e0 := emb3_0 k b x; have e1 := emb3_1 k b x
  have hk : k.val < 4 := lt_of_lt_of_eq k.isLt trips3
  have hx : (x 0).val < 128 := (x 0).isLt
  have hb := b.isLt
  exact congr (congr (congrArg val (Fin.ext (by show ((rows3 k b).emb x 0).val / 2048 = _; rw [e0]; omega)))
    (Fin.ext (by show ((rows3 k b).emb x 0).val % 2048 / 128 = _; rw [e0]; omega)))
    (ix2_of x _ _ (by show ((rows3 k b).emb x 0).val % 128 = _; rw [e0]; omega) e1)

/-! ## Reading what a trip stored -/

/-- A list of pieces that agree with one array reads as that array where they lie and as before elsewhere. -/
theorem read_pieces {sig : RefSig} {κ : Kind} {sp : Space} {ι : Type} {s : Shape} (v : View sig κ sp s .f32) (f : v.ty.Contents (Elt F))
    (I : List ι) (hI : ∀ b, b ∈ I) (P : ι → View.Piece (Elt F) s .f32) (G : Vec F s .f32) (In : s.Idx → Prop) [DecidablePred In]
    (hG : ∀ b x, (P b).2 x = G ((P b).1.emb x)) (hin : ∀ y, In y → ∃ b x, (P b).1.emb x = y) (hout : ∀ b x, In ((P b).1.emb x)) (y : s.Idx) :
    v.read (Elt F) (v.writes (Elt F) f (I.map P)) y = if In y then G y else v.read (Elt F) f y := by
  have key : ∀ L : List ι, (∃ b ∈ L, y ∈ (P b).1.set) ∧ v.read (Elt F) (v.writes (Elt F) f (L.map P)) y = G y
      ∨ (∀ b ∈ L, y ∉ (P b).1.set) ∧ v.read (Elt F) (v.writes (Elt F) f (L.map P)) y = v.read (Elt F) f y := by
    intro L
    induction L with
    | nil => exact Or.inr ⟨by simp, rfl⟩
    | cons b L ih =>
      by_cases hy : y ∈ (P b).1.set
      · refine Or.inl ⟨⟨b, List.mem_cons_self, hy⟩, ?_⟩
        obtain ⟨x, rfl⟩ : ∃ x, (P b).1.emb x = y := (P b).1.exists_idx_of_mem hy
        rw [List.map_cons, ← hG]
        exact View.read_writes_cons_emb v f (P b).1 (P b).2 _ x
      · have e : v.read (Elt F) (v.writes (Elt F) f ((b :: L).map P)) y = v.read (Elt F) (v.writes (Elt F) f (L.map P)) y := by
          rw [List.map_cons, View.writes_cons, View.read_slice_write_of_not_mem (P b).1 _ _ _ (by rwa [Rect.map_emb_univ])]
        rcases ih with ⟨⟨b', hb', hy'⟩, h⟩ | ⟨h', h⟩
        · exact Or.inl ⟨⟨b', List.mem_cons_of_mem _ hb', hy'⟩, e.trans h⟩
        · refine Or.inr ⟨fun b' hb' => ?_, e.trans h⟩
          rcases List.mem_cons.mp hb' with rfl | hb'
          · exact hy
          · exact h' b' hb'
  have mem : ∀ b x, (P b).1.emb x ∈ (P b).1.set := fun b x => by
    rw [← Rect.map_emb_univ]; exact Finset.mem_map_of_mem _ (Finset.mem_univ x)
  rcases key I with ⟨⟨b, -, hy⟩, h⟩ | ⟨h', h⟩
  · obtain ⟨x, rfl⟩ : ∃ x, (P b).1.emb x = y := (P b).1.exists_idx_of_mem hy
    rw [if_pos (hout b x)]; exact h
  · by_cases hIn : In y
    · obtain ⟨b, x, rfl⟩ := hin y hIn
      exact absurd (mem b x) (h' b (hI b))
    · rw [if_neg hIn]; exact h

theorem in1 (k : Fin k0_t1_loop.trips) (y : Row) (h : (y 0).val % 16 / 4 = k.val) : ∃ (sb : Fin 4 × Fin 4) (x : S128x128.Idx), (rows1 k sb.1 sb.2).emb x = y := by
  have := row_lt y
  refine ⟨(⟨(y 0).val % 4, by omega⟩, ⟨(y 0).val / 2048, by omega⟩), ix2 ⟨(y 0).val % 2048 / 16, by omega⟩ ⟨(y 1).val, lane_lt y⟩, idx_ext _ _ ?_ ?_⟩
  · rw [emb1_0]; show 4 * k.val + ((y 0).val % 4 + 2048 * ((y 0).val / 2048)) + 16 * ((y 0).val % 2048 / 16) = _; omega
  · rw [emb1_1]; rfl
theorem in2 (k : Fin k0_t2_loop.trips) (y : Row) (h : (y 0).val % 4 = k.val) : ∃ (b : Fin 16) (x : S128x128.Idx), (rows2 k b).emb x = y := by
  have := row_lt y
  refine ⟨⟨(y 0).val / 512, by omega⟩, ix2 ⟨(y 0).val % 512 / 4, by omega⟩ ⟨(y 1).val, lane_lt y⟩, idx_ext _ _ ?_ ?_⟩
  · rw [emb2_0]; show k.val + 512 * ((y 0).val / 512) + 4 * ((y 0).val % 512 / 4) = _; omega
  · rw [emb2_1]; rfl
theorem in3 (k : Fin k0_t3_loop.trips) (y : Row) (h : (y 0).val / 2048 = k.val) : ∃ (b : Fin 16) (x : S128x128.Idx), (rows3 k b).emb x = y := by
  have := row_lt y
  refine ⟨⟨(y 0).val % 2048 / 128, by omega⟩, ix2 ⟨(y 0).val % 128, by omega⟩ ⟨(y 1).val, lane_lt y⟩, idx_ext _ _ ?_ ?_⟩
  · rw [emb3_0]; show 2048 * k.val + 128 * ((y 0).val % 2048 / 128) + (y 0).val % 128 = _; omega
  · rw [emb3_1]; rfl
theorem out1 (k : Fin k0_t1_loop.trips) (s b : Fin 4) (x : S128x128.Idx) : ((rows1 k s b).emb x 0).val % 16 / 4 = k.val := by
  have hs := s.isLt
  have hk : k.val < 4 := lt_of_lt_of_eq k.isLt trips1
  rw [emb1_0]; omega
theorem out2 (k : Fin k0_t2_loop.trips) (b : Fin 16) (x : S128x128.Idx) : ((rows2 k b).emb x 0).val % 4 = k.val := by
  have hk : k.val < 4 := lt_of_lt_of_eq k.isLt trips2
  rw [emb2_0]; omega
theorem out3 (k : Fin k0_t3_loop.trips) (b : Fin 16) (x : S128x128.Idx) : ((rows3 k b).emb x 0).val / 2048 = k.val := by
  have hx : (x 0).val < 128 := (x 0).isLt
  have hb := b.isLt
  rw [emb3_0]; omega

/-! ## The arrays after each loop -/

section Arrays

variable (A : Operands F)

/-- After the loop with the dilation 16. -/
def run1 : Running F := ⟨spread1 (val1O A), spread1 (val1M A), spread1 (val1L A)⟩
/-- After the loop with the dilation 4. -/
def run2 : Running F :=
  ⟨joinX (run1 A).m (spread2 (val2M A)) (run1 A).o (spread2 (val2O A)), joinM (run1 A).m (spread2 (val2M A)),
    joinX (run1 A).m (spread2 (val2M A)) (run1 A).l (spread2 (val2L A))⟩
/-- The two results. -/
def resO : Vec F S8192x128 .f32 :=
  endO (run2 A).m (spread3 (val3M A)) (run2 A).o (spread3 (val3O A)) (run2 A).l (spread3 (val3L A))
def resM : Vec F S8192x128 .f32 := endM (run2 A).m (spread3 (val3M A)) (run2 A).l (spread3 (val3L A))

theorem kept_apply (x : FVec F S128x128 .f32) : kept x = x := shapeCast_id _ _

/-- The array a block's values are spread over, at the block's entries. -/
theorem joinM_at (M : Vec F S8192x128 .f32) (val : FVec F S128x128 .f32) (Y : Vec F S8192x128 .f32) (r : S128x128.Idx → Row) (x : S128x128.Idx)
    (mo : FVec F S128x128 .f32) (hm : mo x = M (r x)) (hb : Y (r x) = val x) : joinM mo val x = joinM M Y (r x) := by
  show FloatOps.maximumf (mo x) (val x) = FloatOps.maximumf (M (r x)) (Y (r x))
  rw [hm, hb]
theorem joinX_at (M X : Vec F S8192x128 .f32) (vm vx : FVec F S128x128 .f32) (YM YX : Vec F S8192x128 .f32) (r : S128x128.Idx → Row) (x : S128x128.Idx)
    (mo xo : FVec F S128x128 .f32) (hm : mo x = M (r x)) (hx : xo x = X (r x)) (hbm : YM (r x) = vm x) (hbx : YX (r x) = vx x) :
    joinX mo vm xo vx x = joinX M YM X YX (r x) := by
  unfold joinX
  simp only [addf, mulf, exp, subf, maximumf]
  rw [hm, hx, hbm, hbx]

end Arrays

/-! ## Reading one trip -/

section Stored

variable (A : Operands F) (G : Running F) {sig : RefSig} {κ : Kind} {sp : Space} (v : View sig κ sp S8192x128 .f32) (f : v.ty.Contents (Elt F))

theorem read1O (k : Fin k0_t1_loop.trips) (y : Row) : v.read (Elt F) (v.writes (Elt F) f (order1.map (piece1O A k))) y
    = if (y 0).val % 16 / 4 = k.val then (run1 A).o y else v.read (Elt F) f y :=
  read_pieces v f order1 mem_order1 (piece1O A k) (run1 A).o (fun y => (y 0).val % 16 / 4 = k.val)
    (fun b x => by
      show kept (val1O A k b.1 b.2) x = spread1 (val1O A) ((rows1 k b.1 b.2).emb x)
      rw [kept_apply]
      exact (spread1_emb _ _ _ _ x).symm) (fun y h => in1 k y h) (fun b x => out1 k b.1 b.2 x) y

theorem read1M (k : Fin k0_t1_loop.trips) (y : Row) : v.read (Elt F) (v.writes (Elt F) f (order1.map (piece1M A k))) y
    = if (y 0).val % 16 / 4 = k.val then (run1 A).m y else v.read (Elt F) f y :=
  read_pieces v f order1 mem_order1 (piece1M A k) (run1 A).m (fun y => (y 0).val % 16 / 4 = k.val)
    (fun b x => by
      show kept (val1M A k b.1 b.2) x = spread1 (val1M A) ((rows1 k b.1 b.2).emb x)
      rw [kept_apply]
      exact (spread1_emb _ _ _ _ x).symm) (fun y h => in1 k y h) (fun b x => out1 k b.1 b.2 x) y

theorem read1L (k : Fin k0_t1_loop.trips) (y : Row) : v.read (Elt F) (v.writes (Elt F) f (order1.map (piece1L A k))) y
    = if (y 0).val % 16 / 4 = k.val then (run1 A).l y else v.read (Elt F) f y :=
  read_pieces v f order1 mem_order1 (piece1L A k) (run1 A).l (fun y => (y 0).val % 16 / 4 = k.val)
    (fun b x => by
      show kept (val1L A k b.1 b.2) x = spread1 (val1L A) ((rows1 k b.1 b.2).emb x)
      rw [kept_apply]
      exact (spread1_emb _ _ _ _ x).symm) (fun y h => in1 k y h) (fun b x => out1 k b.1 b.2 x) y

theorem read2O (k : Fin k0_t2_loop.trips) (hm : ∀ b x, G.m ((rows2 k b).emb x) = (run1 A).m ((rows2 k b).emb x))
    (hx : ∀ b x, G.o ((rows2 k b).emb x) = (run1 A).o ((rows2 k b).emb x)) (y : Row) :
    v.read (Elt F) (v.writes (Elt F) f (order2.map (piece2O A G k))) y
    = if (y 0).val % 4 = k.val then (run2 A).o y else v.read (Elt F) f y :=
  read_pieces v f order2 mem_order2 (piece2O A G k) (run2 A).o (fun y => (y 0).val % 4 = k.val)
    (fun b x => (congrFun (kept_apply _) x).trans (joinX_at _ _ _ _ _ _ (rows2 k b).emb x _ _ (hm b x) (hx b x) (spread2_emb _ _ _ _) (spread2_emb _ _ _ _))) (fun y h => in2 k y h) (fun b x => out2 k b x) y

theorem read2M (k : Fin k0_t2_loop.trips) (hm : ∀ b x, G.m ((rows2 k b).emb x) = (run1 A).m ((rows2 k b).emb x)) (y : Row) :
    v.read (Elt F) (v.writes (Elt F) f (order2.map (piece2M A G k))) y
    = if (y 0).val % 4 = k.val then (run2 A).m y else v.read (Elt F) f y :=
  read_pieces v f order2 mem_order2 (piece2M A G k) (run2 A).m (fun y => (y 0).val % 4 = k.val)
    (fun b x => (congrFun (kept_apply _) x).trans (joinM_at _ _ _ (rows2 k b).emb x _ (hm b x) (spread2_emb _ _ _ _))) (fun y h => in2 k y h) (fun b x => out2 k b x) y

theorem read2L (k : Fin k0_t2_loop.trips) (hm : ∀ b x, G.m ((rows2 k b).emb x) = (run1 A).m ((rows2 k b).emb x))
    (hx : ∀ b x, G.l ((rows2 k b).emb x) = (run1 A).l ((rows2 k b).emb x)) (y : Row) :
    v.read (Elt F) (v.writes (Elt F) f (order2.map (piece2L A G k))) y
    = if (y 0).val % 4 = k.val then (run2 A).l y else v.read (Elt F) f y :=
  read_pieces v f order2 mem_order2 (piece2L A G k) (run2 A).l (fun y => (y 0).val % 4 = k.val)
    (fun b x => (congrFun (kept_apply _) x).trans (joinX_at _ _ _ _ _ _ (rows2 k b).emb x _ _ (hm b x) (hx b x) (spread2_emb _ _ _ _) (spread2_emb _ _ _ _))) (fun y h => in2 k y h) (fun b x => out2 k b x) y

theorem read3O (k : Fin k0_t3_loop.trips) (hm : ∀ b x, G.m ((rows3 k b).emb x) = (run2 A).m ((rows3 k b).emb x))
    (hx : ∀ b x, G.o ((rows3 k b).emb x) = (run2 A).o ((rows3 k b).emb x)) (hl : ∀ b x, G.l ((rows3 k b).emb x) = (run2 A).l ((rows3 k b).emb x)) (y : Row) :
    v.read (Elt F) (v.writes (Elt F) f (order2.map (piece3O A G k))) y = if (y 0).val / 2048 = k.val then resO A y else v.read (Elt F) f y :=
  read_pieces v f order2 mem_order2 (piece3O A G k) (resO A) (fun y => (y 0).val / 2048 = k.val)
    (fun b x => by
      show kept (endO (rows G.m (rows3 k b)) (val3M A k b) (rows G.o (rows3 k b)) (val3O A k b) (rows G.l (rows3 k b)) (val3L A k b)) x = resO A ((rows3 k b).emb x)
      rw [kept_apply]
      exact (congrArg₂ FloatOps.divf
      (joinX_at _ _ _ _ _ _ (rows3 k b).emb x _ _ (hm b x) (hx b x) (spread3_emb _ _ _ _) (spread3_emb _ _ _ _))
      (joinX_at _ _ _ _ _ _ (rows3 k b).emb x _ _ (hm b x) (hl b x) (spread3_emb _ _ _ _) (spread3_emb _ _ _ _)))) (fun y h => in3 k y h) (fun b x => out3 k b x) y

theorem read3M (k : Fin k0_t3_loop.trips) (hm : ∀ b x, G.m ((rows3 k b).emb x) = (run2 A).m ((rows3 k b).emb x))
    (hl : ∀ b x, G.l ((rows3 k b).emb x) = (run2 A).l ((rows3 k b).emb x)) (y : Row) :
    v.read (Elt F) (v.writes (Elt F) f (order2.map (piece3M A G k))) y = if (y 0).val / 2048 = k.val then resM A y else v.read (Elt F) f y :=
  read_pieces v f order2 mem_order2 (piece3M A G k) (resM A) (fun y => (y 0).val / 2048 = k.val)
    (fun b x => by
      show kept (endM (rows G.m (rows3 k b)) (val3M A k b) (rows G.l (rows3 k b)) (val3L A k b)) x = resM A ((rows3 k b).emb x)
      rw [kept_apply]
      exact (congrArg₂ FloatOps.addf (joinM_at _ _ _ (rows3 k b).emb x _ (hm b x) (spread3_emb _ _ _ _))
      (congrArg FloatOps.log (joinX_at _ _ _ _ _ _ (rows3 k b).emb x _ _ (hm b x) (hl b x) (spread3_emb _ _ _ _) (spread3_emb _ _ _ _))))) (fun y h => in3 k y h) (fun b x => out3 k b x) y

end Stored

section Loops

variable (c : Dev nD) (i : grid0.Coords)
  (arg1 : Memref sig .tc .vmem S8192x128 .f32) (harg1 : arg1.IsWhole) (arg2 : Memref sig .tc .vmem S8192x128 .f32) (harg2 : arg2.IsWhole)
  (arg3 : Memref sig .tc .vmem S8192x128 .f32) (harg3 : arg3.IsWhole) (arg4 : Memref sig .tc .vmem S1x8x128 .f32) (harg4 : arg4.IsWhole)
  (arg5 : Memref sig .tc .vmem S8192x128 .f32) (harg5 : arg5.IsWhole) (arg6 : Memref sig .tc .vmem S8192x128 .f32) (harg6 : arg6.IsWhole)
  (arg7 : Memref sig .tc .vmem S8192x128 .f32) (harg7 : arg7.IsWhole) (arg8 : Memref sig .tc .vmem S6x256x256 .f32) (harg8 : arg8.IsWhole)
  (X1 : Buf (Elt F) (arg1.view.loc (c : Thread nD τ))) (X2 : Buf (Elt F) (arg2.view.loc (c : Thread nD τ)))
  (X3 : Buf (Elt F) (arg3.view.loc (c : Thread nD τ))) (X8 : Buf (Elt F) (arg8.view.loc (c : Thread nD τ)))
  (lo : IVec S1x128 1) (c0 c1 : BitVec 32) (S : Three (F := F) c arg5 arg6 arg7)

theorem after1_read : ∀ k ≤ 4, ∀ y : Row, (y 0).val % 16 / 4 < k →
    arg5.view.read (Elt F) (after1 c i arg1 harg1 arg2 harg2 arg3 harg3 arg4 harg4 arg5 harg5 arg6 harg6 arg7 harg7 arg8 harg8 X1 X2 X3 X8 lo c0 c1 S k).1 y = (run1 (operands c arg1 arg2 arg3 arg8 X1 X2 X3 X8 lo)).o y
      ∧ arg6.view.read (Elt F) (after1 c i arg1 harg1 arg2 harg2 arg3 harg3 arg4 harg4 arg5 harg5 arg6 harg6 arg7 harg7 arg8 harg8 X1 X2 X3 X8 lo c0 c1 S k).2.1 y = (run1 (operands c arg1 arg2 arg3 arg8 X1 X2 X3 X8 lo)).m y
      ∧ arg7.view.read (Elt F) (after1 c i arg1 harg1 arg2 harg2 arg3 harg3 arg4 harg4 arg5 harg5 arg6 harg6 arg7 harg7 arg8 harg8 X1 X2 X3 X8 lo c0 c1 S k).2.2 y = (run1 (operands c arg1 arg2 arg3 arg8 X1 X2 X3 X8 lo)).l y := by
  intro k
  induction k with
  | zero => intro _ y h; omega
  | succ k ih =>
    intro hk y hy
    have hlt : k < k0_t1_loop.trips := by rw [trips1]; omega
    rw [(after1.eq_2 c i arg1 harg1 arg2 harg2 arg3 harg3 arg4 harg4 arg5 harg5 arg6 harg6 arg7 harg7 arg8 harg8 X1 X2 X3 X8 lo c0 c1 S k).trans (dif_pos hlt)]
    have ih' := ih (by omega) y
    revert ih'
    generalize after1 c i arg1 harg1 arg2 harg2 arg3 harg3 arg4 harg4 arg5 harg5 arg6 harg6 arg7 harg7 arg8 harg8 X1 X2 X3 X8 lo c0 c1 S k = s
    intro ih'
    have eO := (congrArg (fun L => arg5.view.read (Elt F) (arg5.view.writes (Elt F) s.1 L) y) (trip1_O c i arg1 harg1 arg2 harg2 arg3 harg3 arg4 harg4 arg5 harg5 arg6 harg6 arg7 harg7 arg8 harg8 X1 X2 X3 X8 lo c0 c1 ⟨k, hlt⟩)).trans (read1O (operands c arg1 arg2 arg3 arg8 X1 X2 X3 X8 lo) arg5.view s.1 ⟨k, hlt⟩ y)
    have eM := (congrArg (fun L => arg6.view.read (Elt F) (arg6.view.writes (Elt F) s.2.1 L) y) (trip1_M c i arg1 harg1 arg2 harg2 arg3 harg3 arg4 harg4 arg5 harg5 arg6 harg6 arg7 harg7 arg8 harg8 X1 X2 X3 X8 lo c0 c1 ⟨k, hlt⟩)).trans (read1M (operands c arg1 arg2 arg3 arg8 X1 X2 X3 X8 lo) arg6.view s.2.1 ⟨k, hlt⟩ y)
    have eL := (congrArg (fun L => arg7.view.read (Elt F) (arg7.view.writes (Elt F) s.2.2 L) y) (trip1_L c i arg1 harg1 arg2 harg2 arg3 harg3 arg4 harg4 arg5 harg5 arg6 harg6 arg7 harg7 arg8 harg8 X1 X2 X3 X8 lo c0 c1 ⟨k, hlt⟩)).trans (read1L (operands c arg1 arg2 arg3 arg8 X1 X2 X3 X8 lo) arg7.view s.2.2 ⟨k, hlt⟩ y)
    dsimp only
    by_cases h : (y 0).val % 16 / 4 = k
    · exact ⟨eO.trans (if_pos h), eM.trans (if_pos h), eL.trans (if_pos h)⟩
    · have ih'' := ih' (by omega)
      exact ⟨(eO.trans (if_neg h)).trans ih''.1, (eM.trans (if_neg h)).trans ih''.2.1, (eL.trans (if_neg h)).trans ih''.2.2⟩

theorem after2_read (h1 : running c arg5 arg6 arg7 S.1 S.2.1 S.2.2 = run1 (operands c arg1 arg2 arg3 arg8 X1 X2 X3 X8 lo)) : ∀ k ≤ 4, ∀ y : Row,
    arg5.view.read (Elt F) (after2 c i arg1 harg1 arg2 harg2 arg3 harg3 arg4 harg4 arg5 harg5 arg6 harg6 arg7 harg7 arg8 harg8 X1 X2 X3 X8 lo S k).1 y = (if (y 0).val % 4 < k then run2 (operands c arg1 arg2 arg3 arg8 X1 X2 X3 X8 lo) else run1 (operands c arg1 arg2 arg3 arg8 X1 X2 X3 X8 lo)).o y
      ∧ arg6.view.read (Elt F) (after2 c i arg1 harg1 arg2 harg2 arg3 harg3 arg4 harg4 arg5 harg5 arg6 harg6 arg7 harg7 arg8 harg8 X1 X2 X3 X8 lo S k).2.1 y = (if (y 0).val % 4 < k then run2 (operands c arg1 arg2 arg3 arg8 X1 X2 X3 X8 lo) else run1 (operands c arg1 arg2 arg3 arg8 X1 X2 X3 X8 lo)).m y
      ∧ arg7.view.read (Elt F) (after2 c i arg1 harg1 arg2 harg2 arg3 harg3 arg4 harg4 arg5 harg5 arg6 harg6 arg7 harg7 arg8 harg8 X1 X2 X3 X8 lo S k).2.2 y = (if (y 0).val % 4 < k then run2 (operands c arg1 arg2 arg3 arg8 X1 X2 X3 X8 lo) else run1 (operands c arg1 arg2 arg3 arg8 X1 X2 X3 X8 lo)).l y := by
  intro k
  induction k with
  | zero =>
    intro _ y
    rw [if_neg (by omega), ← h1]
    exact ⟨rfl, rfl, rfl⟩
  | succ k ih =>
    intro hk y
    have hlt : k < k0_t2_loop.trips := by rw [trips2]; omega
    rw [(after2.eq_2 c i arg1 harg1 arg2 harg2 arg3 harg3 arg4 harg4 arg5 harg5 arg6 harg6 arg7 harg7 arg8 harg8 X1 X2 X3 X8 lo S k).trans (dif_pos hlt)]
    have ih' := ih (by omega)
    revert ih'
    generalize after2 c i arg1 harg1 arg2 harg2 arg3 harg3 arg4 harg4 arg5 harg5 arg6 harg6 arg7 harg7 arg8 harg8 X1 X2 X3 X8 lo S k = s
    intro ih'
    have at' : ∀ b x, _ := fun b x => by
      have e := ih' ((rows2 ⟨k, hlt⟩ b).emb x)
      rw [if_neg (by rw [out2 ⟨k, hlt⟩ b x]; exact lt_irrefl k)] at e
      exact e
    have eO := (congrArg (fun L => arg5.view.read (Elt F) (arg5.view.writes (Elt F) s.1 L) y) (trip2_O c i arg1 harg1 arg2 harg2 arg3 harg3 arg4 harg4 arg5 harg5 arg6 harg6 arg7 harg7 arg8 harg8 X1 X2 X3 X8 s.1 s.2.1 s.2.2 lo ⟨k, hlt⟩)).trans (read2O (operands c arg1 arg2 arg3 arg8 X1 X2 X3 X8 lo) (running c arg5 arg6 arg7 s.1 s.2.1 s.2.2) arg5.view s.1 ⟨k, hlt⟩ (fun b x => (at' b x).2.1) (fun b x => (at' b x).1) y)
    have eM := (congrArg (fun L => arg6.view.read (Elt F) (arg6.view.writes (Elt F) s.2.1 L) y) (trip2_M c i arg1 harg1 arg2 harg2 arg3 harg3 arg4 harg4 arg5 harg5 arg6 harg6 arg7 harg7 arg8 harg8 X1 X2 X3 X8 s.1 s.2.1 s.2.2 lo ⟨k, hlt⟩)).trans (read2M (operands c arg1 arg2 arg3 arg8 X1 X2 X3 X8 lo) (running c arg5 arg6 arg7 s.1 s.2.1 s.2.2) arg6.view s.2.1 ⟨k, hlt⟩ (fun b x => (at' b x).2.1) y)
    have eL := (congrArg (fun L => arg7.view.read (Elt F) (arg7.view.writes (Elt F) s.2.2 L) y) (trip2_L c i arg1 harg1 arg2 harg2 arg3 harg3 arg4 harg4 arg5 harg5 arg6 harg6 arg7 harg7 arg8 harg8 X1 X2 X3 X8 s.1 s.2.1 s.2.2 lo ⟨k, hlt⟩)).trans (read2L (operands c arg1 arg2 arg3 arg8 X1 X2 X3 X8 lo) (running c arg5 arg6 arg7 s.1 s.2.1 s.2.2) arg7.view s.2.2 ⟨k, hlt⟩ (fun b x => (at' b x).2.1) (fun b x => (at' b x).2.2) y)
    by_cases h : (y 0).val % 4 = k
    · simp only [if_pos (show (y 0).val % 4 < k + 1 by omega)]
      exact ⟨eO.trans (if_pos h), eM.trans (if_pos h), eL.trans (if_pos h)⟩
    · have ih'' := ih' y
      by_cases h' : (y 0).val % 4 < k
      · have h'' : (y 0).val % 4 < k + 1 := by omega
        simp only [if_pos h'] at ih''
        simp only [if_pos h'']
        exact ⟨(eO.trans (if_neg h)).trans ih''.1, (eM.trans (if_neg h)).trans ih''.2.1, (eL.trans (if_neg h)).trans ih''.2.2⟩
      · have h'' : ¬(y 0).val % 4 < k + 1 := by omega
        simp only [if_neg h'] at ih''
        simp only [if_neg h'']
        exact ⟨(eO.trans (if_neg h)).trans ih''.1, (eM.trans (if_neg h)).trans ih''.2.1, (eL.trans (if_neg h)).trans ih''.2.2⟩

theorem after3_read (h2 : running c arg5 arg6 arg7 S.1 S.2.1 S.2.2 = run2 (operands c arg1 arg2 arg3 arg8 X1 X2 X3 X8 lo)) : ∀ k ≤ 4, ∀ y : Row,
    arg5.view.read (Elt F) (after3 c i arg1 harg1 arg2 harg2 arg3 harg3 arg4 harg4 arg5 harg5 arg6 harg6 arg7 harg7 arg8 harg8 X1 X2 X3 X8 lo S k).1 y = (if (y 0).val / 2048 < k then resO (operands c arg1 arg2 arg3 arg8 X1 X2 X3 X8 lo) else (run2 (operands c arg1 arg2 arg3 arg8 X1 X2 X3 X8 lo)).o) y
      ∧ arg6.view.read (Elt F) (after3 c i arg1 harg1 arg2 harg2 arg3 harg3 arg4 harg4 arg5 harg5 arg6 harg6 arg7 harg7 arg8 harg8 X1 X2 X3 X8 lo S k).2.1 y = (if (y 0).val / 2048 < k then resM (operands c arg1 arg2 arg3 arg8 X1 X2 X3 X8 lo) else (run2 (operands c arg1 arg2 arg3 arg8 X1 X2 X3 X8 lo)).m) y
      ∧ arg7.view.read (Elt F) (after3 c i arg1 harg1 arg2 harg2 arg3 harg3 arg4 harg4 arg5 harg5 arg6 harg6 arg7 harg7 arg8 harg8 X1 X2 X3 X8 lo S k).2.2 y = (run2 (operands c arg1 arg2 arg3 arg8 X1 X2 X3 X8 lo)).l y := by
  intro k
  induction k with
  | zero =>
    intro _ y
    rw [if_neg (by omega), if_neg (by omega), ← h2]
    exact ⟨rfl, rfl, rfl⟩
  | succ k ih =>
    intro hk y
    have hlt : k < k0_t3_loop.trips := by rw [trips3]; omega
    rw [(after3.eq_2 c i arg1 harg1 arg2 harg2 arg3 harg3 arg4 harg4 arg5 harg5 arg6 harg6 arg7 harg7 arg8 harg8 X1 X2 X3 X8 lo S k).trans (dif_pos hlt)]
    have ih' := ih (by omega)
    revert ih'
    generalize after3 c i arg1 harg1 arg2 harg2 arg3 harg3 arg4 harg4 arg5 harg5 arg6 harg6 arg7 harg7 arg8 harg8 X1 X2 X3 X8 lo S k = s
    intro ih'
    have at' : ∀ b x, _ := fun b x => by
      have e := ih' ((rows3 ⟨k, hlt⟩ b).emb x)
      rw [if_neg (by rw [out3 ⟨k, hlt⟩ b x]; exact lt_irrefl k), if_neg (by rw [out3 ⟨k, hlt⟩ b x]; exact lt_irrefl k)] at e
      exact e
    have eO := (congrArg (fun L => arg5.view.read (Elt F) (arg5.view.writes (Elt F) s.1 L) y) (trip3_O c i arg1 harg1 arg2 harg2 arg3 harg3 arg4 harg4 arg5 harg5 arg6 harg6 arg7 harg7 arg8 harg8 X1 X2 X3 X8 s.1 s.2.1 s.2.2 lo ⟨k, hlt⟩)).trans (read3O (operands c arg1 arg2 arg3 arg8 X1 X2 X3 X8 lo) (running c arg5 arg6 arg7 s.1 s.2.1 s.2.2) arg5.view s.1 ⟨k, hlt⟩ (fun b x => (at' b x).2.1) (fun b x => (at' b x).1) (fun b x => (at' b x).2.2) y)
    have eM := (congrArg (fun L => arg6.view.read (Elt F) (arg6.view.writes (Elt F) s.2.1 L) y) (trip3_M c i arg1 harg1 arg2 harg2 arg3 harg3 arg4 harg4 arg5 harg5 arg6 harg6 arg7 harg7 arg8 harg8 X1 X2 X3 X8 s.1 s.2.1 s.2.2 lo ⟨k, hlt⟩)).trans (read3M (operands c arg1 arg2 arg3 arg8 X1 X2 X3 X8 lo) (running c arg5 arg6 arg7 s.1 s.2.1 s.2.2) arg6.view s.2.1 ⟨k, hlt⟩ (fun b x => (at' b x).2.1) (fun b x => (at' b x).2.2) y)
    by_cases h : (y 0).val / 2048 = k
    · simp only [if_pos (show (y 0).val / 2048 < k + 1 by omega)]
      exact ⟨eO.trans (if_pos h), eM.trans (if_pos h), (ih' y).2.2⟩
    · have ih'' := ih' y
      by_cases h' : (y 0).val / 2048 < k
      · have h'' : (y 0).val / 2048 < k + 1 := by omega
        simp only [if_pos h'] at ih''
        simp only [if_pos h'']
        exact ⟨(eO.trans (if_neg h)).trans ih''.1, (eM.trans (if_neg h)).trans ih''.2.1, ih''.2.2⟩
      · have h'' : ¬(y 0).val / 2048 < k + 1 := by omega
        simp only [if_neg h'] at ih''
        simp only [if_neg h'']
        exact ⟨(eO.trans (if_neg h)).trans ih''.1, (eM.trans (if_neg h)).trans ih''.2.1, ih''.2.2⟩

/-- All three loops: the reads are the two results' arrays, whatever the buffers held. -/
theorem loops_read (y : Row) :
    arg5.view.read (Elt F) (after3 c i arg1 harg1 arg2 harg2 arg3 harg3 arg4 harg4 arg5 harg5 arg6 harg6 arg7 harg7 arg8 harg8 X1 X2 X3 X8 lo (after2 c i arg1 harg1 arg2 harg2 arg3 harg3 arg4 harg4 arg5 harg5 arg6 harg6 arg7 harg7 arg8 harg8 X1 X2 X3 X8 lo (after1 c i arg1 harg1 arg2 harg2 arg3 harg3 arg4 harg4 arg5 harg5 arg6 harg6 arg7 harg7 arg8 harg8 X1 X2 X3 X8 lo c0 c1 S 4) 4) 4).1 y = resO (operands c arg1 arg2 arg3 arg8 X1 X2 X3 X8 lo) y
      ∧ arg6.view.read (Elt F) (after3 c i arg1 harg1 arg2 harg2 arg3 harg3 arg4 harg4 arg5 harg5 arg6 harg6 arg7 harg7 arg8 harg8 X1 X2 X3 X8 lo (after2 c i arg1 harg1 arg2 harg2 arg3 harg3 arg4 harg4 arg5 harg5 arg6 harg6 arg7 harg7 arg8 harg8 X1 X2 X3 X8 lo (after1 c i arg1 harg1 arg2 harg2 arg3 harg3 arg4 harg4 arg5 harg5 arg6 harg6 arg7 harg7 arg8 harg8 X1 X2 X3 X8 lo c0 c1 S 4) 4) 4).2.1 y = resM (operands c arg1 arg2 arg3 arg8 X1 X2 X3 X8 lo) y := by
  have h1 : ∀ y, _ := fun y => after1_read c i arg1 harg1 arg2 harg2 arg3 harg3 arg4 harg4 arg5 harg5 arg6 harg6 arg7 harg7 arg8 harg8 X1 X2 X3 X8 lo c0 c1 S 4 le_rfl y (by omega)
  revert h1
  generalize after1 c i arg1 harg1 arg2 harg2 arg3 harg3 arg4 harg4 arg5 harg5 arg6 harg6 arg7 harg7 arg8 harg8 X1 X2 X3 X8 lo c0 c1 S 4 = s1
  intro h1
  have e1 : running c arg5 arg6 arg7 s1.1 s1.2.1 s1.2.2 = run1 (operands c arg1 arg2 arg3 arg8 X1 X2 X3 X8 lo) :=
    congr (congr (congrArg Running.mk (funext fun y => (h1 y).1)) (funext fun y => (h1 y).2.1)) (funext fun y => (h1 y).2.2)
  have h2 : ∀ y, _ := fun y => after2_read c i arg1 harg1 arg2 harg2 arg3 harg3 arg4 harg4 arg5 harg5 arg6 harg6 arg7 harg7 arg8 harg8 X1 X2 X3 X8 lo s1 e1 4 le_rfl y
  revert h2
  generalize after2 c i arg1 harg1 arg2 harg2 arg3 harg3 arg4 harg4 arg5 harg5 arg6 harg6 arg7 harg7 arg8 harg8 X1 X2 X3 X8 lo s1 4 = s2
  intro h2
  have e2 : running c arg5 arg6 arg7 s2.1 s2.2.1 s2.2.2 = run2 (operands c arg1 arg2 arg3 arg8 X1 X2 X3 X8 lo) :=
    congr (congr (congrArg Running.mk (funext fun y => (h2 y).1.trans (congrArg (fun G => Running.o G y) (if_pos (by omega)))))
      (funext fun y => (h2 y).2.1.trans (congrArg (fun G => Running.m G y) (if_pos (by omega))))) (funext fun y => (h2 y).2.2.trans (congrArg (fun G => Running.l G y) (if_pos (by omega))))
  have h3 := after3_read c i arg1 harg1 arg2 harg2 arg3 harg3 arg4 harg4 arg5 harg5 arg6 harg6 arg7 harg7 arg8 harg8 X1 X2 X3 X8 lo s2 e2 4 le_rfl y
  have hy := row_lt y
  rw [if_pos (by omega), if_pos (by omega)] at h3
  exact ⟨h3.1, h3.2.1⟩

end Loops

end Cert.Kernel11Ideal

end
-- ==== Proof.AttnBias.lean ====
/- The biases the attention's forward call writes before its loops: for a dilation and a head, what the distance of the two
   tokens costs, and the mask where the key is out of reach. -/
module

public import proofs.«01_k».proof.Proof.AttnRead

@[expose] public section

set_option maxRecDepth 16384

noncomputable section

namespace Cert.Kernel11Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel11Ideal.Gen

variable {F : FTy → Type} [FloatOps F] [Named F]

/-- How far a query's row is after a key's, within a block. -/
def apart : IVec S128x128 32 := subi (iota .tc S128x128 32 [0] iota_S128x128_d0_w32) (iota .tc S128x128 32 [1] iota_S128x128_d1_w32)

/-- The bias of a distance `dist`, kept where `ok` holds and the mask elsewhere. -/
def biasOf (ok : IVec S128x128 1) (dist : IVec S128x128 32) (v : Vec F S1x1x128 .f32) : FVec F S128x128 .f32 :=
  select ok (mulf (broadcastTo S128x128 (subf (broadcast S1x128 (Scalar.ofBits .f32 0x00000000#32)) (shapeCast S1x128 v shapeCasts_S1x1x128_S1x128))
    broadcasts_S1x128_S128x128) (sitofp .f32 dist)) (broadcast S128x128 (Named.named κ "mask" 0xF149F2CA#32))
/-- Against the block's own keys, against the keys of the block before, and where there is no block before. -/
def biasOwn (d : BitVec 32) (v : Vec F S1x1x128 .f32) : FVec F S128x128 .f32 :=
  biasOf (cmpi .sge apart (broadcast S128x128 0#32)) (muli apart (broadcast S128x128 d)) v
def biasPrev (d : BitVec 32) (v : Vec F S1x1x128 .f32) : FVec F S128x128 .f32 :=
  biasOf (cmpi .sle apart (broadcast S128x128 0#32)) (muli (addi apart (broadcast S128x128 128#32)) (broadcast S128x128 d)) v
def biasNone : FVec F S128x128 .f32 := broadcast S128x128 (Named.named κ "mask" 0xF149F2CA#32)

/-- The dilations, and a head's slope. -/
def dil : Fin 3 → BitVec 32 | 0 => 1#32 | 1 => 4#32 | 2 => 16#32
def slope (S : Vec F S1x8x128 .f32) : Fin 2 → Vec F S1x1x128 .f32
  | 0 => View.ld S (Rect.unit ![0, 0, 0] S1x1x128.size inb_S1x8x128_S1x1x128_0_0_0)
  | 1 => View.ld S (Rect.unit ![0, 1, 0] S1x1x128.size inb_S1x8x128_S1x1x128_0_1_0)

/-- One block of biases: the dilation's plane with keys before (`e = 0`) or without (`e = 1`), the head, keys before or own. -/
def biasBlock (S : Vec F S1x8x128 .f32) (d : Fin 3) (e h l : Fin 2) : FVec F S128x128 .f32 :=
  match l with
  | 1 => biasOwn (dil d) (slope S h)
  | 0 => match e with
    | 0 => biasPrev (dil d) (slope S h)
    | 1 => biasNone

def biasRows (d : Fin 3) (e h l : Fin 2) : Rect S6x256x256 :=
  Rect.unit ![2 * d.val + e.val, 128 * h.val, 128 * l.val] S1x128x128.size (fun a => by
    have := d.isLt; have := e.isLt; have := h.isLt; have := l.isLt
    match a with
    | ⟨0, _⟩ => show 2 * d.val + e.val + 1 ≤ 6; omega
    | ⟨1, _⟩ => show 128 * h.val + 128 ≤ 256; omega
    | ⟨2, _⟩ => show 128 * l.val + 128 ≤ 256; omega)

def biasPiece (S : Vec F S1x8x128 .f32) (x : Fin 3 × Fin 2 × Fin 2 × Fin 2) : View.Piece (Elt F) S6x256x256 .f32 :=
  ⟨biasRows x.1 x.2.2.1 x.2.1 x.2.2.2, shapeCast S1x128x128 (biasBlock S x.1 x.2.2.1 x.2.1 x.2.2.2) shapeCasts_S128x128_S1x128x128⟩
/-- In the order they are stored, the last first. -/
def biasOrder : List (Fin 3 × Fin 2 × Fin 2 × Fin 2) :=
  [2, 1, 0].flatMap fun d => [1, 0].flatMap fun h => [1, 0].flatMap fun e => [1, 0].map fun l => (d, h, e, l)
theorem mem_biasOrder (x : Fin 3 × Fin 2 × Fin 2 × Fin 2) : x ∈ biasOrder := by revert x; decide

/-- All the biases as one array. -/
def biasArr (S : Vec F S1x8x128 .f32) : Vec F S6x256x256 .f32 := fun y =>
  biasBlock S ⟨(y 0).val / 2, by have : (y 0).val < 6 := (y 0).isLt; omega⟩ ⟨(y 0).val % 2, by omega⟩
    ⟨(y 1).val / 128, by have : (y 1).val < 256 := (y 1).isLt; omega⟩ ⟨(y 2).val / 128, by have : (y 2).val < 256 := (y 2).isLt; omega⟩
    (ix2 ⟨(y 1).val % 128, by omega⟩ ⟨(y 2).val % 128, by omega⟩)

theorem biasRows_0 (d e h l) (x : S1x128x128.Idx) : ((biasRows d e h l).emb x 0).val = 2 * d.val + e.val := by
  refine (Rect.emb_apply _ _ _).trans ?_
  show 2 * d.val + e.val + 1 * (x 0).val = _
  have : (x 0).val < 1 := (x 0).isLt
  omega
theorem biasRows_1 (d e h l) (x : S1x128x128.Idx) : ((biasRows d e h l).emb x 1).val = 128 * h.val + (x 1).val := by
  refine (Rect.emb_apply _ _ _).trans ?_
  show 128 * h.val + 1 * (x 1).val = _
  omega
theorem biasRows_2 (d e h l) (x : S1x128x128.Idx) : ((biasRows d e h l).emb x 2).val = 128 * l.val + (x 2).val := by
  refine (Rect.emb_apply _ _ _).trans ?_
  show 128 * l.val + 1 * (x 2).val = _
  omega

theorem biasArr_emb (S : Vec F S1x8x128 .f32) (d e h l) (x : S1x128x128.Idx) :
    biasArr S ((biasRows d e h l).emb x) = biasBlock S d e h l (ix2 (x 1) (x 2)) := by
  have e0 := biasRows_0 d e h l x; have e1 := biasRows_1 d e h l x; have e2 := biasRows_2 d e h l x
  have he := e.isLt
  have h1 : (x 1).val < 128 := (x 1).isLt
  have h2 : (x 2).val < 128 := (x 2).isLt
  exact congr (congr (congr (congr (congrArg (biasBlock S) (Fin.ext (by show ((biasRows d e h l).emb x 0).val / 2 = _; rw [e0]; omega)))
    (Fin.ext (by show ((biasRows d e h l).emb x 0).val % 2 = _; rw [e0]; omega)))
    (Fin.ext (by show ((biasRows d e h l).emb x 1).val / 128 = _; rw [e1]; omega)))
    (Fin.ext (by show ((biasRows d e h l).emb x 2).val / 128 = _; rw [e2]; omega)))
    (ix2_of _ _ _ (by show ((biasRows d e h l).emb x 1).val % 128 = _; rw [e1]; show _ = (x 1).val; omega)
      (by show ((biasRows d e h l).emb x 2).val % 128 = _; rw [e2]; show _ = (x 2).val; omega))

theorem cube (v : FVec F S128x128 .f32) (x : S1x128x128.Idx) : shapeCast S1x128x128 v shapeCasts_S128x128_S1x128x128 x = v (ix2 (x 1) (x 2)) := by
  simp only [pointwise]

theorem biasRows_in (y : S6x256x256.Idx) : ∃ (z : Fin 3 × Fin 2 × Fin 2 × Fin 2) (x : S1x128x128.Idx), (biasRows z.1 z.2.2.1 z.2.1 z.2.2.2).emb x = y := by
  have h0 : (y 0).val < 6 := (y 0).isLt
  have h1 : (y 1).val < 256 := (y 1).isLt
  have h2 : (y 2).val < 256 := (y 2).isLt
  refine ⟨(⟨(y 0).val / 2, by omega⟩, ⟨(y 1).val / 128, by omega⟩, ⟨(y 0).val % 2, by omega⟩, ⟨(y 2).val / 128, by omega⟩),
    ix3 0 ⟨(y 1).val % 128, by omega⟩ ⟨(y 2).val % 128, by omega⟩, funext fun a => Fin.ext ?_⟩
  match a with
  | ⟨0, _⟩ => refine (biasRows_0 _ _ _ _ _).trans ?_; show 2 * ((y 0).val / 2) + (y 0).val % 2 = (y 0).val; omega
  | ⟨1, _⟩ => refine (biasRows_1 _ _ _ _ _).trans ?_; show 128 * ((y 1).val / 128) + (y 1).val % 128 = (y 1).val; omega
  | ⟨2, _⟩ => refine (biasRows_2 _ _ _ _ _).trans ?_; show 128 * ((y 2).val / 128) + (y 2).val % 128 = (y 2).val; omega

section Stored

variable (c : Dev nD) (i : grid0.Coords)
  (arg1 : Memref sig .tc .vmem S8192x128 .f32) (harg1 : arg1.IsWhole) (arg2 : Memref sig .tc .vmem S8192x128 .f32) (harg2 : arg2.IsWhole)
  (arg3 : Memref sig .tc .vmem S8192x128 .f32) (harg3 : arg3.IsWhole) (arg4 : Memref sig .tc .vmem S1x8x128 .f32) (harg4 : arg4.IsWhole)
  (arg5 : Memref sig .tc .vmem S8192x128 .f32) (harg5 : arg5.IsWhole) (arg6 : Memref sig .tc .vmem S8192x128 .f32) (harg6 : arg6.IsWhole)
  (arg7 : Memref sig .tc .vmem S8192x128 .f32) (harg7 : arg7.IsWhole) (arg8 : Memref sig .tc .vmem S6x256x256 .f32) (harg8 : arg8.IsWhole)
  (X1 : Buf (Elt F) (arg1.view.loc (c : Thread nD τ))) (X2 : Buf (Elt F) (arg2.view.loc (c : Thread nD τ)))
  (X3 : Buf (Elt F) (arg3.view.loc (c : Thread nD τ))) (X4 : Buf (Elt F) (arg4.view.loc (c : Thread nD τ)))
  (f5 : Buf (Elt F) (arg5.view.loc (c : Thread nD τ))) (f6 : Buf (Elt F) (arg6.view.loc (c : Thread nD τ)))
  (f7 : Buf (Elt F) (arg7.view.loc (c : Thread nD τ))) (f8 : Buf (Elt F) (arg8.view.loc (c : Thread nD τ)))

set_option maxHeartbeats 4000000 in
theorem bias_stores : bodyRun.sl.H8_24 c arg4 X4 = biasOrder.map (biasPiece (arg4.view.read (Elt F) X4)) := by
  with_unfolding_all rfl

set_option maxHeartbeats 4000000 in
theorem bodyRun_1 : (bodyRun c i arg1 harg1 arg2 harg2 arg3 harg3 arg4 harg4 arg5 harg5 arg6 harg6 arg7 harg7 arg8 harg8 X1 X2 X3 X4 f5 f6 f7 f8).1
    = (after3 c i arg1 harg1 arg2 harg2 arg3 harg3 arg4 harg4 arg5 harg5 arg6 harg6 arg7 harg7 arg8 harg8 X1 X2 X3 (arg8.view.writes (Elt F) arg8.view.junk (bodyRun.sl.H8_24 c arg4 X4)) k0_pay766
      (after2 c i arg1 harg1 arg2 harg2 arg3 harg3 arg4 harg4 arg5 harg5 arg6 harg6 arg7 harg7 arg8 harg8 X1 X2 X3 (arg8.view.writes (Elt F) arg8.view.junk (bodyRun.sl.H8_24 c arg4 X4)) k0_pay766
        (after1 c i arg1 harg1 arg2 harg2 arg3 harg3 arg4 harg4 arg5 harg5 arg6 harg6 arg7 harg7 arg8 harg8 X1 X2 X3 (arg8.view.writes (Elt F) arg8.view.junk (bodyRun.sl.H8_24 c arg4 X4)) k0_pay766 0#32 1#32 (f5, f6, f7) 4) 4) 4).1 := by
  rfl
set_option maxHeartbeats 4000000 in
theorem bodyRun_2 : (bodyRun c i arg1 harg1 arg2 harg2 arg3 harg3 arg4 harg4 arg5 harg5 arg6 harg6 arg7 harg7 arg8 harg8 X1 X2 X3 X4 f5 f6 f7 f8).2.1
    = (after3 c i arg1 harg1 arg2 harg2 arg3 harg3 arg4 harg4 arg5 harg5 arg6 harg6 arg7 harg7 arg8 harg8 X1 X2 X3 (arg8.view.writes (Elt F) arg8.view.junk (bodyRun.sl.H8_24 c arg4 X4)) k0_pay766
      (after2 c i arg1 harg1 arg2 harg2 arg3 harg3 arg4 harg4 arg5 harg5 arg6 harg6 arg7 harg7 arg8 harg8 X1 X2 X3 (arg8.view.writes (Elt F) arg8.view.junk (bodyRun.sl.H8_24 c arg4 X4)) k0_pay766
        (after1 c i arg1 harg1 arg2 harg2 arg3 harg3 arg4 harg4 arg5 harg5 arg6 harg6 arg7 harg7 arg8 harg8 X1 X2 X3 (arg8.view.writes (Elt F) arg8.view.junk (bodyRun.sl.H8_24 c arg4 X4)) k0_pay766 0#32 1#32 (f5, f6, f7) 4) 4) 4).2.1 := by
  rfl

/-- What the body leaves in the two results' blocks, of what the windows' blocks hold. -/
theorem bias_read : arg8.view.read (Elt F) (arg8.view.writes (Elt F) arg8.view.junk (bodyRun.sl.H8_24 c arg4 X4)) = biasArr (arg4.view.read (Elt F) X4) := by
  funext y
  rw [bias_stores]
  exact (read_pieces arg8.view _ biasOrder mem_biasOrder (biasPiece (arg4.view.read (Elt F) X4)) (biasArr (arg4.view.read (Elt F) X4)) (fun _ => True)
    (fun z x => (cube _ x).trans (biasArr_emb _ _ _ _ _ x).symm) (fun y _ => biasRows_in y) (fun _ _ => trivial) y).trans (if_pos trivial)

theorem body_read :
    arg5.view.read (Elt F) (bodyRun c i arg1 harg1 arg2 harg2 arg3 harg3 arg4 harg4 arg5 harg5 arg6 harg6 arg7 harg7 arg8 harg8 X1 X2 X3 X4 f5 f6 f7 f8).1
      = resO ⟨arg1.view.read (Elt F) X1, arg2.view.read (Elt F) X2, arg3.view.read (Elt F) X3, biasArr (arg4.view.read (Elt F) X4), k0_pay766⟩
    ∧ arg6.view.read (Elt F) (bodyRun c i arg1 harg1 arg2 harg2 arg3 harg3 arg4 harg4 arg5 harg5 arg6 harg6 arg7 harg7 arg8 harg8 X1 X2 X3 X4 f5 f6 f7 f8).2.1
      = resM ⟨arg1.view.read (Elt F) X1, arg2.view.read (Elt F) X2, arg3.view.read (Elt F) X3, biasArr (arg4.view.read (Elt F) X4), k0_pay766⟩ := by
  refine ⟨(congrArg (arg5.view.read (Elt F)) (bodyRun_1 c i arg1 harg1 arg2 harg2 arg3 harg3 arg4 harg4 arg5 harg5 arg6 harg6 arg7 harg7 arg8 harg8 X1 X2 X3 X4 f5 f6 f7 f8)).trans ?_,
    (congrArg (arg6.view.read (Elt F)) (bodyRun_2 c i arg1 harg1 arg2 harg2 arg3 harg3 arg4 harg4 arg5 harg5 arg6 harg6 arg7 harg7 arg8 harg8 X1 X2 X3 X4 f5 f6 f7 f8)).trans ?_⟩
  all_goals
    have e := bias_read c arg4 arg8 X4
    revert e
    generalize arg8.view.writes (Elt F) arg8.view.junk (bodyRun.sl.H8_24 c arg4 X4) = X8
    intro e
    rw [← e]
    funext y
  · exact (loops_read c i arg1 harg1 arg2 harg2 arg3 harg3 arg4 harg4 arg5 harg5 arg6 harg6 arg7 harg7 arg8 harg8 X1 X2 X3 X8 k0_pay766 0#32 1#32 (f5, f6, f7) y).1
  · exact (loops_read c i arg1 harg1 arg2 harg2 arg3 harg3 arg4 harg4 arg5 harg5 arg6 harg6 arg7 harg7 arg8 harg8 X1 X2 X3 X8 k0_pay766 0#32 1#32 (f5, f6, f7) y).2

/-- The body's run, the two results' buffers known by what they read. -/
theorem body_run : ∃ (g5 : Buf (Elt F) (arg5.view.loc (c : Thread nD τ))) (g6 : Buf (Elt F) (arg6.view.loc (c : Thread nD τ))),
    arg5.view.read (Elt F) g5 = resO ⟨arg1.view.read (Elt F) X1, arg2.view.read (Elt F) X2, arg3.view.read (Elt F) X3, biasArr (arg4.view.read (Elt F) X4), k0_pay766⟩
    ∧ arg6.view.read (Elt F) g6 = resM ⟨arg1.view.read (Elt F) X1, arg2.view.read (Elt F) X2, arg3.view.read (Elt F) X3, biasArr (arg4.view.read (Elt F) X4), k0_pay766⟩
    ∧ (iprop(Held c arg1 arg2 arg3 arg5 arg6 arg7 arg8 X1 X2 X3 f8 f5 f6 f7 ∗ (arg4.view.loc (c : Thread nD τ) ↦[arg4.view.set]{fullShare} X4))
      ⊢ wp frame (wpE (defs₀ (F := F)) Variants.none (c : Thread nD τ) none) Set.univ
        (cc0_attn_fwd (F := F) i arg1 harg1 arg2 harg2 arg3 harg3 arg4 harg4 arg5 harg5 arg6 harg6 arg7 harg7 arg8 harg8)
        (fun _ => iprop((arg1.view.loc (c : Thread nD τ) ↦[arg1.view.set]{fullShare} X1) ∗ (arg2.view.loc (c : Thread nD τ) ↦[arg2.view.set]{fullShare} X2)
          ∗ (arg3.view.loc (c : Thread nD τ) ↦[arg3.view.set]{fullShare} X3) ∗ (arg4.view.loc (c : Thread nD τ) ↦[arg4.view.set]{fullShare} X4)
          ∗ (arg5.view.loc (c : Thread nD τ) ↦[arg5.view.set]{fullShare} g5) ∗ (arg6.view.loc (c : Thread nD τ) ↦[arg6.view.set]{fullShare} g6)
          ∗ (∃ f, arg7.view.loc (c : Thread nD τ) ↦[arg7.view.set]{fullShare} f) ∗ (∃ f, arg8.view.loc (c : Thread nD τ) ↦[arg8.view.set]{fullShare} f)))) :=
  ⟨_, _, (body_read c i arg1 harg1 arg2 harg2 arg3 harg3 arg4 harg4 arg5 harg5 arg6 harg6 arg7 harg7 arg8 harg8 X1 X2 X3 X4 f5 f6 f7 f8).1, (body_read c i arg1 harg1 arg2 harg2 arg3 harg3 arg4 harg4 arg5 harg5 arg6 harg6 arg7 harg7 arg8 harg8 X1 X2 X3 X4 f5 f6 f7 f8).2, (bodyRun c i arg1 harg1 arg2 harg2 arg3 harg3 arg4 harg4 arg5 harg5 arg6 harg6 arg7 harg7 arg8 harg8 X1 X2 X3 X4 f5 f6 f7 f8).2.2⟩

end Stored

end Cert.Kernel11Ideal

end
-- ==== Proof.AttnFrame.lean ====
/- The attention's forward call: its run, and what its two results end at. -/
module

public import proofs.«01_k».proof.Proof.AttnBias
public import proofs.«01_k».proof.Proof.Gen.Kernel11Ideal.Frame
public import Idealize.ShloMosaic.Lib.Claim

@[expose] public section

set_option maxRecDepth 16384

noncomputable section

namespace Cert.Kernel11Ideal.Attn

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What a point reads: its head pair's queries, keys and values, and the biases of its two heads. -/
def point (c : Dev nD) (t : Fin cfg0.N) : Operands F :=
  ⟨iblk m c 0 t, iblk m c 1 t, iblk m c 2 t, biasArr (iblk m c 3 t), k0_pay766⟩

/-- The pipeline's proof data: inputs keep their blocks, the outputs end at the two results' blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => resO (point m c t)
    | ⟨5, _⟩ => resM (point m c t)
  Φ _ := Pipeline.ΦA spec0 c
  q w := Pipeline.shareOf spec0 w
  owed _ := 0

theorem entry (c : Dev nD) (w : Fin cfg0.W) : (dats m 0 c).A w = V m c (Pipeline.arrRef spec0 w) := by dsimp only [dats]
theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = resO (point m c t) := by dsimp only [dats]
theorem left5 (c : Dev nD) (t : Fin cfg0.N) : (dats m 0 c).after 5 t = resM (point m c t) := by dsimp only [dats]

/-- The body on whole buffers, of which the inputs' are read, the outputs' and the two scratch buffers at anything. -/
theorem sound (c : Dev nD) (i : grid0.Coords)
    (arg1 : Memref sig .tc .vmem S8192x128 .f32) (harg1 : arg1.IsWhole) (arg2 : Memref sig .tc .vmem S8192x128 .f32) (harg2 : arg2.IsWhole)
    (arg3 : Memref sig .tc .vmem S8192x128 .f32) (harg3 : arg3.IsWhole) (arg4 : Memref sig .tc .vmem S1x8x128 .f32) (harg4 : arg4.IsWhole)
    (arg5 : Memref sig .tc .vmem S8192x128 .f32) (harg5 : arg5.IsWhole) (arg6 : Memref sig .tc .vmem S8192x128 .f32) (harg6 : arg6.IsWhole)
    (arg7 : Memref sig .tc .vmem S8192x128 .f32) (harg7 : arg7.IsWhole) (arg8 : Memref sig .tc .vmem S6x256x256 .f32) (harg8 : arg8.IsWhole)
    (x1 x2 x3 : Vec F S8192x128 .f32) (x4 : Vec F S1x8x128 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (∃ f, arg7.view.loc (c : Thread nD τ) ↦[arg7.view.set]{fullShare} f) ∗ (∃ f, arg8.view.loc (c : Thread nD τ) ↦[arg8.view.set]{fullShare} f)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (resO ⟨x1, x2, x3, biasArr x4, k0_pay766⟩)
            ∗ owns (c : Thread nD τ) arg6 fullShare (resM ⟨x1, x2, x3, biasArr x4, k0_pay766⟩)
            ∗ (∃ f, arg7.view.loc (c : Thread nD τ) ↦[arg7.view.set]{fullShare} f) ∗ (∃ f, arg8.view.loc (c : Thread nD τ) ↦[arg8.view.set]{fullShare} f)) -∗ K ⟨⟩))
      ⊢ wp frame (wpE (defs₀ (F := F)) Variants.none c none) Set.univ
        (cc0_attn_fwd i arg1 harg1 arg2 harg2 arg3 harg3 arg4 harg4 arg5 harg5 arg6 harg6 arg7 harg7 arg8 harg8) K := by
  unfold owns
  iintro ⟨⟨%f1, %h1, H1⟩, ⟨%f2, %h2, H2⟩, ⟨%f3, %h3, H3⟩, ⟨%f4, %h4, H4⟩, ⟨%d5, %f5, -, H5⟩, ⟨%d6, %f6, -, H6⟩, ⟨%f7, H7⟩, ⟨%f8, H8⟩, Hk⟩
  subst h1 h2 h3 h4
  obtain ⟨g5, g6, hr5, hr6, hrun⟩ := body_run c i arg1 harg1 arg2 harg2 arg3 harg3 arg4 harg4 arg5 harg5 arg6 harg6 arg7 harg7 arg8 harg8 f1 f2 f3 f4 f5 f6 f7 f8
  iapply (wp_wand_r frame _ Set.univ)
  isplitl [H1 H2 H3 H4 H5 H6 H7 H8]
  · iapply hrun
    unfold Held
    iframe
  iintro %_ ⟨H1, H2, H3, H4, H5, H6, H7, H8⟩
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists g5; isplitr; · ipureintro; exact hr5
    iexact H5
  isplitl [H6]
  · iexists g6; isplitr; · ipureintro; exact hr6
    iexact H6
  isplitl [H7]; · iexact H7
  iexact H8

/-- The two scratch buffers of the region, as the body's views of them. -/
theorem region (c : Dev nD) : (Pipeline.ΦA spec0 c : sProp 𝕄)
    = iprop(((∃ f, (Memref.whole cc0_scratch0).view.loc (c : Thread nD τ) ↦[(Memref.whole cc0_scratch0).view.set]{fullShare} f)
        ∗ (∃ f, (Memref.whole cc0_scratch1).view.loc (c : Thread nD τ) ↦[(Memref.whole cc0_scratch1).view.set]{fullShare} f)) ∗ ∃ r, prngReg c r) := by
  unfold Pipeline.ΦA
  rw [scopedRest0_eq, show (Memref.whole cc0_scratch0).view.set = Finset.univ from View.set_whole cc0_scratch0,
    show (Memref.whole cc0_scratch1).view.set = Finset.univ from View.set_whole cc0_scratch1]

/-- The body at a point. The two scratch buffers come from the region and go back at anything. -/
theorem body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d)))
    ⊢ wp frame (wpE (defs₀ (F := F)) Variants.none c none) Set.univ (bodyAt0 t) fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)
        ∗ owns (c : Thread nD τ) (st0_5 t) fullShare ((dats m 0 c).after 5 t)) := by
  rw [left0, left1, left2, left3, left4, left5, show (dats m 0 c).Φ t.castSucc = Pipeline.ΦA spec0 c from rfl,
    show (dats m 0 c).Φ t.succ = Pipeline.ΦA spec0 c from rfl,
    show (dats m 0 c).owesAt () t.succ = (dats m 0 c).owesAt () t.castSucc from rfl]
  simp only [before0_0_of m (dats m 0 c) (entry m c 0) (left0 m c), before0_1_of m (dats m 0 c) (entry m c 1) (left1 m c),
    before0_2_of m (dats m 0 c) (entry m c 2) (left2 m c), before0_3_of m (dats m 0 c) (entry m c 3) (left3 m c)]
  unfold bodyAt0 point
  rw [region]
  iintro ⟨⟨⟨H7, H8⟩, Hg⟩, Ho, ⟨%d0, H0⟩, ⟨%d1, H1⟩, ⟨%d2, H2⟩, ⟨%d3, H3⟩, ⟨%d4, H4⟩, ⟨%d5, H5⟩⟩
  iapply (sound c (grid0.coords t) _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H7]; · iexact H7
  isplitl [H8]; · iexact H8
  iintro ⟨H0, H1, H2, H3, H4, H5, H7, H8⟩
  isplitl [H7 H8 Hg]
  · isplitl [H7 H8]
    · isplitl [H7]; · iexact H7
      iexact H8
    iexact Hg
  isplitl [Ho]; · iexact Ho
  isplitl [H0]; · iexact H0
  isplitl [H1]; · iexact H1
  isplitl [H2]; · iexact H2
  isplitl [H3]; · iexact H3
  isplitl [H4]; · iexact H4
  iexact H5

theorem obliged (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body m c t) rfl .rfl fun _ => .rfl

set_option backward.isDefEq.respectTransparency.types false in
/-- The run: it ends, with every array of the pipeline at what the proof data computes and every counter at zero. -/
theorem run : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (obliged m c).loose) (hq := fun _ _ _ => rfl)
    (howed := fun _ _ => rfl) (V := V m) (hmain := hmain m Variants.none) (hA := entry m) (hΦ := fun _ _ => rfl)

theorem post : θ_run defs (onTc (τ := τ) (main (F := F))) (s₀ m ρ) (Pipeline.FramePost cfgs (dats m) 0 (V m)) :=
  (θ_run defs _ _).mono (fun _ h => h.1) (run m ρ)

/-- The argument ends unchanged, and every counter at zero. -/
theorem frame : θ_run defs (onTc (τ := τ) (main (F := F))) (s₀ m ρ) (fun r => (∀ c : Dev nD,
      r.2.mem ((c.tc : Thread nD τ).loc main_arg0) = m ((c.tc : Thread nD τ).loc main_arg0)) ∧ r.2.sem = fun _ => 0) :=
  θ_run_and (frame_of m ρ (dats m) (entry m) (post m ρ)) ((θ_run defs _ _).mono (fun _ h => h.2) (run m ρ))

/-- The two results end at the arrays the points leave, and the argument unchanged. -/
theorem results : θ_run defs (onTc (τ := τ) (main (F := F))) (s₀ m ρ) (fun r => (∀ c : Dev nD,
      r.2.mem ((c.tc : Thread nD τ).loc main_v10_0) = (dats m 0 c).arrAt 4 (Fin.last cfg0.N)
      ∧ r.2.mem ((c.tc : Thread nD τ).loc main_v10_1) = (dats m 0 c).arrAt 5 (Fin.last cfg0.N)
      ∧ r.2.mem ((c.tc : Thread nD τ).loc main_arg0) = m ((c.tc : Thread nD τ).loc main_arg0))) :=
  (θ_run defs _ _).mono (fun _ h c => ⟨(h.1 c).1 4, (h.1 c).1 5, h.2 c⟩)
    (θ_run_and (post m ρ) (frame_of m ρ (dats m) (entry m) (post m ρ)))

end Cert.Kernel11Ideal.Attn

end
-- ==== Proof.AttnWords.lean ====
/- The attention's forward call at the bit-exact type: the same program as the one whose mask is named, so its run is that one's. -/
module

public import proofs.«01_k».proof.Defs
public import proofs.«01_k».proof.Proof.Gen.Kernel11
public import proofs.«01_k».proof.Proof.AttnFrame
public import Idealize.ShloMosaic.Lib.Quiescent

@[expose] public section

noncomputable section

namespace Cert.Proof

open Idealize.ShloMosaic Idealize.ShloMosaic.TcCoe Idealize.SL.Sem

/-- A named constant at the bit-exact type: the word itself. -/
@[reducible] def words : Named Bits := ⟨fun _ _ {φ} bits => Scalar.ofBits φ bits⟩

/-- The attention's forward body is the same program at both element types. -/
theorem bodies11 [i1 : Cert.Kernel11.Facts] [i2 : Cert.Kernel11Ideal.Facts] :
    @Cert.Kernel11.defs₀ Bits _ i1 = @Cert.Kernel11Ideal.defs₀ Bits _ words i2 := by
  unfold Cert.Kernel11.defs₀ Cert.Kernel11Ideal.defs₀
  refine congrArg Defs.onTc ?_
  funext f a
  match f, a with
  | 0, (t, s) => with_unfolding_all rfl

theorem programs11 [i1 : Cert.Kernel11.Facts] [i2 : Cert.Kernel11Ideal.Facts] :
    @Cert.Kernel11.defs Bits _ i1 = @Cert.Kernel11Ideal.defs Bits _ words i2 := by
  unfold Cert.Kernel11.defs Cert.Kernel11Ideal.defs
  rw [bodies11]
  with_unfolding_all rfl

set_option maxHeartbeats 2000000 in
theorem frame_kernel11 : Cert.quiescent_Kernel11 := by
  intro m ρ _
  rw [programs11]
  letI := words
  with_unfolding_all exact Cert.Kernel11Ideal.Attn.frame (F := Bits) m ρ

end Cert.Proof

end
-- ==== Proof.RowNorm.lean ====
/- The root-mean-square norm's gradient along one row, in the extended reals. The kernel and the derivative write it in two
   different orders; here both are stated over functions of the row's index and shown equal, at infinite entries too. -/
module

public import Idealize.ShloMosaic.Lib.StableHlo
public import Idealize.ShloMosaic.PureOps
public import Idealize.ShloMosaic.Lib.Pointwise

@[expose] public section

noncomputable section

namespace Cert.RowNorm

open Idealize.ShloMosaic

variable {n : Nat}

/-- The reciprocal root of the row's mean square plus `e`. -/
def rstd (N e : EReal) (x : Fin n → EReal) : EReal := Ideal.rsqrt (Ideal.div (∑ k, x k * x k) N + e)

/-- The gradient as the kernel writes it: the cotangent less its part along the normalised row, scaled. -/
def back (N e : EReal) (x dn : Fin n → EReal) (j : Fin n) : EReal :=
  rstd N e x * (dn j - x j * rstd N e x * Ideal.div (∑ k, dn k * (x k * rstd N e x)) N)

/-- What the derivative through the reciprocal root multiplies the row by, once for each factor of the square. -/
def slope (N e h : EReal) (x dn : Fin n → EReal) : EReal :=
  Ideal.div ((∑ k, x k * dn k) * (h * Ideal.div (rstd N e x) (Ideal.div (∑ k, x k * x k) N + e))) N

/-- A nonnegative real factor goes into a sum. -/
theorem sum_mul_real {ι : Type} (s : Finset ι) (f : ι → EReal) (r : ℝ) (hr : 0 ≤ r) :
    ∑ k ∈ s, f k * (r : EReal) = (∑ k ∈ s, f k) * (r : EReal) := by
  classical
  induction s using Finset.induction_on with
  | empty => simp
  | insert a s ha ih =>
    rw [Finset.sum_insert ha, Finset.sum_insert ha, ih, mul_comm (_ + _), EReal.left_distrib_of_nonneg_of_ne_top
      (EReal.coe_nonneg.2 hr) (EReal.coe_ne_top r), mul_comm (r : EReal), mul_comm (r : EReal)]

/-- A sum of squares is not negative. -/
theorem sum_sq_nonneg (x : Fin n → EReal) : 0 ≤ ∑ k, x k * x k :=
  Finset.sum_nonneg fun k _ => by
    induction x k using EReal.rec with
    | bot => simp
    | coe a => rw [← EReal.coe_mul]; exact EReal.coe_nonneg.2 (mul_self_nonneg a)
    | top => simp

/-- The norm's argument is either `⊤` or a positive real. -/
theorem arg_cases (N e : ℝ) (hN : 0 < N) (he : 0 < e) (x : Fin n → EReal) :
    Ideal.div (∑ k, x k * x k) (N : EReal) + (e : EReal) = ⊤ ∨
    ∃ v : ℝ, 0 < v ∧ Ideal.div (∑ k, x k * x k) (N : EReal) + (e : EReal) = (v : EReal) := by
  have h := sum_sq_nonneg x
  rw [Ideal.div_coe hN.ne']
  generalize ∑ k, x k * x k = S at h ⊢
  induction S using EReal.rec with
  | bot => simp at h
  | coe a =>
    right
    refine ⟨a * (1 / N) + e, ?_, by push_cast; rfl⟩
    have ha : 0 ≤ a := EReal.coe_nonneg.1 h
    positivity
  | top =>
    left
    rw [EReal.top_mul_coe_of_pos (by positivity)]
    rfl

/-- The kernel's order and the derivative's order of the norm's gradient give the same extended real. -/
theorem back_eq (N e : ℝ) (hN : 0 < N) (he : 0 < e) (x dn : Fin n → EReal) (j : Fin n) :
    back N e x dn j = dn j * rstd N e x
      + (x j * slope N e ((-(1 / 2) : ℝ) : EReal) x dn + slope N e ((-(1 / 2) : ℝ) : EReal) x dn * x j) := by
  unfold back slope rstd
  rcases arg_cases N e hN he x with h | ⟨v, hv, h⟩
  · rw [h]
    have hr : Ideal.rsqrt ⊤ = 0 := rfl
    rw [hr, Ideal.div_coe hN.ne', Ideal.div_coe hN.ne']
    have hz : Ideal.div 0 ⊤ = 0 := by simp [Ideal.div]
    simp [hz]
  · rw [h]
    have hr : Ideal.rsqrt (v : EReal) = (((√v)⁻¹ : ℝ) : EReal) := by
      rw [Ideal.rsqrt_coe, if_neg (not_lt.2 hv.le), if_neg hv.ne']
    have hp : (0 : ℝ) < (√v)⁻¹ := inv_pos.2 (Real.sqrt_pos.2 hv)
    have hq : (√v)⁻¹ * (√v)⁻¹ = 1 / v := by
      rw [← mul_inv, Real.mul_self_sqrt hv.le, one_div]
    rw [hr]
    generalize hρ : (√v)⁻¹ = ρ at *
    have hs : ∑ k, dn k * (x k * (ρ : EReal)) = (∑ k, x k * dn k) * (ρ : EReal) := by
      rw [← sum_mul_real _ _ _ hp.le]
      exact Finset.sum_congr rfl fun k _ => by rw [← mul_assoc, mul_comm (dn k)]
    rw [hs, Ideal.div_coe hN.ne', Ideal.div_coe hN.ne', Ideal.div_coe hv.ne', ← hq]
    generalize ∑ k, x k * dn k = S
    generalize hx : x j = a
    generalize hd : dn j = d
    rw [sub_eq_add_neg, EReal.left_distrib_of_nonneg_of_ne_top (EReal.coe_nonneg.2 hp.le) (EReal.coe_ne_top ρ), mul_comm d]
    congr 1
    have key : ∀ y : EReal, y * ((-(1 / 2) : ℝ) : EReal) + y * ((-(1 / 2) : ℝ) : EReal) = -y := by
      intro y
      induction y using EReal.rec with
      | bot => rw [EReal.bot_mul_coe_of_neg (by norm_num)]; rfl
      | coe b => rw [← EReal.coe_mul, ← EReal.coe_add, ← EReal.coe_neg]; congr 1; ring
      | top => rw [EReal.top_mul_coe_of_neg (by norm_num)]; rfl
    have e1 : a * (S * (((-(1 / 2) : ℝ) : EReal) * ((ρ : EReal) * ((ρ * ρ : ℝ) : EReal))) * ((1 / N : ℝ) : EReal))
        = (a * (S * ((ρ : EReal) * ((ρ * ρ : ℝ) : EReal)) * ((1 / N : ℝ) : EReal))) * ((-(1 / 2) : ℝ) : EReal) := by
      ac_rfl
    rw [mul_comm _ a, e1, key, mul_neg, EReal.coe_mul]
    congr 1
    ac_rfl

/-- The literals the programs write: the widths of the rows, the offset, and the power rule's factor. -/
theorem ofBits_1024 : Ideal.ofBits .f32 1149239296#32 = ((1024 : ℝ) : EReal) := by
  simp [Ideal.ofBits, Ideal.ieee, -EReal.coe_mul]; norm_num
theorem ofBits_512 : Ideal.ofBits .f32 1140850688#32 = ((512 : ℝ) : EReal) := by
  simp [Ideal.ofBits, Ideal.ieee, -EReal.coe_mul]; norm_num
theorem ofBits_neg_half : Ideal.ofBits .f32 3204448256#32 = ((-(1 / 2) : ℝ) : EReal) := by
  simp [Ideal.ofBits, Ideal.ieee, -EReal.coe_mul]; norm_num
theorem ofBits_eps : ∃ e : ℝ, 0 < e ∧ Ideal.ofBits .f32 897988541#32 = (e : EReal) := by
  simp [Ideal.ofBits, Ideal.ieee, -EReal.coe_mul]

/-- The two orders agree with the literals in place, for rows of 1024. -/
theorem back_lit (x dn : Fin n → EReal) (j : Fin n) :
    back (Ideal.ofBits .f32 1149239296#32) (Ideal.ofBits .f32 897988541#32) x dn j
      = dn j * rstd (Ideal.ofBits .f32 1149239296#32) (Ideal.ofBits .f32 897988541#32) x
        + (x j * slope (Ideal.ofBits .f32 1149239296#32) (Ideal.ofBits .f32 897988541#32) (Ideal.ofBits .f32 3204448256#32) x dn
          + slope (Ideal.ofBits .f32 1149239296#32) (Ideal.ofBits .f32 897988541#32) (Ideal.ofBits .f32 3204448256#32) x dn * x j) := by
  obtain ⟨e, he, h⟩ := ofBits_eps
  rw [h, ofBits_1024, ofBits_neg_half]
  exact back_eq 1024 e (by norm_num) he x dn j

/-- The two orders agree with the literals in place, for rows of 512. -/
theorem back_lit_512 (x dn : Fin n → EReal) (j : Fin n) :
    back (Ideal.ofBits .f32 1140850688#32) (Ideal.ofBits .f32 897988541#32) x dn j
      = dn j * rstd (Ideal.ofBits .f32 1140850688#32) (Ideal.ofBits .f32 897988541#32) x
        + (x j * slope (Ideal.ofBits .f32 1140850688#32) (Ideal.ofBits .f32 897988541#32) (Ideal.ofBits .f32 3204448256#32) x dn
          + slope (Ideal.ofBits .f32 1140850688#32) (Ideal.ofBits .f32 897988541#32) (Ideal.ofBits .f32 3204448256#32) x dn * x j) := by
  obtain ⟨e, he, h⟩ := ofBits_eps
  rw [h, ofBits_512, ofBits_neg_half]
  exact back_eq 512 e (by norm_num) he x dn j

end Cert.RowNorm

end
-- ==== Proof.InValue.lean ====
/- The kernel's two result arrays as functions of its argument arrays: the gradient of the input row by row, and the gradient of the
   norm's gain as one sum over the rows. -/
module

public import proofs.«01_k».proof.Proof.Gen.KernelIdeal.Value
public import proofs.«01_k».proof.Proof.RowNorm
public import Idealize.ShloMosaic.Lib.Pipeline.ValueKit
public import Idealize.ShloMosaic.Lib.Claim

@[expose] public section

set_option maxRecDepth 16384

noncomputable section

namespace Cert.KernelIdeal.In

open Cert.KernelIdeal Cert.KernelIdeal.Gen Idealize.ShloMosaic Idealize.ShloMosaic.TcCoe Idealize.SL.Sem
open Idealize.ShloMosaic.Pipeline (Dat)

variable (D : FVec Ideal S3x8192x512 .f32) (U : FVec Ideal S2x8192x512 .bf16) (X : FVec Ideal S1x8192x1024 .f32)
  (H : FVec Ideal S8192x1024 .f32) (G : FVec Ideal S1x1024 .f32) (W : FVec Ideal S1x1024x2560 .f32)

/-- The cotangent of the projected row: the five parts side by side. -/
def ct (r : Fin 8192) (k : Fin 2560) : EReal :=
  if h : (k : ℕ) < 512 then D (ix3 0 r ⟨k, h⟩)
  else if h : (k : ℕ) - 512 < 512 then D (ix3 1 r ⟨k - 512, h⟩)
  else if h : (k : ℕ) - 512 - 512 < 512 then D (ix3 2 r ⟨k - 512 - 512, h⟩)
  else if h : (k : ℕ) - 512 - 512 - 512 < 512 then U (ix3 0 r ⟨k - 512 - 512 - 512, h⟩)
  else U (ix3 1 r ⟨k - 512 - 512 - 512 - 512, by omega⟩)

/-- The cotangent of the normed row: that of the projected row against the weight's rows. -/
def da (r : Fin 8192) (j : Fin 1024) : EReal := ∑ k : Fin 2560, ct D U r k * W (ix3 0 j k)

/-- The norm's divisor and offset as the programs spell them. -/
abbrev width : EReal := Ideal.ofBits .f32 1149239296#32
abbrev eps : EReal := Ideal.ofBits .f32 897988541#32

/-- The gradient of the input: what arrives past the block, plus the norm's gradient. -/
def dx : FVec Ideal S8192x1024 .f32 := fun i =>
  H i + RowNorm.back width eps (fun k => X (ix3 0 (i 0) k)) (fun k => da D U W (i 0) k * G (ix2 0 k)) (i 1)

/-- One row's part of the gain's gradient: the cotangent times the normed row. -/
def dgRow (r : Fin 8192) (j : Fin 1024) : EReal := da D U W r j * (X (ix3 0 r j) * RowNorm.rstd width eps fun k => X (ix3 0 r k))

/-- The gradient of the gain: the rows' parts summed. -/
def dg : FVec Ideal S1x1024 .f32 := fun i => ∑ r : Fin 8192, dgRow D U X W r (i 1)

theorem idx : ∀ t : Fin cfg0.N, win0_0.index t = ![0, t.val, 0] ∧ win0_1.index t = ![0, t.val, 0] ∧ win0_2.index t = ![0, 0]
    ∧ win0_3.index t = ![t.val, 0] ∧ win0_4.index t = ![t.val, 0] ∧ win0_5.index t = ![0, 0] ∧ win0_6.index t = ![t.val, 0]
    ∧ win0_7.index t = ![0, 0] := (by decide +kernel : ∀ t : Fin grid0.N, _)

variable (m : (ℓ : Loc nD τ sig) → Buf (Elt Ideal) ℓ)

/-- The two results over the launch memory's arguments. -/
abbrev dxM (c : Dev nD) : FVec Ideal S8192x1024 .f32 := dx (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))
abbrev dgM (c : Dev nD) : FVec Ideal S1x1024 .f32 := dg (m ((c : Thread nD τ).loc main_arg0)) (m ((c : Thread nD τ).loc main_arg1))
  (m ((c : Thread nD τ).loc main_arg2)) (m ((c : Thread nD τ).loc main_arg5))

/-- One point's cotangent of the normed rows, over its input blocks. -/
abbrev daBlk (x0 : Vec Ideal S3x512x512 .f32) (x1 : Vec Ideal S2x512x512 .bf16) (x2 : Vec Ideal S2560x1024 .bf16) : FVec Ideal S512x1024 .f32 :=
  k0_pay5 (View.ld x0 (Rect.unit ![0, 0, 0] ![1, 512, 512] inb_S3x512x512_S1x512x512_0_0_0))
    (View.ld x0 (Rect.unit ![1, 0, 0] ![1, 512, 512] inb_S3x512x512_S1x512x512_1_0_0))
    (View.ld x0 (Rect.unit ![2, 0, 0] ![1, 512, 512] inb_S3x512x512_S1x512x512_2_0_0))
    (View.ld x1 (Rect.unit ![0, 0, 0] ![1, 512, 512] inb_S2x512x512_S1x512x512_0_0_0))
    (View.ld x1 (Rect.unit ![1, 0, 0] ![1, 512, 512] inb_S2x512x512_S1x512x512_1_0_0)) x2

/-- What a point stores into the first result's block is the whole array's function at the block's rows. -/
theorem point (c : Dev nD) (t : Fin cfg0.N) (y : S512x1024.Idx) :
    k0_pay2 (daBlk (iblk m c 0 t) (iblk m c 1 t) (iblk m c 2 t)) (k0_pay6 (iblk m c 3 t)) (iblk m c 5 t) (k0_pay7 (iblk m c 3 t))
      (iblk m c 4 t) y = dxM m c (((cfg0.win 6).blk t).view.emb y) := by
  pointwise [k0_pay2, k0_pay1, k0_pay5, k0_pay6, k0_pay7, dx, RowNorm.back, RowNorm.rstd, da, ct]
  blk_point [iblk, V, idx t]

theorem final6 (c : Dev nD) : (dats m 0 c).arrAt 6 cfg0.N = dxM m c := by
  refine (dats m 0 c).arrAt_eq_of_covers 6 _ (by decide +kernel) fun t _ y => ?_
  blk_simp
  rw [after0_6]
  by_cases h : t.val % 16 = 0
  · rw [outsAt0_A m c t h]; frame_out
    exact point m c t y
  · rw [outsAt0_B m c t h]; frame_out
    exact point m c t y

theorem pay3 (da x : FVec Ideal S512x1024 .f32) (rs : FVec Ideal S512x1 .f32) (acc : FVec Ideal S1x1024 .f32) (j : S1x1024.Idx) :
    k0_pay3 da x rs acc j = acc j + ∑ r : Fin 512, da (ix2 r (j 1)) * (x (ix2 r (j 1)) * rs (ix2 r 0)) := by
  idx_vars j
  pointwise [k0_pay3, k0_pay1]

theorem pay4 (j : S1x1024.Idx) : k0_pay4 (F := Ideal) j = 0 := by pointwise [k0_pay4]

/-- One term of the column sum: a row of a block against the same row of the arrays. -/
theorem term7 (c : Dev nD) (t : Fin cfg0.N) (k : Fin 512) (j : Fin 1024) (hl : t.val * 512 + k.val < 8192) :
    daBlk (iblk m c 0 t) (iblk m c 1 t) (iblk m c 2 t) (ix2 k j) * (k0_pay6 (F := Ideal) (iblk m c 3 t) (ix2 k j)
      * k0_pay7 (F := Ideal) (iblk m c 3 t) (ix2 k 0))
    = dgRow (m ((c : Thread nD τ).loc main_arg0)) (m ((c : Thread nD τ).loc main_arg1)) (m ((c : Thread nD τ).loc main_arg2))
      (m ((c : Thread nD τ).loc main_arg5)) ⟨t.val * 512 + k.val, hl⟩ j := by
  pointwise [k0_pay5, k0_pay6, k0_pay7, dgRow, RowNorm.rstd, da, ct]
  blk_point [iblk, V, idx t]

theorem final7 (c : Dev nD) : (dats m 0 c).arrAt 7 cfg0.N = dgM m c := by
  refine (dats m 0 c).arrAt_eq_of_after_last 7 t0_15 (by decide +kernel) _ fun y => ?_
  blk_simp
  rw [after0_7, Pipeline.eq_sum_fin_of_reset_step_apply_last (fun n h => (outsAt0 m c n h).2) 16 (fun _ => 0) _
      (fun t h j => by rw [outsAt0_A m c t h]; frame_out; rw [pay3, pay4])
      (fun t h j => by rw [outsAt0_B m c t h]; frame_out; rw [pay3])
      (le_of_eq N_0) t0_15 rfl y, zero_add]
  exact Fin.sum_mul_add_congr fun t k hl => term7 m c t k (y 1) hl

end Cert.KernelIdeal.In

end
-- ==== Proof.InEquation.lean ====
/- The reference's two results, read at an index, are the same functions of the arguments. -/
module

public import proofs.«01_k».proof.Proof.InValue
public import proofs.«01_k».proof.Proof.Gen.ReferenceIdeal.Read

@[expose] public section

set_option maxRecDepth 16384

noncomputable section

namespace Cert.KernelIdeal.In

open Idealize.ShloMosaic Idealize.ShloMosaic.TcCoe Idealize.SL.Sem Cert.ReferenceIdeal Cert.ReferenceIdeal.Gen Cert.ReferenceIdeal.Read

variable (D : FVec Ideal S3x8192x512 .f32) (U : FVec Ideal S2x8192x512 .bf16) (X : FVec Ideal S1x8192x1024 .f32)
  (H : FVec Ideal S8192x1024 .f32) (G : FVec Ideal S1x1024 .f32) (W : FVec Ideal S1x1024x2560 .f32)

theorem ref59 (i : S1x1024.Idx) : val_main_v59 (F := Ideal) D U X W i = dg D U X W i := by
  idx_vars i
  pointwise [val_main_v0, val_main_v1, val_main_v2, val_main_v3, val_main_v4, val_main_v5, val_main_v6, val_main_v7, val_main_v8,
    val_main_v9, val_main_v10, val_main_v11, val_main_v12, val_main_v13, val_main_cst, val_main_v14, val_main_v15,
    val_main_cst_0, val_main_v16, val_main_v17, val_main_cst_1, val_main_v18, val_main_v19, val_main_v20, val_main_v21,
    val_main_cst_2, val_main_v22, val_main_v23, val_main_v24, val_main_v25, val_main_v26, val_main_v27, val_main_v28,
    val_main_v29, val_main_v30, val_main_v31, val_main_v32, val_main_v33, val_main_v34, val_main_v35, val_main_v36, val_main_v37,
    val_main_v38, val_main_cst_3, val_main_v39, val_main_v40, val_main_v41, val_main_v42, val_main_cst_4, val_main_v43,
    val_main_v44, val_main_cst_5, val_main_v45, val_main_v46, val_main_v47, val_main_v48, val_main_v49, val_main_v50,
    val_main_cst_6, val_main_v51, val_main_v52, val_main_cst_7, val_main_v53, val_main_v54, val_main_v55, val_main_v56,
    val_main_v57, val_main_v58, val_main_v59,
    dg, dgRow, da, ct, RowNorm.rstd]
  rw [Fin.sum_univ_one]
  exact Finset.sum_congr rfl fun r _ => mul_comm _ _

theorem ref58 (r : Fin 8192) (j : Fin 1024) : val_main_v58 (F := Ideal) D U X H G W (ix2 r j) = dx D U X H G W (ix2 r j) := by
  pointwise [val_main_v0, val_main_v1, val_main_v2, val_main_v3, val_main_v4, val_main_v5, val_main_v6, val_main_v7, val_main_v8,
    val_main_v9, val_main_v10, val_main_v11, val_main_v12, val_main_v13, val_main_cst, val_main_v14, val_main_v15,
    val_main_cst_0, val_main_v16, val_main_v17, val_main_cst_1, val_main_v18, val_main_v19, val_main_v20, val_main_v21,
    val_main_cst_2, val_main_v22, val_main_v23, val_main_v24, val_main_v25, val_main_v26, val_main_v27, val_main_v28,
    val_main_v29, val_main_v30, val_main_v31, val_main_v32, val_main_v33, val_main_v34, val_main_v35, val_main_v36, val_main_v37,
    val_main_v38, val_main_cst_3, val_main_v39, val_main_v40, val_main_v41, val_main_v42, val_main_cst_4, val_main_v43,
    val_main_v44, val_main_cst_5, val_main_v45, val_main_v46, val_main_v47, val_main_v48, val_main_v49, val_main_v50,
    val_main_cst_6, val_main_v51, val_main_v52, val_main_cst_7, val_main_v53, val_main_v54, val_main_v55, val_main_v56,
    val_main_v57, val_main_v58, val_main_v59]
  simp only [Fin.sum_univ_one]
  refine Eq.trans ?_ (congrArg (H (ix2 r j) + ·) (RowNorm.back_lit (fun k => X (ix3 0 r k)) (fun k => da D U W r k * G (ix2 0 k)) j).symm)
  rw [add_assoc, add_assoc]
  rfl

theorem ref58_fun : val_main_v58 (F := Ideal) D U X H G W = dx D U X H G W := by
  funext i
  idx_vars i
  exact ref58 D U X H G W _ _

theorem ref59_fun : val_main_v59 (F := Ideal) D U X W = dg D U X W := funext (ref59 D U X W)

end Cert.KernelIdeal.In

end
-- ==== Proof.OutValue.lean ====
/- The output projection's backward call: its six result arrays as functions of its argument arrays. -/
module

public import proofs.«01_k».proof.Proof.Gen.Kernel4Ideal.Value
public import proofs.«01_k».proof.Proof.RowNorm
public import Idealize.ShloMosaic.Lib.Pipeline.ValueKit
public import Idealize.ShloMosaic.Lib.Claim

@[expose] public section

set_option maxRecDepth 16384

noncomputable section

namespace Cert.Kernel4Ideal.Out

open Cert.Kernel4Ideal Cert.Kernel4Ideal.Gen Idealize.ShloMosaic Idealize.ShloMosaic.TcCoe Idealize.SL.Sem
open Idealize.ShloMosaic.Pipeline (Dat)

variable (D : FVec Ideal S8192x1024 .bf16) (W : FVec Ideal S1x1024x1024 .f32) (A L S : FVec Ideal S8192x512 .f32)
  (Ga Gs : FVec Ideal S1x512 .f32) (Dg : FVec Ideal S8192x2816 .bf16) (Fx : FVec Ideal S8192x1024 .bf16)

/-- The cotangent of the two groups' normed rows side by side. -/
def dn (r : Fin 8192) (j : Fin 1024) : EReal := ∑ k : Fin 1024, D (ix2 r k) * W (ix3 0 j k)

/-- The norm's divisor and offset as the programs spell them. -/
abbrev width : EReal := Ideal.ofBits .f32 1140850688#32
abbrev eps : EReal := Ideal.ofBits .f32 897988541#32

/-- The gradient of the attention rows. -/
def dA : FVec Ideal S8192x512 .f32 := fun i =>
  RowNorm.back width eps (fun k => A (ix2 (i 0) k)) (fun k => dn D W (i 0) ⟨k.val, by omega⟩ * Ga (ix2 0 k)) (i 1)

/-- The gradient of the gating unit's rows. -/
def dS : FVec Ideal S8192x512 .f32 := fun i =>
  RowNorm.back width eps (fun k => S (ix2 (i 0) k)) (fun k => dn D W (i 0) ⟨512 + k.val, by omega⟩ * Gs (ix2 0 k)) (i 1)

/-- One head's inner product of a gradient's row with the row itself. -/
def head (p : Fin 512 → EReal) (h : ℕ) (hh : h < 8) : EReal := ∑ k : Fin 64, p ⟨64 * h + k.val, by omega⟩

/-- The packed row statistics: in each head's 64 lanes first the row log-sums, then the head's inner product. -/
def st : FVec Ideal S8192x512 .f32 := fun i =>
  if (i 1).val % 64 < 32 then L i
  else head (fun k => dA D W A Ga (ix2 (i 0) k) * A (ix2 (i 0) k)) ((i 1).val / 64) (by have := (i 1).isLt; change _ < 512 at this; omega)

/-- One row's part of a gain's gradient: the cotangent times the normed row. -/
def dgaRow (r : Fin 8192) (j : Fin 512) : EReal :=
  dn D W r ⟨j.val, by omega⟩ * (A (ix2 r j) * RowNorm.rstd width eps fun k => A (ix2 r k))
def dgsRow (r : Fin 8192) (j : Fin 512) : EReal :=
  dn D W r ⟨512 + j.val, by omega⟩ * (S (ix2 r j) * RowNorm.rstd width eps fun k => S (ix2 r k))

/-- The gains' gradients: the rows' parts summed. -/
def dga : FVec Ideal S1x512 .f32 := fun i => ∑ r : Fin 8192, dgaRow D W A r (i 1)
def dgs : FVec Ideal S1x512 .f32 := fun i => ∑ r : Fin 8192, dgsRow D W S r (i 1)

/-- One row's part of the gate's weight gradient. -/
def gwRow (r : Fin 8192) (n : Fin 2816) (j : Fin 1024) : EReal := Dg (ix2 r n) * Fx (ix2 r j)

/-- The gate's weight gradient: the first half of the result's rows. -/
def gw : FVec Ideal S5632x1024 .f32 := fun i => if h : (i 0).val < 2816 then ∑ r : Fin 8192, gwRow Dg Fx r ⟨(i 0).val, h⟩ (i 1) else 0

theorem gw_at (i : S5632x1024.Idx) (n : Fin 2816) (j : Fin 1024) (h0 : (i 0).val = n.val) (h1 : (i 1).val = j.val) :
    gw Dg Fx i = ∑ r : Fin 8192, gwRow Dg Fx r n j := by
  unfold gw
  rw [dif_pos (by omega)]
  exact Finset.sum_congr rfl fun r _ => congrArg₂ (gwRow Dg Fx r) (Fin.ext h0) (Fin.ext h1)

/-! ## The lane masks and the packed statistics of one block -/

theorem low : ∀ x : Fin 128, k0_pay22 (ix2 0 x) = if x.val < 64 then 1#1 else 0#1 := by decide +kernel
theorem first : ∀ x : Fin 128, k0_pay23 (ix2 0 x) = if x.val % 64 < 32 then 1#1 else 0#1 := by decide +kernel

theorem select_if {α : Type} (p : Prop) [Decidable p] (a b : α) : Scalar.select (if p then 1#1 else 0#1) a b = if p then a else b := by
  split <;> rfl

/-- Two heads share 128 lanes: the masked sum over the lanes of one half is that half's head. -/
theorem half (p : Fin 512 → EReal) (o : ℕ) (ho : o + 128 ≤ 512) (hd : o % 128 = 0) (j : Fin 128) :
    (if j.val < 64 then ∑ x : Fin 128, (if x.val < 64 then p ⟨o + x.val, by omega⟩ else 0)
      else ∑ x : Fin 128, (if x.val < 64 then 0 else p ⟨o + x.val, by omega⟩)) = head p ((o + j.val) / 64) (by omega) := by
  unfold head
  split
  · rename_i h
    rw [Fin.sum_univ_add (a := 64) (b := 64) (f := fun x : Fin (64 + 64) => if x.val < 64 then p ⟨o + x.val, by omega⟩ else 0)]
    rw [Finset.sum_eq_zero (s := Finset.univ) (f := fun i : Fin 64 => if (Fin.natAdd 64 i).val < 64 then _ else (0 : EReal))
      (fun i _ => if_neg (by simp)), add_zero]
    refine Finset.sum_congr rfl fun k _ => ?_
    rw [if_pos (by simp)]
    congr 1; ext; simp; omega
  · rename_i h
    rw [Fin.sum_univ_add (a := 64) (b := 64) (f := fun x : Fin (64 + 64) => if x.val < 64 then 0 else p ⟨o + x.val, by omega⟩)]
    rw [Finset.sum_eq_zero (s := Finset.univ) (f := fun i : Fin 64 => if (Fin.castAdd 64 i).val < 64 then (0 : EReal) else _)
      (fun i _ => if_pos (by simp)), zero_add]
    refine Finset.sum_congr rfl fun k _ => ?_
    rw [if_neg (by simp)]
    congr 1; ext; simp; omega

theorem half0 (p : Fin 512 → EReal) (j : Fin 128) :
    (if j.val < 64 then ∑ x : Fin 128, (if x.val < 64 then p ⟨x.val, by omega⟩ else 0)
      else ∑ x : Fin 128, (if x.val < 64 then 0 else p ⟨x.val, by omega⟩)) = head p (j.val / 64) (by omega) := by
  simpa only [Nat.zero_add] using half p 0 (by omega) rfl j

/-- The packed statistics of a block of rows. -/
def stBlk (x l da : FVec Ideal S512x512 .f32) : FVec Ideal S512x512 .f32 := fun i =>
  if (i 1).val % 64 < 32 then l i
  else head (fun k => da (ix2 (i 0) k) * x (ix2 (i 0) k)) ((i 1).val / 64) (by have := (i 1).isLt; change _ < 512 at this; omega)

theorem st0 (x da : FVec Ideal S512x512 .f32) (l : FVec Ideal S512x128 .f32) (r : Fin 512) (j : Fin 128) :
    k0_pay27 k0_pay22 k0_pay23 (k0_pay25 x da) (k0_pay26 x da) l (ix2 r j)
      = if j.val % 64 < 32 then l (ix2 r j) else head (fun k => da (ix2 r k) * x (ix2 r k)) (j.val / 64) (by omega) := by
  pointwise [k0_pay27, k0_pay25, k0_pay26, k0_pay24]
  simp only [low, first, select_if]
  exact congrArg (ite _ _) (half0 (fun k => da (ix2 r k) * x (ix2 r k)) j)

theorem st1 (x da : FVec Ideal S512x512 .f32) (l : FVec Ideal S512x128 .f32) (r : Fin 512) (j : Fin 128) :
    k0_pay29 (k0_pay28 k0_pay22 k0_pay23 (k0_pay24 x da) l) (ix2 r j)
      = if j.val % 64 < 32 then l (ix2 r j) else head (fun k => da (ix2 r k) * x (ix2 r k)) ((128 + j.val) / 64) (by omega) := by
  pointwise [k0_pay28, k0_pay29, k0_pay24]
  simp only [low, first, select_if]
  exact congrArg (ite _ _) (half (fun k => da (ix2 r k) * x (ix2 r k)) 128 (by omega) rfl j)

theorem st2 (x da : FVec Ideal S512x512 .f32) (l : FVec Ideal S512x128 .f32) (r : Fin 512) (j : Fin 128) :
    k0_pay30 k0_pay22 k0_pay23 (k0_pay24 x da) l (ix2 r j)
      = if j.val % 64 < 32 then l (ix2 r j) else head (fun k => da (ix2 r k) * x (ix2 r k)) ((256 + j.val) / 64) (by omega) := by
  pointwise [k0_pay30, k0_pay24]
  simp only [low, first, select_if]
  exact congrArg (ite _ _) (half (fun k => da (ix2 r k) * x (ix2 r k)) 256 (by omega) rfl j)

theorem st3 (x da : FVec Ideal S512x512 .f32) (l : FVec Ideal S512x128 .f32) (r : Fin 512) (j : Fin 128) :
    k0_pay1 k0_pay23 (k0_pay32 k0_pay22 (k0_pay24 x da)) (k0_pay33 k0_pay22) (k0_pay34 k0_pay22 (k0_pay24 x da)) l (ix2 r j)
      = if j.val % 64 < 32 then l (ix2 r j) else head (fun k => da (ix2 r k) * x (ix2 r k)) ((384 + j.val) / 64) (by omega) := by
  pointwise [k0_pay1, k0_pay31, k0_pay32, k0_pay33, k0_pay34, k0_pay24]
  simp only [low, first, select_if]
  exact congrArg (ite _ _) (half (fun k => da (ix2 r k) * x (ix2 r k)) 384 (by omega) rfl j)

theorem ld_at (l : FVec Ideal S512x512 .f32) (r : Fin 512) (j : Fin 128) (y : Fin 512) (o : ℕ)
    (inb : ∀ a, (![0, o] : Fin 2 → ℕ) a + (![512, 128] : Fin 2 → ℕ) a ≤ S512x512.size a) (hy : y.val = o + j.val) :
    View.ld (Val := Elt Ideal) (S := S512x512) (e' := EltTy.f32) l (Rect.unit ![0, o] ![512, 128] inb) (ix2 r j) = l (ix2 r y) :=
  View.ld_unit_apply_of _ _ _ _ _ _ fun a => by fin_cases a <;> simp [hy]

/-- A chunk's lane `j` is the block's lane `o + j`. -/
theorem stBlk_at (x l da : FVec Ideal S512x512 .f32) (lc : FVec Ideal S512x128 .f32) (r : Fin 512) (j : Fin 128) (y : Fin 512) (o : ℕ)
    (hd : o % 64 = 0) (hy : y.val = o + j.val) (hl : lc (ix2 r j) = l (ix2 r y)) :
    (if j.val % 64 < 32 then lc (ix2 r j) else head (fun k => da (ix2 r k) * x (ix2 r k)) ((o + j.val) / 64) (by omega))
      = stBlk x l da (ix2 r y) := by
  unfold stBlk
  rw [hl]
  have h : j.val % 64 = y.val % 64 := by omega
  simp only [h, ← hy]
  rfl

/-- The four stores of 128 lanes together are the block's statistics. -/
theorem stats (x l da : FVec Ideal S512x512 .f32) (y : S512x512.Idx) :
    View.canon (Val := Elt Ideal) (s := S512x512) (e := EltTy.f32)
        [⟨Rect.unit ![0, 384] ![512, 128] inb_S512x512_S512x128_0_384,
            k0_pay1 k0_pay23 (k0_pay32 k0_pay22 (k0_pay24 x da)) (k0_pay33 k0_pay22) (k0_pay34 k0_pay22 (k0_pay24 x da))
              (View.ld (Val := Elt Ideal) (S := S512x512) (e' := EltTy.f32) l (Rect.unit ![0, 384] ![512, 128] inb_S512x512_S512x128_0_384))⟩,
          ⟨Rect.unit ![0, 256] ![512, 128] inb_S512x512_S512x128_0_256,
            k0_pay30 k0_pay22 k0_pay23 (k0_pay24 x da) (View.ld (Val := Elt Ideal) (S := S512x512) (e' := EltTy.f32) l (Rect.unit ![0, 256] ![512, 128] inb_S512x512_S512x128_0_256))⟩,
          ⟨Rect.unit ![0, 128] ![512, 128] inb_S512x512_S512x128_0_128,
            k0_pay29 (k0_pay28 k0_pay22 k0_pay23 (k0_pay24 x da)
              (View.ld (Val := Elt Ideal) (S := S512x512) (e' := EltTy.f32) l (Rect.unit ![0, 128] ![512, 128] inb_S512x512_S512x128_0_128)))⟩,
          ⟨Rect.unit ![0, 0] ![512, 128] inb_S512x512_S512x128_0_0,
            k0_pay27 k0_pay22 k0_pay23 (k0_pay25 x da) (k0_pay26 x da)
              (View.ld (Val := Elt Ideal) (S := S512x512) (e' := EltTy.f32) l (Rect.unit ![0, 0] ![512, 128] inb_S512x512_S512x128_0_0))⟩] y
      = stBlk x l da y := by
  idx_vars y
  canon_tiles k h
  all_goals
    idx_vars k
    obtain rfl := Fin.ext h0
  · exact (st3 x da _ y0 k1).trans (stBlk_at x l da _ y0 k1 y1 384 rfl h1 (ld_at l y0 k1 y1 _ _ h1))
  · exact (st2 x da _ y0 k1).trans (stBlk_at x l da _ y0 k1 y1 256 rfl h1 (ld_at l y0 k1 y1 _ _ h1))
  · exact (st1 x da _ y0 k1).trans (stBlk_at x l da _ y0 k1 y1 128 rfl h1 (ld_at l y0 k1 y1 _ _ h1))
  · have h := stBlk_at x l da _ y0 k1 y1 0 rfl (by omega) (ld_at l y0 k1 y1 0 inb_S512x512_S512x128_0_0 (by omega))
    simp only [Nat.zero_add] at h
    exact (st0 x da _ y0 k1).trans h

/-! ## The result arrays -/

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![0, 0] ∧ win0_13.index t = ![0, 0] ∧ win0_14.index t = ![0, 0] :=
  (by decide +kernel : ∀ t : Fin grid0.N, _)

variable (m : (ℓ : Loc nD τ sig) → Buf (Elt Ideal) ℓ)

/-- The results over the launch memory's arguments. -/
abbrev dAM (c : Dev nD) : FVec Ideal S8192x512 .f32 := dA (m ((c : Thread nD τ).loc main_arg0)) (m ((c : Thread nD τ).loc main_arg1))
  (m ((c : Thread nD τ).loc main_arg2)) (m ((c : Thread nD τ).loc main_arg5))
abbrev stM (c : Dev nD) : FVec Ideal S8192x512 .f32 := st (m ((c : Thread nD τ).loc main_arg0)) (m ((c : Thread nD τ).loc main_arg1))
  (m ((c : Thread nD τ).loc main_arg2)) (m ((c : Thread nD τ).loc main_arg3)) (m ((c : Thread nD τ).loc main_arg5))
abbrev dSM (c : Dev nD) : FVec Ideal S8192x512 .f32 := dS (m ((c : Thread nD τ).loc main_arg0)) (m ((c : Thread nD τ).loc main_arg1))
  (m ((c : Thread nD τ).loc main_arg4)) (m ((c : Thread nD τ).loc main_arg6))
abbrev dgaM (c : Dev nD) : FVec Ideal S1x512 .f32 := dga (m ((c : Thread nD τ).loc main_arg0)) (m ((c : Thread nD τ).loc main_arg1))
  (m ((c : Thread nD τ).loc main_arg2))
abbrev dgsM (c : Dev nD) : FVec Ideal S1x512 .f32 := dgs (m ((c : Thread nD τ).loc main_arg0)) (m ((c : Thread nD τ).loc main_arg1))
  (m ((c : Thread nD τ).loc main_arg4))

/-- One point's gradient of the attention rows, over its input blocks. -/
abbrev daBlk (x0 : Vec Ideal S512x1024 .bf16) (x1 : Vec Ideal S1024x1024 .bf16) (x2 : Vec Ideal S512x512 .f32)
    (x5 : Vec Ideal S1x512 .f32) : FVec Ideal S512x512 .f32 :=
  k0_pay12 (k0_pay8 x2) (k0_pay9 x2) (k0_pay10 x0 x1 x5) (k0_pay11 x0 x1 x2 x5)

theorem point9 (c : Dev nD) (t : Fin cfg0.N) (y : S512x512.Idx) :
    k0_pay18 (k0_pay8 (F := Ideal) (iblk m c 2 t)) (k0_pay9 (iblk m c 2 t)) (k0_pay10 (iblk m c 0 t) (iblk m c 1 t) (iblk m c 5 t))
      (k0_pay11 (iblk m c 0 t) (iblk m c 1 t) (iblk m c 2 t) (iblk m c 5 t)) y = dAM m c (((cfg0.win 9).blk t).view.emb y) := by
  pointwise [k0_pay18, k0_pay12, k0_pay8, k0_pay9, k0_pay10, k0_pay11, k0_pay7, k0_pay6, dA, RowNorm.back, RowNorm.rstd, dn]
  blk_point [iblk, V, idx t]

theorem point10 (c : Dev nD) (t : Fin cfg0.N) (y : S512x512.Idx) :
    stBlk (iblk m c 2 t) (iblk m c 3 t) (daBlk (iblk m c 0 t) (iblk m c 1 t) (iblk m c 2 t) (iblk m c 5 t)) y
      = stM m c (((cfg0.win 10).blk t).view.emb y) := by
  pointwise [stBlk, head, k0_pay12, k0_pay8, k0_pay9, k0_pay10, k0_pay11, k0_pay7, k0_pay6, st, dA, RowNorm.back, RowNorm.rstd, dn]
  blk_point [iblk, V, idx t]

theorem point11 (c : Dev nD) (t : Fin cfg0.N) (y : S512x512.Idx) :
    k0_pay19 (F := Ideal) (k0_pay6 (iblk m c 0 t) (iblk m c 1 t)) (iblk m c 4 t) (iblk m c 6 t) y
      = dSM m c (((cfg0.win 11).blk t).view.emb y) := by
  pointwise [k0_pay19, k0_pay14, k0_pay15, k0_pay16, k0_pay6, dS, RowNorm.back, RowNorm.rstd, dn]
  blk_point [iblk, V, idx t]

theorem final9 (c : Dev nD) : (dats m 0 c).arrAt 9 cfg0.N = dAM m c := by
  refine (dats m 0 c).arrAt_eq_of_covers 9 _ (by decide +kernel) fun t _ y => ?_
  blk_simp
  rw [after0_9]
  by_cases h : t.val % 16 = 0
  · rw [outsAt0_A m c t h]; frame_out
    exact point9 m c t y
  · rw [outsAt0_B m c t h]; frame_out
    exact point9 m c t y

theorem final10 (c : Dev nD) : (dats m 0 c).arrAt 10 cfg0.N = stM m c := by
  refine (dats m 0 c).arrAt_eq_of_covers 10 _ (by decide +kernel) fun t _ y => ?_
  blk_simp
  rw [after0_10]
  by_cases h : t.val % 16 = 0
  · rw [outsAt0_A m c t h]; frame_out
    exact (stats _ _ _ y).trans (point10 m c t y)
  · rw [outsAt0_B m c t h]; frame_out
    exact (stats _ _ _ y).trans (point10 m c t y)

theorem final11 (c : Dev nD) : (dats m 0 c).arrAt 11 cfg0.N = dSM m c := by
  refine (dats m 0 c).arrAt_eq_of_covers 11 _ (by decide +kernel) fun t _ y => ?_
  blk_simp
  rw [after0_11]
  by_cases h : t.val % 16 = 0
  · rw [outsAt0_A m c t h]; frame_out
    exact point11 m c t y
  · rw [outsAt0_B m c t h]; frame_out
    exact point11 m c t y

theorem pay20 (d x : FVec Ideal S512x512 .f32) (acc : FVec Ideal S1x512 .f32) (j : S1x512.Idx) :
    k0_pay20 (k0_pay13 d x) acc j = acc j + ∑ r : Fin 512, d (ix2 r (j 1)) * x (ix2 r (j 1)) := by
  idx_vars j
  pointwise [k0_pay20, k0_pay13]

theorem pay21 (w : FVec Ideal S512x512 .f32) (acc : FVec Ideal S1x512 .f32) (j : S1x512.Idx) :
    k0_pay21 w acc j = acc j + ∑ r : Fin 512, w (ix2 r (j 1)) := by
  idx_vars j
  pointwise [k0_pay21]

/-- One term of the weight gradient's sum, over a point's blocks. -/
def gwBlk (d : FVec Ideal S512x2816 .bf16) (f : FVec Ideal S512x1024 .bf16) (r : Fin 512) (n : Fin 2816) (j : Fin 1024) : EReal :=
  d (ix2 r n) * f (ix2 r j)

theorem pay5 (acc : FVec Ideal S2816x1024 .f32) (d : FVec Ideal S512x2816 .bf16) (f : FVec Ideal S512x1024 .bf16) (j : S2816x1024.Idx) :
    k0_pay5 acc d f j = acc j + ∑ r : Fin 512, gwBlk d f r (j 0) (j 1) := by
  idx_vars j
  pointwise [k0_pay5, gwBlk]

theorem pay2 (j : S1x512.Idx) : k0_pay2 (F := Ideal) j = 0 := by pointwise [k0_pay2]
theorem pay3 (j : S1x512.Idx) : k0_pay3 (F := Ideal) j = 0 := by pointwise [k0_pay3]
theorem pay4 (j : S2816x1024.Idx) : k0_pay4 (F := Ideal) j = 0 := by pointwise [k0_pay4]

theorem term12 (c : Dev nD) (t : Fin cfg0.N) (k j : Fin 512) (hl : t.val * 512 + k.val < 8192) :
    k0_pay7 (F := Ideal) (iblk m c 0 t) (iblk m c 1 t) (ix2 k j) * k0_pay9 (F := Ideal) (iblk m c 2 t) (ix2 k j)
    = dgaRow (m ((c : Thread nD τ).loc main_arg0)) (m ((c : Thread nD τ).loc main_arg1)) (m ((c : Thread nD τ).loc main_arg2))
      ⟨t.val * 512 + k.val, hl⟩ j := by
  pointwise [k0_pay7, k0_pay6, k0_pay9, k0_pay8, dgaRow, dn, RowNorm.rstd]
  blk_point [iblk, V, idx t]

theorem term13 (c : Dev nD) (t : Fin cfg0.N) (k j : Fin 512) (hl : t.val * 512 + k.val < 8192) :
    k0_pay17 (F := Ideal) (k0_pay6 (iblk m c 0 t) (iblk m c 1 t)) (iblk m c 4 t) (ix2 k j)
    = dgsRow (m ((c : Thread nD τ).loc main_arg0)) (m ((c : Thread nD τ).loc main_arg1)) (m ((c : Thread nD τ).loc main_arg4))
      ⟨t.val * 512 + k.val, hl⟩ j := by
  pointwise [k0_pay17, k0_pay14, k0_pay6, k0_pay16, k0_pay15, dgsRow, dn, RowNorm.rstd]
  blk_point [iblk, V, idx t]

theorem term14 (c : Dev nD) (t : Fin cfg0.N) (k : Fin 512) (n : Fin 2816) (j : Fin 1024) (hl : t.val * 512 + k.val < 8192) :
    gwBlk (iblk m c 7 t) (iblk m c 8 t) k n j
    = gwRow (m ((c : Thread nD τ).loc main_arg7)) (m ((c : Thread nD τ).loc main_arg8)) ⟨t.val * 512 + k.val, hl⟩ n j := by
  unfold gwBlk gwRow
  blk_point [iblk, V, idx t]

theorem final12 (c : Dev nD) : (dats m 0 c).arrAt 12 cfg0.N = dgaM m c := by
  refine (dats m 0 c).arrAt_eq_of_after_last 12 t0_15 (by decide +kernel) _ fun y => ?_
  blk_simp
  rw [after0_12, Pipeline.eq_sum_fin_of_reset_step_apply_last (fun n h => (outsAt0 m c n h).2.2.2.1) 16 (fun _ => 0) _
      (fun t h j => by rw [outsAt0_A m c t h]; frame_out; rw [pay20, pay2])
      (fun t h j => by rw [outsAt0_B m c t h]; frame_out; rw [pay20])
      (le_of_eq N_0) t0_15 rfl y, zero_add]
  exact Fin.sum_mul_add_congr fun t k hl => term12 m c t k (y 1) hl

theorem final13 (c : Dev nD) : (dats m 0 c).arrAt 13 cfg0.N = dgsM m c := by
  refine (dats m 0 c).arrAt_eq_of_after_last 13 t0_15 (by decide +kernel) _ fun y => ?_
  blk_simp
  rw [after0_13, Pipeline.eq_sum_fin_of_reset_step_apply_last (fun n h => (outsAt0 m c n h).2.2.2.2.1) 16 (fun _ => 0) _
      (fun t h j => by rw [outsAt0_A m c t h]; frame_out; rw [pay21, pay3])
      (fun t h j => by rw [outsAt0_B m c t h]; frame_out; rw [pay21])
      (le_of_eq N_0) t0_15 rfl y, zero_add]
  exact Fin.sum_mul_add_congr fun t k hl => term13 m c t k (y 1) hl

abbrev gwM (c : Dev nD) : FVec Ideal S5632x1024 .f32 := gw (m ((c : Thread nD τ).loc main_arg7)) (m ((c : Thread nD τ).loc main_arg8))

/-- The written half of the weight gradient's array. -/
theorem final14 (c : Dev nD) : (dats m 0 c).arrAt 14 cfg0.N = fun i => if (i 0).val < 2816 then gwM m c i else (dats m 0 c).A 14 i := by
  refine (dats m 0 c).arrAt_eq_of_coversWhere 14 (gwM m c) (fun β => β 0 < 1) (by decide +kernel) (fun t hf y => ?_)
    (fun j => by blk_simp [Pipeline.Window.cell_apply]; omega)
  obtain rfl := (by decide +kernel : ∀ t, (cfg0.win 14).flush t = true → t = t0_15) t hf
  blk_simp
  rw [after0_14, Pipeline.eq_sum_fin_of_reset_step_apply_last (fun n h => (outsAt0 m c n h).2.2.2.2.2) 16 (fun _ => 0) _
      (fun t h j => by rw [outsAt0_A m c t h]; frame_out; rw [pay5, pay4])
      (fun t h j => by rw [outsAt0_B m c t h]; frame_out; rw [pay5])
      (le_of_eq N_0) t0_15 rfl y, zero_add]
  refine Eq.trans (Fin.sum_mul_add_congr (f := fun r => gwRow (m ((c : Thread nD τ).loc main_arg7)) (m ((c : Thread nD τ).loc main_arg8))
    r (y 0) (y 1)) fun t k hl => term14 m c t k (y 0) (y 1) hl) (gw_at _ _ _ _ _ ?_ ?_).symm
  · blk_simp [idx t0_15]
  · blk_simp [idx t0_15]

end Cert.Kernel4Ideal.Out

end
-- ==== Proof.OutEquation.lean ====
/- The output projection's reference: its results, read at an index, are the same functions of the arguments. -/
module

public import proofs.«01_k».proof.Proof.OutValue
public import proofs.«01_k».proof.Proof.Gen.Reference4Ideal.Read

@[expose] public section

set_option maxRecDepth 16384

noncomputable section

namespace Cert.Kernel4Ideal.Out

open Idealize.ShloMosaic Idealize.ShloMosaic.TcCoe Idealize.SL.Sem Cert.Reference4Ideal Cert.Reference4Ideal.Gen Cert.Reference4Ideal.Read

variable (D : FVec Ideal S8192x1024 .bf16) (W : FVec Ideal S1x1024x1024 .f32) (A L S : FVec Ideal S8192x512 .f32)
  (Ga Gs : FVec Ideal S1x512 .f32) (Dg : FVec Ideal S8192x2816 .bf16) (Fx : FVec Ideal S8192x1024 .bf16)

theorem ref39 (r : Fin 8192) (j : Fin 512) : val_main_v39 (F := Ideal) D W (ix2 r j) = dn D W r ⟨j.val, by omega⟩ := by
  pointwise [val_main_v35, val_main_v37, val_main_v38, val_main_v39, dn]

theorem ref40 (r : Fin 8192) (j : Fin 512) : val_main_v40 (F := Ideal) D W (ix2 r j) = dn D W r ⟨512 + j.val, by omega⟩ := by
  pointwise [val_main_v35, val_main_v37, val_main_v38, val_main_v40, dn]

theorem ref81 (r : Fin 8192) (j : Fin 512) : val_main_v81 (F := Ideal) D W A Ga (ix2 r j) = dA D W A Ga (ix2 r j) := by
  pointwise [val_main_cst, val_main_cst_0, val_main_cst_1, val_main_cst_2, val_main_cst_14, val_main_cst_15, val_main_cst_16, val_main_v0,
    val_main_v1, val_main_v2, val_main_v3, val_main_v4, val_main_v5, val_main_v6, val_main_v7, val_main_v8, val_main_v9,
    val_main_v10, val_main_v11, val_main_v14, val_main_v65, val_main_v66, val_main_v68, val_main_v69, val_main_v70,
    val_main_v71, val_main_v72, val_main_v73, val_main_v74, val_main_v75, val_main_v76, val_main_v77, val_main_v78,
    val_main_v79, val_main_v80, val_main_v81]
  simp only [Fin.sum_univ_one, ref39]
  refine Eq.trans ?_ (RowNorm.back_lit_512 (fun k => A (ix2 r k)) (fun k => dn D W r ⟨k.val, by omega⟩ * Ga (ix2 0 k)) j).symm
  rw [add_assoc]
  rfl

theorem ref60 (r : Fin 8192) (j : Fin 512) : val_main_v60 (F := Ideal) D W S Gs (ix2 r j) = dS D W S Gs (ix2 r j) := by
  pointwise [val_main_cst_3, val_main_cst_4, val_main_cst_5, val_main_cst_6, val_main_cst_9, val_main_cst_10, val_main_cst_11, val_main_v17,
    val_main_v18, val_main_v19, val_main_v20, val_main_v21, val_main_v22, val_main_v23, val_main_v24, val_main_v25,
    val_main_v26, val_main_v27, val_main_v28, val_main_v31, val_main_v44, val_main_v45, val_main_v47, val_main_v48,
    val_main_v49, val_main_v50, val_main_v51, val_main_v52, val_main_v53, val_main_v54, val_main_v55, val_main_v56,
    val_main_v57, val_main_v58, val_main_v59, val_main_v60]
  simp only [Fin.sum_univ_one, ref40]
  refine Eq.trans ?_ (RowNorm.back_lit_512 (fun k => S (ix2 r k)) (fun k => dn D W r ⟨512 + k.val, by omega⟩ * Gs (ix2 0 k)) j).symm
  rw [add_assoc]
  rfl

theorem ref82 (i : S1x512.Idx) : val_main_v82 (F := Ideal) D W A i = dga D W A i := by
  idx_vars i
  pointwise [val_main_cst, val_main_cst_0, val_main_cst_1, val_main_cst_12, val_main_cst_13, val_main_v1, val_main_v2, val_main_v3,
    val_main_v4, val_main_v5, val_main_v6, val_main_v7, val_main_v8, val_main_v12, val_main_v13, val_main_v62, val_main_v63,
    val_main_v64, val_main_v67, val_main_v82, dga, dgaRow, RowNorm.rstd]
  simp only [Fin.sum_univ_one, ref39]
  exact Finset.sum_congr rfl fun r _ => mul_comm _ _

theorem ref61 (i : S1x512.Idx) : val_main_v61 (F := Ideal) D W S i = dgs D W S i := by
  idx_vars i
  pointwise [val_main_cst_3, val_main_cst_4, val_main_cst_5, val_main_cst_7, val_main_cst_8, val_main_v18, val_main_v19, val_main_v20,
    val_main_v21, val_main_v22, val_main_v23, val_main_v24, val_main_v25, val_main_v29, val_main_v30, val_main_v41,
    val_main_v42, val_main_v43, val_main_v46, val_main_v61, dgs, dgsRow, RowNorm.rstd]
  simp only [Fin.sum_univ_one, ref40]
  exact Finset.sum_congr rfl fun r _ => mul_comm _ _

theorem ref91 (r : Fin 8192) (j : Fin 512) : val_main_v91 (F := Ideal) D W A L Ga (ix2 r j) = st D W A L Ga (ix2 r j) := by
  pointwise [val_main_cst_17, val_main_v83, val_main_v84, val_main_v85, val_main_v86, val_main_v87, val_main_v88, val_main_v89, val_main_v90,
    val_main_v91, st, head]
  simp only [ref81]
  simp only [Nat.mul_comm 64, dite_eq_ite]

theorem ref100 (i : S5632x1024.Idx) (h : (i 0).val < 2816) : val_main_v100 (F := Ideal) Dg Fx i = gw Dg Fx i := by
  idx_vars i
  have h' : i0.val < 2816 := h
  refine Eq.trans ?_ (dif_pos h').symm
  pointwise [val_main_cst_19, val_main_v93, val_main_v95, val_main_v96, val_main_v97, val_main_v98, val_main_v99, val_main_v100, gwRow]
  simp only [dif_pos h']

theorem ref81_fun : val_main_v81 (F := Ideal) D W A Ga = dA D W A Ga := by
  funext i
  idx_vars i
  exact ref81 D W A Ga _ _

theorem ref60_fun : val_main_v60 (F := Ideal) D W S Gs = dS D W S Gs := by
  funext i
  idx_vars i
  exact ref60 D W S Gs _ _

theorem ref91_fun : val_main_v91 (F := Ideal) D W A L Ga = st D W A L Ga := by
  funext i
  idx_vars i
  exact ref91 D W A L Ga _ _

end Cert.Kernel4Ideal.Out

end
-- ==== Proof.PeValue.lean ====
/- The loss head's gradient call: its seven result arrays as functions of its argument arrays. -/
module

public import proofs.«01_k».proof.Proof.Gen.Kernel3Ideal.Value
public import proofs.«01_k».proof.Proof.RowNorm
public import Idealize.ShloMosaic.Lib.Pipeline.ValueKit
public import Idealize.ShloMosaic.Lib.Claim

@[expose] public section

set_option maxRecDepth 16384

noncomputable section

namespace Cert.Kernel3Ideal.Pe

open Cert.Kernel3Ideal Cert.Kernel3Ideal.Gen Idealize.ShloMosaic Idealize.ShloMosaic.TcCoe Idealize.SL.Sem
open Idealize.ShloMosaic.Pipeline (Dat)

variable (H Y : FVec Ideal S8192x1024 .f32) (P : FVec Ideal S1x1x8192x256 .f32) (T : FVec Ideal S1x8192x1024 .f32)
  (Wg : FVec Ideal S1x1024x1024 .f32) (B : FVec Ideal S1x1024 .f32) (Wp : FVec Ideal S1x256x1024 .f32) (G : FVec Ideal S1x1024 .f32)

/-- The literals as the programs spell them: the norm's divisor and offset, one half, one, and the mean's factor. -/
abbrev width : EReal := Ideal.ofBits .f32 1149239296#32
abbrev eps : EReal := Ideal.ofBits .f32 897988541#32
abbrev half : EReal := Ideal.ofBits .f32 1056964608#32
abbrev one : EReal := Ideal.ofBits .f32 1065353216#32
abbrev scale : EReal := Ideal.ofBits .f32 981467136#32

/-- The row that enters the loss head: the residual plus the normed feed-forward row. -/
def h2 (r : Fin 8192) (j : Fin 1024) : EReal :=
  H (ix2 r j) + Y (ix2 r j) * RowNorm.rstd width eps (fun k => Y (ix2 r k)) * G (ix2 0 j)

/-- The gate before and after its sigmoid, the projected token part, and the error. -/
def pre (r : Fin 8192) (j : Fin 1024) : EReal := (∑ k : Fin 1024, h2 H Y G r k * Wg (ix3 0 k j)) + B (ix2 0 j)
def gate (r : Fin 8192) (j : Fin 1024) : EReal := half * Ideal.tanh (half * pre H Y Wg B G r j) + half
def pp (r : Fin 8192) (j : Fin 1024) : EReal := ∑ k : Fin 256, P (ix4 0 0 r k) * Wp (ix3 0 k j)
def diff (r : Fin 8192) (j : Fin 1024) : EReal := h2 H Y G r j + gate H Y Wg B G r j * pp P Wp r j - T (ix3 0 r j)

/-- The error's gradient, and the gate's before its sigmoid. -/
def d3 (r : Fin 8192) (j : Fin 1024) : EReal := diff H Y P T Wg B Wp G r j * scale
def dpre (r : Fin 8192) (j : Fin 1024) : EReal :=
  d3 H Y P T Wg B Wp G r j * pp P Wp r j * (gate H Y Wg B G r j * (one - gate H Y Wg B G r j))

/-- The gradient of the row that enters the loss head. -/
def dh : FVec Ideal S8192x1024 .f32 := fun i =>
  d3 H Y P T Wg B Wp G (i 0) (i 1) + ∑ k : Fin 1024, dpre H Y P T Wg B Wp G (i 0) k * Wg (ix3 0 (i 1) k)

/-- The gradient of the feed-forward row. -/
def dy : FVec Ideal S8192x1024 .bf16 := fun i =>
  RowNorm.back width eps (fun k => Y (ix2 (i 0) k)) (fun k => dh H Y P T Wg B Wp G (ix2 (i 0) k) * G (ix2 0 k)) (i 1)

/-- One row's part of the five sums: both weights' gradients, the squared error, the bias's and the gain's gradients. -/
def gegRow (r : Fin 8192) (i j : Fin 1024) : EReal := h2 H Y G r i * dpre H Y P T Wg B Wp G r j
def gepRow (r : Fin 8192) (i : Fin 1024) (k : Fin 256) : EReal := d3 H Y P T Wg B Wp G r i * gate H Y Wg B G r i * P (ix4 0 0 r k)
def dgRow (r : Fin 8192) (j : Fin 1024) : EReal :=
  dh H Y P T Wg B Wp G (ix2 r j) * (Y (ix2 r j) * RowNorm.rstd width eps fun k => Y (ix2 r k))

def geg : FVec Ideal S1024x1024 .f32 := fun i => ∑ r : Fin 8192, gegRow H Y P T Wg B Wp G r (i 0) (i 1)
def gep : FVec Ideal S1024x256 .f32 := fun i => ∑ r : Fin 8192, gepRow H Y P T Wg B Wp G r (i 0) (i 1)
def loss : FVec Ideal S1x1024 .f32 := fun i => ∑ r : Fin 8192, diff H Y P T Wg B Wp G r (i 1) * diff H Y P T Wg B Wp G r (i 1)
def db : FVec Ideal S1x1024 .f32 := fun i => ∑ r : Fin 8192, dpre H Y P T Wg B Wp G r (i 1)
def dg : FVec Ideal S1x1024 .f32 := fun i => ∑ r : Fin 8192, dgRow H Y P T Wg B Wp G r (i 1)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![0, 0]
    ∧ win0_11.index t = ![0, 0] ∧ win0_12.index t = ![0, 0] ∧ win0_13.index t = ![0, 0] ∧ win0_14.index t = ![0, 0] :=
  (by decide +kernel : ∀ t : Fin grid0.N, _)

variable (m : (ℓ : Loc nD τ sig) → Buf (Elt Ideal) ℓ)

abbrev A0 (c : Dev nD) : FVec Ideal S8192x1024 .f32 := m ((c : Thread nD τ).loc main_arg0)
abbrev A1 (c : Dev nD) : FVec Ideal S8192x1024 .f32 := m ((c : Thread nD τ).loc main_arg1)
abbrev A2 (c : Dev nD) : FVec Ideal S1x1x8192x256 .f32 := m ((c : Thread nD τ).loc main_arg2)
abbrev A3 (c : Dev nD) : FVec Ideal S1x8192x1024 .f32 := m ((c : Thread nD τ).loc main_arg3)
abbrev A4 (c : Dev nD) : FVec Ideal S1x1024x1024 .f32 := m ((c : Thread nD τ).loc main_arg4)
abbrev A5 (c : Dev nD) : FVec Ideal S1x1024 .f32 := m ((c : Thread nD τ).loc main_arg5)
abbrev A6 (c : Dev nD) : FVec Ideal S1x256x1024 .f32 := m ((c : Thread nD τ).loc main_arg6)
abbrev A7 (c : Dev nD) : FVec Ideal S1x1024 .f32 := m ((c : Thread nD τ).loc main_arg7)

abbrev dhM (c : Dev nD) := dh (A0 m c) (A1 m c) (A2 m c) (A3 m c) (A4 m c) (A5 m c) (A6 m c) (A7 m c)
abbrev dyM (c : Dev nD) := dy (A0 m c) (A1 m c) (A2 m c) (A3 m c) (A4 m c) (A5 m c) (A6 m c) (A7 m c)
abbrev gegM (c : Dev nD) := geg (A0 m c) (A1 m c) (A2 m c) (A3 m c) (A4 m c) (A5 m c) (A6 m c) (A7 m c)
abbrev gepM (c : Dev nD) := gep (A0 m c) (A1 m c) (A2 m c) (A3 m c) (A4 m c) (A5 m c) (A6 m c) (A7 m c)
abbrev lossM (c : Dev nD) := loss (A0 m c) (A1 m c) (A2 m c) (A3 m c) (A4 m c) (A5 m c) (A6 m c) (A7 m c)
abbrev dbM (c : Dev nD) := db (A0 m c) (A1 m c) (A2 m c) (A3 m c) (A4 m c) (A5 m c) (A6 m c) (A7 m c)
abbrev dgM (c : Dev nD) := dg (A0 m c) (A1 m c) (A2 m c) (A3 m c) (A4 m c) (A5 m c) (A6 m c) (A7 m c)

/-- What the host lines leave as the kernel's first argument. -/
theorem h2V (c : Dev nD) : (V m c main_v12 : FVec Ideal S8192x1024 .f32) = fun i => h2 (A0 m c) (A1 m c) (A7 m c) (i 0) (i 1) := by
  entry_read
  funext i
  idx_vars i
  pointwise [h2, RowNorm.rstd]

theorem row_lt (t : Fin cfg0.N) (k : Fin 512) : t.val * 512 + k.val < 8192 := by
  have h : cfg0.N = 16 := N_0
  have := t.isLt
  omega

/-- A point's row in the arrays. -/
abbrev row (t : Fin cfg0.N) (k : Fin 512) : Fin 8192 := ⟨t.val * 512 + k.val, row_lt t k⟩

/-- Where a point's blocks lie in their arrays, and what they hold of the arguments. -/
theorem emb0 (t : Fin cfg0.N) (k : Fin 512) (j : Fin 1024) : ((cfg0.win 0).blk t).view.emb (ix2 k j) = (ix2 (row t k) j : S8192x1024.Idx) := by
  funext a; fin_cases a <;> refine Fin.ext ?_ <;> blk_simp [idx t] <;> rfl
theorem emb8 (t : Fin cfg0.N) (k : Fin 512) (j : Fin 1024) : ((cfg0.win 8).blk t).view.emb (ix2 k j) = (ix2 (row t k) j : S8192x1024.Idx) := by
  funext a; fin_cases a <;> refine Fin.ext ?_ <;> blk_simp [idx t] <;> rfl
theorem emb9 (t : Fin cfg0.N) (k : Fin 512) (j : Fin 1024) : ((cfg0.win 9).blk t).view.emb (ix2 k j) = (ix2 (row t k) j : S8192x1024.Idx) := by
  funext a; fin_cases a <;> refine Fin.ext ?_ <;> blk_simp [idx t] <;> rfl
theorem blk0 (c : Dev nD) (t : Fin cfg0.N) (k : Fin 512) (j : Fin 1024) :
    (iblk m c 0 t : FVec Ideal S512x1024 .f32) (ix2 k j) = h2 (A0 m c) (A1 m c) (A7 m c) (row t k) j := by
  show (V m c main_v12 : FVec Ideal S8192x1024 .f32) (((cfg0.win 0).blk t).view.emb (ix2 k j)) = _
  rw [h2V, emb0]
  rfl
theorem blk1 (c : Dev nD) (t : Fin cfg0.N) (k : Fin 512) (j : Fin 256) :
    (iblk m c 1 t : FVec Ideal S512x256 .f32) (ix2 k j) = A2 m c (ix4 0 0 (row t k) j) := by
  blk_point [iblk, V, idx t]
theorem blk2 (c : Dev nD) (t : Fin cfg0.N) (k : Fin 512) (j : Fin 1024) :
    (iblk m c 2 t : FVec Ideal S512x1024 .f32) (ix2 k j) = A3 m c (ix3 0 (row t k) j) := by
  blk_point [iblk, V, idx t]
theorem blk3 (c : Dev nD) (t : Fin cfg0.N) (k : Fin 512) (j : Fin 1024) :
    (iblk m c 3 t : FVec Ideal S512x1024 .f32) (ix2 k j) = A1 m c (ix2 (row t k) j) := by
  blk_point [iblk, V, idx t]
theorem blk4 (c : Dev nD) (t : Fin cfg0.N) (k j : Fin 1024) :
    (iblk m c 4 t : FVec Ideal S1024x1024 .bf16) (ix2 k j) = A4 m c (ix3 0 k j) := by
  blk_point [iblk, V, idx t]
theorem blk5 (c : Dev nD) (t : Fin cfg0.N) (j : Fin 1024) :
    (iblk m c 5 t : FVec Ideal S1x1024 .f32) (ix2 0 j) = A5 m c (ix2 0 j) := by
  blk_point [iblk, V, idx t]
theorem blk6 (c : Dev nD) (t : Fin cfg0.N) (k : Fin 1024) (j : Fin 256) :
    (iblk m c 6 t : FVec Ideal S1024x256 .bf16) (ix2 k j) = A6 m c (ix3 0 j k) := by
  blk_point [iblk, V, idx t]
theorem blk7 (c : Dev nD) (t : Fin cfg0.N) (j : Fin 1024) :
    (iblk m c 7 t : FVec Ideal S1x1024 .f32) (ix2 0 j) = A7 m c (ix2 0 j) := by
  blk_point [iblk, V, idx t]

/-- One point's intermediate blocks: the gate, the token part, the error, and the row's gradient. -/
abbrev gateB (c : Dev nD) (t : Fin cfg0.N) : FVec Ideal S512x1024 .f32 := k0_pay9 (F := Ideal) (iblk m c 0 t) (iblk m c 4 t) (iblk m c 5 t)
abbrev ppB (c : Dev nD) (t : Fin cfg0.N) : FVec Ideal S512x1024 .f32 := k0_pay10 (F := Ideal) (iblk m c 1 t) (iblk m c 6 t)
abbrev diffB (c : Dev nD) (t : Fin cfg0.N) : FVec Ideal S512x1024 .f32 :=
  k0_pay11 (F := Ideal) (iblk m c 0 t) (iblk m c 1 t) (iblk m c 4 t) (iblk m c 5 t) (iblk m c 6 t) (iblk m c 2 t)
abbrev backB (c : Dev nD) (t : Fin cfg0.N) : FVec Ideal S512x1024 .f32 :=
  k0_pay20 (F := Ideal) (gateB m c t) (ppB m c t) (diffB m c t) (iblk m c 4 t)

/-! ## The payloads at an index -/

theorem pay9 (x : FVec Ideal S512x1024 .f32) (w : FVec Ideal S1024x1024 .bf16) (b : FVec Ideal S1x1024 .f32) (k : Fin 512) (j : Fin 1024) :
    k0_pay9 (F := Ideal) x w b (ix2 k j) = half * Ideal.tanh (half * ((∑ l : Fin 1024, x (ix2 k l) * w (ix2 l j)) + b (ix2 0 j))) + half := by
  pointwise [k0_pay9, k0_pay7, k0_pay6]
theorem pay10 (x : FVec Ideal S512x256 .f32) (w : FVec Ideal S1024x256 .bf16) (k : Fin 512) (j : Fin 1024) :
    k0_pay10 (F := Ideal) x w (ix2 k j) = ∑ l : Fin 256, x (ix2 k l) * w (ix2 j l) := by
  pointwise [k0_pay10, k0_pay8]
theorem pay11 (x0 : FVec Ideal S512x1024 .f32) (x1 : FVec Ideal S512x256 .f32) (x4 : FVec Ideal S1024x1024 .bf16) (x5 : FVec Ideal S1x1024 .f32)
    (x6 : FVec Ideal S1024x256 .bf16) (x2 : FVec Ideal S512x1024 .f32) (k : Fin 512) (j : Fin 1024) :
    k0_pay11 (F := Ideal) x0 x1 x4 x5 x6 x2 (ix2 k j)
      = x0 (ix2 k j) + k0_pay9 (F := Ideal) x0 x4 x5 (ix2 k j) * k0_pay10 (F := Ideal) x1 x6 (ix2 k j) - x2 (ix2 k j) := by
  pointwise [k0_pay11, k0_pay6]
theorem pay14 (d : FVec Ideal S512x1024 .f32) (k : Fin 512) (j : Fin 1024) : k0_pay14 (F := Ideal) d (ix2 k j) = d (ix2 k j) * scale := by
  pointwise [k0_pay14]
theorem pay15 (g p d : FVec Ideal S512x1024 .f32) (k : Fin 512) (j : Fin 1024) :
    k0_pay15 (F := Ideal) g p d (ix2 k j) = d (ix2 k j) * scale * p (ix2 k j) * (g (ix2 k j) * (one - g (ix2 k j))) := by
  pointwise [k0_pay15, k0_pay14]
theorem pay20 (g p d : FVec Ideal S512x1024 .f32) (w : FVec Ideal S1024x1024 .bf16) (k : Fin 512) (j : Fin 1024) :
    k0_pay20 (F := Ideal) g p d w (ix2 k j) = ∑ l : Fin 1024, k0_pay15 (F := Ideal) g p d (ix2 k l) * w (ix2 j l) := by
  pointwise [k0_pay20, k0_pay16]
theorem pay21 (d b : FVec Ideal S512x1024 .f32) (k : Fin 512) (j : Fin 1024) : k0_pay21 (F := Ideal) d b (ix2 k j) = d (ix2 k j) + b (ix2 k j) := by
  pointwise [k0_pay21]
theorem pay22 (d b : FVec Ideal S512x1024 .f32) (k : Fin 512) (j : Fin 1024) :
    k0_pay22 (F := Ideal) d b (ix2 k j) = k0_pay21 (F := Ideal) d b (ix2 k j) := by
  pointwise [k0_pay22]
theorem pay25 (d b x : FVec Ideal S512x1024 .f32) (g : FVec Ideal S1x1024 .f32) (k : Fin 512) (j : Fin 1024) :
    k0_pay25 (F := Ideal) d b x g (ix2 k j)
      = RowNorm.back width eps (fun l => x (ix2 k l)) (fun l => k0_pay21 (F := Ideal) d b (ix2 k l) * g (ix2 0 l)) j := by
  pointwise [k0_pay25, k0_pay24, k0_pay23, RowNorm.back, RowNorm.rstd]

/-! ## One point's blocks over the arrays -/

theorem gate_at (c : Dev nD) (t : Fin cfg0.N) (k : Fin 512) (j : Fin 1024) :
    gateB m c t (ix2 k j) = gate (A0 m c) (A1 m c) (A4 m c) (A5 m c) (A7 m c) (row t k) j := by
  rw [gateB, pay9]
  simp only [blk0, blk4, blk5]
  rfl
theorem pp_at (c : Dev nD) (t : Fin cfg0.N) (k : Fin 512) (j : Fin 1024) : ppB m c t (ix2 k j) = pp (A2 m c) (A6 m c) (row t k) j := by
  rw [ppB, pay10]
  simp only [blk1, blk6]
  rfl
theorem diff_at (c : Dev nD) (t : Fin cfg0.N) (k : Fin 512) (j : Fin 1024) :
    diffB m c t (ix2 k j) = diff (A0 m c) (A1 m c) (A2 m c) (A3 m c) (A4 m c) (A5 m c) (A6 m c) (A7 m c) (row t k) j := by
  rw [diffB, pay11, blk0, blk2]
  exact congrArg₂ (fun a b => h2 (A0 m c) (A1 m c) (A7 m c) (row t k) j + a * b - A3 m c (ix3 0 (row t k) j)) (gate_at m c t k j) (pp_at m c t k j)
theorem d3_at (c : Dev nD) (t : Fin cfg0.N) (k : Fin 512) (j : Fin 1024) :
    k0_pay14 (F := Ideal) (diffB m c t) (ix2 k j) = d3 (A0 m c) (A1 m c) (A2 m c) (A3 m c) (A4 m c) (A5 m c) (A6 m c) (A7 m c) (row t k) j := by
  rw [pay14, diff_at]
  rfl
theorem dpre_at (c : Dev nD) (t : Fin cfg0.N) (k : Fin 512) (j : Fin 1024) :
    k0_pay15 (F := Ideal) (gateB m c t) (ppB m c t) (diffB m c t) (ix2 k j) = dpre (A0 m c) (A1 m c) (A2 m c) (A3 m c) (A4 m c) (A5 m c) (A6 m c) (A7 m c) (row t k) j := by
  rw [pay15, diff_at, gate_at, pp_at]
  rfl
theorem dh_at (c : Dev nD) (t : Fin cfg0.N) (k : Fin 512) (j : Fin 1024) :
    k0_pay21 (F := Ideal) (k0_pay14 (diffB m c t)) (backB m c t) (ix2 k j) = dhM m c (ix2 (row t k) j) := by
  rw [pay21, d3_at, backB, pay20]
  simp only [dpre_at, blk4]
  rfl

theorem point8 (c : Dev nD) (t : Fin cfg0.N) (y : S512x1024.Idx) :
    k0_pay22 (F := Ideal) (k0_pay14 (diffB m c t)) (backB m c t) y = dhM m c (((cfg0.win 8).blk t).view.emb y) := by
  idx_vars y
  rw [emb8, pay22, dh_at]

theorem point9 (c : Dev nD) (t : Fin cfg0.N) (y : S512x1024.Idx) :
    k0_pay25 (F := Ideal) (k0_pay14 (diffB m c t)) (backB m c t) (iblk m c 3 t) (iblk m c 7 t) y = dyM m c (((cfg0.win 9).blk t).view.emb y) := by
  idx_vars y
  rw [emb9, pay25]
  simp only [dh_at, blk3, blk7]
  rfl

theorem final8 (c : Dev nD) : (dats m 0 c).arrAt 8 cfg0.N = dhM m c := by
  refine (dats m 0 c).arrAt_eq_of_covers 8 _ (by decide +kernel) fun t _ y => ?_
  blk_simp
  rw [after0_8]
  by_cases h : t.val % 16 = 0
  · rw [outsAt0_A m c t h]; frame_out
    exact point8 m c t y
  · rw [outsAt0_B m c t h]; frame_out
    exact point8 m c t y

theorem final9 (c : Dev nD) : (dats m 0 c).arrAt 9 cfg0.N = dyM m c := by
  refine (dats m 0 c).arrAt_eq_of_covers 9 _ (by decide +kernel) fun t _ y => ?_
  blk_simp
  rw [after0_9]
  by_cases h : t.val % 16 = 0
  · rw [outsAt0_A m c t h]; frame_out
    exact point9 m c t y
  · rw [outsAt0_B m c t h]; frame_out
    exact point9 m c t y

/-! ## The five sums over the rows -/

/-- One row's term of each sum, over a point's blocks. -/
def gegBlk (x g p d : FVec Ideal S512x1024 .f32) (r : Fin 512) (i j : Fin 1024) : EReal := x (ix2 r i) * k0_pay15 (F := Ideal) g p d (ix2 r j)
def gepBlk (x : FVec Ideal S512x256 .f32) (g d : FVec Ideal S512x1024 .f32) (r : Fin 512) (i : Fin 1024) (k : Fin 256) : EReal :=
  k0_pay14 (F := Ideal) d (ix2 r i) * g (ix2 r i) * x (ix2 r k)
def sqBlk (d : FVec Ideal S512x1024 .f32) (r : Fin 512) (j : Fin 1024) : EReal := d (ix2 r j) * d (ix2 r j)
def dgBlk (d b x : FVec Ideal S512x1024 .f32) (r : Fin 512) (j : Fin 1024) : EReal :=
  k0_pay21 (F := Ideal) d b (ix2 r j) * (x (ix2 r j) * RowNorm.rstd width eps fun l => x (ix2 r l))

theorem pay18 (x g p d : FVec Ideal S512x1024 .f32) (acc : FVec Ideal S1024x1024 .f32) (y : S1024x1024.Idx) :
    k0_pay18 (F := Ideal) (k0_pay7 x) g p d acc y = acc y + ∑ r : Fin 512, gegBlk x g p d r (y 0) (y 1) := by
  idx_vars y
  pointwise [k0_pay18, k0_pay16, k0_pay7, k0_pay6, gegBlk]
theorem pay19 (x : FVec Ideal S512x256 .f32) (g d : FVec Ideal S512x1024 .f32) (acc : FVec Ideal S1024x256 .f32) (y : S1024x256.Idx) :
    k0_pay19 (F := Ideal) (k0_pay8 x) g d acc y = acc y + ∑ r : Fin 512, gepBlk x g d r (y 0) (y 1) := by
  idx_vars y
  pointwise [k0_pay19, k0_pay8, gepBlk]
theorem pay13 (x0 : FVec Ideal S512x1024 .f32) (x1 : FVec Ideal S512x256 .f32) (x4 : FVec Ideal S1024x1024 .bf16) (x5 : FVec Ideal S1x1024 .f32)
    (x6 : FVec Ideal S1024x256 .bf16) (x2 : FVec Ideal S512x1024 .f32) (acc : FVec Ideal S1x1024 .f32) (y : S1x1024.Idx) :
    k0_pay13 (F := Ideal) (k0_pay12 x0 x1 x4 x5 x6 x2 acc) y
      = acc y + ∑ r : Fin 512, sqBlk (k0_pay11 (F := Ideal) x0 x1 x4 x5 x6 x2) r (y 1) := by
  idx_vars y
  pointwise [k0_pay13, k0_pay12, sqBlk]
theorem pay17 (g p d : FVec Ideal S512x1024 .f32) (acc : FVec Ideal S1x1024 .f32) (y : S1x1024.Idx) :
    k0_pay17 (F := Ideal) g p d acc y = acc y + ∑ r : Fin 512, k0_pay15 (F := Ideal) g p d (ix2 r (y 1)) := by
  idx_vars y
  pointwise [k0_pay17]
theorem pay26 (d b x : FVec Ideal S512x1024 .f32) (acc : FVec Ideal S1x1024 .f32) (y : S1x1024.Idx) :
    k0_pay26 (F := Ideal) d b x acc y = acc y + ∑ r : Fin 512, dgBlk d b x r (y 1) := by
  idx_vars y
  pointwise [k0_pay26, k0_pay24, k0_pay23, dgBlk, RowNorm.rstd]
theorem pay1 (y : S1024x1024.Idx) : k0_pay1 (F := Ideal) y = 0 := by pointwise [k0_pay1]
theorem pay2 (y : S1024x256.Idx) : k0_pay2 (F := Ideal) y = 0 := by pointwise [k0_pay2]
theorem pay3 (y : S1x1024.Idx) : k0_pay3 (F := Ideal) y = 0 := by pointwise [k0_pay3]
theorem pay4 (y : S1x1024.Idx) : k0_pay4 (F := Ideal) y = 0 := by pointwise [k0_pay4]
theorem pay5 (y : S1x1024.Idx) : k0_pay5 (F := Ideal) y = 0 := by pointwise [k0_pay5]

theorem term10 (c : Dev nD) (t : Fin cfg0.N) (k : Fin 512) (i j : Fin 1024) :
    gegBlk (iblk m c 0 t) (gateB m c t) (ppB m c t) (diffB m c t) k i j = gegRow (A0 m c) (A1 m c) (A2 m c) (A3 m c) (A4 m c) (A5 m c) (A6 m c) (A7 m c) (row t k) i j := by
  rw [gegBlk, dpre_at, blk0]
  rfl
theorem term11 (c : Dev nD) (t : Fin cfg0.N) (k : Fin 512) (i : Fin 1024) (j : Fin 256) :
    gepBlk (iblk m c 1 t) (gateB m c t) (diffB m c t) k i j = gepRow (A0 m c) (A1 m c) (A2 m c) (A3 m c) (A4 m c) (A5 m c) (A6 m c) (A7 m c) (row t k) i j := by
  rw [gepBlk, d3_at, gate_at, blk1]
  rfl
theorem term14 (c : Dev nD) (t : Fin cfg0.N) (k : Fin 512) (j : Fin 1024) :
    dgBlk (k0_pay14 (F := Ideal) (diffB m c t)) (backB m c t) (iblk m c 3 t) k j = dgRow (A0 m c) (A1 m c) (A2 m c) (A3 m c) (A4 m c) (A5 m c) (A6 m c) (A7 m c) (row t k) j := by
  rw [dgBlk, dh_at]
  simp only [blk3]
  rfl

theorem final10 (c : Dev nD) : (dats m 0 c).arrAt 10 cfg0.N = gegM m c := by
  refine (dats m 0 c).arrAt_eq_of_after_last 10 t0_15 (by decide +kernel) _ fun y => ?_
  blk_simp
  rw [after0_10, Pipeline.eq_sum_fin_of_reset_step_apply_last (fun n h => (outsAt0 m c n h).2.2.1) 16 (fun _ => 0) _
      (fun t h j => by rw [outsAt0_A m c t h]; frame_out; rw [pay18, pay1])
      (fun t h j => by rw [outsAt0_B m c t h]; frame_out; rw [pay18])
      (le_of_eq N_0) t0_15 rfl y, zero_add]
  exact Fin.sum_mul_add_congr fun t k hl => term10 m c t k (y 0) (y 1)

theorem final11 (c : Dev nD) : (dats m 0 c).arrAt 11 cfg0.N = gepM m c := by
  refine (dats m 0 c).arrAt_eq_of_after_last 11 t0_15 (by decide +kernel) _ fun y => ?_
  blk_simp
  rw [after0_11, Pipeline.eq_sum_fin_of_reset_step_apply_last (fun n h => (outsAt0 m c n h).2.2.2.1) 16 (fun _ => 0) _
      (fun t h j => by rw [outsAt0_A m c t h]; frame_out; rw [pay19, pay2])
      (fun t h j => by rw [outsAt0_B m c t h]; frame_out; rw [pay19])
      (le_of_eq N_0) t0_15 rfl y, zero_add]
  exact Fin.sum_mul_add_congr fun t k hl => term11 m c t k (y 0) (y 1)

theorem final12 (c : Dev nD) : (dats m 0 c).arrAt 12 cfg0.N = lossM m c := by
  refine (dats m 0 c).arrAt_eq_of_after_last 12 t0_15 (by decide +kernel) _ fun y => ?_
  blk_simp
  rw [after0_12, Pipeline.eq_sum_fin_of_reset_step_apply_last (fun n h => (outsAt0 m c n h).2.2.2.2.1) 16 (fun _ => 0) _
      (fun t h j => by rw [outsAt0_A m c t h]; frame_out; rw [pay13, pay3])
      (fun t h j => by rw [outsAt0_B m c t h]; frame_out; rw [pay13])
      (le_of_eq N_0) t0_15 rfl y, zero_add]
  exact Fin.sum_mul_add_congr fun t k hl => congrArg₂ (· * ·) (diff_at m c t k (y 1)) (diff_at m c t k (y 1))

theorem final13 (c : Dev nD) : (dats m 0 c).arrAt 13 cfg0.N = dbM m c := by
  refine (dats m 0 c).arrAt_eq_of_after_last 13 t0_15 (by decide +kernel) _ fun y => ?_
  blk_simp
  rw [after0_13, Pipeline.eq_sum_fin_of_reset_step_apply_last (fun n h => (outsAt0 m c n h).2.2.2.2.2.1) 16 (fun _ => 0) _
      (fun t h j => by rw [outsAt0_A m c t h]; frame_out; rw [pay17, pay4])
      (fun t h j => by rw [outsAt0_B m c t h]; frame_out; rw [pay17])
      (le_of_eq N_0) t0_15 rfl y, zero_add]
  exact Fin.sum_mul_add_congr fun t k hl => dpre_at m c t k (y 1)

theorem final14 (c : Dev nD) : (dats m 0 c).arrAt 14 cfg0.N = dgM m c := by
  refine (dats m 0 c).arrAt_eq_of_after_last 14 t0_15 (by decide +kernel) _ fun y => ?_
  blk_simp
  rw [after0_14, Pipeline.eq_sum_fin_of_reset_step_apply_last (fun n h => (outsAt0 m c n h).2.2.2.2.2.2) 16 (fun _ => 0) _
      (fun t h j => by rw [outsAt0_A m c t h]; frame_out; rw [pay26, pay5])
      (fun t h j => by rw [outsAt0_B m c t h]; frame_out; rw [pay26])
      (le_of_eq N_0) t0_15 rfl y, zero_add]
  exact Fin.sum_mul_add_congr fun t k hl => term14 m c t k (y 1)

end Cert.Kernel3Ideal.Pe

end
-- ==== Proof.PeEquation.lean ====
/- The loss head's reference: its results, read at an index, are the same functions of the arguments. -/
module

public import proofs.«01_k».proof.Proof.PeValue
public import proofs.«01_k».proof.Proof.Sigmoid
public import proofs.«01_k».proof.Proof.Gen.Reference3Ideal.Read

@[expose] public section

set_option maxRecDepth 16384

noncomputable section

namespace Cert.Kernel3Ideal.Pe

open Idealize.ShloMosaic Idealize.ShloMosaic.TcCoe Idealize.SL.Sem Cert.Reference3Ideal Cert.Reference3Ideal.Gen Cert.Reference3Ideal.Read

variable (H Y : FVec Ideal S8192x1024 .f32) (P : FVec Ideal S1x1x8192x256 .f32) (T : FVec Ideal S1x8192x1024 .f32)
  (Wg : FVec Ideal S1x1024x1024 .f32) (B : FVec Ideal S1x1024 .f32) (Wp : FVec Ideal S1x256x1024 .f32) (G : FVec Ideal S1x1024 .f32)

theorem ref17 (r : Fin 8192) (j : Fin 1024) : val_main_v17 (F := Ideal) H Y G (ix2 r j) = h2 H Y G r j := by
  pointwise [val_main_cst, val_main_cst_0, val_main_cst_1, val_main_v0, val_main_v1, val_main_v2, val_main_v3, val_main_v4, val_main_v5,
    val_main_v6, val_main_v7, val_main_v8, val_main_v12, val_main_v13, val_main_v14, val_main_v15, val_main_v16, val_main_v17, h2, RowNorm.rstd]

theorem ref23 (r : Fin 8192) (j : Fin 1024) : val_main_v23 (F := Ideal) H Y Wg B G (ix2 r j) = pre H Y Wg B G r j := by
  pointwise [val_main_v18, val_main_v19, val_main_v20, val_main_v21, val_main_v22, val_main_v23]
  simp only [Fin.sum_univ_one, ref17]
  rfl

theorem ref29 (r : Fin 8192) (j : Fin 1024) : val_main_v29 (F := Ideal) H Y Wg B G (ix2 r j) = gate H Y Wg B G r j := by
  pointwise [val_main_cst_3, val_main_cst_4, val_main_v24, val_main_v25, val_main_v26, val_main_v27, val_main_v28, val_main_v29]
  simp only [ref23]
  exact Sigmoid.eq_tanh _

theorem ref35 (r : Fin 8192) (j : Fin 1024) : val_main_v35 (F := Ideal) P Wp (ix2 r j) = pp P Wp r j := by
  pointwise [val_main_v33, val_main_v34, val_main_v35, pp]

theorem ref39 (r : Fin 8192) (j : Fin 1024) : val_main_v39 (F := Ideal) H Y P T Wg B Wp G (ix2 r j) = diff H Y P T Wg B Wp G r j := by
  pointwise [val_main_v36, val_main_v37, val_main_v38, val_main_v39]
  simp only [ref17, ref29, ref35]
  rfl

theorem ref53 (r : Fin 8192) (j : Fin 1024) : val_main_v53 (F := Ideal) H Y P T Wg B Wp G (ix2 r j) = d3 H Y P T Wg B Wp G r j := by
  pointwise [val_main_cst_6, val_main_cst_11, val_main_cst_12, val_main_cst_13, val_main_v41, val_main_v42, val_main_v48, val_main_v49,
    val_main_v50, val_main_v51, val_main_v52, val_main_v53]
  simp only [ref39]
  exact Sigmoid.mean_factor _

theorem ref59 (r : Fin 8192) (j : Fin 1024) : val_main_v59 (F := Ideal) H Y P T Wg B Wp G (ix2 r j) = dpre H Y P T Wg B Wp G r j := by
  pointwise [val_main_cst_5, val_main_v30, val_main_v31, val_main_v32, val_main_v55, val_main_v59]
  simp only [ref53, ref29, ref35]
  unfold dpre
  rw [show one = 1 from Sigmoid.ofBits_one]

theorem ref67 (r : Fin 8192) (j : Fin 1024) : val_main_v67 (F := Ideal) H Y P T Wg B Wp G (ix2 r j) = dh H Y P T Wg B Wp G (ix2 r j) := by
  pointwise [val_main_v18, val_main_v66, val_main_v67]
  simp only [Fin.sum_univ_one, ref53, ref59]
  rfl

theorem ref90 (r : Fin 8192) (j : Fin 1024) : val_main_v90 (F := Ideal) H Y P T Wg B Wp G (ix2 r j) = dy H Y P T Wg B Wp G (ix2 r j) := by
  pointwise [val_main_cst, val_main_cst_0, val_main_cst_1, val_main_cst_2, val_main_cst_18, val_main_cst_19, val_main_cst_20, val_main_v0,
    val_main_v1, val_main_v2, val_main_v3, val_main_v4, val_main_v5, val_main_v6, val_main_v7, val_main_v8, val_main_v9,
    val_main_v10, val_main_v11, val_main_v14, val_main_v72, val_main_v73, val_main_v75, val_main_v76, val_main_v77,
    val_main_v78, val_main_v79, val_main_v80, val_main_v81, val_main_v82, val_main_v83, val_main_v84, val_main_v85,
    val_main_v86, val_main_v87, val_main_v88, val_main_v90]
  simp only [Fin.sum_univ_one, ref67]
  refine Eq.trans ?_ (RowNorm.back_lit (fun k => Y (ix2 r k)) (fun k => dh H Y P T Wg B Wp G (ix2 r k) * G (ix2 0 k)) j).symm
  rw [add_assoc]
  rfl

theorem ref91 (i : S1024x1024.Idx) : val_main_v91 (F := Ideal) H Y P T Wg B Wp G i = geg H Y P T Wg B Wp G i := by
  idx_vars i
  pointwise [val_main_v64, val_main_v65, val_main_v68, val_main_v91, geg, gegRow]
  simp only [Fin.sum_univ_one, ref17, ref59]
  exact Finset.sum_congr rfl fun r _ => mul_comm _ _

theorem ref93 (i : S1024x256.Idx) : val_main_v93 (F := Ideal) H Y P T Wg B Wp G i = gep H Y P T Wg B Wp G i := by
  idx_vars i
  pointwise [val_main_v33, val_main_v54, val_main_v56, val_main_v57, val_main_v58, val_main_v92, val_main_v93, gep, gepRow]
  simp only [Fin.sum_univ_one, ref53, ref29]
  exact Finset.sum_congr rfl fun r _ => congrArg (· * _) (mul_comm _ _)

theorem ref95 (i : S1x1024.Idx) : val_main_v95 (F := Ideal) H Y P T Wg B Wp G i = loss H Y P T Wg B Wp G i := by
  idx_vars i
  pointwise [val_main_cst_21, val_main_v40, val_main_v94, val_main_v95, loss]
  simp only [Fin.sum_univ_one, ref39]

theorem ref63 (i : S1x1024.Idx) : val_main_v63 (F := Ideal) H Y P T Wg B Wp G i = db H Y P T Wg B Wp G i := by
  idx_vars i
  pointwise [val_main_cst_14, val_main_cst_15, val_main_v60, val_main_v61, val_main_v62, val_main_v63, db]
  simp only [Fin.sum_univ_one, ref59]

theorem ref89 (i : S1x1024.Idx) : val_main_v89 (F := Ideal) H Y P T Wg B Wp G i = dg H Y P T Wg B Wp G i := by
  idx_vars i
  pointwise [val_main_cst, val_main_cst_0, val_main_cst_1, val_main_cst_16, val_main_cst_17, val_main_v1, val_main_v2, val_main_v3,
    val_main_v4, val_main_v5, val_main_v6, val_main_v7, val_main_v8, val_main_v12, val_main_v13, val_main_v69, val_main_v70,
    val_main_v71, val_main_v74, val_main_v89, dg, dgRow, RowNorm.rstd]
  simp only [Fin.sum_univ_one, ref67]
  exact Finset.sum_congr rfl fun r _ => mul_comm _ _

theorem ref67_fun : val_main_v67 (F := Ideal) H Y P T Wg B Wp G = dh H Y P T Wg B Wp G := by
  funext i
  idx_vars i
  exact ref67 H Y P T Wg B Wp G _ _

theorem ref90_fun : val_main_v90 (F := Ideal) H Y P T Wg B Wp G = dy H Y P T Wg B Wp G := by
  funext i
  idx_vars i
  exact ref90 H Y P T Wg B Wp G _ _

theorem ref91_fun : val_main_v91 (F := Ideal) H Y P T Wg B Wp G = geg H Y P T Wg B Wp G := funext (ref91 H Y P T Wg B Wp G)
theorem ref93_fun : val_main_v93 (F := Ideal) H Y P T Wg B Wp G = gep H Y P T Wg B Wp G := funext (ref93 H Y P T Wg B Wp G)
theorem ref95_fun : val_main_v95 (F := Ideal) H Y P T Wg B Wp G = loss H Y P T Wg B Wp G := funext (ref95 H Y P T Wg B Wp G)
theorem ref63_fun : val_main_v63 (F := Ideal) H Y P T Wg B Wp G = db H Y P T Wg B Wp G := funext (ref63 H Y P T Wg B Wp G)
theorem ref89_fun : val_main_v89 (F := Ideal) H Y P T Wg B Wp G = dg H Y P T Wg B Wp G := funext (ref89 H Y P T Wg B Wp G)

end Cert.Kernel3Ideal.Pe

end
-- ==== Proof.FfnValue.lean ====
/- The feed-forward block's input gradient call: its four result arrays as functions of its argument arrays. -/
module

public import proofs.«01_k».proof.Proof.Gen.Kernel5Ideal.Value
public import proofs.«01_k».proof.Proof.RowNorm
public import Idealize.ShloMosaic.Lib.Pipeline.ValueKit
public import Idealize.ShloMosaic.Lib.Claim

@[expose] public section

set_option maxRecDepth 16384

noncomputable section

namespace Cert.Kernel5Ideal.Ffn

open Cert.Kernel5Ideal Cert.Kernel5Ideal.Gen Idealize.ShloMosaic Idealize.ShloMosaic.TcCoe Idealize.SL.Sem
open Idealize.ShloMosaic.Pipeline (Dat)

variable (Dg Du : FVec Ideal S8192x2816 .bf16) (X : FVec Ideal S1x8192x1024 .f32) (Mx H : FVec Ideal S8192x1024 .f32)
  (Gm Gf : FVec Ideal S1x1024 .f32) (W : FVec Ideal S1x1024x5632 .f32)

/-- The norms' divisor and offset as the programs spell them. -/
abbrev width : EReal := Ideal.ofBits .f32 1149239296#32
abbrev eps : EReal := Ideal.ofBits .f32 897988541#32

/-- The row the second norm takes: the input plus the normed mixture. -/
def h1 (r : Fin 8192) (j : Fin 1024) : EReal :=
  X (ix3 0 r j) + Mx (ix2 r j) * RowNorm.rstd width eps (fun k => Mx (ix2 r k)) * Gm (ix2 0 j)

/-- The cotangent of the second normed row: the gate's and the value's parts against the weight's rows. -/
def df (r : Fin 8192) (j : Fin 1024) : EReal :=
  ∑ k : Fin 5632, (if h : (k : ℕ) < 2816 then Dg (ix2 r ⟨k, h⟩) else Du (ix2 r ⟨k - 2816, by omega⟩)) * W (ix3 0 j k)

/-- The gradient of the row the second norm takes. -/
def dh : FVec Ideal S8192x1024 .f32 := fun i =>
  H i + RowNorm.back width eps (h1 X Mx Gm (i 0)) (fun k => df Dg Du W (i 0) k * Gf (ix2 0 k)) (i 1)

/-- The gradient of the mixture. -/
def dm : FVec Ideal S8192x1024 .bf16 := fun i =>
  RowNorm.back width eps (fun k => Mx (ix2 (i 0) k)) (fun k => dh Dg Du X Mx H Gm Gf W (ix2 (i 0) k) * Gm (ix2 0 k)) (i 1)

/-- One row's part of the second gain's gradient, and of the first's. -/
def dgfRow (r : Fin 8192) (j : Fin 1024) : EReal := df Dg Du W r j * (h1 X Mx Gm r j * RowNorm.rstd width eps (h1 X Mx Gm r))
def dgmRow (r : Fin 8192) (j : Fin 1024) : EReal :=
  dh Dg Du X Mx H Gm Gf W (ix2 r j) * (Mx (ix2 r j) * RowNorm.rstd width eps fun k => Mx (ix2 r k))

/-- The gradients of the two gains: the rows' parts summed. -/
def dgf : FVec Ideal S1x1024 .f32 := fun i => ∑ r : Fin 8192, dgfRow Dg Du X Mx Gm W r (i 1)
def dgm : FVec Ideal S1x1024 .f32 := fun i => ∑ r : Fin 8192, dgmRow Dg Du X Mx H Gm Gf W r (i 1)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0]
    ∧ win0_7.index t = ![0, 0] ∧ win0_8.index t = ![t.val, 0] ∧ win0_9.index t = ![t.val, 0] ∧ win0_10.index t = ![0, 0]
    ∧ win0_11.index t = ![0, 0] := (by decide +kernel : ∀ t : Fin grid0.N, _)

variable (m : (ℓ : Loc nD τ sig) → Buf (Elt Ideal) ℓ)

abbrev A0 (c : Dev nD) : FVec Ideal S8192x2816 .bf16 := m ((c : Thread nD τ).loc main_arg0)
abbrev A1 (c : Dev nD) : FVec Ideal S8192x2816 .bf16 := m ((c : Thread nD τ).loc main_arg1)
abbrev A2 (c : Dev nD) : FVec Ideal S1x8192x1024 .f32 := m ((c : Thread nD τ).loc main_arg2)
abbrev A3 (c : Dev nD) : FVec Ideal S8192x1024 .f32 := m ((c : Thread nD τ).loc main_arg3)
abbrev A4 (c : Dev nD) : FVec Ideal S8192x1024 .f32 := m ((c : Thread nD τ).loc main_arg4)
abbrev A5 (c : Dev nD) : FVec Ideal S1x1024 .f32 := m ((c : Thread nD τ).loc main_arg5)
abbrev A6 (c : Dev nD) : FVec Ideal S1x1024 .f32 := m ((c : Thread nD τ).loc main_arg6)
abbrev A7 (c : Dev nD) : FVec Ideal S1x1024x5632 .f32 := m ((c : Thread nD τ).loc main_arg7)

abbrev dhM (c : Dev nD) : FVec Ideal S8192x1024 .f32 := dh (A0 m c) (A1 m c) (A2 m c) (A3 m c) (A4 m c) (A5 m c) (A6 m c) (A7 m c)
abbrev dmM (c : Dev nD) : FVec Ideal S8192x1024 .bf16 := dm (A0 m c) (A1 m c) (A2 m c) (A3 m c) (A4 m c) (A5 m c) (A6 m c) (A7 m c)
abbrev dgfM (c : Dev nD) : FVec Ideal S1x1024 .f32 := dgf (A0 m c) (A1 m c) (A2 m c) (A3 m c) (A5 m c) (A7 m c)
abbrev dgmM (c : Dev nD) : FVec Ideal S1x1024 .f32 := dgm (A0 m c) (A1 m c) (A2 m c) (A3 m c) (A4 m c) (A5 m c) (A6 m c) (A7 m c)

/-- What the host lines leave as the kernel's fourth argument. -/
theorem h1V (c : Dev nD) : (V m c main_v16 : FVec Ideal S8192x1024 .f32) = fun i => h1 (A2 m c) (A3 m c) (A5 m c) (i 0) (i 1) := by
  entry_read
  funext i
  idx_vars i
  pointwise [h1, RowNorm.rstd]

theorem row_lt (t : Fin cfg0.N) (k : Fin 512) : t.val * 512 + k.val < 8192 := by
  have h : cfg0.N = 16 := N_0
  have := t.isLt
  omega

/-- Where a point's blocks lie in their arrays, and what they hold of the arguments. -/
theorem emb3 (t : Fin cfg0.N) (k : Fin 512) (j : Fin 1024) :
    ((cfg0.win 3).blk t).view.emb (ix2 k j) = (ix2 ⟨t.val * 512 + k.val, row_lt t k⟩ j : S8192x1024.Idx) := by
  funext a; fin_cases a <;> refine Fin.ext ?_ <;> blk_simp [idx t] <;> rfl
theorem emb8 (t : Fin cfg0.N) (k : Fin 512) (j : Fin 1024) :
    ((cfg0.win 8).blk t).view.emb (ix2 k j) = (ix2 ⟨t.val * 512 + k.val, row_lt t k⟩ j : S8192x1024.Idx) := by
  funext a; fin_cases a <;> refine Fin.ext ?_ <;> blk_simp [idx t] <;> rfl
theorem emb9 (t : Fin cfg0.N) (k : Fin 512) (j : Fin 1024) :
    ((cfg0.win 9).blk t).view.emb (ix2 k j) = (ix2 ⟨t.val * 512 + k.val, row_lt t k⟩ j : S8192x1024.Idx) := by
  funext a; fin_cases a <;> refine Fin.ext ?_ <;> blk_simp [idx t] <;> rfl
theorem blk4 (c : Dev nD) (t : Fin cfg0.N) (k : Fin 512) (j : Fin 1024) :
    (iblk m c 4 t : FVec Ideal S512x1024 .f32) (ix2 k j) = A4 m c (ix2 ⟨t.val * 512 + k.val, row_lt t k⟩ j) := by
  blk_point [iblk, V, idx t]
theorem blk5 (c : Dev nD) (t : Fin cfg0.N) (k : Fin 512) (j : Fin 1024) :
    (iblk m c 5 t : FVec Ideal S512x1024 .f32) (ix2 k j) = A3 m c (ix2 ⟨t.val * 512 + k.val, row_lt t k⟩ j) := by
  blk_point [iblk, V, idx t]
theorem blk6 (c : Dev nD) (t : Fin cfg0.N) (j : Fin 1024) :
    (iblk m c 6 t : FVec Ideal S1x1024 .f32) (ix2 0 j) = A6 m c (ix2 0 j) := by
  blk_point [iblk, V, idx t]
theorem blk7 (c : Dev nD) (t : Fin cfg0.N) (j : Fin 1024) :
    (iblk m c 7 t : FVec Ideal S1x1024 .f32) (ix2 0 j) = A5 m c (ix2 0 j) := by
  blk_point [iblk, V, idx t]

/-- A point's block of the rows the second norm takes. -/
theorem h1Blk (c : Dev nD) (t : Fin cfg0.N) (k : Fin 512) (j : Fin 1024) (hl : t.val * 512 + k.val < 8192) :
    (iblk m c 3 t : FVec Ideal S512x1024 .f32) (ix2 k j) = h1 (A2 m c) (A3 m c) (A5 m c) ⟨t.val * 512 + k.val, hl⟩ j := by
  show (V m c main_v16 : FVec Ideal S8192x1024 .f32) (((cfg0.win 3).blk t).view.emb (ix2 k j)) = _
  rw [h1V, emb3]
  rfl

/-- One point's products with the weight, and its gradient of the rows, over its input blocks. -/
abbrev dfBlk (c : Dev nD) (t : Fin cfg0.N) : FVec Ideal S512x1024 .f32 := k0_pay4 (F := Ideal) (iblk m c 0 t) (iblk m c 1 t) (iblk m c 2 t)
abbrev dhBlk (c : Dev nD) (t : Fin cfg0.N) : FVec Ideal S512x1024 .f32 :=
  k0_pay9 (F := Ideal) (iblk m c 0 t) (iblk m c 1 t) (iblk m c 2 t) (iblk m c 3 t) (iblk m c 6 t) (iblk m c 4 t)

theorem df_at (c : Dev nD) (t : Fin cfg0.N) (k : Fin 512) (j : Fin 1024) (hl : t.val * 512 + k.val < 8192) :
    k0_pay4 (F := Ideal) (iblk m c 0 t) (iblk m c 1 t) (iblk m c 2 t) (ix2 k j) = df (A0 m c) (A1 m c) (A7 m c) ⟨t.val * 512 + k.val, hl⟩ j := by
  pointwise [k0_pay4, df]
  blk_point [iblk, V, idx t]

/-- The second norm's gradient and residual of one block, over the block's products and rows. -/
theorem pay9 (x0 x1 : FVec Ideal S512x2816 .bf16) (x2 : FVec Ideal S5632x1024 .bf16) (x3 : FVec Ideal S512x1024 .f32) (x6 : FVec Ideal S1x1024 .f32)
    (x4 : FVec Ideal S512x1024 .f32) (k : Fin 512) (j : Fin 1024) :
    k0_pay9 (F := Ideal) x0 x1 x2 x3 x6 x4 (ix2 k j) = x4 (ix2 k j)
      + RowNorm.back width eps (fun l => x3 (ix2 k l)) (fun l => k0_pay4 (F := Ideal) x0 x1 x2 (ix2 k l) * x6 (ix2 0 l)) j := by
  pointwise [k0_pay9, k0_pay5, k0_pay6, k0_pay7, RowNorm.back, RowNorm.rstd]

theorem pay14 (d x : FVec Ideal S512x1024 .f32) (g : FVec Ideal S1x1024 .f32) (k : Fin 512) (j : Fin 1024) :
    k0_pay14 d x g (ix2 k j) = RowNorm.back width eps (fun l => x (ix2 k l)) (fun l => d (ix2 k l) * g (ix2 0 l)) j := by
  pointwise [k0_pay14, k0_pay11, k0_pay12, RowNorm.back, RowNorm.rstd]

theorem dh_at (c : Dev nD) (t : Fin cfg0.N) (k : Fin 512) (j : Fin 1024) (hl : t.val * 512 + k.val < 8192) :
    dhBlk m c t (ix2 k j) = dhM m c (ix2 ⟨t.val * 512 + k.val, hl⟩ j) := by
  rw [dhBlk, pay9]
  simp only [df_at m c t k _ hl, h1Blk m c t k _ hl]
  rw [blk4]
  simp only [blk6]
  rfl

theorem point8 (c : Dev nD) (t : Fin cfg0.N) (y : S512x1024.Idx) :
    k0_pay10 (dhBlk m c t) y = dhM m c (((cfg0.win 8).blk t).view.emb y) := by
  idx_vars y
  rw [emb8, ← dh_at m c t y0 y1 (row_lt t y0)]
  pointwise [k0_pay10]

theorem point9 (c : Dev nD) (t : Fin cfg0.N) (y : S512x1024.Idx) :
    k0_pay14 (F := Ideal) (dhBlk m c t) (iblk m c 5 t) (iblk m c 7 t) y = dmM m c (((cfg0.win 9).blk t).view.emb y) := by
  idx_vars y
  rw [emb9, pay14]
  simp only [dh_at m c t y0 _ (row_lt t y0), blk5, blk7]
  rfl

theorem final8 (c : Dev nD) : (dats m 0 c).arrAt 8 cfg0.N = dhM m c := by
  refine (dats m 0 c).arrAt_eq_of_covers 8 _ (by decide +kernel) fun t _ y => ?_
  blk_simp
  rw [after0_8]
  by_cases h : t.val % 16 = 0
  · rw [outsAt0_A m c t h]; frame_out
    exact point8 m c t y
  · rw [outsAt0_B m c t h]; frame_out
    exact point8 m c t y

theorem final9 (c : Dev nD) : (dats m 0 c).arrAt 9 cfg0.N = dmM m c := by
  refine (dats m 0 c).arrAt_eq_of_covers 9 _ (by decide +kernel) fun t _ y => ?_
  blk_simp
  rw [after0_9]
  by_cases h : t.val % 16 = 0
  · rw [outsAt0_A m c t h]; frame_out
    exact point9 m c t y
  · rw [outsAt0_B m c t h]; frame_out
    exact point9 m c t y

theorem pay1 (w : FVec Ideal S512x1024 .f32) (acc : FVec Ideal S1x1024 .f32) (j : S1x1024.Idx) :
    k0_pay1 w acc j = acc j + ∑ r : Fin 512, w (ix2 r (j 1)) := by
  idx_vars j
  pointwise [k0_pay1]
theorem pay15 (w : FVec Ideal S512x1024 .f32) (acc : FVec Ideal S1x1024 .f32) (j : S1x1024.Idx) :
    k0_pay15 w acc j = acc j + ∑ r : Fin 512, w (ix2 r (j 1)) := by
  idx_vars j
  pointwise [k0_pay15]
theorem pay2 (j : S1x1024.Idx) : k0_pay2 (F := Ideal) j = 0 := by pointwise [k0_pay2]
theorem pay3 (j : S1x1024.Idx) : k0_pay3 (F := Ideal) j = 0 := by pointwise [k0_pay3]
theorem pay8 (x0 x1 : FVec Ideal S512x2816 .bf16) (x2 : FVec Ideal S5632x1024 .bf16) (x3 : FVec Ideal S512x1024 .f32) (k : Fin 512) (j : Fin 1024) :
    k0_pay8 (F := Ideal) x0 x1 x2 x3 (ix2 k j) = k0_pay4 (F := Ideal) x0 x1 x2 (ix2 k j) * (x3 (ix2 k j) * RowNorm.rstd width eps fun l => x3 (ix2 k l)) := by
  pointwise [k0_pay8, k0_pay5, k0_pay6, k0_pay7, RowNorm.rstd]
theorem pay13 (d x : FVec Ideal S512x1024 .f32) (k : Fin 512) (j : Fin 1024) :
    k0_pay13 d x (ix2 k j) = d (ix2 k j) * (x (ix2 k j) * RowNorm.rstd width eps fun l => x (ix2 k l)) := by
  pointwise [k0_pay13, k0_pay11, k0_pay12, RowNorm.rstd]

theorem term10 (c : Dev nD) (t : Fin cfg0.N) (k : Fin 512) (j : Fin 1024) (hl : t.val * 512 + k.val < 8192) :
    k0_pay8 (F := Ideal) (iblk m c 0 t) (iblk m c 1 t) (iblk m c 2 t) (iblk m c 3 t) (ix2 k j)
      = dgfRow (A0 m c) (A1 m c) (A2 m c) (A3 m c) (A5 m c) (A7 m c) ⟨t.val * 512 + k.val, hl⟩ j := by
  rw [pay8]
  simp only [df_at m c t k _ hl, h1Blk m c t k _ hl]
  rfl

theorem term11 (c : Dev nD) (t : Fin cfg0.N) (k : Fin 512) (j : Fin 1024) (hl : t.val * 512 + k.val < 8192) :
    k0_pay13 (F := Ideal) (dhBlk m c t) (iblk m c 5 t) (ix2 k j)
      = dgmRow (A0 m c) (A1 m c) (A2 m c) (A3 m c) (A4 m c) (A5 m c) (A6 m c) (A7 m c) ⟨t.val * 512 + k.val, hl⟩ j := by
  rw [pay13]
  simp only [dh_at m c t k _ hl]
  simp only [blk5]
  rfl

theorem final10 (c : Dev nD) : (dats m 0 c).arrAt 10 cfg0.N = dgfM m c := by
  refine (dats m 0 c).arrAt_eq_of_after_last 10 t0_15 (by decide +kernel) _ fun y => ?_
  blk_simp
  rw [after0_10, Pipeline.eq_sum_fin_of_reset_step_apply_last (fun n h => (outsAt0 m c n h).2.2.1) 16 (fun _ => 0) _
      (fun t h j => by rw [outsAt0_A m c t h]; frame_out; rw [pay15, pay2])
      (fun t h j => by rw [outsAt0_B m c t h]; frame_out; rw [pay15])
      (le_of_eq N_0) t0_15 rfl y, zero_add]
  exact Fin.sum_mul_add_congr fun t k hl => term10 m c t k (y 1) hl

theorem final11 (c : Dev nD) : (dats m 0 c).arrAt 11 cfg0.N = dgmM m c := by
  refine (dats m 0 c).arrAt_eq_of_after_last 11 t0_15 (by decide +kernel) _ fun y => ?_
  blk_simp
  rw [after0_11, Pipeline.eq_sum_fin_of_reset_step_apply_last (fun n h => (outsAt0 m c n h).2.2.2) 16 (fun _ => 0) _
      (fun t h j => by rw [outsAt0_A m c t h]; frame_out; rw [pay1, pay3])
      (fun t h j => by rw [outsAt0_B m c t h]; frame_out; rw [pay1])
      (le_of_eq N_0) t0_15 rfl y, zero_add]
  exact Fin.sum_mul_add_congr fun t k hl => term11 m c t k (y 1) hl

end Cert.Kernel5Ideal.Ffn

end
-- ==== Proof.FfnEquation.lean ====
/- The feed-forward block's reference: its results, read at an index, are the same functions of the arguments. -/
module

public import proofs.«01_k».proof.Proof.FfnValue
public import proofs.«01_k».proof.Proof.Gen.Reference5Ideal.Read

@[expose] public section

set_option maxRecDepth 16384

noncomputable section

namespace Cert.Kernel5Ideal.Ffn

open Idealize.ShloMosaic Idealize.ShloMosaic.TcCoe Idealize.SL.Sem Cert.Reference5Ideal Cert.Reference5Ideal.Gen Cert.Reference5Ideal.Read

variable (Dg Du : FVec Ideal S8192x2816 .bf16) (X : FVec Ideal S1x8192x1024 .f32) (Mx H : FVec Ideal S8192x1024 .f32)
  (Gm Gf : FVec Ideal S1x1024 .f32) (W : FVec Ideal S1x1024x5632 .f32)

theorem ref20 (r : Fin 8192) (j : Fin 1024) : val_main_v20 (F := Ideal) X Mx Gm (ix2 r j) = h1 X Mx Gm r j := by
  pointwise [val_main_cst, val_main_cst_0, val_main_cst_1, val_main_v2, val_main_v3, val_main_v4, val_main_v5, val_main_v6, val_main_v7,
    val_main_v8, val_main_v9, val_main_v10, val_main_v11, val_main_v15, val_main_v16, val_main_v17, val_main_v18, val_main_v19,
    val_main_v20, h1, RowNorm.rstd]

theorem ref40 (r : Fin 8192) (j : Fin 1024) : val_main_v40 (F := Ideal) Dg Du W (ix2 r j) = df Dg Du W r j := by
  pointwise [val_main_v0, val_main_v1, val_main_v38, val_main_v40, df]

theorem ref61 (r : Fin 8192) (j : Fin 1024) :
    val_main_v61 (F := Ideal) Dg Du X Mx H Gm Gf W (ix2 r j) = dh Dg Du X Mx H Gm Gf W (ix2 r j) := by
  pointwise [val_main_cst_3, val_main_cst_4, val_main_cst_5, val_main_cst_6, val_main_cst_9, val_main_cst_10, val_main_cst_11, val_main_v21,
    val_main_v22, val_main_v23, val_main_v24, val_main_v25, val_main_v26, val_main_v27, val_main_v28, val_main_v29,
    val_main_v30, val_main_v31, val_main_v32, val_main_v35, val_main_v44, val_main_v45, val_main_v47, val_main_v48,
    val_main_v49, val_main_v50, val_main_v51, val_main_v52, val_main_v53, val_main_v54, val_main_v55, val_main_v56,
    val_main_v57, val_main_v58, val_main_v59, val_main_v60, val_main_v61]
  simp only [Fin.sum_univ_one, ref20, ref40]
  refine Eq.trans ?_ (congrArg (H (ix2 r j) + ·) (RowNorm.back_lit (h1 X Mx Gm r) (fun k => df Dg Du W r k * Gf (ix2 0 k)) j).symm)
  rw [add_assoc, add_assoc]
  rfl

theorem ref86 (r : Fin 8192) (j : Fin 1024) :
    val_main_v86 (F := Ideal) Dg Du X Mx H Gm Gf W (ix2 r j) = dm Dg Du X Mx H Gm Gf W (ix2 r j) := by
  pointwise [val_main_cst, val_main_cst_0, val_main_cst_1, val_main_cst_2, val_main_cst_14, val_main_cst_15, val_main_cst_16, val_main_v3,
    val_main_v4, val_main_v5, val_main_v6, val_main_v7, val_main_v8, val_main_v9, val_main_v10, val_main_v11, val_main_v12,
    val_main_v13, val_main_v14, val_main_v17, val_main_v64, val_main_v68, val_main_v69, val_main_v71, val_main_v72,
    val_main_v73, val_main_v74, val_main_v75, val_main_v76, val_main_v77, val_main_v78, val_main_v79, val_main_v80,
    val_main_v81, val_main_v82, val_main_v83, val_main_v84, val_main_v86]
  simp only [Fin.sum_univ_one, ref61]
  refine Eq.trans ?_ (RowNorm.back_lit (fun k => Mx (ix2 r k)) (fun k => dh Dg Du X Mx H Gm Gf W (ix2 r k) * Gm (ix2 0 k)) j).symm
  rw [add_assoc]
  rfl

theorem ref62 (i : S1x1024.Idx) : val_main_v62 (F := Ideal) Dg Du X Mx Gm W i = dgf Dg Du X Mx Gm W i := by
  idx_vars i
  pointwise [val_main_cst_3, val_main_cst_4, val_main_cst_5, val_main_cst_7, val_main_cst_8, val_main_v22, val_main_v23, val_main_v24,
    val_main_v25, val_main_v26, val_main_v27, val_main_v28, val_main_v29, val_main_v33, val_main_v34, val_main_v41,
    val_main_v42, val_main_v43, val_main_v46, val_main_v62, dgf, dgfRow, RowNorm.rstd]
  simp only [Fin.sum_univ_one, ref20, ref40]
  exact Finset.sum_congr rfl fun r _ => mul_comm _ _

theorem ref85 (i : S1x1024.Idx) : val_main_v85 (F := Ideal) Dg Du X Mx H Gm Gf W i = dgm Dg Du X Mx H Gm Gf W i := by
  idx_vars i
  pointwise [val_main_cst, val_main_cst_0, val_main_cst_1, val_main_cst_12, val_main_cst_13, val_main_v4, val_main_v5, val_main_v6,
    val_main_v7, val_main_v8, val_main_v9, val_main_v10, val_main_v11, val_main_v15, val_main_v16, val_main_v64, val_main_v65,
    val_main_v66, val_main_v67, val_main_v70, val_main_v85, dgm, dgmRow, RowNorm.rstd]
  simp only [Fin.sum_univ_one, ref61]
  exact Finset.sum_congr rfl fun r _ => mul_comm _ _

theorem ref63_fun : val_main_v63 (F := Ideal) Dg Du X Mx H Gm Gf W = dh Dg Du X Mx H Gm Gf W := by
  funext i
  idx_vars i
  refine Eq.trans ?_ (ref61 Dg Du X Mx H Gm Gf W _ _)
  pointwise [val_main_v63]

theorem ref86_fun : val_main_v86 (F := Ideal) Dg Du X Mx H Gm Gf W = dm Dg Du X Mx H Gm Gf W := by
  funext i
  idx_vars i
  exact ref86 Dg Du X Mx H Gm Gf W _ _

theorem ref62_fun : val_main_v62 (F := Ideal) Dg Du X Mx Gm W = dgf Dg Du X Mx Gm W := funext (ref62 Dg Du X Mx Gm W)

theorem ref85_fun : val_main_v85 (F := Ideal) Dg Du X Mx H Gm Gf W = dgm Dg Du X Mx H Gm Gf W := funext (ref85 Dg Du X Mx H Gm Gf W)

end Cert.Kernel5Ideal.Ffn

end
-- ==== Proof.InProj.lean ====
/- The first norm and the product with w_in, forward: the call's two result arrays as functions of its arguments, and the same of the
   reference. -/
module

public import proofs.«01_k».proof.Proof.Gen.Kernel7Ideal.Value
public import proofs.«01_k».proof.Proof.Gen.Reference7Ideal.Read
public import proofs.«01_k».proof.Proof.RowNorm
public import Idealize.ShloMosaic.Lib.Pipeline.ValueKit
public import Idealize.ShloMosaic.Lib.Claim

@[expose] public section

set_option maxRecDepth 16384

noncomputable section

namespace Cert.Kernel7Ideal.InProj

open Cert.Kernel7Ideal Cert.Kernel7Ideal.Gen Cert.Reference7Ideal.Read Idealize.ShloMosaic Idealize.ShloMosaic.TcCoe Idealize.SL.Sem
open Idealize.ShloMosaic.Pipeline (Dat)

variable (X : FVec Ideal S1x8192x1024 .f32) (G : FVec Ideal S1x1024 .f32) (W : FVec Ideal S1x1024x2560 .f32)

/-- The norm's divisor and offset as the programs spell them. -/
abbrev width : EReal := Ideal.ofBits .f32 1149239296#32
abbrev eps : EReal := Ideal.ofBits .f32 897988541#32

/-- The normed row times the gain. -/
def normed : FVec Ideal S8192x1024 .bf16 := fun i =>
  X (ix3 0 (i 0) (i 1)) * RowNorm.rstd width eps (fun k => X (ix3 0 (i 0) k)) * G (ix2 0 (i 1))

/-- Its product with the weight. -/
def proj : FVec Ideal S8192x2560 .f32 := fun i => ∑ k : Fin 1024, normed X G (ix2 (i 0) k) * W (ix3 0 k (i 1))

theorem idx : ∀ t : Fin cfg0.N, win0_0.index t = ![t.val, 0] ∧ win0_1.index t = ![0, 0] ∧ win0_2.index t = ![0, 0]
    ∧ win0_3.index t = ![t.val, 0] ∧ win0_4.index t = ![t.val, 0] := (by decide +kernel : ∀ t : Fin grid0.N, _)

variable (m : (ℓ : Loc nD τ sig) → Buf (Elt Ideal) ℓ)

theorem final3 (c : Dev nD) : (dats m 0 c).arrAt 3 cfg0.N
    = proj (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [k0_pay3, k0_pay1, proj, normed, RowNorm.rstd]
  blk_point [iblk, V, idx t]

theorem final4 (c : Dev nD) : (dats m 0 c).arrAt 4 cfg0.N
    = normed (m ((c : Thread nD τ).loc main_arg0)) (m ((c : Thread nD τ).loc main_arg1)) := by
  refine (dats m 0 c).arrAt_eq_of_covers 4 _ (by decide +kernel) fun t _ y => ?_
  blk_simp
  rw [after0_4]
  frame_out
  pointwise [k0_pay2, k0_pay1, normed, RowNorm.rstd]
  blk_point [iblk, V, idx t]

theorem ref17 : val_main_v17 (F := Ideal) X G = normed X G := by
  funext i
  idx_vars i
  pointwise [val_main_v0, val_main_v1, val_main_v2, val_main_cst, val_main_v3, val_main_v4, val_main_cst_0, val_main_v5, val_main_v6,
    val_main_cst_1, val_main_v7, val_main_v8, val_main_v9, val_main_v10, val_main_v11, val_main_v12, val_main_v13, val_main_v14,
    val_main_v17, normed, RowNorm.rstd]

theorem ref16 : val_main_v16 (F := Ideal) X G W = proj X G W := by
  funext i
  idx_vars i
  pointwise [val_main_v0, val_main_v1, val_main_v2, val_main_cst, val_main_v3, val_main_v4, val_main_cst_0, val_main_v5, val_main_v6,
    val_main_cst_1, val_main_v7, val_main_v8, val_main_v9, val_main_v10, val_main_v11, val_main_v12, val_main_v13, val_main_v14,
    val_main_v15, val_main_v16, proj, normed, RowNorm.rstd]

end Cert.Kernel7Ideal.InProj

end
-- ==== Proof.DownProj.lean ====
/- The product with w_down, the last norm and the residual, forward: the call's two result arrays as functions of its arguments, and the
   same of the reference. -/
module

public import proofs.«01_k».proof.Proof.Gen.Kernel8Ideal.Value
public import proofs.«01_k».proof.Proof.Gen.Reference8Ideal.Read
public import proofs.«01_k».proof.Proof.RowNorm
public import Idealize.ShloMosaic.Lib.Pipeline.ValueKit
public import Idealize.ShloMosaic.Lib.Claim

@[expose] public section

set_option maxRecDepth 16384

noncomputable section

namespace Cert.Kernel8Ideal.DownProj

open Cert.Kernel8Ideal Cert.Kernel8Ideal.Gen Cert.Reference8Ideal.Read Idealize.ShloMosaic Idealize.ShloMosaic.TcCoe Idealize.SL.Sem
open Idealize.ShloMosaic.Pipeline (Dat)

variable (A : FVec Ideal S8192x2816 .bf16) (W : FVec Ideal S1x2816x1024 .f32) (H : FVec Ideal S8192x1024 .f32) (G : FVec Ideal S1x1024 .f32)

/-- The norm's divisor and offset as the programs spell them. -/
abbrev width : EReal := Ideal.ofBits .f32 1149239296#32
abbrev eps : EReal := Ideal.ofBits .f32 897988541#32

/-- The product. -/
def prod : FVec Ideal S8192x1024 .f32 := fun i => ∑ k : Fin 2816, A (ix2 (i 0) k) * W (ix3 0 k (i 1))

/-- The residual plus the normed product times the gain. -/
def sum : FVec Ideal S8192x1024 .f32 := fun i =>
  H i + prod A W i * RowNorm.rstd width eps (fun k => prod A W (ix2 (i 0) k)) * G (ix2 0 (i 1))

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] := (by decide +kernel : ∀ t : Fin grid0.N, _)

variable (m : (ℓ : Loc nD τ sig) → Buf (Elt Ideal) ℓ)

theorem final4 (c : Dev nD) : (dats m 0 c).arrAt 4 cfg0.N
    = prod (m ((c : Thread nD τ).loc main_arg0)) (m ((c : Thread nD τ).loc main_arg1)) := by
  refine (dats m 0 c).arrAt_eq_of_covers 4 _ (by decide +kernel) fun t _ y => ?_
  blk_simp
  rw [after0_4]
  frame_out
  pointwise [k0_pay2, k0_pay1, prod]
  blk_point [iblk, V, idx t]

theorem final5 (c : Dev nD) : (dats m 0 c).arrAt 5 cfg0.N
    = sum (m ((c : Thread nD τ).loc main_arg0)) (m ((c : Thread nD τ).loc main_arg1)) (m ((c : Thread nD τ).loc main_arg2))
      (m ((c : Thread nD τ).loc main_arg3)) := by
  refine (dats m 0 c).arrAt_eq_of_covers 5 _ (by decide +kernel) fun t _ y => ?_
  blk_simp
  rw [after0_5]
  frame_out
  pointwise [k0_pay3, k0_pay1, sum, prod, RowNorm.rstd]
  blk_point [iblk, V, idx t]

theorem ref2 : val_main_v2 (F := Ideal) A W = prod A W := by
  funext i
  idx_vars i
  pointwise [val_main_v0, val_main_v1, val_main_v2, prod]

theorem ref17 : val_main_v17 (F := Ideal) A W H G = sum A W H G := by
  funext i
  idx_vars i
  pointwise [val_main_v3, val_main_v4, val_main_cst, val_main_v5, val_main_v6, val_main_cst_0, val_main_v7, val_main_v8,
    val_main_cst_1, val_main_v9, val_main_v10, val_main_v11, val_main_v12, val_main_v13, val_main_v14, val_main_v15,
    val_main_v16, val_main_v17, ref2, sum, RowNorm.rstd]

end Cert.Kernel8Ideal.DownProj

end
-- ==== Proof.GateUp.lean ====
/- The product with w_gate_up and the gated linear unit, forward: the call's three result arrays as functions of its arguments, and the
   same of the reference. -/
module

public import proofs.«01_k».proof.Proof.Gen.Kernel9Ideal.Value
public import proofs.«01_k».proof.Proof.Gen.Reference9Ideal.Read
public import proofs.«01_k».proof.Proof.RowNorm
public import proofs.«01_k».proof.Proof.Sigmoid
public import Idealize.ShloMosaic.Lib.Pipeline.ValueKit
public import Idealize.ShloMosaic.Lib.Claim

@[expose] public section

set_option maxRecDepth 16384

noncomputable section

namespace Cert.Kernel9Ideal.GateUp

open Cert.Kernel9Ideal Cert.Kernel9Ideal.Gen Cert.Reference9Ideal.Read Cert.Sigmoid Idealize.ShloMosaic Idealize.ShloMosaic.TcCoe Idealize.SL.Sem
open Idealize.ShloMosaic.Pipeline (Dat)

variable (X : FVec Ideal S8192x1024 .bf16) (W : FVec Ideal S1x1024x5632 .f32)

/-- The two halves of the product with the weight. -/
def gate : FVec Ideal S8192x2816 .bf16 := fun i =>
  ∑ k : Fin 1024, X (ix2 (i 0) k) * W (ix3 0 k ⟨(i 1).val, Nat.lt_of_lt_of_le (i 1).isLt (by decide)⟩)
def up : FVec Ideal S8192x2816 .bf16 := fun i =>
  ∑ k : Fin 1024, X (ix2 (i 0) k) * W (ix3 0 k ⟨(i 1).val + 2816, Nat.add_lt_add_right (i 1).isLt 2816⟩)

/-- The gate's logistic function through the tangent. -/
def sg (x : EReal) : EReal :=
  Ideal.ofBits .f32 1056964608#32 * Ideal.tanh (Ideal.ofBits .f32 1056964608#32 * x) + Ideal.ofBits .f32 1056964608#32

/-- The unit's product. -/
def act : FVec Ideal S8192x2816 .bf16 := fun i => gate X W i * sg (gate X W i) * up X W i

theorem idx : ∀ t : Fin cfg0.N, win0_0.index t = ![t.val % 16, 0] ∧ win0_1.index t = ![t.val / 16, 0] ∧ win0_2.index t = ![t.val / 16 + 2, 0]
    ∧ win0_3.index t = ![t.val % 16, t.val / 16] ∧ win0_4.index t = ![t.val % 16, t.val / 16] ∧ win0_5.index t = ![t.val % 16, t.val / 16] :=
  (by decide +kernel : ∀ t : Fin grid0.N, _)

variable (m : (ℓ : Loc nD τ sig) → Buf (Elt Ideal) ℓ)

theorem final3 (c : Dev nD) : (dats m 0 c).arrAt 3 cfg0.N
    = gate (m ((c : Thread nD τ).loc main_arg0)) (m ((c : Thread nD τ).loc main_arg1)) := by
  refine (dats m 0 c).arrAt_eq_of_covers 3 _ (by decide +kernel) fun t _ y => ?_
  blk_simp
  rw [after0_3]
  frame_out
  pointwise [k0_pay3, k0_pay1, gate]
  blk_point [iblk, V, idx t]

theorem final4 (c : Dev nD) : (dats m 0 c).arrAt 4 cfg0.N
    = up (m ((c : Thread nD τ).loc main_arg0)) (m ((c : Thread nD τ).loc main_arg1)) := by
  refine (dats m 0 c).arrAt_eq_of_covers 4 _ (by decide +kernel) fun t _ y => ?_
  blk_simp
  rw [after0_4]
  frame_out
  pointwise [k0_pay4, k0_pay2, up]
  blk_point [iblk, V, idx t]

theorem final5 (c : Dev nD) : (dats m 0 c).arrAt 5 cfg0.N
    = act (m ((c : Thread nD τ).loc main_arg0)) (m ((c : Thread nD τ).loc main_arg1)) := by
  refine (dats m 0 c).arrAt_eq_of_covers 5 _ (by decide +kernel) fun t _ y => ?_
  blk_simp
  rw [after0_5]
  frame_out
  pointwise [k0_pay5, k0_pay1, k0_pay2, act, gate, up, sg]
  blk_point [iblk, V, idx t]

theorem ref3 : val_main_v3 (F := Ideal) X W = gate X W := by
  funext i
  idx_vars i
  pointwise [val_main_v0, val_main_v1, val_main_v2, val_main_v3, gate]

theorem ref4 : val_main_v4 (F := Ideal) X W = up X W := by
  funext i
  idx_vars i
  pointwise [val_main_v0, val_main_v1, val_main_v2, val_main_v4, up]
  exact Finset.sum_congr rfl fun k _ => congrArg _ (congrArg W (congrArg (ix3 0 k) (Fin.ext (Nat.add_comm _ _))))

theorem ref7 : val_main_v7 (F := Ideal) X W = gate X W := by
  funext i
  pointwise [val_main_v7, ref3]
theorem ref8 : val_main_v8 (F := Ideal) X W = up X W := by
  funext i
  pointwise [val_main_v8, ref4]

theorem ref9 : val_main_v9 (F := Ideal) X W = act X W := by
  funext i
  pointwise [val_main_call0_v0, val_main_call0_v1, val_main_call0_v2, val_main_call0_v3, val_main_call0_v4, val_main_call0_v5,
    val_main_call0_cst, val_main_call0_cst_0, val_main_v5, val_main_v6, val_main_v9, ref3, ref4, ofBits_one, act]
  rw [eq_tanh]
  rfl

end Cert.Kernel9Ideal.GateUp

end
-- ==== Proof.MixBlock.lean ====
/- The forward call of the mixing block's end: what one grid point leaves in each block, as functions of the blocks it reads. -/
module

public import proofs.«01_k».proof.Proof.Gen.Kernel10Ideal.Value
public import Idealize.ShloMosaic.Lib.Pipeline.ValueKit
public import Idealize.ShloMosaic.Lib.Pipeline.ReadBack

@[expose] public section

set_option maxRecDepth 16384

noncomputable section

namespace Cert.Kernel10Ideal.Mix

open Cert.Kernel10Ideal Cert.Kernel10Ideal.Gen Idealize.ShloMosaic Idealize.ShloMosaic.TcCoe Idealize.SL.Sem

variable {F : FTy → Type} [FloatOps F] (m : (ℓ : Loc nD τ sig) → Buf (Elt F) ℓ)

/-- The blocks one grid point reads: the attention's rows, both halves of the projection, the residual, the gate norm's gain and offset,
    the mixing weights and biases, the two groups' gains, the output weight and the last two gains. -/
structure Ins (F : FTy → Type) where
  a : Vec F S512x512 .f32
  u : Vec F S512x512 .f32
  z : Vec F S512x512 .f32
  x : Vec F S512x1024 .f32
  lng : Vec F S1x128 .f32
  lnb : Vec F S1x128 .f32
  w : Vec F S4x128x128 .f32
  b : Vec F S128x128 .f32
  ga : Vec F S1x512 .f32
  gs : Vec F S1x512 .f32
  wo : Vec F S1024x1024 .bf16
  gm : Vec F S1x1024 .f32
  gf : Vec F S1x1024 .f32

theorem inT {g c : ℕ} (hg : g < 4) (hc : c < 4) : ∀ a, (![128 * c, 128 * g] : Fin 2 → ℕ) a + S128x128.size a ≤ S512x512.size a := by
  intro a; fin_cases a <;> simp <;> omega
theorem inB {g : ℕ} (hg : g < 4) : ∀ a, (![0, g] : Fin 2 → ℕ) a + S128x1.size a ≤ S128x128.size a := by
  intro a; fin_cases a <;> simp <;> omega
theorem inW {g : ℕ} (hg : g < 4) : ∀ a, (![g, 0, 0] : Fin 3 → ℕ) a + S1x128x128.size a ≤ S4x128x128.size a := by
  intro a; fin_cases a <;> simp <;> omega
theorem inR {k : ℕ} (hk : k < 2) : ∀ a, (![512 * k, 0] : Fin 2 → ℕ) a + S512x1024.size a ≤ S1024x1024.size a := by
  intro a; fin_cases a <;> simp <;> omega
theorem inC {k : ℕ} (hk : k < 2) : ∀ a, (![0, 512 * k] : Fin 2 → ℕ) a + S512x512.size a ≤ S512x1024.size a := by
  intro a; fin_cases a <;> simp <;> omega

/-- Group `g`'s columns at chunk `c`'s rows, its bias column, its weight; the output weight's rows and the groups' columns of either half. -/
abbrev tile (g c : ℕ) (hg : g < 4) (hc : c < 4) : Rect S512x512 := Rect.unit ![128 * c, 128 * g] S128x128.size (inT hg hc)
abbrev bias (g : ℕ) (hg : g < 4) : Rect S128x128 := Rect.unit ![0, g] S128x1.size (inB hg)
abbrev grp (g : ℕ) (hg : g < 4) : Rect S4x128x128 := Rect.unit ![g, 0, 0] S1x128x128.size (inW hg)
abbrev rows (k : ℕ) (hk : k < 2) : Rect S1024x1024 := Rect.unit ![512 * k, 0] S512x1024.size (inR hk)
abbrev cols (k : ℕ) (hk : k < 2) : Rect S512x1024 := Rect.unit ![0, 512 * k] S512x512.size (inC hk)

variable (X : Ins F)

def ut (g c : ℕ) (hg : g < 4) (hc : c < 4) : Vec F S128x128 .f32 := View.ld X.u (tile g c hg hc)
def zt (g c : ℕ) (hg : g < 4) (hc : c < 4) : Vec F S128x128 .f32 := View.ld X.z (tile g c hg hc)

/-- One tile of the gated product. -/
def tileV (g c : ℕ) (hg : g < 4) (hc : c < 4) : FVec F S128x128 .f32 :=
  k0_pay4 (k0_pay2 (View.ld X.w (grp g hg))) X.lng X.lnb (k0_pay3 (zt X g c hg hc)) (View.ld X.b (bias g hg)) (ut X g c hg hc)

def tileP (g c : ℕ) (hg : g < 4) (hc : c < 4) : View.Piece (Elt F) S512x512 .f32 := ⟨tile g c hg hc, tileV X g c hg hc⟩

/-- The sixteen tiles, the last stored first. -/
abbrev tiles {A : Type} (f : (g c : ℕ) → g < 4 → c < 4 → A) : List A :=
  [f 3 3 (by decide) (by decide), f 3 2 (by decide) (by decide), f 3 1 (by decide) (by decide), f 3 0 (by decide) (by decide), f 2 3 (by decide) (by decide), f 2 2 (by decide) (by decide), f 2 1 (by decide) (by decide), f 2 0 (by decide) (by decide), f 1 3 (by decide) (by decide), f 1 2 (by decide) (by decide), f 1 1 (by decide) (by decide), f 1 0 (by decide) (by decide), f 0 3 (by decide) (by decide), f 0 2 (by decide) (by decide), f 0 1 (by decide) (by decide), f 0 0 (by decide) (by decide)]

/-- The whole block of the gated product. -/
def gated : Vec F S512x512 .f32 := View.canon (tiles (tileP X))

/-- The two normed groups, and their product with the output weight's halves. -/
def an : FVec F S512x512 .bf16 := k0_pay46 X.a X.ga
def sn : FVec F S512x512 .bf16 := k0_pay47 (gated X) X.gs
def mixed : FVec F S512x1024 .f32 := k0_pay51 (an X) (sn X) (View.ld X.wo (rows 0 (by decide))) (View.ld X.wo (rows 1 (by decide)))

/-- A load of the whole block reads the pieces stored into it. -/
theorem read_all {sig : RefSig} {κ : Kind} {sp : Space} (v : View sig κ sp S512x512 .f32) (L : List (View.Piece (Elt F) S512x512 .f32))
    (inb : ∀ a, (![0, 0] : Fin 2 → ℕ) a + (![512, 512] : Fin 2 → ℕ) a ≤ S512x512.size a) :
    v.readCov L (Rect.unit (s := S512x512) ![0, 0] ![512, 512] inb).toLoadRect = View.canon L :=
  (View.readCov_eq_canon' v L _).trans (View.ld_unit_lit' (S := S512x512) inb (View.canon L) (by intro a; fin_cases a <;> rfl))

/-- A grid point's blocks. -/
abbrev ins (c : Dev nD) (t : Fin cfg0.N) : Ins F := ⟨iblk m c 0 t, iblk m c 1 t, iblk m c 2 t, iblk m c 3 t, iblk m c 4 t, iblk m c 5 t, iblk m c 6 t,
  iblk m c 7 t, iblk m c 8 t, iblk m c 9 t, iblk m c 10 t, iblk m c 11 t, iblk m c 12 t⟩

set_option maxHeartbeats 2000000
theorem at13 (c : Dev nD) (t : Fin cfg0.N) : (outsAt0 m c t).1 = gated (ins m c t) := by
  unfold outsAt0 ins
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10, iblk m c 11 t = x11, iblk m c 12 t = x12
  frame_out
  rfl
theorem at14 (c : Dev nD) (t : Fin cfg0.N) : (outsAt0 m c t).2.1 = View.canon [⟨cols 1 (by decide), k0_pay49 (gated (ins m c t)) (ins m c t).gs⟩, ⟨cols 0 (by decide), k0_pay48 (ins m c t).a (ins m c t).ga⟩] := by
  unfold outsAt0 ins
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10, iblk m c 11 t = x11, iblk m c 12 t = x12
  frame_out [read_all]
  rfl
theorem at15 (c : Dev nD) (t : Fin cfg0.N) : (outsAt0 m c t).2.2.1 = mixed (ins m c t) := by
  unfold outsAt0 ins
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10, iblk m c 11 t = x11, iblk m c 12 t = x12
  frame_out [read_all]
  rfl
theorem at16 (c : Dev nD) (t : Fin cfg0.N) : (outsAt0 m c t).2.2.2.1 = k0_pay53 (an (ins m c t)) (sn (ins m c t)) (View.ld (ins m c t).wo (rows 0 (by decide))) (View.ld (ins m c t).wo (rows 1 (by decide))) (ins m c t).x (ins m c t).gm := by
  unfold outsAt0 ins
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10, iblk m c 11 t = x11, iblk m c 12 t = x12
  frame_out [read_all]
  rfl
theorem at17 (c : Dev nD) (t : Fin cfg0.N) : (outsAt0 m c t).2.2.2.2 = k0_pay1 (k0_pay54 (an (ins m c t)) (sn (ins m c t)) (View.ld (ins m c t).wo (rows 0 (by decide))) (View.ld (ins m c t).wo (rows 1 (by decide))) (ins m c t).x (ins m c t).gm) (ins m c t).gf := by
  unfold outsAt0 ins
  generalize iblk m c 0 t = x0, iblk m c 1 t = x1, iblk m c 2 t = x2, iblk m c 3 t = x3, iblk m c 4 t = x4, iblk m c 5 t = x5,
    iblk m c 6 t = x6, iblk m c 7 t = x7, iblk m c 8 t = x8, iblk m c 9 t = x9, iblk m c 10 t = x10, iblk m c 11 t = x11, iblk m c 12 t = x12
  frame_out [read_all]
  rfl

end Cert.Kernel10Ideal.Mix

end
-- ==== Proof.MixForward.lean ====
/- The forward call of the mixing block's end: its result arrays as functions of the argument arrays, in the extended reals. -/
module

public import proofs.«01_k».proof.Proof.RowNorm
public import proofs.«01_k».proof.Proof.SguReal

@[expose] public section

noncomputable section

namespace Cert.Mix

open Idealize.ShloMosaic

/-- The gate's function through the tangent of its cubic, with the literals the programs spell. -/
def gl (x : EReal) : EReal :=
  Ideal.ofBits .f32 0x3F000000#32 * x
    * (1 + Ideal.tanh (Ideal.ofBits .f32 0x3F4C422A#32 * (x + Ideal.ofBits .f32 0x3D372713#32 * x * x * x)))

/-- The same with the factors in another order. -/
theorem gl_eq (x : EReal) : gl x = x * (Ideal.ofBits .f32 0x3F000000#32
    * (1 + Ideal.tanh (Ideal.ofBits .f32 0x3F4C422A#32 * (x + Ideal.ofBits .f32 0x3D372713#32 * (x * x * x))))) := by
  rw [gl, mul_comm _ x, mul_assoc x, mul_assoc (Ideal.ofBits .f32 0x3D372713#32 * x) x x, mul_assoc _ x (x * x), mul_assoc x x x]

/-- The divisors and the offset of the norms as the programs spell them. -/
abbrev n128 : EReal := Ideal.ofBits .f32 0x43000000#32
abbrev n512 : EReal := Ideal.ofBits .f32 0x44000000#32
abbrev n1024 : EReal := Ideal.ofBits .f32 0x44800000#32
abbrev eps : EReal := Ideal.ofBits .f32 0x358637BD#32

/-- A row less its mean, and that over its root mean square with gain and offset. -/
def xc (f : Fin 128 → EReal) (j : Fin 128) : EReal := f j - Ideal.div (∑ k, f k) n128
def zn (lg lb f : Fin 128 → EReal) (j : Fin 128) : EReal := xc f j * RowNorm.rstd n128 eps (xc f) * lg j + lb j

/-- One entry of the gated product: the gated first half times the mixed rows of the normed second half. -/
def gate (u : EReal) (w : Fin 128 → EReal) (i : Fin 128) (lg lb : Fin 128 → EReal) (z : Fin 128 → Fin 128 → EReal) (b : EReal) (j : Fin 128) : EReal :=
  gl u * (∑ k : Fin 128, (if k ≤ i then w k else 0) * zn lg lb (fun j => gl (z k j)) j + b)

/-- A row over its root mean square times a gain. -/
def normed {n : ℕ} (N : EReal) (f g : Fin n → EReal) (j : Fin n) : EReal := f j * RowNorm.rstd N eps f * g j

abbrev row (n : Fin 64) (i : Fin 128) : Fin 8192 := ⟨n.val * 128 + i.val, by omega⟩
abbrev col (g : Fin 4) (j : Fin 128) : Fin 512 := ⟨g.val * 128 + j.val, by omega⟩

/-- The argument arrays. -/
structure Args where
  a : Fin 8192 → Fin 512 → EReal
  p : Fin 8192 → Fin 2560 → EReal
  x : Fin 8192 → Fin 1024 → EReal
  lg : Fin 128 → EReal
  lb : Fin 128 → EReal
  w : Fin 4 → Fin 128 → Fin 128 → EReal
  b : Fin 4 → Fin 128 → EReal
  ga : Fin 512 → EReal
  gs : Fin 512 → EReal
  wo : Fin 1024 → Fin 1024 → EReal
  gm : Fin 1024 → EReal
  gf : Fin 1024 → EReal

variable (R : Args)

/-- The gated product by chunk, row of the chunk, group and column of the group, and by row and column. -/
def sguAt (n : Fin 64) (i : Fin 128) (g : Fin 4) (j : Fin 128) : EReal :=
  gate (R.p (row n i) ⟨1536 + (g.val * 128 + j.val), by omega⟩) (R.w g i) i R.lg R.lb
    (fun k j => R.p (row n k) ⟨2048 + (g.val * 128 + j.val), by omega⟩) (R.b g i) j
def sgu (r : Fin 8192) (j : Fin 512) : EReal :=
  sguAt R ⟨r.val / 128, by omega⟩ ⟨r.val % 128, by omega⟩ ⟨j.val / 128, by omega⟩ ⟨j.val % 128, by omega⟩

/-- The two groups side by side, each normed. -/
def an (r : Fin 8192) : Fin 512 → EReal := normed n512 (R.a r) R.ga
def sn (r : Fin 8192) : Fin 512 → EReal := normed n512 (sgu R r) R.gs
def groups (r : Fin 8192) (j : Fin 1024) : EReal := if h : j.val < 512 then an R r ⟨j.val, h⟩ else sn R r ⟨j.val - 512, by omega⟩

/-- The product with the output weight, the residual stream and its norm. -/
def mixed (r : Fin 8192) (j : Fin 1024) : EReal :=
  ∑ k : Fin 512, an R r k * R.wo ⟨k.val, by omega⟩ j + ∑ k : Fin 512, sn R r k * R.wo ⟨512 + k.val, by omega⟩ j
def h1 (r : Fin 8192) (j : Fin 1024) : EReal := R.x r j + normed n1024 (mixed R r) R.gm j
def f (r : Fin 8192) : Fin 1024 → EReal := normed n1024 (h1 R r) R.gf

theorem sgu_at (n : Fin 64) (i : Fin 128) (g : Fin 4) (j : Fin 128) : sgu R (row n i) (col g j) = sguAt R n i g j := by
  unfold sgu
  congr 1 <;> ext <;> dsimp only <;> omega

/-- The product is that of the groups with the whole weight. -/
theorem mixed_eq (r : Fin 8192) (j : Fin 1024) : ∑ k : Fin 1024, groups R r k * R.wo k j = mixed R r j := by
  refine (Fin.sum_univ_add (a := 512) (b := 512) fun k : Fin (512 + 512) => groups R r k * R.wo k j).trans (congrArg₂ (· + ·) ?_ ?_)
  · refine Finset.sum_congr rfl fun k _ => ?_
    refine congrArg₂ (· * ·) (dif_pos k.isLt) rfl
  · refine Finset.sum_congr rfl fun k _ => ?_
    refine congrArg₂ (· * ·) ((dif_neg (by simp)).trans (congrArg (sn R r) (Fin.ext ?_))) rfl
    simp

end Cert.Mix

end
-- ==== Proof.MixValue.lean ====
/- The forward call of the mixing block's end: its five result arrays over the argument arrays. -/
module

public import proofs.«01_k».proof.Proof.MixBlock
public import proofs.«01_k».proof.Proof.MixForward
public import Idealize.ShloMosaic.Lib.KernelVsHost
public import Idealize.ShloMosaic.Lib.Claim

@[expose] public section

set_option maxRecDepth 16384

noncomputable section

namespace Cert.Kernel10Ideal.Mix

open Cert.Kernel10Ideal Cert.Kernel10Ideal.Gen Cert.Mix Idealize.ShloMosaic Idealize.ShloMosaic.TcCoe Idealize.SL.Sem
open Idealize.ShloMosaic.Pipeline (Dat)

theorem idx : ∀ t : Fin cfg0.N, win0_0.index t = ![t.val, 0] ∧ win0_1.index t = ![t.val, 3] ∧ win0_2.index t = ![t.val, 4]
    ∧ win0_3.index t = ![t.val, 0] ∧ win0_4.index t = ![0, 0] ∧ win0_5.index t = ![0, 0] ∧ win0_6.index t = ![0, 0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![t.val, 0] ∧ win0_14.index t = ![t.val, 0]
    ∧ win0_15.index t = ![t.val, 0] ∧ win0_16.index t = ![t.val, 0] ∧ win0_17.index t = ![t.val, 0] :=
  (by decide +kernel : ∀ t : Fin grid0.N, _)

/-- The argument arrays as functions of their coordinates. -/
def args (x0 : FVec Ideal S8192x512 .f32) (x1 : FVec Ideal S8192x2560 .f32) (x2 : FVec Ideal S1x8192x1024 .f32) (x3 x4 : FVec Ideal S1x128 .f32)
    (x5 : FVec Ideal S1x4x128x128 .f32) (x6 : FVec Ideal S1x4x128 .f32) (x7 x8 : FVec Ideal S1x512 .f32) (x9 : FVec Ideal S1x1024x1024 .f32)
    (x10 x11 : FVec Ideal S1x1024 .f32) : Args where
  a r j := x0 (ix2 r j)
  p r j := x1 (ix2 r j)
  x r j := x2 (ix3 0 r j)
  lg j := x3 (ix2 0 j)
  lb j := x4 (ix2 0 j)
  w g i k := x5 (ix4 0 g i k)
  b g i := x6 (ix3 0 g i)
  ga j := x7 (ix2 0 j)
  gs j := x8 (ix2 0 j)
  wo k j := x9 (ix3 0 k j)
  gm j := x10 (ix2 0 j)
  gf j := x11 (ix2 0 j)

variable (m : (ℓ : Loc nD τ sig) → Buf (Elt Ideal) ℓ) (c : Dev nD)

/-- Those of the launch memory. -/
def R : Args := args (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9)) (m ((c : Thread nD τ).loc main_arg10)) (m ((c : Thread nD τ).loc main_arg11))

theorem pt_lt (t : Fin cfg0.N) : t.val < 16 := t.isLt.trans_eq N_0

abbrev prow (t : Fin cfg0.N) (k : Fin 512) : Fin 8192 := ⟨t.val * 512 + k.val, by have := pt_lt t; omega⟩

/-! ## What the host lines leave -/

theorem xV : (V m c main_v3 : FVec Ideal S8192x1024 .f32) = fun i => (R m c).x (i 0) (i 1) := by
  unfold V
  simp only [hostOps0, hostOps0_1, hostOps0_2, List.flatten_cons, List.flatten_nil, List.append_nil, List.cons_append, List.nil_append]
  entry_read
  funext i
  idx_vars i
  pointwise [R, args]
theorem woV : (V m c main_v6 : FVec Ideal S1024x1024 .bf16) = fun i => (R m c).wo (i 0) (i 1) := by
  unfold V
  simp only [hostOps0, hostOps0_1, hostOps0_2, List.flatten_cons, List.flatten_nil, List.append_nil, List.cons_append, List.nil_append]
  entry_read
  funext i
  idx_vars i
  pointwise [R, args]
theorem wV : (V m c main_v4 : FVec Ideal S4x128x128 .f32) = fun i => (R m c).w (i 0) (i 1) (i 2) := by
  unfold V
  simp only [hostOps0, hostOps0_1, hostOps0_2, List.flatten_cons, List.flatten_nil, List.append_nil, List.cons_append, List.nil_append]
  entry_read
  funext i
  idx_vars i
  pointwise [R, args]
theorem turned (B : FVec Ideal S1x4x128 .f32) (i : Fin 128) (g : Fin 4) : transpose S128x4 [1, 0]
    (fun i => shapeCast S4x128 B shapeCasts_S1x4x128_S4x128 i) transposes_S4x128_S128x4_1_0 (ix2 i g) = B (ix3 0 g i) := by
  pointwise []
theorem bV (i : Fin 128) (g : Fin 4) : (V m c main_v2 : FVec Ideal S128x128 .f32) (ix2 i ⟨g.val, by omega⟩) = (R m c).b g i := by
  unfold V
  simp only [hostOps0, hostOps0_1, hostOps0_2, List.flatten_cons, List.flatten_nil, List.append_nil, List.cons_append, List.nil_append]
  entry_read
  show _ = (m ((c : Thread nD τ).loc main_arg6) : FVec Ideal S1x4x128 .f32) (ix3 0 g i)
  generalize (m ((c : Thread nD τ).loc main_arg6) : FVec Ideal S1x4x128 .f32) = B
  refine Eq.trans (b := pad S128x128 ![0, 0] ![0, 124] ![0, 0] (transpose S128x4 [1, 0]
    (fun i => shapeCast S4x128 B shapeCasts_S1x4x128_S4x128 i) transposes_S4x128_S128x4_1_0)
    (sitofp (F := Ideal) FTy.f32 (constantI S_ 32 0#32)) pads_S128x4_S128x128_000_01240 h_S_ (ix2 i ⟨g.val, by omega⟩)) rfl ?_
  refine (pad_apply_of_inside _ _ _ _ _ _ _ _ (ix2 i g : S128x4.Idx) fun a => ?_).trans ?_
  · fin_cases a <;> simp
  · exact turned B i g

/-! ## The blocks a point reads -/

theorem blk0 (t : Fin cfg0.N) (k j : Fin 512) : (iblk m c 0 t : FVec Ideal S512x512 .f32) (ix2 k j) = (R m c).a (prow t k) j := by
  pointwise [R, args]
  blk_point [iblk, V, idx t]
theorem blk1 (t : Fin cfg0.N) (k j : Fin 512) : (iblk m c 1 t : FVec Ideal S512x512 .f32) (ix2 k j) = (R m c).p (prow t k) ⟨1536 + j.val, by omega⟩ := by
  pointwise [R, args]
  blk_point [iblk, V, idx t]
theorem blk2 (t : Fin cfg0.N) (k j : Fin 512) : (iblk m c 2 t : FVec Ideal S512x512 .f32) (ix2 k j) = (R m c).p (prow t k) ⟨2048 + j.val, by omega⟩ := by
  pointwise [R, args]
  blk_point [iblk, V, idx t]
theorem emb3 (t : Fin cfg0.N) (k : Fin 512) (j : Fin 1024) : ((cfg0.win 3).blk t).view.emb (ix2 k j) = (ix2 (prow t k) j : S8192x1024.Idx) := by
  funext a; fin_cases a <;> refine Fin.ext ?_ <;> blk_simp [idx t] <;> rfl
theorem blk3 (t : Fin cfg0.N) (k : Fin 512) (j : Fin 1024) : (iblk m c 3 t : FVec Ideal S512x1024 .f32) (ix2 k j) = (R m c).x (prow t k) j := by
  show (V m c main_v3 : FVec Ideal S8192x1024 .f32) (((cfg0.win 3).blk t).view.emb (ix2 k j)) = _
  rw [xV, emb3]
  rfl
theorem blk4 (t : Fin cfg0.N) (j : Fin 128) : (iblk m c 4 t : FVec Ideal S1x128 .f32) (ix2 0 j) = (R m c).lg j := by
  pointwise [R, args]
  blk_point [iblk, V, idx t]
theorem blk5 (t : Fin cfg0.N) (j : Fin 128) : (iblk m c 5 t : FVec Ideal S1x128 .f32) (ix2 0 j) = (R m c).lb j := by
  pointwise [R, args]
  blk_point [iblk, V, idx t]
theorem blk8 (t : Fin cfg0.N) (j : Fin 512) : (iblk m c 8 t : FVec Ideal S1x512 .f32) (ix2 0 j) = (R m c).ga j := by
  pointwise [R, args]
  blk_point [iblk, V, idx t]
theorem blk9 (t : Fin cfg0.N) (j : Fin 512) : (iblk m c 9 t : FVec Ideal S1x512 .f32) (ix2 0 j) = (R m c).gs j := by
  pointwise [R, args]
  blk_point [iblk, V, idx t]
theorem emb10 (t : Fin cfg0.N) (k : Fin 1024) (j : Fin 1024) : ((cfg0.win 10).blk t).view.emb (ix2 k j) = (ix2 k j : S1024x1024.Idx) := by
  funext a; fin_cases a <;> refine Fin.ext ?_ <;> blk_simp [idx t] <;> rfl
theorem blk10 (t : Fin cfg0.N) (k j : Fin 1024) : (iblk m c 10 t : FVec Ideal S1024x1024 .bf16) (ix2 k j) = (R m c).wo k j := by
  show (V m c main_v6 : FVec Ideal S1024x1024 .bf16) (((cfg0.win 10).blk t).view.emb (ix2 k j)) = _
  rw [woV, emb10]
  rfl
theorem blk11 (t : Fin cfg0.N) (j : Fin 1024) : (iblk m c 11 t : FVec Ideal S1x1024 .f32) (ix2 0 j) = (R m c).gm j := by
  pointwise [R, args]
  blk_point [iblk, V, idx t]
theorem blk12 (t : Fin cfg0.N) (j : Fin 1024) : (iblk m c 12 t : FVec Ideal S1x1024 .f32) (ix2 0 j) = (R m c).gf j := by
  pointwise [R, args]
  blk_point [iblk, V, idx t]
theorem emb6 (t : Fin cfg0.N) (g : Fin 4) (i k : Fin 128) : ((cfg0.win 6).blk t).view.emb (ix3 g i k) = (ix3 g i k : S4x128x128.Idx) := by
  funext a; fin_cases a <;> refine Fin.ext ?_ <;> blk_simp [idx t] <;> rfl
theorem emb7 (t : Fin cfg0.N) (i k : Fin 128) : ((cfg0.win 7).blk t).view.emb (ix2 i k) = (ix2 i k : S128x128.Idx) := by
  funext a; fin_cases a <;> refine Fin.ext ?_ <;> blk_simp [idx t] <;> rfl
theorem blk6 (t : Fin cfg0.N) (g : Fin 4) (i k : Fin 128) : (iblk m c 6 t : FVec Ideal S4x128x128 .f32) (ix3 g i k) = (R m c).w g i k := by
  show (V m c main_v4 : FVec Ideal S4x128x128 .f32) (((cfg0.win 6).blk t).view.emb (ix3 g i k)) = _
  rw [wV, emb6]
  rfl
theorem blk7 (t : Fin cfg0.N) (i : Fin 128) (g : Fin 4) :
    (iblk m c 7 t : FVec Ideal S128x128 .f32) (ix2 i ⟨g.val, by omega⟩) = (R m c).b g i := by
  show (V m c main_v2 : FVec Ideal S128x128 .f32) (((cfg0.win 7).blk t).view.emb (ix2 i ⟨g.val, by omega⟩)) = _
  rw [emb7, bV]

/-! ## One tile -/

theorem pay_tile (U Z : FVec Ideal S128x128 .f32) (W : FVec Ideal S1x128x128 .f32) (Lg Lb : FVec Ideal S1x128 .f32) (B : FVec Ideal S128x1 .f32)
    (i j : Fin 128) : (k0_pay4 (F := Ideal) (k0_pay2 W) Lg Lb (k0_pay3 Z) B U (ix2 i j) : EReal)
      = gate (U (ix2 i j)) (fun k => W (ix3 0 i k)) i (fun j => Lg (ix2 0 j)) (fun j => Lb (ix2 0 j)) (fun k j => Z (ix2 k j)) (B (ix2 i 0)) j := by
  pointwise [k0_pay4, k0_pay2, k0_pay3, gate, zn, xc, gl, RowNorm.rstd]
  simp only [SguReal.mask, ite_mul, zero_mul]

/-- The chunk of a point's `k`-th tile. -/
abbrev chk (t : Fin cfg0.N) (k : ℕ) (hk : k < 4) : Fin 64 := ⟨t.val * 4 + k, by have := pt_lt t; omega⟩

section Tile

variable (t : Fin cfg0.N) (g k : ℕ) (hg : g < 4) (hk : k < 4)

theorem tile_emb (i j : Fin 128) : (tile g k hg hk).emb (ix2 i j) = (ix2 (⟨128 * k + i.val, by omega⟩ : Fin 512) (⟨128 * g + j.val, by omega⟩ : Fin 512) : S512x512.Idx) := by
  funext a
  fin_cases a
  · exact Fin.ext (show 128 * k + 1 * i.val = 128 * k + i.val by omega)
  · exact Fin.ext (show 128 * g + 1 * j.val = 128 * g + j.val by omega)
theorem ut_at (i j : Fin 128) : ut (ins m c t) g k hg hk (ix2 i j) = (R m c).p (row (chk t k hk) i) ⟨1536 + (g * 128 + j.val), by omega⟩ := by
  show (iblk m c 1 t : FVec Ideal S512x512 .f32) ((tile g k hg hk).emb (ix2 i j)) = _
  rw [tile_emb, blk1]
  refine congrArg₂ (R m c).p (Fin.ext ?_) (Fin.ext ?_) <;> dsimp only <;> omega
theorem zt_at (i j : Fin 128) : zt (ins m c t) g k hg hk (ix2 i j) = (R m c).p (row (chk t k hk) i) ⟨2048 + (g * 128 + j.val), by omega⟩ := by
  show (iblk m c 2 t : FVec Ideal S512x512 .f32) ((tile g k hg hk).emb (ix2 i j)) = _
  rw [tile_emb, blk2]
  refine congrArg₂ (R m c).p (Fin.ext ?_) (Fin.ext ?_) <;> dsimp only <;> omega
theorem wt_at (i k : Fin 128) : View.ld (ins m c t).w (grp g hg) (ix3 0 i k) = (R m c).w ⟨g, hg⟩ i k := by
  show (iblk m c 6 t : FVec Ideal S4x128x128 .f32) ((grp g hg).emb (ix3 0 i k)) = _
  rw [show (grp g hg).emb (ix3 0 i k) = (ix3 (⟨g, hg⟩ : Fin 4) i k : S4x128x128.Idx) from ?_, blk6]
  funext a
  fin_cases a
  · exact Fin.ext (show g + 1 * 0 = g by omega)
  · exact Fin.ext (show 0 + 1 * i.val = i.val by omega)
  · exact Fin.ext (show 0 + 1 * k.val = k.val by omega)
theorem bt_at (i : Fin 128) : View.ld (ins m c t).b (bias g hg) (ix2 i 0) = (R m c).b ⟨g, hg⟩ i := by
  show (iblk m c 7 t : FVec Ideal S128x128 .f32) ((bias g hg).emb (ix2 i 0)) = _
  rw [show (bias g hg).emb (ix2 i 0) = (ix2 i (⟨g, by omega⟩ : Fin 128) : S128x128.Idx) from ?_, blk7 m c t i ⟨g, hg⟩]
  funext a
  fin_cases a
  · exact Fin.ext (show 0 + 1 * i.val = i.val by omega)
  · exact Fin.ext (show g + 1 * 0 = g by omega)

theorem tile_at (i j : Fin 128) : tileV (ins m c t) g k hg hk (ix2 i j) = sguAt (R m c) (chk t k hk) i ⟨g, hg⟩ j := by
  refine (pay_tile _ _ _ _ _ _ i j).trans ?_
  rw [sguAt, ut_at, bt_at]
  have hw : (fun k => View.ld (ins m c t).w (grp g hg) (ix3 0 i k)) = (R m c).w ⟨g, hg⟩ i := funext fun k => wt_at m c t g hg i k
  rw [hw, show (fun j => (ins m c t).lng (ix2 0 j)) = (R m c).lg from funext (blk4 m c t),
    show (fun j => (ins m c t).lnb (ix2 0 j)) = (R m c).lb from funext (blk5 m c t)]
  simp only [zt_at]

end Tile

/-! ## The block of the gated product, and what follows it -/

theorem mem_tiles {A : Type} {f : (g c : ℕ) → g < 4 → c < 4 → A} {a : A} (h : a ∈ tiles f) : ∃ g c hg hc, a = f g c hg hc := by
  simp only [tiles, List.mem_cons, List.not_mem_nil, or_false] at h
  rcases h with h | h | h | h | h | h | h | h | h | h | h | h | h | h | h | h <;> exact ⟨_, _, _, _, h⟩

theorem gated_cover (X : Ins Ideal) (y : S512x512.Idx) : ∃ p ∈ tiles (tileP X), y ∈ p.1.set :=
  View.cover_of_tiled (s := S512x512) _ S128x128.size rfl y

theorem gated_at (t : Fin cfg0.N) (k j : Fin 512) : gated (ins m c t) (ix2 k j) = sgu (R m c) (prow t k) j := by
  refine View.canon_apply_of_pieces (S := S512x512) (fun y => sgu (R m c) (prow t (y 0)) (y 1)) _ (fun p hp x => ?_) (ix2 k j) (gated_cover _ _)
  obtain ⟨g, k', hg, hk, rfl⟩ := mem_tiles hp
  idx_vars x
  refine (tile_at m c t g k' hg hk x0 x1).trans ?_
  rw [← sgu_at]
  show _ = sgu (R m c) (prow t ((tile g k' hg hk).emb (ix2 x0 x1) 0)) ((tile g k' hg hk).emb (ix2 x0 x1) 1)
  rw [tile_emb]
  refine congrArg₂ (sgu (R m c)) (Fin.ext ?_) (Fin.ext ?_) <;> simp [ix2] <;> omega

theorem an_at (t : Fin cfg0.N) (k j : Fin 512) : Mix.an (ins m c t) (ix2 k j) = Cert.Mix.an (R m c) (prow t k) j := by
  pointwise [Mix.an, k0_pay46, Cert.Mix.an, normed, RowNorm.rstd]
  simp only [blk0, blk8]
theorem sn_at (t : Fin cfg0.N) (k j : Fin 512) : Mix.sn (ins m c t) (ix2 k j) = Cert.Mix.sn (R m c) (prow t k) j := by
  pointwise [Mix.sn, k0_pay47, Cert.Mix.sn, normed, RowNorm.rstd]
  simp only [gated_at, blk9]
/-- The product of a point's normed groups with the output weight's halves. -/
abbrev prod (t : Fin cfg0.N) : FVec Ideal S512x1024 .f32 := k0_pay50 (Mix.an (ins m c t)) (Mix.sn (ins m c t))
  (View.ld (ins m c t).wo (rows 0 (by decide))) (View.ld (ins m c t).wo (rows 1 (by decide)))
theorem prod_at (t : Fin cfg0.N) (k : Fin 512) (j : Fin 1024) : prod m c t (ix2 k j) = Cert.Mix.mixed (R m c) (prow t k) j := by
  pointwise [prod, k0_pay50]
  simp only [an_at, sn_at, blk10, Cert.Mix.mixed, Nat.mul_zero, Nat.mul_one, Nat.zero_add]
/-- The residual stream's rows. -/
abbrev res (t : Fin cfg0.N) : FVec Ideal S512x1024 .f32 := k0_pay52 (Mix.an (ins m c t)) (Mix.sn (ins m c t))
  (View.ld (ins m c t).wo (rows 0 (by decide))) (View.ld (ins m c t).wo (rows 1 (by decide))) (ins m c t).x (ins m c t).gm
theorem res_at (t : Fin cfg0.N) (k : Fin 512) (j : Fin 1024) : res m c t (ix2 k j) = Cert.Mix.h1 (R m c) (prow t k) j := by
  pointwise [res, k0_pay52, Cert.Mix.h1, normed, RowNorm.rstd]
  simp only [prod_at, blk3, blk11]

theorem pay_f (A S : FVec Ideal S512x512 .f32) (W0 W1 : FVec Ideal S512x1024 .bf16) (X : FVec Ideal S512x1024 .f32) (Gm Gf : FVec Ideal S1x1024 .f32)
    (k : Fin 512) (j : Fin 1024) : (k0_pay1 (F := Ideal) (k0_pay54 A S W0 W1 X Gm) Gf (ix2 k j) : EReal)
      = normed n1024 (fun j => (k0_pay52 (F := Ideal) A S W0 W1 X Gm (ix2 k j) : EReal)) (fun j => Gf (ix2 0 j)) j := by
  pointwise [k0_pay1, k0_pay54, normed, RowNorm.rstd]
theorem f_at (t : Fin cfg0.N) (k : Fin 512) (j : Fin 1024) : (k0_pay1 (F := Ideal) (k0_pay54 (Mix.an (ins m c t)) (Mix.sn (ins m c t))
    (View.ld (ins m c t).wo (rows 0 (by decide))) (View.ld (ins m c t).wo (rows 1 (by decide))) (ins m c t).x (ins m c t).gm) (ins m c t).gf (ix2 k j) : EReal)
      = Cert.Mix.f (R m c) (prow t k) j :=
  (pay_f _ _ _ _ _ _ _ k j).trans (congrArg₂ (fun f g => normed n1024 f g j) (funext (res_at m c t k)) (funext (blk12 m c t)))

/-- The two groups side by side. -/
theorem cols_emb (h : ℕ) (hh : h < 2) (k j : Fin 512) : (cols h hh).emb (ix2 k j) = (ix2 k (⟨512 * h + j.val, by omega⟩ : Fin 1024) : S512x1024.Idx) := by
  funext a
  fin_cases a
  · exact Fin.ext (show 0 + 1 * k.val = k.val by omega)
  · exact Fin.ext (show 512 * h + 1 * j.val = 512 * h + j.val by omega)
theorem left_at (t : Fin cfg0.N) (k j : Fin 512) : (k0_pay48 (F := Ideal) (ins m c t).a (ins m c t).ga (ix2 k j) : EReal) = Cert.Mix.an (R m c) (prow t k) j := by
  rw [← an_at]
  pointwise [k0_pay48, Mix.an]
theorem right_at (t : Fin cfg0.N) (k j : Fin 512) :
    (k0_pay49 (F := Ideal) (gated (ins m c t)) (ins m c t).gs (ix2 k j) : EReal) = Cert.Mix.sn (R m c) (prow t k) j := by
  rw [← sn_at]
  pointwise [k0_pay49, Mix.sn]
abbrev halves (X : Ins Ideal) : List (View.Piece (Elt Ideal) S512x1024 .bf16) :=
  [⟨cols 1 (by decide), k0_pay49 (gated X) X.gs⟩, ⟨cols 0 (by decide), k0_pay48 X.a X.ga⟩]
def groupsV (X : Ins Ideal) : Vec Ideal S512x1024 .bf16 := View.canon (halves X)
theorem groups_cover (X : Ins Ideal) (y : S512x1024.Idx) : ∃ p ∈ halves X, y ∈ p.1.set :=
  View.cover_of_tiled (s := S512x1024) _ S512x512.size rfl y
theorem groups_at (t : Fin cfg0.N) (k : Fin 512) (j : Fin 1024) :
    groupsV (ins m c t) (ix2 k j)
      = groups (R m c) (prow t k) j := by
  refine View.canon_apply_of_pieces (S := S512x1024) (fun y => groups (R m c) (prow t (y 0)) (y 1)) _ (fun p hp x => ?_) (ix2 k j)
    (groups_cover _ _)
  simp only [List.mem_cons, List.not_mem_nil, or_false] at hp
  rcases hp with rfl | rfl <;> idx_vars x
  · refine (right_at m c t x0 x1).trans ?_
    show _ = groups (R m c) (prow t ((cols 1 (by decide)).emb (ix2 x0 x1) 0)) ((cols 1 (by decide)).emb (ix2 x0 x1) 1)
    rw [cols_emb]
    refine Eq.symm ((dif_neg (by simp [ix2])).trans (congrArg (Cert.Mix.sn (R m c) _) (Fin.ext ?_)))
    simp [ix2]
  · refine (left_at m c t x0 x1).trans ?_
    show _ = groups (R m c) (prow t ((cols 0 (by decide)).emb (ix2 x0 x1) 0)) ((cols 0 (by decide)).emb (ix2 x0 x1) 1)
    rw [cols_emb]
    refine Eq.symm ((dif_pos (by simp [ix2])).trans (congrArg (Cert.Mix.an (R m c) _) (Fin.ext ?_)))
    simp [ix2]

/-! ## The result arrays -/

theorem emb13 (t : Fin cfg0.N) (k : Fin 512) (j : Fin 512) : ((cfg0.win 13).blk t).view.emb (ix2 k j) = (ix2 (prow t k) j : S8192x512.Idx) := by
  funext a; fin_cases a <;> refine Fin.ext ?_ <;> blk_simp [idx t] <;> rfl
theorem emb14 (t : Fin cfg0.N) (k : Fin 512) (j : Fin 1024) : ((cfg0.win 14).blk t).view.emb (ix2 k j) = (ix2 (prow t k) j : S8192x1024.Idx) := by
  funext a; fin_cases a <;> refine Fin.ext ?_ <;> blk_simp [idx t] <;> rfl
theorem emb15 (t : Fin cfg0.N) (k : Fin 512) (j : Fin 1024) : ((cfg0.win 15).blk t).view.emb (ix2 k j) = (ix2 (prow t k) j : S8192x1024.Idx) := by
  funext a; fin_cases a <;> refine Fin.ext ?_ <;> blk_simp [idx t] <;> rfl
theorem emb16 (t : Fin cfg0.N) (k : Fin 512) (j : Fin 1024) : ((cfg0.win 16).blk t).view.emb (ix2 k j) = (ix2 (prow t k) j : S8192x1024.Idx) := by
  funext a; fin_cases a <;> refine Fin.ext ?_ <;> blk_simp [idx t] <;> rfl
theorem emb17 (t : Fin cfg0.N) (k : Fin 512) (j : Fin 1024) : ((cfg0.win 17).blk t).view.emb (ix2 k j) = (ix2 (prow t k) j : S8192x1024.Idx) := by
  funext a; fin_cases a <;> refine Fin.ext ?_ <;> blk_simp [idx t] <;> rfl

/-- A function of row and column as an array. -/
def arr {n d : ℕ} {φ : FTy} (F : Fin n → Fin d → EReal) : FVec Ideal ⟨2, ![n, d]⟩ φ := fun i => F (i 0) (i 1)

theorem final13 : (dats m 0 c).arrAt 13 cfg0.N = (arr (Cert.Mix.sgu (R m c)) : FVec Ideal S8192x512 .f32) := by
  refine (dats m 0 c).arrAt_eq_of_covers 13 _ (by decide +kernel) fun t _ y => ?_
  blk_simp
  rw [after0_13, at13]
  idx_vars y
  refine (gated_at m c t y0 y1).trans ?_
  rw [emb13]
  rfl
theorem final14 : (dats m 0 c).arrAt 14 cfg0.N = (arr (Cert.Mix.groups (R m c)) : FVec Ideal S8192x1024 .bf16) := by
  refine (dats m 0 c).arrAt_eq_of_covers 14 _ (by decide +kernel) fun t _ y => ?_
  blk_simp
  rw [after0_14, at14]
  idx_vars y
  refine (groups_at m c t y0 y1).trans ?_
  rw [emb14]
  rfl
theorem final15 : (dats m 0 c).arrAt 15 cfg0.N = (arr (Cert.Mix.mixed (R m c)) : FVec Ideal S8192x1024 .f32) := by
  refine (dats m 0 c).arrAt_eq_of_covers 15 _ (by decide +kernel) fun t _ y => ?_
  blk_simp
  rw [after0_15, at15]
  idx_vars y
  pointwise [Mix.mixed, k0_pay51]
  refine (prod_at m c t y0 y1).trans ?_
  rw [emb15]
  rfl
theorem final16 : (dats m 0 c).arrAt 16 cfg0.N = (arr (Cert.Mix.h1 (R m c)) : FVec Ideal S8192x1024 .f32) := by
  refine (dats m 0 c).arrAt_eq_of_covers 16 _ (by decide +kernel) fun t _ y => ?_
  blk_simp
  rw [after0_16, at16]
  idx_vars y
  pointwise [k0_pay53]
  refine (res_at m c t y0 y1).trans ?_
  rw [emb16]
  rfl
theorem final17 : (dats m 0 c).arrAt 17 cfg0.N = (arr (Cert.Mix.f (R m c)) : FVec Ideal S8192x1024 .bf16) := by
  refine (dats m 0 c).arrAt_eq_of_covers 17 _ (by decide +kernel) fun t _ y => ?_
  blk_simp
  rw [after0_17, at17]
  idx_vars y
  refine (f_at m c t y0 y1).trans ?_
  rw [emb17]
  rfl

end Cert.Kernel10Ideal.Mix

end
-- ==== Proof.MixReference.lean ====
/- The reference's stages of the mixing block's end: the same functions of the argument arrays. -/
module

public import proofs.«01_k».proof.Proof.MixValue
public import proofs.«01_k».proof.Proof.Gen.Reference10Ideal.Read

@[expose] public section

set_option maxRecDepth 16384

noncomputable section

namespace Cert.Reference10Ideal.Mix

open Cert.Reference10Ideal Cert.Reference10Ideal.Read Cert.Mix Idealize.ShloMosaic Idealize.ShloMosaic.TcCoe
open Cert.Kernel10Ideal.Mix (args arr)

variable (x0 : FVec Ideal S8192x512 .f32) (x1 : FVec Ideal S8192x2560 .f32) (x2 : FVec Ideal S1x8192x1024 .f32) (x3 x4 : FVec Ideal S1x128 .f32)
  (x5 : FVec Ideal S1x4x128x128 .f32) (x6 : FVec Ideal S1x4x128 .f32) (x7 x8 : FVec Ideal S1x512 .f32) (x9 : FVec Ideal S1x1024x1024 .f32)
  (x10 x11 : FVec Ideal S1x1024 .f32)

/-! ## The gated product -/

section Gated

variable (n : Fin 64) (g : Fin 4) (i j k : Fin 128)

theorem at_gelu_u (l : S1x8192x512.Idx) : (val_main_v20 (F := Ideal) x1 l : EReal) = gl (val_main_v1 (F := Ideal) x1 l) := by
  rw [gl_eq]
  pointwise [val_main_v20, val_main_v19, val_main_v18, val_main_cst_2, val_main_v17, val_main_v16, val_main_cst_1, val_main_v15, val_main_v14,
    val_main_v13, val_main_cst_0, val_main_v12, val_main_v11, val_main_v10, val_main_cst, val_main_v9, val_main_v8]
theorem at_gelu_z (l : S1x8192x512.Idx) : (val_main_v34 (F := Ideal) x1 l : EReal) = gl (val_main_v3 (F := Ideal) x1 l) := by
  rw [gl_eq]
  pointwise [val_main_v34, val_main_v33, val_main_v32, val_main_cst_6, val_main_v31, val_main_v30, val_main_cst_5, val_main_v29, val_main_v28,
    val_main_v27, val_main_cst_4, val_main_v26, val_main_v25, val_main_v24, val_main_cst_3, val_main_v23, val_main_v22]
theorem at_u : (val_main_v21 (F := Ideal) x1 (ix4 0 (row n i) g j) : EReal) = gl (x1 (ix2 (row n i) ⟨1536 + (g.val * 128 + j.val), by omega⟩)) := by
  refine Eq.trans (b := val_main_v20 (F := Ideal) x1 (ix3 0 (row n i) (col g j))) ?_ ((at_gelu_u x1 _).trans (congrArg gl ?_))
  · pointwise [val_main_v21]
  · pointwise [val_main_v1, val_main_v0]
theorem at_z : (val_main_v35 (F := Ideal) x1 (ix4 0 (row n i) g j) : EReal) = gl (x1 (ix2 (row n i) ⟨2048 + (g.val * 128 + j.val), by omega⟩)) := by
  refine Eq.trans (b := val_main_v34 (F := Ideal) x1 (ix3 0 (row n i) (col g j))) ?_ ((at_gelu_z x1 _).trans (congrArg gl ?_))
  · pointwise [val_main_v35]
  · pointwise [val_main_v3, val_main_v2]
/-- A row of the second half, gated. -/
abbrev zrow (j : Fin 128) : EReal := gl (x1 (ix2 (row n i) ⟨2048 + (g.val * 128 + j.val), by omega⟩))
theorem at_xc : (val_main_v41 (F := Ideal) x1 (ix4 0 (row n i) g j) : EReal) = xc (zrow x1 n g i) j := by
  pointwise [val_main_v41, val_main_v40, val_main_v39, val_main_v38, val_main_cst_8, val_main_v37, val_main_v36, val_main_cst_7]
  simp only [at_z]
  rfl
theorem at_rs : (val_main_v49 (F := Ideal) x1 (ix4 0 (row n i) g 0) : EReal) = RowNorm.rstd n128 eps (xc (zrow x1 n g i)) := by
  pointwise [val_main_v49, val_main_v48, val_main_v47, val_main_cst_11, val_main_v46, val_main_v45, val_main_cst_10, val_main_v44, val_main_v43, val_main_cst_9,
    val_main_v42]
  simp only [at_xc]
  rfl
theorem at_zn : (val_main_v58 (F := Ideal) x1 x3 x4 (ix5 0 n i g j) : EReal)
    = zn (fun j => x3 (ix2 0 j)) (fun j => x4 (ix2 0 j)) (zrow x1 n g i) j := by
  pointwise [val_main_v58, val_main_v57, val_main_v56, val_main_v55, val_main_v54, val_main_v53, val_main_v52, val_main_v51, val_main_v50, val_main_v4, val_main_v5]
  rw [at_xc, at_rs]
  rfl
theorem at_tril : (val_main_v60 (F := Ideal) (ix2 i k) : EReal) = if k ≤ i then 1 else 0 := by
  refine Eq.trans ?_ (SguReal.mask i k 1 0)
  pointwise [val_main_v60, val_main_call0_v4, val_main_call0_v3, val_main_call0_v2, val_main_call0_v1, val_main_call0_v0, val_main_call0_c,
    val_main_call0_v5, val_main_call0_cst, val_main_v59, val_main_cst_12]
  rw [show IntOp.addi (BitVec.ofNat 32 i.val) 0#32 = BitVec.ofNat 32 i.val from BitVec.add_zero _]
theorem at_w : (val_main_v63 (F := Ideal) x5 (ix3 g i k) : EReal) = if k ≤ i then x5 (ix4 0 g i k) else 0 := by
  pointwise [val_main_v63, val_main_v62, val_main_v61, val_main_v6]
  rw [at_tril]
  split <;> simp
theorem div_row (hn : (n.val * 128 + i.val) / 128 < 64) : (⟨(n.val * 128 + i.val) / 128, hn⟩ : Fin 64) = n := by ext; dsimp only; omega
theorem mod_row (hi : (n.val * 128 + i.val) % 128 < 128) : (⟨(n.val * 128 + i.val) % 128, hi⟩ : Fin 128) = i := by ext; dsimp only; omega
theorem at_mix : (val_main_v70 (F := Ideal) x1 x3 x4 x5 x6 (ix4 0 (row n i) g j) : EReal)
    = ∑ k : Fin 128, (if k ≤ i then x5 (ix4 0 g i k) else 0) * zn (fun j => x3 (ix2 0 j)) (fun j => x4 (ix2 0 j)) (zrow x1 n g k) j + x6 (ix3 0 g i) := by
  pointwise [val_main_v70, val_main_v69, val_main_v68, val_main_v67, val_main_v66, val_main_v65, val_main_v64, val_main_v7]
  simp only [at_zn, at_w, div_row, mod_row]
  exact congrArg (· + _) (Finset.sum_congr rfl fun k _ => mul_comm _ _)
theorem at_gate : (val_main_v71 (F := Ideal) x1 x3 x4 x5 x6 (ix4 0 (row n i) g j) : EReal) = sguAt (args x0 x1 x2 x3 x4 x5 x6 x7 x8 x9 x10 x11) n i g j := by
  pointwise [val_main_v71]
  rw [at_u, at_mix]
  rfl

end Gated

theorem at_sgu (r : Fin 8192) (j : Fin 512) : (val_main_v73 (F := Ideal) x1 x3 x4 x5 x6 (ix2 r j) : EReal) = sgu (args x0 x1 x2 x3 x4 x5 x6 x7 x8 x9 x10 x11) r j := by
  refine Eq.trans ?_ (at_gate x0 x1 x2 x3 x4 x5 x6 x7 x8 x9 x10 x11 ⟨r.val / 128, by omega⟩ ⟨j.val / 128, by omega⟩ ⟨r.val % 128, by omega⟩ ⟨j.val % 128, by omega⟩)
  pointwise [val_main_v73, val_main_v72]
  refine congrArg (val_main_v71 (F := Ideal) x1 x3 x4 x5 x6) (congrArg (fun r => ix4 0 r _ _) (Fin.ext ?_))
  dsimp only
  omega

/-! ## The groups, the product, the residual stream and its norm -/

theorem at_an (r : Fin 8192) (j : Fin 512) : (val_main_v87 (F := Ideal) x0 x7 (ix2 r j) : EReal) = an (args x0 x1 x2 x3 x4 x5 x6 x7 x8 x9 x10 x11) r j := by
  pointwise [val_main_v87, val_main_v86, val_main_v85, val_main_v84, val_main_v83, val_main_v82, val_main_v81, val_main_v80, val_main_cst_15, val_main_v79,
    val_main_v78, val_main_cst_14, val_main_v77, val_main_v76, val_main_cst_13, val_main_v75, val_main_v74]
  rfl
theorem at_sn (r : Fin 8192) (j : Fin 512) : (val_main_v101 (F := Ideal) x1 x3 x4 x5 x6 x8 (ix2 r j) : EReal) = sn (args x0 x1 x2 x3 x4 x5 x6 x7 x8 x9 x10 x11) r j := by
  pointwise [val_main_v101, val_main_v100, val_main_v99, val_main_v98, val_main_v97, val_main_v96, val_main_v95, val_main_v94, val_main_cst_18, val_main_v93,
    val_main_v92, val_main_cst_17, val_main_v91, val_main_v90, val_main_cst_16, val_main_v89, val_main_v88]
  simp only [at_sgu x0 x1 x2 x3 x4 x5 x6 x7 x8 x9 x10 x11]
  rfl
theorem at_groups (r : Fin 8192) (j : Fin 1024) : (val_main_v102 (F := Ideal) x0 x1 x3 x4 x5 x6 x7 x8 (ix2 r j) : EReal) = groups (args x0 x1 x2 x3 x4 x5 x6 x7 x8 x9 x10 x11) r j := by
  pointwise [val_main_v102]
  simp only [at_an x0 x1 x2 x3 x4 x5 x6 x7 x8 x9 x10 x11, at_sn x0 x1 x2 x3 x4 x5 x6 x7 x8 x9 x10 x11]
  rfl
theorem at_mixed (r : Fin 8192) (j : Fin 1024) : (val_main_v104 (F := Ideal) x0 x1 x3 x4 x5 x6 x7 x8 x9 (ix2 r j) : EReal) = mixed (args x0 x1 x2 x3 x4 x5 x6 x7 x8 x9 x10 x11) r j := by
  rw [← mixed_eq]
  pointwise [val_main_v104, val_main_v103]
  simp only [at_groups x0 x1 x2 x3 x4 x5 x6 x7 x8 x9 x10 x11]
  rfl
theorem at_h1 (r : Fin 8192) (j : Fin 1024) : (val_main_v120 (F := Ideal) x0 x1 x2 x3 x4 x5 x6 x7 x8 x9 x10 (ix2 r j) : EReal) = h1 (args x0 x1 x2 x3 x4 x5 x6 x7 x8 x9 x10 x11) r j := by
  pointwise [val_main_v120, val_main_v119, val_main_v118, val_main_v117, val_main_v116, val_main_v115, val_main_v114, val_main_v113, val_main_v112,
    val_main_cst_21, val_main_v111, val_main_v110, val_main_cst_20, val_main_v109, val_main_v108, val_main_cst_19, val_main_v107, val_main_v106, val_main_v105]
  simp only [at_mixed x0 x1 x2 x3 x4 x5 x6 x7 x8 x9 x10 x11]
  rfl
theorem at_f (r : Fin 8192) (j : Fin 1024) : (val_main_v136 (F := Ideal) x0 x1 x2 x3 x4 x5 x6 x7 x8 x9 x10 x11 (ix2 r j) : EReal) = f (args x0 x1 x2 x3 x4 x5 x6 x7 x8 x9 x10 x11) r j := by
  pointwise [val_main_v136, val_main_v134, val_main_v133, val_main_v132, val_main_v131, val_main_v130, val_main_v129, val_main_v128, val_main_v127,
    val_main_cst_24, val_main_v126, val_main_v125, val_main_cst_23, val_main_v124, val_main_v123, val_main_cst_22, val_main_v122, val_main_v121]
  simp only [at_h1 x0 x1 x2 x3 x4 x5 x6 x7 x8 x9 x10 x11]
  rfl

/-! ## As arrays -/

theorem ref73 : val_main_v73 (F := Ideal) x1 x3 x4 x5 x6 = (arr (sgu (args x0 x1 x2 x3 x4 x5 x6 x7 x8 x9 x10 x11)) : FVec Ideal S8192x512 .f32) := by
  funext l; idx_vars l
  exact at_sgu x0 x1 x2 x3 x4 x5 x6 x7 x8 x9 x10 x11 l0 l1
theorem ref135 : val_main_v135 (F := Ideal) x0 x1 x3 x4 x5 x6 x7 x8 = (arr (groups (args x0 x1 x2 x3 x4 x5 x6 x7 x8 x9 x10 x11)) : FVec Ideal S8192x1024 .bf16) := by
  funext l; idx_vars l
  pointwise [val_main_v135]
  exact at_groups x0 x1 x2 x3 x4 x5 x6 x7 x8 x9 x10 x11 l0 l1
theorem ref104 : val_main_v104 (F := Ideal) x0 x1 x3 x4 x5 x6 x7 x8 x9 = (arr (mixed (args x0 x1 x2 x3 x4 x5 x6 x7 x8 x9 x10 x11)) : FVec Ideal S8192x1024 .f32) := by
  funext l; idx_vars l
  exact at_mixed x0 x1 x2 x3 x4 x5 x6 x7 x8 x9 x10 x11 l0 l1
theorem ref120 : val_main_v120 (F := Ideal) x0 x1 x2 x3 x4 x5 x6 x7 x8 x9 x10 = (arr (h1 (args x0 x1 x2 x3 x4 x5 x6 x7 x8 x9 x10 x11)) : FVec Ideal S8192x1024 .f32) := by
  funext l; idx_vars l
  exact at_h1 x0 x1 x2 x3 x4 x5 x6 x7 x8 x9 x10 x11 l0 l1
theorem ref136 : val_main_v136 (F := Ideal) x0 x1 x2 x3 x4 x5 x6 x7 x8 x9 x10 x11 = (arr (f (args x0 x1 x2 x3 x4 x5 x6 x7 x8 x9 x10 x11)) : FVec Ideal S8192x1024 .bf16) := by
  funext l; idx_vars l
  exact at_f x0 x1 x2 x3 x4 x5 x6 x7 x8 x9 x10 x11 l0 l1

end Cert.Reference10Ideal.Mix

end
-- ==== Proof.Optimiser.lean ====
/- The optimiser: a sum of the devices' parts, one AdamW step at the sum, and the step at a gradient; of each call the result arrays as
   functions of its arguments, and the same of the reference. -/
module

public import proofs.«01_k».proof.Proof.Gen.Kernel12Ideal.Value
public import proofs.«01_k».proof.Proof.Gen.Reference12Ideal.Read
public import proofs.«01_k».proof.Proof.Gen.Kernel13Ideal.Value
public import proofs.«01_k».proof.Proof.Gen.Reference13Ideal.Read
public import proofs.«01_k».proof.Proof.Gen.Kernel14Ideal.Value
public import proofs.«01_k».proof.Proof.Gen.Reference14Ideal.Read
public import Idealize.ShloMosaic.Lib.Pipeline.ValueKit
public import Idealize.ShloMosaic.Lib.Claim

@[expose] public section

set_option maxRecDepth 16384

noncomputable section

namespace Cert.Adam

open Idealize.ShloMosaic

/-- The moments' decays and their complements, the two bias corrections, the divisor's offset, the decay of the weight and the rate,
    as the programs round them. -/
abbrev b1 : EReal := Ideal.ofBits .f32 0x3F666666#32
abbrev c1 : EReal := Ideal.ofBits .f32 0x3DCCCCCD#32
abbrev b2 : EReal := Ideal.ofBits .f32 0x3F7FBE77#32
abbrev c2 : EReal := Ideal.ofBits .f32 0x3A83126F#32
abbrev bias1 : EReal := Ideal.ofBits .f32 0x3F26BD02#32
abbrev bias2 : EReal := Ideal.ofBits .f32 0x3C231ACC#32
abbrev eps : EReal := Ideal.ofBits .f32 0x322BCC77#32
abbrev decay : EReal := Ideal.ofBits .f32 0x3C23D70A#32
abbrev rate : EReal := Ideal.ofBits .f32 0xBA83126F#32

/-- The new first moment, the new second one and the change of the weight, of one element. -/
def first (g m : EReal) : EReal := b1 * m + c1 * g
def second (g v : EReal) : EReal := b2 * v + c2 * (g * g)
def change (g w m v : EReal) : EReal := rate * (Ideal.div (Ideal.div (first g m) bias1) (Ideal.sqrt (Ideal.div (second g v) bias2) + eps) + decay * w)

/-- The sum over the eight devices' parts. -/
theorem eight (f : Fin 8 → EReal) : f 0 + f 1 + f 2 + f 3 + f 4 + f 5 + f 6 + f 7 = ∑ s, f s := (Fin.sum_univ_eight f).symm

end Cert.Adam

namespace Cert.Kernel12Ideal.Adam

open Cert.Kernel12Ideal Cert.Kernel12Ideal.Gen Cert.Reference12Ideal.Read Cert.Adam Idealize.ShloMosaic Idealize.ShloMosaic.TcCoe Idealize.SL.Sem
open Idealize.ShloMosaic.Pipeline (Dat)

variable (P : FVec Ideal S8x352x1024 .f32) (W M V' : FVec Ideal S1x352x1024 .f32)

def grad : FVec Ideal S352x1024 .f32 := fun i => ∑ s : Fin 8, P (ix3 s (i 0) (i 1))
def delta : FVec Ideal S352x1024 .f32 := fun i => change (grad P i) (W (ix3 0 (i 0) (i 1))) (M (ix3 0 (i 0) (i 1))) (V' (ix3 0 (i 0) (i 1)))
def mom1 : FVec Ideal S352x1024 .f32 := fun i => first (grad P i) (M (ix3 0 (i 0) (i 1)))
def mom2 : FVec Ideal S352x1024 .f32 := fun i => second (grad P i) (V' (ix3 0 (i 0) (i 1)))

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := (by decide +kernel : ∀ t : Fin grid0.N, _)

variable (m : (ℓ : Loc nD τ sig) → Buf (Elt Ideal) ℓ)

theorem final4 (c : Dev nD) : (dats m 0 c).arrAt 4 cfg0.N = grad (m ((c : Thread nD τ).loc main_arg0)) := by
  refine (dats m 0 c).arrAt_eq_of_covers 4 _ (by decide +kernel) fun t _ y => ?_
  blk_simp
  rw [after0_4]
  frame_out
  pointwise [k0_pay7, k0_pay6, grad, ← eight]
  blk_point [iblk, V, idx t]

set_option maxHeartbeats 4000000 in
theorem final5 (c : Dev nD) : (dats m 0 c).arrAt 5 cfg0.N
    = delta (m ((c : Thread nD τ).loc main_arg0)) (m ((c : Thread nD τ).loc main_arg1)) (m ((c : Thread nD τ).loc main_arg2))
      (m ((c : Thread nD τ).loc main_arg3)) := by
  refine (dats m 0 c).arrAt_eq_of_covers 5 _ (by decide +kernel) fun t _ y => ?_
  blk_simp
  rw [after0_5]
  frame_out
  pointwise [k0_pay3, k0_pay8, k0_pay9, k0_pay6, k0_pay2, k0_pay1, delta, change, first, second, grad, ← eight]
  blk_point [iblk, V, idx t]

set_option maxHeartbeats 4000000 in
theorem final6 (c : Dev nD) : (dats m 0 c).arrAt 6 cfg0.N
    = mom1 (m ((c : Thread nD τ).loc main_arg0)) (m ((c : Thread nD τ).loc main_arg2)) := by
  refine (dats m 0 c).arrAt_eq_of_covers 6 _ (by decide +kernel) fun t _ y => ?_
  blk_simp
  rw [after0_6]
  frame_out
  pointwise [k0_pay4, k0_pay9, k0_pay6, k0_pay1, mom1, first, grad, ← eight]
  blk_point [iblk, V, idx t]

set_option maxHeartbeats 4000000 in
theorem final7 (c : Dev nD) : (dats m 0 c).arrAt 7 cfg0.N
    = mom2 (m ((c : Thread nD τ).loc main_arg0)) (m ((c : Thread nD τ).loc main_arg3)) := by
  refine (dats m 0 c).arrAt_eq_of_covers 7 _ (by decide +kernel) fun t _ y => ?_
  blk_simp
  rw [after0_7]
  frame_out
  pointwise [k0_pay5, k0_pay9, k0_pay6, k0_pay2, mom2, second, grad, ← eight]
  blk_point [iblk, V, idx t]

theorem ref0 : val_main_v0 (F := Ideal) P = grad P := by
  funext i
  idx_vars i
  pointwise [val_main_cst, val_main_v0, grad]

theorem ref8 : val_main_v8 (F := Ideal) P M = mom1 P M := by
  funext i
  idx_vars i
  pointwise [val_main_v8, val_main_v5, val_main_v4, val_main_cst_0, val_main_v2, val_main_v7, val_main_v6, val_main_cst_1, ref0, mom1, first]

theorem ref14 : val_main_v14 (F := Ideal) P V' = mom2 P V' := by
  funext i
  idx_vars i
  pointwise [val_main_v14, val_main_v10, val_main_v9, val_main_cst_2, val_main_v3, val_main_v13, val_main_v12, val_main_cst_3, val_main_v11,
    ref0, mom2, second]

theorem ref27 : val_main_v27 (F := Ideal) P W M V' = delta P W M V' := by
  funext i
  idx_vars i
  pointwise [val_main_v27, val_main_v26, val_main_cst_8, val_main_v25, val_main_v24, val_main_v23, val_main_cst_7, val_main_v1, val_main_v22,
    val_main_v21, val_main_v20, val_main_cst_6, val_main_v19, val_main_v18, val_main_v17, val_main_cst_5, val_main_v16, val_main_v15,
    val_main_cst_4, ref8, ref14, mom1, mom2, delta, change]

end Cert.Kernel12Ideal.Adam

namespace Cert.Kernel13Ideal.Adam

open Cert.Kernel13Ideal Cert.Kernel13Ideal.Gen Cert.Reference13Ideal.Read Cert.Adam Idealize.ShloMosaic Idealize.ShloMosaic.TcCoe Idealize.SL.Sem
open Idealize.ShloMosaic.Pipeline (Dat)

variable (P : FVec Ideal S8x128x256 .f32)

def grad : FVec Ideal S128x256 .f32 := fun i => ∑ s : Fin 8, P (ix3 s (i 0) (i 1))

theorem idx : ∀ t : Fin cfg0.N, win0_0.index t = ![0, t.val, 0] ∧ win0_1.index t = ![t.val, 0] := (by decide +kernel : ∀ t : Fin grid0.N, _)

variable (m : (ℓ : Loc nD τ sig) → Buf (Elt Ideal) ℓ)

theorem final1 (c : Dev nD) : (dats m 0 c).arrAt 1 cfg0.N = grad (m ((c : Thread nD τ).loc main_arg0)) := by
  refine (dats m 0 c).arrAt_eq_of_covers 1 _ (by decide +kernel) fun t _ y => ?_
  blk_simp
  rw [after0_1]
  frame_out
  pointwise [k0_pay1, grad, ← eight]
  blk_point [iblk, V, idx t]

theorem ref0 : val_main_v0 (F := Ideal) P = grad P := by
  funext i
  idx_vars i
  pointwise [val_main_cst, val_main_v0, grad]

end Cert.Kernel13Ideal.Adam

namespace Cert.Kernel14Ideal.Adam

open Cert.Kernel14Ideal Cert.Kernel14Ideal.Gen Cert.Reference14Ideal.Read Cert.Adam Idealize.ShloMosaic Idealize.ShloMosaic.TcCoe Idealize.SL.Sem
open Idealize.ShloMosaic.Pipeline (Dat)

variable (G : FVec Ideal S256x128 .f32) (W M V' : FVec Ideal S1x256x128 .f32)

def delta : FVec Ideal S256x128 .f32 := fun i => change (G i) (W (ix3 0 (i 0) (i 1))) (M (ix3 0 (i 0) (i 1))) (V' (ix3 0 (i 0) (i 1)))
def mom1 : FVec Ideal S256x128 .f32 := fun i => first (G i) (M (ix3 0 (i 0) (i 1)))
def mom2 : FVec Ideal S256x128 .f32 := fun i => second (G i) (V' (ix3 0 (i 0) (i 1)))

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ)

theorem final4 (c : Dev nD) : (dats m 0 c).arrAt 4 cfg0.N
    = delta (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t _ y => ?_
  blk_simp
  rw [after0_4]
  frame_out
  pointwise [k0_pay1, k0_pay4, k0_pay5, k0_pay3, k0_pay2, delta, change, first, second]
  blk_point [iblk, V, idx t]

set_option maxHeartbeats 4000000 in
theorem final5 (c : Dev nD) : (dats m 0 c).arrAt 5 cfg0.N
    = mom1 (m ((c : Thread nD τ).loc main_arg0)) (m ((c : Thread nD τ).loc main_arg2)) := by
  refine (dats m 0 c).arrAt_eq_of_covers 5 _ (by decide +kernel) fun t _ y => ?_
  blk_simp
  rw [after0_5]
  frame_out
  pointwise [k0_pay1, k0_pay4, k0_pay5, k0_pay3, k0_pay2, mom1, first]
  blk_point [iblk, V, idx t]

set_option maxHeartbeats 4000000 in
theorem final6 (c : Dev nD) : (dats m 0 c).arrAt 6 cfg0.N
    = mom2 (m ((c : Thread nD τ).loc main_arg0)) (m ((c : Thread nD τ).loc main_arg3)) := by
  refine (dats m 0 c).arrAt_eq_of_covers 6 _ (by decide +kernel) fun t _ y => ?_
  blk_simp
  rw [after0_6]
  frame_out
  pointwise [k0_pay1, k0_pay4, k0_pay5, k0_pay3, k0_pay2, mom2, second]
  blk_point [iblk, V, idx t]

theorem ref7 : val_main_v7 (F := Ideal) G M = mom1 G M := by
  funext i
  idx_vars i
  pointwise [val_main_v7, val_main_v4, val_main_v3, val_main_cst, val_main_v1, val_main_v6, val_main_v5, val_main_cst_0, mom1, first]

theorem ref13 : val_main_v13 (F := Ideal) G V' = mom2 G V' := by
  funext i
  idx_vars i
  pointwise [val_main_v13, val_main_v9, val_main_v8, val_main_cst_1, val_main_v2, val_main_v12, val_main_v11, val_main_cst_2, val_main_v10,
    mom2, second]

theorem ref26 : val_main_v26 (F := Ideal) G W M V' = delta G W M V' := by
  funext i
  idx_vars i
  pointwise [val_main_v26, val_main_v25, val_main_cst_7, val_main_v24, val_main_v23, val_main_v22, val_main_cst_6, val_main_v0, val_main_v21,
    val_main_v20, val_main_v19, val_main_cst_5, val_main_v18, val_main_v17, val_main_v16, val_main_cst_4, val_main_v15, val_main_v14,
    val_main_cst_3, ref7, ref13, mom1, mom2, delta, change]

end Cert.Kernel14Ideal.Adam

end
-- ==== Proof.WeightGrad.lean ====
/- The gradient of w_down, a product summed over eight blocks of tokens: the call's result array as a function of its two arguments, and
   the same of the reference. -/
module

public import proofs.«01_k».proof.Proof.Gen.Kernel15Ideal.Value
public import proofs.«01_k».proof.Proof.Gen.Reference15Ideal.Read
public import Idealize.ShloMosaic.Lib.Pipeline.ValueKit
public import Idealize.ShloMosaic.Lib.Claim

@[expose] public section

set_option maxRecDepth 16384

noncomputable section

namespace Cert.Kernel15Ideal.WeightGrad

open Cert.Kernel15Ideal Cert.Kernel15Ideal.Gen Cert.Kernel15Ideal.Value Cert.Reference15Ideal.Read Idealize.ShloMosaic Idealize.ShloMosaic.TcCoe Idealize.SL.Sem
open Idealize.ShloMosaic.Pipeline (Dat)

variable (A : FVec Ideal S8192x2816 .bf16) (D : FVec Ideal S8192x1024 .bf16)

/-- The gradient: the sum over the tokens of activation times cotangent. -/
def grad : FVec Ideal S2816x1024 .f32 := fun i => ∑ k : Fin 8192, A (ix2 k (i 0)) * D (ix2 k (i 1))

/-- What grid point `n` adds at place `y` of its block: its 1024 tokens' part of the sum. -/
def part (n : ℕ) : FVec Ideal S1408x1024 .f32 := fun y =>
  ∑ k : Fin 1024, A (ix2 ⟨1024 * (n % 8) + k.val, by omega⟩ ⟨1408 * (n / 8 % 2) + (y 0).val, by have h : (y 0).val < 1408 := (y 0).isLt; omega⟩)
    * D (ix2 ⟨1024 * (n % 8) + k.val, by omega⟩ (y 1))

theorem idx : ∀ t : Fin cfg0.N, win0_0.index t = ![t.val % 8, t.val / 8 % 2] ∧ win0_1.index t = ![t.val % 8, 0] := (by decide +kernel : ∀ t : Fin grid0.N, _)

variable (m : (ℓ : Loc nD τ sig) → Buf (Elt Ideal) ℓ)

/-- One step of the sum. -/
theorem step (c : Dev nD) (t : Fin cfg0.N) (acc : FVec Ideal S1408x1024 .f32) (y : S1408x1024.Idx) :
    k0_pay2 (F := Ideal) acc (iblk m c 0 t) (iblk m c 1 t) y
      = acc y + part (m ((c : Thread nD τ).loc main_arg0)) (m ((c : Thread nD τ).loc main_arg1)) t.val y := by
  pointwise [k0_pay2, part]
  blk_point [iblk, V, idx t]

/-- The sum starts at zero. -/
theorem start (y : S1408x1024.Idx) : k0_pay1 (F := Ideal) y = 0 := by
  pointwise [k0_pay1]

/-- The parts of a row of blocks are the whole sum. -/
theorem parts (i : S2816x1024.Idx) : ∑ s ∈ Finset.range 8, part A D (8 * run2Of i + s) (loc2Of i) = grad A D i := by
  have h0 : (i 0).val < 2816 := (i 0).isLt
  have h1 : (i 1).val < 1024 := (i 1).isLt
  unfold grad
  rw [← (finProdFinEquiv (m := 8) (n := 1024)).sum_comp, Fintype.sum_prod_type, Finset.sum_range]
  refine Finset.sum_congr rfl fun s _ => Finset.sum_congr rfl fun k _ => ?_
  have hs := s.isLt
  have e : ∀ h, (⟨1024 * ((8 * run2Of i + s.val) % 8) + k.val, h⟩ : Fin 8192) = finProdFinEquiv (s, k) := fun h => by
    apply Fin.ext
    simp only [finProdFinEquiv_apply_val]
    omega
  have e0 : ∀ h, (⟨1408 * ((8 * run2Of i + s.val) / 8 % 2) + (loc2Of i 0).val, h⟩ : Fin 2816) = i 0 := fun h => by
    apply Fin.ext
    show 1408 * ((8 * (1 * ((i 0).val / 1408 - 0) + 1 * ((i 1).val / 1024 - 0)) + s.val) / 8 % 2) + (i 0).val % 1408 = (i 0).val
    omega
  have e1 : loc2Of i 1 = i 1 := Fin.ext (Nat.mod_eq_of_lt h1)
  rw [e, e0, e1]

theorem final (c : Dev nD) : G2 m c
    = grad (m ((c : Thread nD τ).loc main_arg0)) (m ((c : Thread nD τ).loc main_arg1)) := by
  funext i
  have h0 : (i 0).val < 2816 := (i 0).isLt
  have h1 : (i 1).val < 1024 := (i 1).isLt
  have hN : cfg0.N = 16 := N_0
  have hr : run2Of i ≤ 1 := by
    show 1 * ((i 0).val / 1408 - 0) + 1 * ((i 1).val / 1024 - 0) ≤ 1
    omega
  unfold G2
  rw [dif_pos (by omega), Pipeline.accAt_add_apply (reset2 m c) (step2 m c) (fun _ => 0)
    (part (m ((c : Thread nD τ).loc main_arg0)) (m ((c : Thread nD τ).loc main_arg1))) (8 * run2Of i) 7
    (fun h y => (step m c ⟨_, h⟩ _ y).trans (by rw [start])) (fun n h acc y _ _ => step m c ⟨n, h⟩ acc y) 7 le_rfl, zero_add]
  exact parts _ _ i

theorem ref5 : val_main_v5 (F := Ideal) A D = grad A D := by
  funext i
  idx_vars i
  pointwise [val_main_v1, val_main_v3, val_main_v4, val_main_v5, grad, mul_comm]

end Cert.Kernel15Ideal.WeightGrad

end
-- ==== Proof.InGrad.lean ====
/- The gradient of w_in, a product summed over eight blocks of tokens in a scratch and rounded at the end: the call's result array as
   a function of its three arguments, and the same of the reference. -/
module

public import proofs.«01_k».proof.Proof.Gen.Kernel16Ideal.Value
public import proofs.«01_k».proof.Proof.Gen.Reference16Ideal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel16Ideal.InGrad

open Cert.Kernel16Ideal Cert.Kernel16Ideal.Gen Cert.Reference16Ideal.Read Idealize.ShloMosaic Idealize.ShloMosaic.TcCoe Idealize.SL.Sem
open Idealize.ShloMosaic.Pipeline (Dat)

variable (D : FVec Ideal S3x8192x512 .f32) (U : FVec Ideal S2x8192x512 .bf16) (A : FVec Ideal S8192x1024 .bf16)

/-- The cotangent of the projected row: the five parts side by side. -/
def ct (r : Fin 8192) (k : Fin 2560) : EReal :=
  if h : (k : ℕ) < 512 then D (ix3 0 r ⟨k, h⟩)
  else if h : (k : ℕ) - 512 < 512 then D (ix3 1 r ⟨k - 512, h⟩)
  else if h : (k : ℕ) - 512 - 512 < 512 then D (ix3 2 r ⟨k - 512 - 512, h⟩)
  else if h : (k : ℕ) - 512 - 512 - 512 < 512 then U (ix3 0 r ⟨k - 512 - 512 - 512, h⟩)
  else U (ix3 1 r ⟨k - 512 - 512 - 512 - 512, by omega⟩)

/-- The gradient, transposed: the sum over the tokens of cotangent times normed row. -/
def grad : FVec Ideal S2560x1024 .bf16 := fun i => ∑ r : Fin 8192, ct D U r (i 0) * A (ix2 r (i 1))

/-- What grid point `n` adds: its 1024 tokens' part of the sum. -/
def part (n : ℕ) : FVec Ideal S2560x1024 .f32 := fun y =>
  ∑ k : Fin 1024, ct D U ⟨1024 * (n % 8) + k.val, by omega⟩ (y 0) * A (ix2 ⟨1024 * (n % 8) + k.val, by omega⟩ (y 1))

theorem idx : ∀ t : Fin cfg0.N, win0_0.index t = ![0, t.val % 8, 0] ∧ win0_1.index t = ![0, t.val % 8, 0]
    ∧ win0_2.index t = ![t.val % 8, 0] := (by decide +kernel : ∀ t : Fin grid0.N, _)

variable (m : (ℓ : Loc nD τ sig) → Buf (Elt Ideal) ℓ)

/-- A point's part over the launch memory's arguments. -/
abbrev partM (c : Dev nD) (n : ℕ) : FVec Ideal S2560x1024 .f32 := part (m ((c : Thread nD τ).loc main_arg0)) (m ((c : Thread nD τ).loc main_arg1))
  (m ((c : Thread nD τ).loc main_arg2)) n

/-- One step of the sum. -/
theorem step (c : Dev nD) (t : Fin cfg0.N) (acc : FVec Ideal S2560x1024 .f32) (y : S2560x1024.Idx) :
    k0_pay2 (F := Ideal) (View.ld (iblk m c 0 t) (Rect.unit (s := S3x1024x512) ![0, 0, 0] S1x1024x512.size inb_S3x1024x512_S1x1024x512_0_0_0))
      (View.ld (iblk m c 0 t) (Rect.unit (s := S3x1024x512) ![1, 0, 0] S1x1024x512.size inb_S3x1024x512_S1x1024x512_1_0_0))
      (View.ld (iblk m c 0 t) (Rect.unit (s := S3x1024x512) ![2, 0, 0] S1x1024x512.size inb_S3x1024x512_S1x1024x512_2_0_0))
      (View.ld (iblk m c 1 t) (Rect.unit (s := S2x1024x512) ![0, 0, 0] S1x1024x512.size inb_S2x1024x512_S1x1024x512_0_0_0))
      (View.ld (iblk m c 1 t) (Rect.unit (s := S2x1024x512) ![1, 0, 0] S1x1024x512.size inb_S2x1024x512_S1x1024x512_1_0_0))
      acc (iblk m c 2 t) y = acc y + partM m c t.val y := by
  pointwise [k0_pay2, partM, part, ct]
  blk_point [iblk, V, idx t]
  all_goals omega

/-- The sum starts at zero. -/
theorem start (y : S2560x1024.Idx) : k0_pay1 (F := Ideal) y = 0 := by
  pointwise [k0_pay1]

/-- What the scratch holds after a point: the parts so far. -/
theorem held (c : Dev nD) : ∀ (n : ℕ) (hn : n < cfg0.N) (y : S2560x1024.Idx),
    (outsAt0 m c n hn).2 y = ∑ s ∈ Finset.range (n + 1), partM m c s y
  | 0, hn, y => by
    rw [outsAt0_A m c ⟨0, hn⟩ rfl (by dsimp only; omega), Finset.sum_range_one]
    frame_out [read_unread_whole]
    exact (step m c ⟨0, hn⟩ _ y).trans (by rw [start, zero_add])
  | n + 1, hn, y => by
    have hN : n + 1 < 8 := lt_of_lt_of_eq hn N_0
    have e := held c n (Nat.lt_of_succ_lt hn) y
    rw [Finset.sum_range_succ, ← e]
    by_cases h : (n + 1) % 8 = 7
    · rw [outsAt0_C m c ⟨n + 1, hn⟩ (by dsimp only; omega) h]
      frame_out [read_unread_whole]
      exact step m c ⟨n + 1, hn⟩ _ y
    · rw [outsAt0_B m c ⟨n + 1, hn⟩ (by dsimp only; omega) h]
      frame_out [read_unread_whole]
      exact step m c ⟨n + 1, hn⟩ _ y

/-- The parts are the whole sum. -/
theorem parts (i : S2560x1024.Idx) : ∑ s ∈ Finset.range 8, part D U A s i = grad D U A i := by
  unfold grad
  rw [← (finProdFinEquiv (m := 8) (n := 1024)).sum_comp, Fintype.sum_prod_type, Finset.sum_range]
  refine Finset.sum_congr rfl fun s _ => Finset.sum_congr rfl fun k _ => ?_
  have hs := s.isLt
  have e : ∀ h, (⟨1024 * (s.val % 8) + k.val, h⟩ : Fin 8192) = finProdFinEquiv (s, k) := fun h => by
    apply Fin.ext
    simp only [finProdFinEquiv_apply_val]
    omega
  rw [e]

theorem pay3 (x : FVec Ideal S2560x1024 .f32) (y : S2560x1024.Idx) : k0_pay3 (F := Ideal) x y = x y := by
  pointwise [k0_pay3]

theorem final3 (c : Dev nD) : (dats m 0 c).arrAt 3 cfg0.N
    = grad (m ((c : Thread nD τ).loc main_arg0)) (m ((c : Thread nD τ).loc main_arg1)) (m ((c : Thread nD τ).loc main_arg2)) := by
  refine (dats m 0 c).arrAt_eq_of_after_last 3 t0_7 (by decide +kernel) _ fun y => ?_
  blk_simp
  rw [after0_3, outsAt0_C m c t0_7 (by decide) (by decide)]
  frame_out [read_unread_whole]
  rw [pay3]
  refine (step m c t0_7 _ _).trans ?_
  rw [held]
  exact (Finset.sum_range_succ (fun s => partM m c s y) 7).symm.trans (parts _ _ _ _)

theorem ref23 : val_main_v23 (F := Ideal) D U A = grad D U A := by
  funext i
  idx_vars i
  pointwise [val_main_v0, val_main_v1, val_main_v2, val_main_v3, val_main_v4, val_main_v5, val_main_v6, val_main_v7, val_main_v8,
    val_main_v9, val_main_v10, val_main_v12, val_main_v19, val_main_v20, val_main_v21, val_main_v22, val_main_v23, grad, ct]

end Cert.Kernel16Ideal.InGrad

end
-- ==== Proof.lean ====
module

public import proofs.«01_k».proof.Proof.Gen.Kernel6.Launch
public import proofs.«01_k».proof.Proof.Gen.Kernel6Ideal.Frame.RunC
public import proofs.«01_k».proof.Proof.Gen.Reference6Ideal.Read
public import proofs.«01_k».proof.Proof.DownEquation
public import proofs.«01_k».proof.Proof.Gen.Kernel2Ideal.Value
public import proofs.«01_k».proof.Proof.Gen.Kernel2.Frame
public import proofs.«01_k».proof.Proof.Gen.Reference2Ideal.Read
public import proofs.«01_k».proof.Proof.SguEquation
public import proofs.«01_k».proof.Proof.AttnWords
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Loops
public import proofs.«01_k».proof.Proof.Gen.Kernel11Ideal.Skeleton
public import proofs.«01_k».proof.Proof.Gen.Kernel11Ideal.Frame
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.InEquation
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.OutEquation
public import proofs.«01_k».proof.Proof.PeEquation
public import proofs.«01_k».proof.Proof.FfnEquation
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.InProj
public import proofs.«01_k».proof.Proof.DownProj
public import proofs.«01_k».proof.Proof.GateUp
public import proofs.«01_k».proof.Proof.MixReference
public import proofs.«01_k».proof.Proof.Optimiser
public import proofs.«01_k».proof.Proof.WeightGrad
public import proofs.«01_k».proof.Proof.InGrad
public import Idealize.ShloMosaic.Adequacy
public import Idealize.ShloMosaic.Lib.Claim
public import Idealize.ShloMosaic.Lib.Quiescent
public import Idealize.ShloMosaic.Init

@[expose] public section

set_option maxRecDepth 16384

noncomputable section

namespace Cert.Proof

open Idealize.ShloMosaic Idealize.SL.Sem Cert.Kernel

open Cert.KernelIdeal.In in
/-- `_in_bwd` leaves the derivative of norm and product at both results. -/
theorem algebraic_in : Cert.algebraic_KernelIdeal_ReferenceIdeal := by
  pair_intro
  · run_from Cert.KernelIdeal.Value.run_blocks m g
  · run_from Cert.ReferenceIdeal.Value.run m' g'
    · obtain ⟨h0, h1, h2, h3, h4, h5⟩ := hagree c
      rw [Cert.ReferenceIdeal.Read.val_main_v58_eq, final6, h0, h1, h2, h3, h4, h5]
      exact ref58_fun _ _ _ _ _ _
    · rw [Cert.ReferenceIdeal.Read.val_main_v59_eq, final7]
      exact ref59_fun _ _ _ _

/-- The reference runs on the host alone and has no semaphore. -/
theorem frame_reference : Cert.quiescent_ReferenceIdeal := fun m ρ _ =>
  (θ_run Cert.ReferenceIdeal.defs _ _).mono
    (fun r h => ⟨fun c => (h c).2.2, sem_eq_zero_of_no_sems (by decide) r.2⟩) (Cert.ReferenceIdeal.Value.run m ρ)

theorem row_below : ∀ k < 5632, IntOp.cmpi .slt (BitVec.ofNat 32 k) 2816#32 = 1#1 → k < 2816 := by
  decide +kernel

/-- Where the mask of `_out_bwd` is set, the row is one the call writes. -/
theorem written_row [Cert.On_written4.Facts] {D W A L S Ga Gs Dg Fx} (i : (⟨2, ![5632, 1024]⟩ : Shape).Idx)
    (h : (Cert.On_written4.fn (F := Ideal) D W A L S Ga Gs Dg Fx).2.2.2.2.2 i = 1#1) : (i 0).val < 2816 := by
  refine row_below _ (i 0).isLt ?_
  revert h
  pointwise [Cert.On_written4.fn]
  exact id

open Cert.Kernel4Ideal.Out in
/-- `_out_bwd` leaves the derivatives of both norms, the packed statistics and the rows it writes of the gate's gradient. -/
theorem algebraic_out [Cert.On_written4.Facts] : Cert.algebraic_Kernel4Ideal_Reference4Ideal_on_written4 := by
  intro m g m' g' hpre hagree
  refine ⟨_, _, _, _, _, _, (θ_run Cert.Kernel4Ideal.defs _ _).mono (fun r h c =>
    ⟨fun i _ => congrFun (h c).1 i, fun i _ => congrFun (h c).2.1 i, fun i _ => congrFun (h c).2.2.1 i,
      fun i _ => congrFun (h c).2.2.2.1 i, fun i _ => congrFun (h c).2.2.2.2.1 i, fun i _ => congrFun (h c).2.2.2.2.2.1 i,
      (h c).2.2.2.2.2.2⟩) (Cert.Kernel4Ideal.Value.run_blocks m g),
    (θ_run Cert.Reference4Ideal.defs _ _).mono (fun r h c =>
      ⟨fun i _ => (congrFun (h c).1 i).trans ?_, fun i _ => (congrFun (h c).2.1 i).trans ?_, fun i _ => (congrFun (h c).2.2.1 i).trans ?_,
      fun i _ => (congrFun (h c).2.2.2.1 i).trans ?_, fun i _ => (congrFun (h c).2.2.2.2.1 i).trans ?_,
      fun i hi => (congrFun (h c).2.2.2.2.2.1 i).trans ?_, (h c).2.2.2.2.2.2⟩) (Cert.Reference4Ideal.Value.run m' g')⟩
  all_goals obtain ⟨h0, h1, h2, h3, h4, h5, h6, h7, h8⟩ := hagree c
  · rw [Cert.Reference4Ideal.Read.val_main_v81_eq, final9, ref81_fun, h0, h1, h2, h5]
  · rw [Cert.Reference4Ideal.Read.val_main_v91_eq, final10, ref91_fun, h0, h1, h2, h3, h5]
  · rw [Cert.Reference4Ideal.Read.val_main_v60_eq, final11, ref60_fun, h0, h1, h4, h6]
  · rw [final12, Cert.Reference4Ideal.Read.val_main_v82_eq, h0, h1, h2]
    exact ref82 _ _ _ i
  · rw [final13, Cert.Reference4Ideal.Read.val_main_v61_eq, h0, h1, h4]
    exact ref61 _ _ _ i
  · rw [final14, Cert.Reference4Ideal.Read.val_main_v100_eq, h7, h8]
    exact (ref100 _ _ i (written_row i hi)).trans (if_pos (written_row i hi)).symm

/-- The reference of `_out_bwd` runs on the host alone and has no semaphore. -/
theorem frame_reference4 : Cert.quiescent_Reference4Ideal := fun m ρ _ =>
  (θ_run Cert.Reference4Ideal.defs _ _).mono
    (fun r h => ⟨fun c => (h c).2.2.2.2.2.2, sem_eq_zero_of_no_sems (by decide) r.2⟩) (Cert.Reference4Ideal.Value.run m ρ)

open Cert.Kernel5Ideal.Ffn in
/-- `_ffn_in_bwd` leaves the residual's and the attention block's gradients and those of both norms' gains. -/
theorem algebraic_ffn : Cert.algebraic_Kernel5Ideal_Reference5Ideal := by
  pair_intro
  · run_from Cert.Kernel5Ideal.Value.run_blocks m g
  · run_from Cert.Reference5Ideal.Value.run m' g'
    · obtain ⟨h0, h1, h2, h3, h4, h5, h6, h7⟩ := hagree c
      rw [Cert.Reference5Ideal.Read.val_main_v63_eq, final8, h0, h1, h2, h3, h4, h5, h6, h7]
      exact ref63_fun _ _ _ _ _ _ _ _
    · obtain ⟨h0, h1, h2, h3, h4, h5, h6, h7⟩ := hagree c
      rw [Cert.Reference5Ideal.Read.val_main_v86_eq, final9, h0, h1, h2, h3, h4, h5, h6, h7]
      exact ref86_fun _ _ _ _ _ _ _ _
    · obtain ⟨h0, h1, h2, h3, h4, h5, h6, h7⟩ := hagree c
      rw [Cert.Reference5Ideal.Read.val_main_v62_eq, final10]
      exact ref62_fun _ _ _ _ _ _
    · obtain ⟨h0, h1, h2, h3, h4, h5, h6, h7⟩ := hagree c
      rw [Cert.Reference5Ideal.Read.val_main_v85_eq, final11, h0, h1, h2, h3, h4, h5, h6, h7]
      exact ref85_fun _ _ _ _ _ _ _ _

/-- The reference of `_ffn_in_bwd` runs on the host alone and has no semaphore. -/
theorem frame_reference5 : Cert.quiescent_Reference5Ideal := fun m ρ _ =>
  (θ_run Cert.Reference5Ideal.defs _ _).mono
    (fun r h => ⟨fun c => (h c).2.2.2.2, sem_eq_zero_of_no_sems (by decide) r.2⟩) (Cert.Reference5Ideal.Value.run m ρ)

set_option maxHeartbeats 2000000 in
open Cert.Kernel3Ideal.Pe in
/-- `_pe_loss_and_bwd` leaves the loss's column sums, the two row gradients and the gradients of both weights, the bias and the gain. -/
theorem algebraic_pe : Cert.algebraic_Kernel3Ideal_Reference3Ideal := by
  intro m g m' g' hpre hagree
  refine ⟨_, _, _, _, _, _, _, (θ_run Cert.Kernel3Ideal.defs _ _).mono (fun r h c => h c) (Cert.Kernel3Ideal.Value.run_blocks m g),
    (θ_run Cert.Reference3Ideal.defs _ _).mono (fun r h c =>
      ⟨(h c).1.trans ?_, (h c).2.1.trans ?_, (h c).2.2.1.trans ?_, (h c).2.2.2.1.trans ?_,
      (h c).2.2.2.2.1.trans ?_, (h c).2.2.2.2.2.1.trans ?_, (h c).2.2.2.2.2.2.1.trans ?_, (h c).2.2.2.2.2.2.2⟩) (Cert.Reference3Ideal.Value.run m' g')⟩
  all_goals obtain ⟨h0, h1, h2, h3, h4, h5, h6, h7⟩ := hagree c
  · rw [Cert.Reference3Ideal.Read.val_main_v67_eq, final8, ref67_fun, h0, h1, h2, h3, h4, h5, h6, h7]
  · rw [Cert.Reference3Ideal.Read.val_main_v90_eq, final9, ref90_fun, h0, h1, h2, h3, h4, h5, h6, h7]
  · rw [Cert.Reference3Ideal.Read.val_main_v91_eq, final10, ref91_fun, h0, h1, h2, h3, h4, h5, h6, h7]
  · rw [Cert.Reference3Ideal.Read.val_main_v93_eq, final11, ref93_fun, h0, h1, h2, h3, h4, h5, h6, h7]
  · rw [Cert.Reference3Ideal.Read.val_main_v95_eq, final12, ref95_fun, h0, h1, h2, h3, h4, h5, h6, h7]
  · rw [Cert.Reference3Ideal.Read.val_main_v63_eq, final13, ref63_fun, h0, h1, h2, h3, h4, h5, h6, h7]
  · rw [Cert.Reference3Ideal.Read.val_main_v89_eq, final14, ref89_fun, h0, h1, h2, h3, h4, h5, h6, h7]

/-- The reference of `_pe_loss_and_bwd` runs on the host alone and has no semaphore. -/
theorem frame_reference3 : Cert.quiescent_Reference3Ideal := fun m ρ _ =>
  (θ_run Cert.Reference3Ideal.defs _ _).mono
    (fun r h => ⟨fun c => (h c).2.2.2.2.2.2.2, sem_eq_zero_of_no_sems (by decide) r.2⟩) (Cert.Reference3Ideal.Value.run m ρ)

/-- `_down_bwd`'s body is the same program at both element types. -/
theorem bodies6 [i1 : Cert.Kernel6.Facts] [i2 : Cert.Kernel6Ideal.Facts] :
    @Cert.Kernel6.defs₀ Bits _ i1 = @Cert.Kernel6Ideal.defs₀ Bits _ i2 := by
  unfold Cert.Kernel6.defs₀ Cert.Kernel6Ideal.defs₀
  refine congrArg Defs.onTc ?_
  funext f a
  match f, a with
  | 0, (t, s) => with_unfolding_all rfl

theorem programs6 [i1 : Cert.Kernel6.Facts] [i2 : Cert.Kernel6Ideal.Facts] :
    @Cert.Kernel6.defs Bits _ i1 = @Cert.Kernel6Ideal.defs Bits _ i2 := by
  unfold Cert.Kernel6.defs Cert.Kernel6Ideal.defs
  rw [bodies6]
  with_unfolding_all rfl

set_option maxHeartbeats 2000000 in
theorem frame_kernel6 : Cert.quiescent_Kernel6 := by
  intro m ρ _
  rw [programs6]
  with_unfolding_all exact Cert.Kernel6Ideal.Down.frame (F := Bits) m ρ

/-- The reference of `_down_bwd` runs on the host alone and has no semaphore. -/
theorem frame_reference6 : Cert.quiescent_Reference6Ideal := fun m ρ _ =>
  (θ_run Cert.Reference6Ideal.defs _ _).mono
    (fun r h => ⟨fun c => (h c).2.2, sem_eq_zero_of_no_sems (by decide) r.2⟩) (Cert.Reference6Ideal.Value.run m ρ)

set_option maxHeartbeats 2000000 in
open Cert.Kernel6Ideal.Down in
/-- `_down_bwd` leaves the gradients of the gate and of the up projection, at finite cotangent, up projection and weight. -/
theorem algebraic_down [Cert.Pre_finite6.Facts] : Cert.algebraic_Kernel6Ideal_Reference6Ideal_pre_finite6 := by
  intro m g m' g' hpre hagree
  refine ⟨_, _, (θ_run Cert.Kernel6Ideal.defs _ _).mono (fun r h c => h c) (results m g),
    (θ_run Cert.Reference6Ideal.defs _ _).mono (fun r h c => ⟨(h c).1.trans ?_, (h c).2.1.trans ?_, (h c).2.2⟩)
      (Cert.Reference6Ideal.Value.run m' g')⟩
  all_goals obtain ⟨h0, h1, h2, h3⟩ := hagree c
  · obtain ⟨hD, hU, hW⟩ := finite_args _ _ _ _ (hpre c)
    rw [Cert.Reference6Ideal.Read.val_main_v11_eq, h0, h1, h2, h3]
    exact (ref11_fun _ _ _ _ hD hU hW).trans (final2 m c).symm
  · rw [Cert.Reference6Ideal.Read.val_main_v12_eq, h0, h1, h3]
    exact (ref12_fun _ _ _).trans (final3 m c).symm

/-- The two constants of the gate that the version rounds are the rationals they stand for. -/
theorem preserves_sgu : Cert.preserves_Kernel2_Kernel2Ideal :=
  ⟨IdealRules.named_const.statement Cert.Kernel2Ideal.κ "gelu_c" .f32 0x3D372713#32 ((8943 / 200000 : ℝ) : EReal) rfl,
    IdealRules.named_const.statement Cert.Kernel2Ideal.κ "gelu_3c" .f32 0x3E095D4F#32 ((26829 / 200000 : ℝ) : EReal) rfl⟩

/-- The reference of `_sgu_bwd` runs on the host alone and has no semaphore. -/
theorem frame_reference2 : Cert.quiescent_Reference2Ideal := fun m ρ _ =>
  (θ_run Cert.Reference2Ideal.defs _ _).mono
    (fun r h => ⟨fun c => (h c).2.2.2.2.2.2.2, sem_eq_zero_of_no_sems (by decide) r.2⟩) (Cert.Reference2Ideal.Value.run m ρ)

set_option maxHeartbeats 2000000 in
open Cert.Kernel2Ideal.Sgu Cert.Reference2Ideal.Sgu in
/-- `_sgu_bwd` leaves both halves' gradients, those of the mixing's weights and biases and of the norm's gain and offset, and the
    two products it carries along, at finite projection, cotangent and parameters. -/
theorem algebraic_sgu [Cert.Pre_finite2.Facts] : Cert.algebraic_Kernel2Ideal_Reference2Ideal_pre_finite2 := by
  intro m g m' g' hpre hagree
  refine ⟨_, _, _, _, _, _, _, (θ_run Cert.Kernel2Ideal.defs _ _).mono (fun r h c => h c) (Cert.Kernel2Ideal.Value.run_blocks m g),
    (θ_run Cert.Reference2Ideal.defs _ _).mono (fun r h c =>
      ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_,
      (h c).2.2.2.2.2.2.2⟩) (Cert.Reference2Ideal.Value.run m' g')⟩
  all_goals
    obtain ⟨h0, h1, h2, h3, h4, h5, h6, h7, h8, h9, h10⟩ := hagree c
    obtain ⟨R, hR⟩ := finite_args _ _ _ _ _ _ _ _ _ _ _ (hpre c)
    have hK : Holds m c R := ⟨hR.p, hR.q, hR.lg, hR.lb, hR.w, hR.b⟩
  · rw [Cert.Reference2Ideal.Read.val_main_v189_eq, final11 hK]
    simp only [StableHlo.launchContents_devRef, h0, h1, h2, h3, h4, h5]
    exact ref_duz hR
  · rw [Cert.Reference2Ideal.Read.val_main_v190_eq, final12 hK]
    simp only [StableHlo.launchContents_devRef, h0, h1, h2, h3]
    exact ref_dw hR
  · rw [Cert.Reference2Ideal.Read.val_main_v183_eq, final13 hK]
    simp only [StableHlo.launchContents_devRef, h0, h1]
    exact ref_db hR
  · rw [Cert.Reference2Ideal.Read.val_main_v172_eq, final14 hK]
    simp only [StableHlo.launchContents_devRef, h0, h1, h4]
    exact ref_dlg hR
  · rw [Cert.Reference2Ideal.Read.val_main_v171_eq, final15 hK]
    simp only [StableHlo.launchContents_devRef, h0, h1, h4]
    exact ref_dlb hR
  · rw [Cert.Reference2Ideal.Read.val_main_v176_eq, final16]
    simp only [StableHlo.launchContents_devRef, h6, h7]
    exact funext (ref_gout _ _)
  · rw [Cert.Reference2Ideal.Read.val_main_v192_eq, final17]
    simp only [StableHlo.launchContents_devRef, h8, h9, h10]
    exact ref_ggu_fun m c

open Cert.Kernel7Ideal.InProj in
/-- `_in_proj` leaves the projection and the normed rows. -/
theorem algebraic_inp : Cert.algebraic_Kernel7Ideal_Reference7Ideal := by
  intro m g m' g' hpre hagree
  refine ⟨_, _, (θ_run Cert.Kernel7Ideal.defs _ _).mono (fun r h c => h c) (Cert.Kernel7Ideal.Value.run_blocks m g),
    (θ_run Cert.Reference7Ideal.defs _ _).mono (fun r h c =>
      ⟨(h c).1.trans ?_, (h c).2.1.trans ?_, (h c).2.2⟩) (Cert.Reference7Ideal.Value.run m' g')⟩
  all_goals obtain ⟨h0, h1, h2⟩ := hagree c
  · rw [Cert.Reference7Ideal.Read.val_main_v16_eq, final3, h0, h1, h2]
    exact ref16 _ _ _
  · rw [Cert.Reference7Ideal.Read.val_main_v17_eq, final4, h0, h1]
    exact ref17 _ _

/-- The reference of `_in_proj` runs on the host alone and has no semaphore. -/
theorem frame_reference7 : Cert.quiescent_Reference7Ideal := fun m ρ _ =>
  (θ_run Cert.Reference7Ideal.defs _ _).mono
    (fun r h => ⟨fun c => (h c).2.2, sem_eq_zero_of_no_sems (by decide) r.2⟩) (Cert.Reference7Ideal.Value.run m ρ)

open Cert.Kernel8Ideal.DownProj in
/-- `_down_proj` leaves the product with the weight and the residual stream past the normed product. -/
theorem algebraic_downp : Cert.algebraic_Kernel8Ideal_Reference8Ideal := by
  intro m g m' g' hpre hagree
  refine ⟨_, _, (θ_run Cert.Kernel8Ideal.defs _ _).mono (fun r h c => h c) (Cert.Kernel8Ideal.Value.run_blocks m g),
    (θ_run Cert.Reference8Ideal.defs _ _).mono (fun r h c =>
      ⟨(h c).1.trans ?_, (h c).2.1.trans ?_, (h c).2.2⟩) (Cert.Reference8Ideal.Value.run m' g')⟩
  all_goals obtain ⟨h0, h1, h2, h3⟩ := hagree c
  · rw [Cert.Reference8Ideal.Read.val_main_v2_eq, final4, h0, h1]
    exact ref2 _ _
  · rw [Cert.Reference8Ideal.Read.val_main_v17_eq, final5, h0, h1, h2, h3]
    exact ref17 _ _ _ _

/-- The reference of `_down_proj` runs on the host alone and has no semaphore. -/
theorem frame_reference8 : Cert.quiescent_Reference8Ideal := fun m ρ _ =>
  (θ_run Cert.Reference8Ideal.defs _ _).mono
    (fun r h => ⟨fun c => (h c).2.2, sem_eq_zero_of_no_sems (by decide) r.2⟩) (Cert.Reference8Ideal.Value.run m ρ)

open Cert.Kernel9Ideal.GateUp in
/-- `_gate_up` leaves the gate, the up projection and their gated product. -/
theorem algebraic_gate : Cert.algebraic_Kernel9Ideal_Reference9Ideal := by
  intro m g m' g' hpre hagree
  refine ⟨_, _, _, (θ_run Cert.Kernel9Ideal.defs _ _).mono (fun r h c => h c) (Cert.Kernel9Ideal.Value.run_blocks m g),
    (θ_run Cert.Reference9Ideal.defs _ _).mono (fun r h c =>
      ⟨(h c).1.trans ?_, (h c).2.1.trans ?_, (h c).2.2.1.trans ?_, (h c).2.2.2⟩) (Cert.Reference9Ideal.Value.run m' g')⟩
  all_goals obtain ⟨h0, h1⟩ := hagree c
  · rw [Cert.Reference9Ideal.Read.val_main_v7_eq, final3, h0, h1]
    exact ref7 _ _
  · rw [Cert.Reference9Ideal.Read.val_main_v8_eq, final4, h0, h1]
    exact ref8 _ _
  · rw [Cert.Reference9Ideal.Read.val_main_v9_eq, final5, h0, h1]
    exact ref9 _ _

/-- The reference of `_gate_up` runs on the host alone and has no semaphore. -/
theorem frame_reference9 : Cert.quiescent_Reference9Ideal := fun m ρ _ =>
  (θ_run Cert.Reference9Ideal.defs _ _).mono
    (fun r h => ⟨fun c => (h c).2.2.2, sem_eq_zero_of_no_sems (by decide) r.2⟩) (Cert.Reference9Ideal.Value.run m ρ)

open Cert.Kernel10Ideal.Mix Cert.Reference10Ideal.Mix in
/-- `_out_proj` leaves the gated product of the spatial mixing, the normed groups, their product with the weight, the residual stream and its norm. -/
theorem algebraic_outp : Cert.algebraic_Kernel10Ideal_Reference10Ideal := by
  intro m g m' g' hpre hagree
  refine ⟨_, _, _, _, _, (θ_run Cert.Kernel10Ideal.defs _ _).mono (fun r h c => h c) (Cert.Kernel10Ideal.Value.run_blocks m g),
    (θ_run Cert.Reference10Ideal.defs _ _).mono (fun r h c =>
      ⟨(h c).1.trans ?_, (h c).2.1.trans ?_, (h c).2.2.1.trans ?_, (h c).2.2.2.1.trans ?_, (h c).2.2.2.2.1.trans ?_, (h c).2.2.2.2.2⟩) (Cert.Reference10Ideal.Value.run m' g')⟩
  all_goals obtain ⟨h0, h1, h2, h3, h4, h5, h6, h7, h8, h9, h10, h11⟩ := hagree c
  · rw [Cert.Reference10Ideal.Read.val_main_v73_eq, final13]
    simp only [StableHlo.launchContents_devRef, h1, h3, h4, h5, h6]
    exact ref73 _ _ _ _ _ _ _ _ _ _ _ _
  · rw [Cert.Reference10Ideal.Read.val_main_v135_eq, final14]
    simp only [StableHlo.launchContents_devRef, h0, h1, h3, h4, h5, h6, h7, h8]
    exact ref135 _ _ _ _ _ _ _ _ _ _ _ _
  · rw [Cert.Reference10Ideal.Read.val_main_v104_eq, final15]
    simp only [StableHlo.launchContents_devRef, h0, h1, h3, h4, h5, h6, h7, h8, h9]
    exact ref104 _ _ _ _ _ _ _ _ _ _ _ _
  · rw [Cert.Reference10Ideal.Read.val_main_v120_eq, final16]
    simp only [StableHlo.launchContents_devRef, h0, h1, h2, h3, h4, h5, h6, h7, h8, h9, h10]
    exact ref120 _ _ _ _ _ _ _ _ _ _ _ _
  · rw [Cert.Reference10Ideal.Read.val_main_v136_eq, final17]
    simp only [StableHlo.launchContents_devRef, h0, h1, h2, h3, h4, h5, h6, h7, h8, h9, h10, h11]
    exact ref136 _ _ _ _ _ _ _ _ _ _ _ _

/-- The reference of `_out_proj` runs on the host alone and has no semaphore. -/
theorem frame_reference10 : Cert.quiescent_Reference10Ideal := fun m ρ _ =>
  (θ_run Cert.Reference10Ideal.defs _ _).mono
    (fun r h => ⟨fun c => (h c).2.2.2.2.2, sem_eq_zero_of_no_sems (by decide) r.2⟩) (Cert.Reference10Ideal.Value.run m ρ)

theorem facts_finite2 : Cert.Pre_finite2.Facts :=
  ⟨by decide, by decide, by decide, by decide, by decide, by decide, by decide, by decide, by decide, by decide, by decide⟩

theorem facts_finite6 : Cert.Pre_finite6.Facts :=
  ⟨by decide, by decide, by decide, by decide, by decide, by decide, by decide⟩

theorem facts_written4 : Cert.On_written4.Facts := ⟨by decide, by decide, by decide⟩

theorem preserves_attn : Cert.preserves_Kernel11_Kernel11Ideal :=
  IdealRules.named_const.statement Cert.Kernel11Ideal.κ "mask" .f32 0xF149F2CA#32 ⊥ rfl

open Cert.Kernel12Ideal.Adam in
/-- `_reduce_adamw` leaves the sum of the eight parts, the weight's change and the two moments. -/
theorem algebraic_radam : Cert.algebraic_Kernel12Ideal_Reference12Ideal := by
  intro m g m' g' hpre hagree
  refine ⟨_, _, _, _, (θ_run Cert.Kernel12Ideal.defs _ _).mono (fun r h c => h c) (Cert.Kernel12Ideal.Value.run_blocks m g),
    (θ_run Cert.Reference12Ideal.defs _ _).mono (fun r h c =>
      ⟨(h c).1.trans ?_, (h c).2.1.trans ?_, (h c).2.2.1.trans ?_, (h c).2.2.2.1.trans ?_, (h c).2.2.2.2⟩) (Cert.Reference12Ideal.Value.run m' g')⟩
  all_goals obtain ⟨h0, h1, h2, h3⟩ := hagree c
  · rw [Cert.Reference12Ideal.Read.val_main_v0_eq, final4, h0]
    exact ref0 _
  · rw [Cert.Reference12Ideal.Read.val_main_v27_eq, final5, h0, h1, h2, h3]
    exact ref27 _ _ _ _
  · rw [Cert.Reference12Ideal.Read.val_main_v8_eq, final6, h0, h2]
    exact ref8 _ _
  · rw [Cert.Reference12Ideal.Read.val_main_v14_eq, final7, h0, h3]
    exact ref14 _ _

/-- The reference of `_reduce_adamw` runs on the host alone and has no semaphore. -/
theorem frame_reference12 : Cert.quiescent_Reference12Ideal := fun m ρ _ =>
  (θ_run Cert.Reference12Ideal.defs _ _).mono
    (fun r h => ⟨fun c => (h c).2.2.2.2, sem_eq_zero_of_no_sems (by decide) r.2⟩) (Cert.Reference12Ideal.Value.run m ρ)

open Cert.Kernel13Ideal.Adam in
/-- `_reduce` leaves the sum of the eight parts. -/
theorem algebraic_reduce : Cert.algebraic_Kernel13Ideal_Reference13Ideal := by
  intro m g m' g' hpre hagree
  refine ⟨_, (θ_run Cert.Kernel13Ideal.defs _ _).mono (fun r h c => h c) (Cert.Kernel13Ideal.Value.run_blocks m g),
    (θ_run Cert.Reference13Ideal.defs _ _).mono (fun r h c => ⟨(h c).1.trans ?_, (h c).2⟩) (Cert.Reference13Ideal.Value.run m' g')⟩
  have h0 := hagree c
  rw [Cert.Reference13Ideal.Read.val_main_v0_eq, final1, h0]
  exact ref0 _

/-- The reference of `_reduce` runs on the host alone and has no semaphore. -/
theorem frame_reference13 : Cert.quiescent_Reference13Ideal := fun m ρ _ =>
  (θ_run Cert.Reference13Ideal.defs _ _).mono
    (fun r h => ⟨fun c => (h c).2, sem_eq_zero_of_no_sems (by decide) r.2⟩) (Cert.Reference13Ideal.Value.run m ρ)

open Cert.Kernel14Ideal.Adam in
/-- `_adamw` leaves the weight's change and the two moments. -/
theorem algebraic_adam : Cert.algebraic_Kernel14Ideal_Reference14Ideal := by
  intro m g m' g' hpre hagree
  refine ⟨_, _, _, (θ_run Cert.Kernel14Ideal.defs _ _).mono (fun r h c => h c) (Cert.Kernel14Ideal.Value.run_blocks m g),
    (θ_run Cert.Reference14Ideal.defs _ _).mono (fun r h c =>
      ⟨(h c).1.trans ?_, (h c).2.1.trans ?_, (h c).2.2.1.trans ?_, (h c).2.2.2⟩) (Cert.Reference14Ideal.Value.run m' g')⟩
  all_goals obtain ⟨h0, h1, h2, h3⟩ := hagree c
  · rw [Cert.Reference14Ideal.Read.val_main_v26_eq, final4]
    simp only [StableHlo.launchContents_devRef, h0, h1, h2, h3]
    exact ref26 _ _ _ _
  · rw [Cert.Reference14Ideal.Read.val_main_v7_eq, final5]
    simp only [StableHlo.launchContents_devRef, h0, h2]
    exact ref7 _ _
  · rw [Cert.Reference14Ideal.Read.val_main_v13_eq, final6]
    simp only [StableHlo.launchContents_devRef, h0, h3]
    exact ref13 _ _

/-- The reference of `_adamw` runs on the host alone and has no semaphore. -/
theorem frame_reference14 : Cert.quiescent_Reference14Ideal := fun m ρ _ =>
  (θ_run Cert.Reference14Ideal.defs _ _).mono
    (fun r h => ⟨fun c => (h c).2.2.2, sem_eq_zero_of_no_sems (by decide) r.2⟩) (Cert.Reference14Ideal.Value.run m ρ)

open Cert.Kernel15Ideal.WeightGrad in
/-- `_weight_grad` leaves the gradient of w_down. -/
theorem algebraic_wgrad : Cert.algebraic_Kernel15Ideal_Reference15Ideal := by
  intro m g m' g' hpre hagree
  refine ⟨_, (θ_run Cert.Kernel15Ideal.defs _ _).mono (fun r h c => h c) (Cert.Kernel15Ideal.Value.run m g),
    (θ_run Cert.Reference15Ideal.defs _ _).mono (fun r h c => ⟨(h c).1.trans ?_, (h c).2⟩) (Cert.Reference15Ideal.Value.run m' g')⟩
  obtain ⟨h0, h1⟩ := hagree c
  rw [Cert.Reference15Ideal.Read.val_main_v5_eq, final, h0, h1]
  exact ref5 _ _

/-- The reference of `_weight_grad` runs on the host alone and has no semaphore. -/
theorem frame_reference15 : Cert.quiescent_Reference15Ideal := fun m ρ _ =>
  (θ_run Cert.Reference15Ideal.defs _ _).mono
    (fun r h => ⟨fun c => (h c).2, sem_eq_zero_of_no_sems (by decide) r.2⟩) (Cert.Reference15Ideal.Value.run m ρ)

open Cert.Kernel16Ideal.InGrad in
/-- `_grad_w_in`: both programs return the gradient of w_in as one function of the launch memory. -/
theorem algebraic_gwin : Cert.algebraic_Kernel16Ideal_Reference16Ideal := by
  intro m g m' g' _ hagree
  refine ⟨_, (θ_run Cert.Kernel16Ideal.defs _ _).mono (fun r h c => h c) (Cert.Kernel16Ideal.Value.run_blocks m g),
    (θ_run Cert.Reference16Ideal.defs _ _).mono (fun r h c => ⟨(h c).1.trans ?_, (h c).2⟩) (Cert.Reference16Ideal.Value.run m' g')⟩
  obtain ⟨h0, h1, h2⟩ := hagree c
  rw [Cert.Reference16Ideal.Read.val_main_v23_eq, final3, h0, h1, h2]
  exact ref23 _ _ _

/-- The reference of `_grad_w_in` runs on the host alone and has no semaphore. -/
theorem frame_reference16 : Cert.quiescent_Reference16Ideal := fun m ρ _ =>
  (θ_run Cert.Reference16Ideal.defs _ _).mono
    (fun r h => ⟨fun c => (h c).2, sem_eq_zero_of_no_sems (by decide) r.2⟩) (Cert.Reference16Ideal.Value.run m ρ)

theorem claim : Cert.Claim := ⟨Cert.Kernel.Gen.facts, Cert.KernelIdeal.Gen.facts, Cert.ReferenceIdeal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel3.Gen.facts, Cert.Kernel3Ideal.Gen.facts, Cert.Reference3Ideal.Gen.facts,
  Cert.Kernel6.Gen.facts, Cert.Kernel6Ideal.Gen.facts, Cert.Reference6Ideal.Gen.facts,
  Cert.Kernel2.Gen.facts, Cert.Kernel2Ideal.Gen.facts, Cert.Reference2Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  facts_finite6, facts_finite2, facts_written4,
  fun m ρ _ => Cert.Kernel.Gen.frame m ρ, fun m ρ _ => Cert.KernelIdeal.Gen.frame m ρ, frame_reference,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel3.Gen.frame m ρ, fun m ρ _ => Cert.Kernel3Ideal.Gen.frame m ρ, frame_reference3,
  frame_kernel6, fun m ρ _ => Cert.Kernel6Ideal.Down.frame m ρ, fun m ρ _ => Cert.Kernel6Ideal.Down.frame m ρ,
  frame_reference6, fun m ρ _ => frame_reference6 m ρ trivial,
  fun m ρ _ => Cert.Kernel2.Gen.frame m ρ, fun m ρ _ => Cert.Kernel2Ideal.Gen.frame m ρ, fun m ρ _ => Cert.Kernel2Ideal.Gen.frame m ρ,
  frame_reference2, fun m ρ _ => frame_reference2 m ρ trivial,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  frame_kernel11, fun m ρ _ => Cert.Kernel11Ideal.Attn.frame m ρ,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  trivial, algebraic_in, trivial, letI := facts_written4; algebraic_out, trivial, algebraic_ffn, trivial, algebraic_pe,
  trivial, letI := facts_finite6; algebraic_down,
  preserves_sgu, letI := facts_finite2; algebraic_sgu,
  trivial, algebraic_inp, trivial, algebraic_downp, trivial, algebraic_gate, trivial, algebraic_outp,
  preserves_attn, trivial, algebraic_radam, trivial, algebraic_reduce, trivial, algebraic_adam, trivial, algebraic_wgrad,
  trivial, algebraic_gwin⟩

end Cert.Proof

end
